-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_p_finite [hPre_p_finite : Cert.Pre_p_finite.Facts] (m : (ℓ : Loc Cert.KernelIdeal.nD Cert.KernelIdeal.τ Cert.KernelIdeal.sig) → Buf (Elt Ideal) ℓ) : Prop :=
  ∀ c : Dev Cert.KernelIdeal.nD,
    (Cert.Pre_p_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_p_finite [hPre_p_finite : Cert.Pre_p_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_p_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_tables2 : Cert.Pre_tables2.Facts] (m : (ℓ : Loc Cert.Kernel2.nD Cert.Kernel2.τ Cert.Kernel2.sig) → Buf (Elt Bits) ℓ) : Prop :=
  ∀ c : Dev Cert.Kernel2.nD,
    (Cert.Pre_tables2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_tables2 : Cert.Pre_tables2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables2 [hPre_tables2 : Cert.Pre_tables2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_tables3 : Cert.Pre_tables3.Facts] (m : (ℓ : Loc Cert.Kernel3.nD Cert.Kernel3.τ Cert.Kernel3.sig) → Buf (Elt Bits) ℓ) : Prop :=
  ∀ c : Dev Cert.Kernel3.nD,
    (Cert.Pre_tables3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_tables3 : Cert.Pre_tables3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables3 [hPre_tables3 : Cert.Pre_tables3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_dense6 : Cert.Pre_dense6.Facts] (m : (ℓ : Loc Cert.Kernel6.nD Cert.Kernel6.τ Cert.Kernel6.sig) → Buf (Elt Bits) ℓ) : Prop :=
  ∀ c : Dev Cert.Kernel6.nD,
    (Cert.Pre_dense6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))) = (fun _ => 1#1)

def Pre_Kernel6Ideal [hPre_dense6 : Cert.Pre_dense6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_dense6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_dense6 [hPre_dense6 : Cert.Pre_dense6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_dense6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_p_finite8 [hPre_p_finite8 : Cert.Pre_p_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_p_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_p_finite8 [hPre_p_finite8 : Cert.Pre_p_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_p_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_p_finite [hKernelIdeal : Cert.KernelIdeal.Facts] [hPre_p_finite : Cert.Pre_p_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_p_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_p_finite [hReferenceIdeal : Cert.ReferenceIdeal.Facts] [hPre_p_finite : Cert.Pre_p_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_p_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables2 : Cert.Pre_tables2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tables2 : Cert.Pre_tables2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_tables2 [hReference2Ideal : Cert.Reference2Ideal.Facts] [hPre_tables2 : Cert.Pre_tables2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tables3 : Cert.Pre_tables3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_tables3 : Cert.Pre_tables3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_tables3 [hReference3Ideal : Cert.Reference3Ideal.Facts] [hPre_tables3 : Cert.Pre_tables3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] [hPre_dense6 : Cert.Pre_dense6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_dense6 : Cert.Pre_dense6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_dense6 [hReference6Ideal : Cert.Reference6Ideal.Facts] [hPre_dense6 : Cert.Pre_dense6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_dense6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_p_finite8 [hKernel8Ideal : Cert.Kernel8Ideal.Facts] [hPre_p_finite8 : Cert.Pre_p_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_p_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_p_finite8 [hReference8Ideal : Cert.Reference8Ideal.Facts] [hPre_p_finite8 : Cert.Pre_p_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_p_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_p_finite [hKernelIdeal : Cert.KernelIdeal.Facts] [hReferenceIdeal : Cert.ReferenceIdeal.Facts] [hPre_p_finite : Cert.Pre_p_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_p_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v83_0)) (v1 : (c : Dev Cert.KernelIdeal.nD) → Buf (Elt Ideal) ((c.tc : Thread Cert.KernelIdeal.nD Cert.KernelIdeal.τ).loc Cert.KernelIdeal.main_v83_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83_0) = v0 c
          ∧ r.2.mem ((c.tc : Thread Cert.KernelIdeal.nD Cert.KernelIdeal.τ).loc Cert.KernelIdeal.main_v83_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tables2 : Cert.Pre_tables2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_tables3 : Cert.Pre_tables3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] [hPre_dense6 : Cert.Pre_dense6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_p_finite8 [hKernel8Ideal : Cert.Kernel8Ideal.Facts] [hReference8Ideal : Cert.Reference8Ideal.Facts] [hPre_p_finite8 : Cert.Pre_p_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_p_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)) (v2 : (c : Dev Cert.Kernel8Ideal.nD) → Buf (Elt Ideal) ((c.tc : Thread Cert.Kernel8Ideal.nD Cert.Kernel8Ideal.τ).loc Cert.Kernel8Ideal.main_v12_2)) (v3 : (c : Dev Cert.Kernel8Ideal.nD) → Buf (Elt Ideal) ((c.tc : Thread Cert.Kernel8Ideal.nD Cert.Kernel8Ideal.τ).loc Cert.Kernel8Ideal.main_v12_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_v12_2) = v2 c
          ∧ r.2.mem ((c.tc : Thread Cert.Kernel8Ideal.nD Cert.Kernel8Ideal.τ).loc Cert.Kernel8Ideal.main_v12_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v38) = v1 c
          ∧ r.2.mem ((c.tc : Thread Cert.Reference8Ideal.nD Cert.Reference8Ideal.τ).loc Cert.Reference8Ideal.main_v40) = v2 c
          ∧ r.2.mem ((c.tc : Thread Cert.Reference8Ideal.nD Cert.Reference8Ideal.τ).loc Cert.Reference8Ideal.main_v41) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v87) = v0 c
          ∧ r.2.mem ((c.tc : Thread Cert.Reference9Ideal.nD Cert.Reference9Ideal.τ).loc Cert.Reference9Ideal.main_v86) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_p_finite : Cert.Pre_p_finite.Facts) (hPre_tables2 : Cert.Pre_tables2.Facts) (hPre_tables3 : Cert.Pre_tables3.Facts) (hPre_dense6 : Cert.Pre_dense6.Facts) (hPre_p_finite8 : Cert.Pre_p_finite8.Facts),
    quiescent_Kernel (hKernel := hKernel)
    ∧ quiescent_KernelIdeal (hKernelIdeal := hKernelIdeal)
    ∧ quiescent_KernelIdeal_pre_p_finite (hKernelIdeal := hKernelIdeal) (hPre_p_finite := hPre_p_finite)
    ∧ quiescent_ReferenceIdeal (hReferenceIdeal := hReferenceIdeal)
    ∧ quiescent_ReferenceIdeal_pre_p_finite (hReferenceIdeal := hReferenceIdeal) (hPre_p_finite := hPre_p_finite)
    ∧ quiescent_Kernel2 (hKernel2 := hKernel2) (hPre_tables2 := hPre_tables2)
    ∧ quiescent_Kernel2Ideal (hKernel2Ideal := hKernel2Ideal) (hPre_tables2 := hPre_tables2)
    ∧ quiescent_Reference2Ideal (hReference2Ideal := hReference2Ideal)
    ∧ quiescent_Reference2Ideal_pre_tables2 (hReference2Ideal := hReference2Ideal) (hPre_tables2 := hPre_tables2)
    ∧ quiescent_Kernel3 (hKernel3 := hKernel3) (hPre_tables3 := hPre_tables3)
    ∧ quiescent_Kernel3Ideal (hKernel3Ideal := hKernel3Ideal) (hPre_tables3 := hPre_tables3)
    ∧ quiescent_Reference3Ideal (hReference3Ideal := hReference3Ideal)
    ∧ quiescent_Reference3Ideal_pre_tables3 (hReference3Ideal := hReference3Ideal) (hPre_tables3 := hPre_tables3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_dense6 := hPre_dense6)
    ∧ quiescent_Kernel6Ideal (hKernel6Ideal := hKernel6Ideal) (hPre_dense6 := hPre_dense6)
    ∧ quiescent_Reference6Ideal (hReference6Ideal := hReference6Ideal)
    ∧ quiescent_Reference6Ideal_pre_dense6 (hReference6Ideal := hReference6Ideal) (hPre_dense6 := hPre_dense6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_p_finite8 (hKernel8Ideal := hKernel8Ideal) (hPre_p_finite8 := hPre_p_finite8)
    ∧ quiescent_Reference8Ideal (hReference8Ideal := hReference8Ideal)
    ∧ quiescent_Reference8Ideal_pre_p_finite8 (hReference8Ideal := hReference8Ideal) (hPre_p_finite8 := hPre_p_finite8)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_p_finite (hKernelIdeal := hKernelIdeal) (hReferenceIdeal := hReferenceIdeal) (hPre_p_finite := hPre_p_finite)
    ∧ preserves_Kernel2_Kernel2Ideal
    ∧ algebraic_Kernel2Ideal_Reference2Ideal (hKernel2Ideal := hKernel2Ideal) (hReference2Ideal := hReference2Ideal) (hPre_tables2 := hPre_tables2)
    ∧ preserves_Kernel3_Kernel3Ideal
    ∧ algebraic_Kernel3Ideal_Reference3Ideal (hKernel3Ideal := hKernel3Ideal) (hReference3Ideal := hReference3Ideal) (hPre_tables3 := hPre_tables3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_dense6 := hPre_dense6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_p_finite8 (hKernel8Ideal := hKernel8Ideal) (hReference8Ideal := hReference8Ideal) (hPre_p_finite8 := hPre_p_finite8)
    ∧ preserves_Kernel9_Kernel9Ideal
    ∧ algebraic_Kernel9Ideal_Reference9Ideal (hKernel9Ideal := hKernel9Ideal) (hReference9Ideal := hReference9Ideal)
-- ==== Pre_dense6.lean ====
abbrev S13 : Shape := ⟨1, ![13]⟩
abbrev S1 : Shape := ⟨1, ![1]⟩
abbrev S16640x2048 : Shape := ⟨2, ![16640, 2048]⟩
abbrev S1x1x2048x5632 : Shape := ⟨4, ![1, 1, 2048, 5632]⟩
abbrev S_ : Shape := ⟨0, ![]⟩

class Facts : Prop where
  bcast_S_S13 : S_.BroadcastsInDim S13 (![] : Fin 0 → Fin S13.rank)
  reducesTo_S13_S_d0 : S13.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S13 32) (main_arg1 : IVec S1 32) (main_arg2 : FVec F S16640x2048 .bf16) (main_arg3 : FVec F S1x1x2048x5632 .f32) (main_arg4 : FVec F S1x1x2048x5632 .f32) : IVec S_ 1 :=
  let main_c : IVec S_ 32 := constantI S_ 32 0#32
  let main_v0 : IVec S13 32 := broadcastInDim S13 ![] bcast_S_S13 main_c
  let main_v1 : IVec S13 1 := cmpi .eq main_arg0 main_v0
  let main_c_0 : IVec S_ 1 := constantI S_ 1 1#1
  let main_v2 : IVec S_ 1 := (fun x v => Host.reduce IntOp.andi x v reducesTo_S13_S_d0 h_S_) main_v1 main_c_0
  let main_c_1 : IVec S_ 32 := constantI S_ 32 13#32
  let main_v3 : IVec S1 32 := broadcastInDim S1 ![] bcast_S_S1 main_c_1
  let main_v4 : IVec S1 1 := cmpi .eq main_arg1 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_p_finite.lean ====
abbrev S16640x5632 : Shape := ⟨2, ![16640, 5632]⟩
abbrev S8x64 : Shape := ⟨2, ![8, 64]⟩
abbrev S16640x2048 : Shape := ⟨2, ![16640, 2048]⟩
abbrev S_ : Shape := ⟨0, ![]⟩

class Facts : Prop where
  bcast_S_S16640x5632 : S_.BroadcastsInDim S16640x5632 (![] : Fin 0 → Fin S16640x5632.rank)
  reducesTo_S16640x5632_S_d0_1 : S16640x5632.ReducesTo [0, 1] S_
  h_S_ : 0 < S_.numel

variable [Facts]

def fn {F : FTy → Type} [FloatOps F] (main_arg0 : FVec F S16640x5632 .f32) (main_arg1 : FVec F S8x64 .f32) (main_arg2 : FVec F S16640x2048 .bf16) : IVec S_ 1 :=
  let main_v0 : FVec F S16640x5632 .f32 := Host.absf main_arg0
  let main_cst : FVec F S_ .f32 := constant S_ .f32 0x7F800000#32
  let main_v1 : FVec F S16640x5632 .f32 := broadcastInDim S16640x5632 ![] bcast_S_S16640x5632 main_cst
  let main_v2 : IVec S16640x5632 1 := cmpf .olt main_v0 main_v1
  let main_c : IVec S_ 1 := constantI S_ 1 1#1
  let main_v3 : IVec S_ 1 := (fun x v => Host.reduce IntOp.andi x v reducesTo_S16640x5632_S_d0_1 h_S_) main_v2 main_c
  main_v3
-- ==== Pre_p_finite8.lean ====
abbrev S16640x5632 : Shape := ⟨2, ![16640, 5632]⟩
abbrev S2x64 : Shape := ⟨2, ![2, 64]⟩
abbrev S_ : Shape := ⟨0, ![]⟩

class Facts : Prop where
  bcast_S_S16640x5632 : S_.BroadcastsInDim S16640x5632 (![] : Fin 0 → Fin S16640x5632.rank)
  reducesTo_S16640x5632_S_d0_1 : S16640x5632.ReducesTo [0, 1] S_
  h_S_ : 0 < S_.numel

variable [Facts]

def fn {F : FTy → Type} [FloatOps F] (main_arg0 : FVec F S16640x5632 .f32) (main_arg1 : FVec F S2x64 .f32) (main_arg2 : FVec F S2x64 .f32) : IVec S_ 1 :=
  let main_v0 : FVec F S16640x5632 .f32 := Host.absf main_arg0
  let main_cst : FVec F S_ .f32 := constant S_ .f32 0x7F800000#32
  let main_v1 : FVec F S16640x5632 .f32 := broadcastInDim S16640x5632 ![] bcast_S_S16640x5632 main_cst
  let main_v2 : IVec S16640x5632 1 := cmpf .olt main_v0 main_v1
  let main_c : IVec S_ 1 := constantI S_ 1 1#1
  let main_v3 : IVec S_ 1 := (fun x v => Host.reduce IntOp.andi x v reducesTo_S16640x5632_S_d0_1 h_S_) main_v2 main_c
  main_v3
-- ==== Pre_tables2.lean ====
abbrev S73 : Shape := ⟨1, ![73]⟩
abbrev S1 : Shape := ⟨1, ![1]⟩
abbrev S37376x2048 : Shape := ⟨2, ![37376, 2048]⟩
abbrev S1x8x2048x7168 : Shape := ⟨4, ![1, 8, 2048, 7168]⟩
abbrev S_ : Shape := ⟨0, ![]⟩

class Facts : Prop where
  bcast_S_S73 : S_.BroadcastsInDim S73 (![] : Fin 0 → Fin S73.rank)
  reducesTo_S73_S_d0 : S73.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S73 32) (main_arg1 : IVec S1 32) (main_arg2 : FVec F S37376x2048 .bf16) (main_arg3 : FVec F S1x8x2048x7168 .f32) (main_arg4 : FVec F S1x8x2048x7168 .f32) : IVec S_ 1 :=
  let main_c : IVec S_ 32 := constantI S_ 32 0#32
  let main_v0 : IVec S73 32 := broadcastInDim S73 ![] bcast_S_S73 main_c
  let main_v1 : IVec S73 1 := cmpi .sge main_arg0 main_v0
  let main_c_0 : IVec S_ 32 := constantI S_ 32 8#32
  let main_v2 : IVec S73 32 := broadcastInDim S73 ![] bcast_S_S73 main_c_0
  let main_v3 : IVec S73 1 := cmpi .slt main_arg0 main_v2
  let main_v4 : IVec S73 1 := andi main_v1 main_v3
  let main_c_1 : IVec S_ 1 := constantI S_ 1 1#1
  let main_v5 : IVec S_ 1 := (fun x v => Host.reduce IntOp.andi x v reducesTo_S73_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_tables3.lean ====
abbrev S73 : Shape := ⟨1, ![73]⟩
abbrev S1 : Shape := ⟨1, ![1]⟩
abbrev S37376x7168 : Shape := ⟨2, ![37376, 7168]⟩
abbrev S1x8x7168x2048 : Shape := ⟨4, ![1, 8, 7168, 2048]⟩
abbrev S_ : Shape := ⟨0, ![]⟩

class Facts : Prop where
  bcast_S_S73 : S_.BroadcastsInDim S73 (![] : Fin 0 → Fin S73.rank)
  reducesTo_S73_S_d0 : S73.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S73 32) (main_arg1 : IVec S1 32) (main_arg2 : FVec F S37376x7168 .bf16) (main_arg3 : FVec F S1x8x7168x2048 .f32) : IVec S_ 1 :=
  let main_c : IVec S_ 32 := constantI S_ 32 0#32
  let main_v0 : IVec S73 32 := broadcastInDim S73 ![] bcast_S_S73 main_c
  let main_v1 : IVec S73 1 := cmpi .sge main_arg0 main_v0
  let main_c_0 : IVec S_ 32 := constantI S_ 32 8#32
  let main_v2 : IVec S73 32 := broadcastInDim S73 ![] bcast_S_S73 main_c_0
  let main_v3 : IVec S73 1 := cmpi .slt main_arg0 main_v2
  let main_v4 : IVec S73 1 := andi main_v1 main_v3
  let main_c_1 : IVec S_ 1 := constantI S_ 1 1#1
  let main_v5 : IVec S_ 1 := (fun x v => Host.reduce IntOp.andi x v reducesTo_S73_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S16640x5632 : Shape := ⟨2, ![16640, 5632]⟩
abbrev S8x64 : Shape := ⟨2, ![8, 64]⟩
abbrev S16640x2048 : Shape := ⟨2, ![16640, 2048]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S4x2x128x128 : Shape := ⟨4, ![4, 2, 128, 128]⟩
abbrev S4x2 : Shape := ⟨2, ![4, 2]⟩
abbrev S4x2x64 : Shape := ⟨3, ![4, 2, 64]⟩
abbrev S4x128 : Shape := ⟨2, ![4, 128]⟩
abbrev S4x128x1 : Shape := ⟨3, ![4, 128, 1]⟩
abbrev S4x128x128 : Shape := ⟨3, ![4, 128, 128]⟩
abbrev S4x2x128 : Shape := ⟨3, ![4, 2, 128]⟩
abbrev S4x128x2 : Shape := ⟨3, ![4, 128, 2]⟩
abbrev S4x128x2x64 : Shape := ⟨4, ![4, 128, 2, 64]⟩
abbrev S1x512 : Shape := ⟨2, ![1, 512]⟩
abbrev S8x4x128x128 : Shape := ⟨4, ![8, 4, 128, 128]⟩
abbrev S128x512 : Shape := ⟨2, ![128, 512]⟩
abbrev S1x4x128x128 : Shape := ⟨4, ![1, 4, 128, 128]⟩
abbrev S1x1x128x128 : Shape := ⟨4, ![1, 1, 128, 128]⟩

abbrev nBuf : Space → Nat
  | .hbm => 103
  | .vmem => 24
  | .smem => 0
  | _ => 0

abbrev bufTy : (tb : Table) → Fin (tcTables nBuf tb) → BufTy
  | .hbm, ⟨0, _⟩ => ⟨S16640x5632, .f32⟩
  | .hbm, ⟨1, _⟩ => ⟨S8x64, .f32⟩
  | .hbm, ⟨2, _⟩ => ⟨S16640x2048, .bf16⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S1x2048x1x32, .f32⟩
  | .hbm, ⟨21, _⟩ => ⟨S1x2048x4x32, .f32⟩
  | .hbm, ⟨22, _⟩ => ⟨S2048x128, .f32⟩
  | .hbm, ⟨23, _⟩ => ⟨S2048x32, .f32⟩
  | .hbm, ⟨24, _⟩ => ⟨S2048x64, .f32⟩
  | .hbm, ⟨25, _⟩ => ⟨S1x2048x1x64, .f32⟩
  | .hbm, ⟨26, _⟩ => ⟨S1x2048x2x64, .f32⟩
  | .hbm, ⟨27, _⟩ => ⟨S2048x128, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S128, .f32⟩
  | .hbm, ⟨40, _⟩ => ⟨S128x1, .f32⟩
  | .hbm, ⟨41, _⟩ => ⟨S1x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S_, .f32⟩
  | .hbm, ⟨46, _⟩ => ⟨S128x128, .f32⟩
  | .hbm, ⟨47, _⟩ => ⟨S128x128, .i1⟩
  | .hbm, ⟨48, _⟩ => ⟨S8x1x1, .f32⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S1x128x128, .f32⟩
  | .hbm, ⟨53, _⟩ => ⟨S8x128x128, .f32⟩
  | .hbm, ⟨54, _⟩ => ⟨S8x128x128, .f32⟩
  | .hbm, ⟨55, _⟩ => ⟨S8x128x128, .f32⟩
  | .hbm, ⟨56, _⟩ => ⟨S8x128x128, .f32⟩
  | .hbm, ⟨57, _⟩ => ⟨S_, .f32⟩
  | .hbm, ⟨58, _⟩ => ⟨S_, .f32⟩
  | .hbm, ⟨59, _⟩ => ⟨S8x128x128, .i1⟩
  | .hbm, ⟨60, _⟩ => ⟨S8x128x128, .f32⟩
  | .hbm, ⟨61, _⟩ => ⟨S8x128x128, .f32⟩
  | .hbm, ⟨62, _⟩ => ⟨S8x1, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S8x128, .f32⟩
  | .hbm, ⟨68, _⟩ => ⟨S8x128, .f32⟩
  | .hbm, ⟨69, _⟩ => ⟨S8x128, .f32⟩
  | .hbm, ⟨70, _⟩ => ⟨S8x128, .f32⟩
  | .hbm, ⟨71, _⟩ => ⟨S8x1, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S8x128, .f32⟩
  | .hbm, ⟨77, _⟩ => ⟨S8x128, .f32⟩
  | .hbm, ⟨78, _⟩ => ⟨S8x128, .f32⟩
  | .hbm, ⟨79, _⟩ => ⟨S8x128, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S8, .f32⟩
  | .hbm, ⟨84, _⟩ => ⟨S4x2x128x128, .f32⟩
  | .hbm, ⟨85, _⟩ => ⟨S4x2, .f32⟩
  | .hbm, ⟨86, _⟩ => ⟨S4x2x64, .f32⟩
  | .hbm, ⟨87, _⟩ => ⟨S4x128, .f32⟩
  | .hbm, ⟨88, _⟩ => ⟨S4x128x1, .f32⟩
  | .hbm, ⟨89, _⟩ => ⟨S4x128x128, .f32⟩
  | .hbm, ⟨90, _⟩ => ⟨S4x2x128, .f32⟩
  | .hbm, ⟨91, _⟩ => ⟨S4x128x2, .f32⟩
  | .hbm, ⟨92, _⟩ => ⟨S4x128x2x64, .f32⟩
  | .hbm, ⟨93, _⟩ => ⟨S4x128x128, .f32⟩
  | .hbm, ⟨94, _⟩ => ⟨S4x2x128, .f32⟩
  | .hbm, ⟨95, _⟩ => ⟨S4x128x2, .f32⟩
  | .hbm, ⟨96, _⟩ => ⟨S4x128x2x64, .f32⟩
  | .hbm, ⟨97, _⟩ => ⟨S4x128x128, .f32⟩
  | .hbm, ⟨98, _⟩ => ⟨S1x512, .f32⟩
  | .hbm, ⟨99, _⟩ => ⟨S_, .f32⟩
  | .hbm, ⟨100, _⟩ => ⟨S8x4x128x128, .f32⟩
  | .hbm, ⟨101, _⟩ => ⟨S16640x2048, .bf16⟩
  | .hbm, ⟨102, _⟩ => ⟨S8x4x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S4x2x128x128, .f32⟩
  | .local _ .vmem, ⟨13, _⟩ => ⟨S4x128x128, .f32⟩
  | .local _ .vmem, ⟨14, _⟩ => ⟨S4x128x128, .f32⟩
  | .local _ .vmem, ⟨15, _⟩ => ⟨S4x128x128, .f32⟩
  | .local _ .vmem, ⟨16, _⟩ => ⟨S1x4x128x128, .f32⟩
  | .local _ .vmem, ⟨17, _⟩ => ⟨S1x4x128x128, .f32⟩
  | .local _ .vmem, ⟨18, _⟩ => ⟨S1x512, .f32⟩
  | .local _ .vmem, ⟨19, _⟩ => ⟨S128x512, .bf16⟩
  | .local _ .vmem, ⟨20, _⟩ => ⟨S128x512, .bf16⟩
  | .local _ .vmem, ⟨21, _⟩ => ⟨S1x4x128x128, .f32⟩
  | .local _ .vmem, ⟨22, _⟩ => ⟨S1x4x128x128, .f32⟩
  | .local _ .vmem, ⟨23, _⟩ => ⟨S4x128x128, .f32⟩
  | _, _ => ⟨S16640x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83_0 : Ref sig .tc := ⟨.hbm, 101, rfl⟩
abbrev main_v83_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c6_i32 : BitVec 32 := 6#32
  let c0_i32_0 : BitVec 32 := 0#32
  ![v2.toNat, c6_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c7_i32 : BitVec 32 := 7#32
  let c0_i32_0 : BitVec 32 := 0#32
  ![v2.toNat, c7_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c8_i32 : BitVec 32 := 8#32
  let c0_i32_0 : BitVec 32 := 0#32
  ![v2.toNat, c8_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c9_i32 : BitVec 32 := 9#32
  let c0_i32_0 : BitVec 32 := 0#32
  ![v2.toNat, c9_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x2x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S16640x5632 : Shape := ⟨2, ![16640, 5632]⟩
abbrev S8x64 : Shape := ⟨2, ![8, 64]⟩
abbrev S16640x2048 : Shape := ⟨2, ![16640, 2048]⟩
abbrev S16384x2048 : Shape := ⟨2, ![16384, 2048]⟩
abbrev S8x2048x4x8x64 : Shape := ⟨5, ![8, 2048, 4, 8, 64]⟩
abbrev S8x2048x1x8x64 : Shape := ⟨5, ![8, 2048, 1, 8, 64]⟩
abbrev S8x2048x8x64 : Shape := ⟨4, ![8, 2048, 8, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x8x64x64 : Shape := ⟨4, ![8, 8, 64, 64]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S1x8x128x1 : Shape := ⟨4, ![1, 8, 128, 1]⟩
abbrev S1x8x1x1 : Shape := ⟨4, ![1, 8, 1, 1]⟩
abbrev S8x16x128x8x64 : Shape := ⟨5, ![8, 16, 128, 8, 64]⟩
abbrev S16x8x8x128x64 : Shape := ⟨5, ![16, 8, 8, 128, 64]⟩
abbrev S1x8x8x128x64 : Shape := ⟨5, ![1, 8, 8, 128, 64]⟩
abbrev S8x8x128x64 : Shape := ⟨4, ![8, 8, 128, 64]⟩
abbrev S8x8x128x128 : Shape := ⟨4, ![8, 8, 128, 128]⟩
abbrev S1x8x128x128 : Shape := ⟨4, ![1, 8, 128, 128]⟩
abbrev S8x2048x8 : Shape := ⟨3, ![8, 2048, 8]⟩
abbrev S8x2048x8x1 : Shape := ⟨4, ![8, 2048, 8, 1]⟩
abbrev S1x1x8x64 : Shape := ⟨4, ![1, 1, 8, 64]⟩
abbrev S16384x512 : Shape := ⟨2, ![16384, 512]⟩
abbrev S8x4x2x64x64 : Shape := ⟨5, ![8, 4, 2, 64, 64]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S1x1x2x1x2x1 : Shape := ⟨6, ![1, 1, 2, 1, 2, 1]⟩
abbrev S8x4x2x64x1x64 : Shape := ⟨6, ![8, 4, 2, 64, 1, 64]⟩
abbrev S8x4x2x64x2x64 : Shape := ⟨6, ![8, 4, 2, 64, 2, 64]⟩
abbrev S8x4x128x128 : Shape := ⟨4, ![8, 4, 128, 128]⟩

abbrev nBuf : Space → Nat
  | .hbm => 252
  | .vmem => 0
  | .smem => 0
  | _ => 0

abbrev hbmTy0_0 (i : Nat) : BufTy := match i % 128 with
  | 0 => ⟨S16640x5632, .f32⟩
  | 1 => ⟨S8x64, .f32⟩
  | 2 => ⟨S16640x2048, .bf16⟩
  | 3 => ⟨S16384x2048, .f32⟩
  | 4 => ⟨S8x2048x4x8x64, .f32⟩
  | 5 => ⟨S8x2048x1x8x64, .f32⟩
  | 6 => ⟨S8x2048x8x64, .f32⟩
  | 7 => ⟨S8x2048x1x8x64, .f32⟩
  | 8 => ⟨S8x2048x8x64, .f32⟩
  | 9 => ⟨S8x2048x1x8x64, .f32⟩
  | 10 => ⟨S8x2048x8x64, .f32⟩
  | 11 => ⟨S2048, .i32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S1x2048x1x32, .f32⟩
  | 28 => ⟨S2048x32, .f32⟩
  | 29 => ⟨S1x2048x1x32, .f32⟩
  | 30 => ⟨S8x2048x8x32, .f32⟩
  | 31 => ⟨S8x2048x8x32, .f32⟩
  | 32 => ⟨S8x2048x8x32, .f32⟩
  | 33 => ⟨S8x2048x8x32, .f32⟩
  | 34 => ⟨S8x2048x8x32, .f32⟩
  | 35 => ⟨S8x2048x8x32, .f32⟩
  | 36 => ⟨S8x2048x8x32, .f32⟩
  | 37 => ⟨S8x2048x8x32, .f32⟩
  | 38 => ⟨S8x2048x8x32, .f32⟩
  | 39 => ⟨S8x2048x8x32, .f32⟩
  | 40 => ⟨S8x2048x8x32, .f32⟩
  | 41 => ⟨S8x2048x8x32, .f32⟩
  | 42 => ⟨S8x2048x8x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S1x2048x1x32, .f32⟩
  | 59 => ⟨S2048x32, .f32⟩
  | 60 => ⟨S1x2048x1x32, .f32⟩
  | 61 => ⟨S8x2048x8x32, .f32⟩
  | 62 => ⟨S8x2048x8x32, .f32⟩
  | 63 => ⟨S8x2048x8x32, .f32⟩
  | 64 => ⟨S8x2048x8x32, .f32⟩
  | 65 => ⟨S8x2048x8x32, .f32⟩
  | 66 => ⟨S8x2048x8x32, .f32⟩
  | 67 => ⟨S8x2048x8x32, .f32⟩
  | 68 => ⟨S8x2048x8x32, .f32⟩
  | 69 => ⟨S8x2048x8x32, .f32⟩
  | 70 => ⟨S8x2048x8x32, .f32⟩
  | 71 => ⟨S8x2048x8x32, .f32⟩
  | 72 => ⟨S8x2048x8x32, .f32⟩
  | 73 => ⟨S8x2048x8x64, .f32⟩
  | 74 => ⟨S_, .f32⟩
  | 75 => ⟨S8x2048x8x64, .f32⟩
  | 76 => ⟨S8x2048x8x64, .f32⟩
  | 77 => ⟨S_, .f32⟩
  | 78 => ⟨S8x8x64x64, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S8, .f32⟩
  | 90 => ⟨S128, .f32⟩
  | 91 => ⟨S128x1, .f32⟩
  | 92 => ⟨S1x128, .f32⟩
  | 93 => ⟨S128x128, .f32⟩
  | 94 => ⟨S128x128, .f32⟩
  | 95 => ⟨S128x128, .f32⟩
  | 96 => ⟨S_, .f32⟩
  | 97 => ⟨S128x128, .f32⟩
  | 98 => ⟨S128x128, .i1⟩
  | 99 => ⟨S8x1x1, .f32⟩
  | 100 => ⟨S_, .f32⟩
  | 101 => ⟨S128x128, .f32⟩
  | 102 => ⟨S128x128, .f32⟩
  | 103 => ⟨S1x128x128, .f32⟩
  | 104 => ⟨S8x128x128, .f32⟩
  | 105 => ⟨S8x128x128, .f32⟩
  | 106 => ⟨S8x128x128, .f32⟩
  | 107 => ⟨S8x128x128, .f32⟩
  | 108 => ⟨S_, .f32⟩
  | 109 => ⟨S_, .f32⟩
  | 110 => ⟨S8x128x128, .i1⟩
  | 111 => ⟨S8x128x128, .f32⟩
  | 112 => ⟨S8x128x128, .f32⟩
  | 113 => ⟨S8x1, .f32⟩
  | 114 => ⟨S_, .f32⟩
  | 115 => ⟨S128, .f32⟩
  | 116 => ⟨S128, .f32⟩
  | 117 => ⟨S1x128, .f32⟩
  | 118 => ⟨S8x128, .f32⟩
  | 119 => ⟨S8x128, .f32⟩
  | 120 => ⟨S8x128, .f32⟩
  | 121 => ⟨S8x128, .f32⟩
  | 122 => ⟨S1x8x128x1, .f32⟩
  | 123 => ⟨S8x1, .f32⟩
  | 124 => ⟨S_, .f32⟩
  | 125 => ⟨S128, .f32⟩
  | 126 => ⟨S128, .f32⟩
  | 127 => ⟨S1x128, .f32⟩
  | _ => ⟨S16640x5632, .f32⟩

abbrev hbmTy0_1 (i : Nat) : BufTy := match i % 128 with
  | 0 => ⟨S8x128, .f32⟩
  | 1 => ⟨S8x128, .f32⟩
  | 2 => ⟨S8x128, .f32⟩
  | 3 => ⟨S8x128, .f32⟩
  | 4 => ⟨S1x8x128x1, .f32⟩
  | 5 => ⟨S_, .f32⟩
  | 6 => ⟨S8, .f32⟩
  | 7 => ⟨S8, .f32⟩
  | 8 => ⟨S8, .f32⟩
  | 9 => ⟨S1x8x1x1, .f32⟩
  | 10 => ⟨S8x16x128x8x64, .f32⟩
  | 11 => ⟨S16x8x8x128x64, .f32⟩
  | 12 => ⟨S8x16x128x8x64, .f32⟩
  | 13 => ⟨S16x8x8x128x64, .f32⟩
  | 14 => ⟨S8x16x128x8x64, .f32⟩
  | 15 => ⟨S16x8x8x128x64, .f32⟩
  | 16 => ⟨S_, .f32⟩
  | 17 => ⟨S16x8x8x128x64, .f32⟩
  | 18 => ⟨S_, .i32⟩
  | 19 => ⟨S16x8x8x128x64, .f32⟩
  | 20 => ⟨S16x8x8x128x64, .f32⟩
  | 21 => ⟨S16x8x8x128x64, .f32⟩
  | 22 => ⟨S8x128x128, .f32⟩
  | 23 => ⟨S1x8x128x1, .f32⟩
  | 24 => ⟨S1x8x1x1, .f32⟩
  | 25 => ⟨S1x8x128x1, .f32⟩
  | 26 => ⟨S_, .i32⟩
  | 27 => ⟨S8x8x64x64, .f32⟩
  | 28 => ⟨S16x8x8x128x64, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1x8x8x128x64, .f32⟩
  | 36 => ⟨S8x8x128x64, .f32⟩
  | 37 => ⟨S_, .i32⟩
  | 38 => ⟨S_, .i32⟩
  | 39 => ⟨S_, .i32⟩
  | 40 => ⟨S_, .i32⟩
  | 41 => ⟨S1x8x8x128x64, .f32⟩
  | 42 => ⟨S8x8x128x64, .f32⟩
  | 43 => ⟨S_, .i32⟩
  | 44 => ⟨S_, .i32⟩
  | 45 => ⟨S_, .i32⟩
  | 46 => ⟨S_, .i32⟩
  | 47 => ⟨S1x8x8x128x64, .f32⟩
  | 48 => ⟨S8x8x128x64, .f32⟩
  | 49 => ⟨S8x8x128x128, .f32⟩
  | 50 => ⟨S1x8x128x128, .f32⟩
  | 51 => ⟨S8x8x128x128, .f32⟩
  | 52 => ⟨S8x8x128x128, .f32⟩
  | 53 => ⟨S8x8x128x64, .f32⟩
  | 54 => ⟨S8x8x128x64, .f32⟩
  | 55 => ⟨S8x8x128x64, .f32⟩
  | 56 => ⟨S8x8x128x64, .f32⟩
  | 57 => ⟨S8x8x128x64, .f32⟩
  | 58 => ⟨S8x8x64x64, .f32⟩
  | 59 => ⟨S8x8x64x64, .f32⟩
  | 60 => ⟨S8x8x128x64, .f32⟩
  | 61 => ⟨S8x8x128x64, .f32⟩
  | 62 => ⟨S8x8x64x64, .f32⟩
  | 63 => ⟨S8x8x64x64, .f32⟩
  | 64 => ⟨S1x8x8x128x64, .f32⟩
  | 65 => ⟨S_, .i32⟩
  | 66 => ⟨S_, .i32⟩
  | 67 => ⟨S_, .i32⟩
  | 68 => ⟨S_, .i32⟩
  | 69 => ⟨S16x8x8x128x64, .f32⟩
  | 70 => ⟨S_, .i32⟩
  | 71 => ⟨S_, .i32⟩
  | 72 => ⟨S8x16x128x8x64, .f32⟩
  | 73 => ⟨S8x2048x8x64, .f32⟩
  | 74 => ⟨S8x2048x8x64, .f32⟩
  | 75 => ⟨S_, .f32⟩
  | 76 => ⟨S8x2048x8, .f32⟩
  | 77 => ⟨S8x2048x8x1, .f32⟩
  | 78 => ⟨S_, .f32⟩
  | 79 => ⟨S8x2048x8x1, .f32⟩
  | 80 => ⟨S8x2048x8x1, .f32⟩
  | 81 => ⟨S_, .f32⟩
  | 82 => ⟨S8x2048x8x1, .f32⟩
  | 83 => ⟨S8x2048x8x1, .f32⟩
  | 84 => ⟨S8x2048x8x1, .f32⟩
  | 85 => ⟨S8x2048x8x64, .f32⟩
  | 86 => ⟨S8x2048x8x64, .f32⟩
  | 87 => ⟨S1x1x8x64, .f32⟩
  | 88 => ⟨S8x2048x8x64, .f32⟩
  | 89 => ⟨S8x2048x8x64, .f32⟩
  | 90 => ⟨S16384x512, .f32⟩
  | 91 => ⟨S8x2048x8x64, .f32⟩
  | 92 => ⟨S8x2048x8x64, .f32⟩
  | 93 => ⟨S8x2048x8x64, .f32⟩
  | 94 => ⟨S_, .f32⟩
  | 95 => ⟨S8x2048x8x64, .f32⟩
  | 96 => ⟨S8x2048x8x64, .f32⟩
  | 97 => ⟨S_, .f32⟩
  | 98 => ⟨S8x2048x8x64, .f32⟩
  | 99 => ⟨S8x2048x8x64, .f32⟩
  | 100 => ⟨S8x2048x8x64, .f32⟩
  | 101 => ⟨S8x2048x8x64, .f32⟩
  | 102 => ⟨S16384x512, .f32⟩
  | 103 => ⟨S16384x512, .bf16⟩
  | 104 => ⟨S_, .i32⟩
  | 105 => ⟨S_, .i32⟩
  | 106 => ⟨S16640x2048, .bf16⟩
  | 107 => ⟨S8x4x2x64x64, .f32⟩
  | 108 => ⟨S2, .i32⟩
  | 109 => ⟨S2x1, .i32⟩
  | 110 => ⟨S2, .i32⟩
  | 111 => ⟨S1x2, .i32⟩
  | 112 => ⟨S2x2, .i32⟩
  | 113 => ⟨S2x2, .i32⟩
  | 114 => ⟨S2x2, .i1⟩
  | 115 => ⟨S1x1x2x1x2x1, .i1⟩
  | 116 => ⟨S8x4x2x64x1x64, .f32⟩
  | 117 => ⟨S_, .f32⟩
  | 118 => ⟨S_, .f32⟩
  | 119 => ⟨S8x4x2x64x2x64, .i1⟩
  | 120 => ⟨S8x4x2x64x2x64, .f32⟩
  | 121 => ⟨S8x4x2x64x2x64, .f32⟩
  | 122 => ⟨S8x4x2x64x2x64, .f32⟩
  | 123 => ⟨S8x4x128x128, .f32⟩
  | _ => ⟨S16640x5632, .f32⟩

abbrev hbmTy (i : Nat) : BufTy := match i / 128 with
  | 0 => hbmTy0_0 i
  | 1 => hbmTy0_1 i
  | _ => ⟨S16640x5632, .f32⟩

abbrev bufTy : (tb : Table) → Fin (tcTables nBuf tb) → BufTy
  | .hbm, ⟨i, _⟩ => hbmTy i
  | _, _ => ⟨S16640x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_3 : Ref sig .tc := ⟨.hbm, 74, rfl⟩
abbrev main_v67 : Ref sig .tc := ⟨.hbm, 75, rfl⟩
abbrev main_v68 : Ref sig .tc := ⟨.hbm, 76, rfl⟩
abbrev main_cst_4 : Ref sig .tc := ⟨.hbm, 77, rfl⟩
abbrev main_v69 : Ref sig .tc := ⟨.hbm, 78, rfl⟩
abbrev main_v70 : Ref sig .tc := ⟨.hbm, 79, rfl⟩
abbrev main_cst_5 : Ref sig .tc := ⟨.hbm, 80, rfl⟩
abbrev main_v71 : Ref sig .tc := ⟨.hbm, 81, rfl⟩
abbrev main_v72 : Ref sig .tc := ⟨.hbm, 82, rfl⟩
abbrev main_cst_6 : Ref sig .tc := ⟨.hbm, 83, rfl⟩
abbrev main_v73 : Ref sig .tc := ⟨.hbm, 84, rfl⟩
abbrev main_v74 : Ref sig .tc := ⟨.hbm, 85, rfl⟩
abbrev main_cst_7 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_8 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_9 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_10 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v94 : Ref sig .tc := ⟨.hbm, 112, rfl⟩
abbrev main_v95 : Ref sig .tc := ⟨.hbm, 113, rfl⟩
abbrev main_cst_11 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_12 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_13 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_14 : Ref sig .tc := ⟨.hbm, 144, rfl⟩
abbrev main_v123 : Ref sig .tc := ⟨.hbm, 145, rfl⟩
abbrev main_c : Ref sig .tc := ⟨.hbm, 146, rfl⟩
abbrev main_v124_0 : Ref sig .tc := ⟨.hbm, 147, rfl⟩
abbrev main_v124_1 : Ref sig .tc := ⟨.hbm, 148, rfl⟩
abbrev main_v124_2 : Ref sig .tc := ⟨.hbm, 149, rfl⟩
abbrev main_v124_3 : Ref sig .tc := ⟨.hbm, 150, rfl⟩
abbrev main_v124_4 : Ref sig .tc := ⟨.hbm, 151, rfl⟩
abbrev main_v124_5 : Ref sig .tc := ⟨.hbm, 152, rfl⟩
abbrev main_v124_6 : Ref sig .tc := ⟨.hbm, 153, rfl⟩
abbrev main_v124_7 : Ref sig .tc := ⟨.hbm, 154, rfl⟩
abbrev main_v124_8 : Ref sig .tc := ⟨.hbm, 155, rfl⟩
abbrev main_v124_9 : Ref sig .tc := ⟨.hbm, 156, rfl⟩
abbrev main_while0c_c_32 : Ref sig .tc := ⟨.hbm, 157, rfl⟩
abbrev main_while0c_v165 : Ref sig .tc := ⟨.hbm, 158, rfl⟩
abbrev main_while0b_call1_c : Ref sig .tc := ⟨.hbm, 159, rfl⟩
abbrev main_while0b_call1_c_0 : Ref sig .tc := ⟨.hbm, 160, rfl⟩
abbrev main_while0b_call1_c_1 : Ref sig .tc := ⟨.hbm, 161, rfl⟩
abbrev main_while0b_call1_c_2 : Ref sig .tc := ⟨.hbm, 162, rfl⟩
abbrev main_while0b_call1_v0 : Ref sig .tc := ⟨.hbm, 163, rfl⟩
abbrev main_while0b_v165 : Ref sig .tc := ⟨.hbm, 164, rfl⟩
abbrev main_while0b_call2_c : Ref sig .tc := ⟨.hbm, 165, rfl⟩
abbrev main_while0b_call2_c_0 : Ref sig .tc := ⟨.hbm, 166, rfl⟩
abbrev main_while0b_call2_c_1 : Ref sig .tc := ⟨.hbm, 167, rfl⟩
abbrev main_while0b_call2_c_2 : Ref sig .tc := ⟨.hbm, 168, rfl⟩
abbrev main_while0b_call2_v0 : Ref sig .tc := ⟨.hbm, 169, rfl⟩
abbrev main_while0b_v166 : Ref sig .tc := ⟨.hbm, 170, rfl⟩
abbrev main_while0b_call3_c : Ref sig .tc := ⟨.hbm, 171, rfl⟩
abbrev main_while0b_call3_c_0 : Ref sig .tc := ⟨.hbm, 172, rfl⟩
abbrev main_while0b_call3_c_1 : Ref sig .tc := ⟨.hbm, 173, rfl⟩
abbrev main_while0b_call3_c_2 : Ref sig .tc := ⟨.hbm, 174, rfl⟩
abbrev main_while0b_call3_v0 : Ref sig .tc := ⟨.hbm, 175, rfl⟩
abbrev main_while0b_v167 : Ref sig .tc := ⟨.hbm, 176, rfl⟩
abbrev main_while0b_v168 : Ref sig .tc := ⟨.hbm, 177, rfl⟩
abbrev main_while0b_v169 : Ref sig .tc := ⟨.hbm, 178, rfl⟩
abbrev main_while0b_v170 : Ref sig .tc := ⟨.hbm, 179, rfl⟩
abbrev main_while0b_v171 : Ref sig .tc := ⟨.hbm, 180, rfl⟩
abbrev main_while0b_v172 : Ref sig .tc := ⟨.hbm, 181, rfl⟩
abbrev main_while0b_v173 : Ref sig .tc := ⟨.hbm, 182, rfl⟩
abbrev main_while0b_v174 : Ref sig .tc := ⟨.hbm, 183, rfl⟩
abbrev main_while0b_v175 : Ref sig .tc := ⟨.hbm, 184, rfl⟩
abbrev main_while0b_v176 : Ref sig .tc := ⟨.hbm, 185, rfl⟩
abbrev main_while0b_v177 : Ref sig .tc := ⟨.hbm, 186, rfl⟩
abbrev main_while0b_v178 : Ref sig .tc := ⟨.hbm, 187, rfl⟩
abbrev main_while0b_v179 : Ref sig .tc := ⟨.hbm, 188, rfl⟩
abbrev main_while0b_v180 : Ref sig .tc := ⟨.hbm, 189, rfl⟩
abbrev main_while0b_v181 : Ref sig .tc := ⟨.hbm, 190, rfl⟩
abbrev main_while0b_v182 : Ref sig .tc := ⟨.hbm, 191, rfl⟩
abbrev main_while0b_call4_v0 : Ref sig .tc := ⟨.hbm, 192, rfl⟩
abbrev main_while0b_call4_c : Ref sig .tc := ⟨.hbm, 193, rfl⟩
abbrev main_while0b_call4_c_0 : Ref sig .tc := ⟨.hbm, 194, rfl⟩
abbrev main_while0b_call4_c_1 : Ref sig .tc := ⟨.hbm, 195, rfl⟩
abbrev main_while0b_call4_c_2 : Ref sig .tc := ⟨.hbm, 196, rfl⟩
abbrev main_while0b_v183 : Ref sig .tc := ⟨.hbm, 197, rfl⟩
abbrev main_while0b_c_32 : Ref sig .tc := ⟨.hbm, 198, rfl⟩
abbrev main_while0b_v184 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_cst_15 : Ref sig .tc := ⟨.hbm, 203, rfl⟩
abbrev main_v128 : Ref sig .tc := ⟨.hbm, 204, rfl⟩
abbrev main_v129 : Ref sig .tc := ⟨.hbm, 205, rfl⟩
abbrev main_cst_16 : Ref sig .tc := ⟨.hbm, 206, rfl⟩
abbrev main_v130 : Ref sig .tc := ⟨.hbm, 207, rfl⟩
abbrev main_v131 : Ref sig .tc := ⟨.hbm, 208, rfl⟩
abbrev main_cst_17 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_cst_18 : Ref sig .tc := ⟨.hbm, 222, rfl⟩
abbrev main_v144 : Ref sig .tc := ⟨.hbm, 223, rfl⟩
abbrev main_v145 : Ref sig .tc := ⟨.hbm, 224, rfl⟩
abbrev main_cst_19 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_c_20 : Ref sig .tc := ⟨.hbm, 232, rfl⟩
abbrev main_c_21 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_cst_22 : Ref sig .tc := ⟨.hbm, 245, rfl⟩
abbrev main_call5_v0 : Ref sig .tc := ⟨.hbm, 246, rfl⟩
abbrev main_call5_v1 : Ref sig .tc := ⟨.hbm, 247, rfl⟩
abbrev main_call5_v2 : Ref sig .tc := ⟨.hbm, 248, rfl⟩
abbrev main_call5_v3 : Ref sig .tc := ⟨.hbm, 249, rfl⟩
abbrev main_v163 : Ref sig .tc := ⟨.hbm, 250, rfl⟩
abbrev main_v164 : Ref sig .tc := ⟨.hbm, 251, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S73 : Shape := ⟨1, ![73]⟩
abbrev S1 : Shape := ⟨1, ![1]⟩
abbrev S37376x2048 : Shape := ⟨2, ![37376, 2048]⟩
abbrev S1x8x2048x7168 : Shape := ⟨4, ![1, 8, 2048, 7168]⟩
abbrev S37376x7168 : Shape := ⟨2, ![37376, 7168]⟩
abbrev S512x2048 : Shape := ⟨2, ![512, 2048]⟩
abbrev S1x1x2048x1024 : Shape := ⟨4, ![1, 1, 2048, 1024]⟩
abbrev S512x1024 : Shape := ⟨2, ![512, 1024]⟩
abbrev S2048x1024 : Shape := ⟨2, ![2048, 1024]⟩

abbrev nBuf : Space → Nat
  | .hbm => 4
  | .vmem => 10
  | .smem => 2
  | _ => 0

abbrev bufTy : (tb : Table) → Fin (tcTables nBuf tb) → BufTy
  | .hbm, ⟨0, _⟩ => ⟨S37376x2048, .bf16⟩
  | .hbm, ⟨1, _⟩ => ⟨S1x8x2048x7168, .f32⟩
  | .hbm, ⟨2, _⟩ => ⟨S1x8x2048x7168, .f32⟩
  | .hbm, ⟨3, _⟩ => ⟨S37376x7168, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S73, .i32⟩
  | .local _ .smem, ⟨1, _⟩ => ⟨S1, .i32⟩
  | _, _ => ⟨S37376x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 73], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S73.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S73) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S73.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S73) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S73 : Shape := ⟨1, ![73]⟩
abbrev S1 : Shape := ⟨1, ![1]⟩
abbrev S37376x2048 : Shape := ⟨2, ![37376, 2048]⟩
abbrev S1x8x2048x7168 : Shape := ⟨4, ![1, 8, 2048, 7168]⟩
abbrev S_ : Shape := ⟨0, ![]⟩
abbrev S73x1 : Shape := ⟨2, ![73, 1]⟩
abbrev S73x512 : Shape := ⟨2, ![73, 512]⟩
abbrev S37376x1 : Shape := ⟨2, ![37376, 1]⟩
abbrev S8x2048x7168 : Shape := ⟨3, ![8, 2048, 7168]⟩
abbrev S37376x7168 : Shape := ⟨2, ![37376, 7168]⟩
abbrev S1x2048x7168 : Shape := ⟨3, ![1, 2048, 7168]⟩
abbrev S2048x7168 : Shape := ⟨2, ![2048, 7168]⟩

abbrev nBuf : Space → Nat
  | .hbm => 190
  | .vmem => 0
  | .smem => 0
  | _ => 0

abbrev hbmTy0_0 (i : Nat) : BufTy := match i % 128 with
  | 0 => ⟨S73, .i32⟩
  | 1 => ⟨S1, .i32⟩
  | 2 => ⟨S37376x2048, .bf16⟩
  | 3 => ⟨S1x8x2048x7168, .f32⟩
  | 4 => ⟨S1x8x2048x7168, .f32⟩
  | 5 => ⟨S73, .i32⟩
  | 6 => ⟨S_, .i32⟩
  | 7 => ⟨S73, .i32⟩
  | 8 => ⟨S73, .i1⟩
  | 9 => ⟨S_, .i32⟩
  | 10 => ⟨S_, .i32⟩
  | 11 => ⟨S73, .i32⟩
  | 12 => ⟨S73, .i32⟩
  | 13 => ⟨S73x1, .i32⟩
  | 14 => ⟨S73x512, .i32⟩
  | 15 => ⟨S37376x1, .i32⟩
  | 16 => ⟨S37376x2048, .f32⟩
  | 17 => ⟨S8x2048x7168, .f32⟩
  | 18 => ⟨S8x2048x7168, .f32⟩
  | 19 => ⟨S_, .f32⟩
  | 20 => ⟨S37376x7168, .f32⟩
  | 21 => ⟨S_, .i32⟩
  | 22 => ⟨S37376x1, .i32⟩
  | 23 => ⟨S37376x1, .i1⟩
  | 24 => ⟨S1x2048x7168, .f32⟩
  | 25 => ⟨S2048x7168, .f32⟩
  | 26 => ⟨S37376x7168, .f32⟩
  | 27 => ⟨S37376x7168, .f32⟩
  | 28 => ⟨S37376x7168, .f32⟩
  | 29 => ⟨S_, .f32⟩
  | 30 => ⟨S37376x7168, .f32⟩
  | 31 => ⟨S37376x7168, .f32⟩
  | 32 => ⟨S_, .f32⟩
  | 33 => ⟨S37376x7168, .f32⟩
  | 34 => ⟨S37376x7168, .f32⟩
  | 35 => ⟨S37376x7168, .f32⟩
  | 36 => ⟨S1x2048x7168, .f32⟩
  | 37 => ⟨S2048x7168, .f32⟩
  | 38 => ⟨S37376x7168, .f32⟩
  | 39 => ⟨S37376x7168, .f32⟩
  | 40 => ⟨S37376x7168, .i1⟩
  | 41 => ⟨S37376x7168, .f32⟩
  | 42 => ⟨S_, .i32⟩
  | 43 => ⟨S37376x1, .i32⟩
  | 44 => ⟨S37376x1, .i1⟩
  | 45 => ⟨S1x2048x7168, .f32⟩
  | 46 => ⟨S2048x7168, .f32⟩
  | 47 => ⟨S37376x7168, .f32⟩
  | 48 => ⟨S37376x7168, .f32⟩
  | 49 => ⟨S37376x7168, .f32⟩
  | 50 => ⟨S_, .f32⟩
  | 51 => ⟨S37376x7168, .f32⟩
  | 52 => ⟨S37376x7168, .f32⟩
  | 53 => ⟨S_, .f32⟩
  | 54 => ⟨S37376x7168, .f32⟩
  | 55 => ⟨S37376x7168, .f32⟩
  | 56 => ⟨S37376x7168, .f32⟩
  | 57 => ⟨S1x2048x7168, .f32⟩
  | 58 => ⟨S2048x7168, .f32⟩
  | 59 => ⟨S37376x7168, .f32⟩
  | 60 => ⟨S37376x7168, .f32⟩
  | 61 => ⟨S37376x7168, .i1⟩
  | 62 => ⟨S37376x7168, .f32⟩
  | 63 => ⟨S_, .i32⟩
  | 64 => ⟨S37376x1, .i32⟩
  | 65 => ⟨S37376x1, .i1⟩
  | 66 => ⟨S1x2048x7168, .f32⟩
  | 67 => ⟨S2048x7168, .f32⟩
  | 68 => ⟨S37376x7168, .f32⟩
  | 69 => ⟨S37376x7168, .f32⟩
  | 70 => ⟨S37376x7168, .f32⟩
  | 71 => ⟨S_, .f32⟩
  | 72 => ⟨S37376x7168, .f32⟩
  | 73 => ⟨S37376x7168, .f32⟩
  | 74 => ⟨S_, .f32⟩
  | 75 => ⟨S37376x7168, .f32⟩
  | 76 => ⟨S37376x7168, .f32⟩
  | 77 => ⟨S37376x7168, .f32⟩
  | 78 => ⟨S1x2048x7168, .f32⟩
  | 79 => ⟨S2048x7168, .f32⟩
  | 80 => ⟨S37376x7168, .f32⟩
  | 81 => ⟨S37376x7168, .f32⟩
  | 82 => ⟨S37376x7168, .i1⟩
  | 83 => ⟨S37376x7168, .f32⟩
  | 84 => ⟨S_, .i32⟩
  | 85 => ⟨S37376x1, .i32⟩
  | 86 => ⟨S37376x1, .i1⟩
  | 87 => ⟨S1x2048x7168, .f32⟩
  | 88 => ⟨S2048x7168, .f32⟩
  | 89 => ⟨S37376x7168, .f32⟩
  | 90 => ⟨S37376x7168, .f32⟩
  | 91 => ⟨S37376x7168, .f32⟩
  | 92 => ⟨S_, .f32⟩
  | 93 => ⟨S37376x7168, .f32⟩
  | 94 => ⟨S37376x7168, .f32⟩
  | 95 => ⟨S_, .f32⟩
  | 96 => ⟨S37376x7168, .f32⟩
  | 97 => ⟨S37376x7168, .f32⟩
  | 98 => ⟨S37376x7168, .f32⟩
  | 99 => ⟨S1x2048x7168, .f32⟩
  | 100 => ⟨S2048x7168, .f32⟩
  | 101 => ⟨S37376x7168, .f32⟩
  | 102 => ⟨S37376x7168, .f32⟩
  | 103 => ⟨S37376x7168, .i1⟩
  | 104 => ⟨S37376x7168, .f32⟩
  | 105 => ⟨S_, .i32⟩
  | 106 => ⟨S37376x1, .i32⟩
  | 107 => ⟨S37376x1, .i1⟩
  | 108 => ⟨S1x2048x7168, .f32⟩
  | 109 => ⟨S2048x7168, .f32⟩
  | 110 => ⟨S37376x7168, .f32⟩
  | 111 => ⟨S37376x7168, .f32⟩
  | 112 => ⟨S37376x7168, .f32⟩
  | 113 => ⟨S_, .f32⟩
  | 114 => ⟨S37376x7168, .f32⟩
  | 115 => ⟨S37376x7168, .f32⟩
  | 116 => ⟨S_, .f32⟩
  | 117 => ⟨S37376x7168, .f32⟩
  | 118 => ⟨S37376x7168, .f32⟩
  | 119 => ⟨S37376x7168, .f32⟩
  | 120 => ⟨S1x2048x7168, .f32⟩
  | 121 => ⟨S2048x7168, .f32⟩
  | 122 => ⟨S37376x7168, .f32⟩
  | 123 => ⟨S37376x7168, .f32⟩
  | 124 => ⟨S37376x7168, .i1⟩
  | 125 => ⟨S37376x7168, .f32⟩
  | 126 => ⟨S_, .i32⟩
  | 127 => ⟨S37376x1, .i32⟩
  | _ => ⟨S73, .i32⟩

abbrev hbmTy0_1 (i : Nat) : BufTy := match i % 128 with
  | 0 => ⟨S37376x1, .i1⟩
  | 1 => ⟨S1x2048x7168, .f32⟩
  | 2 => ⟨S2048x7168, .f32⟩
  | 3 => ⟨S37376x7168, .f32⟩
  | 4 => ⟨S37376x7168, .f32⟩
  | 5 => ⟨S37376x7168, .f32⟩
  | 6 => ⟨S_, .f32⟩
  | 7 => ⟨S37376x7168, .f32⟩
  | 8 => ⟨S37376x7168, .f32⟩
  | 9 => ⟨S_, .f32⟩
  | 10 => ⟨S37376x7168, .f32⟩
  | 11 => ⟨S37376x7168, .f32⟩
  | 12 => ⟨S37376x7168, .f32⟩
  | 13 => ⟨S1x2048x7168, .f32⟩
  | 14 => ⟨S2048x7168, .f32⟩
  | 15 => ⟨S37376x7168, .f32⟩
  | 16 => ⟨S37376x7168, .f32⟩
  | 17 => ⟨S37376x7168, .i1⟩
  | 18 => ⟨S37376x7168, .f32⟩
  | 19 => ⟨S_, .i32⟩
  | 20 => ⟨S37376x1, .i32⟩
  | 21 => ⟨S37376x1, .i1⟩
  | 22 => ⟨S1x2048x7168, .f32⟩
  | 23 => ⟨S2048x7168, .f32⟩
  | 24 => ⟨S37376x7168, .f32⟩
  | 25 => ⟨S37376x7168, .f32⟩
  | 26 => ⟨S37376x7168, .f32⟩
  | 27 => ⟨S_, .f32⟩
  | 28 => ⟨S37376x7168, .f32⟩
  | 29 => ⟨S37376x7168, .f32⟩
  | 30 => ⟨S_, .f32⟩
  | 31 => ⟨S37376x7168, .f32⟩
  | 32 => ⟨S37376x7168, .f32⟩
  | 33 => ⟨S37376x7168, .f32⟩
  | 34 => ⟨S1x2048x7168, .f32⟩
  | 35 => ⟨S2048x7168, .f32⟩
  | 36 => ⟨S37376x7168, .f32⟩
  | 37 => ⟨S37376x7168, .f32⟩
  | 38 => ⟨S37376x7168, .i1⟩
  | 39 => ⟨S37376x7168, .f32⟩
  | 40 => ⟨S_, .i32⟩
  | 41 => ⟨S37376x1, .i32⟩
  | 42 => ⟨S37376x1, .i1⟩
  | 43 => ⟨S1x2048x7168, .f32⟩
  | 44 => ⟨S2048x7168, .f32⟩
  | 45 => ⟨S37376x7168, .f32⟩
  | 46 => ⟨S37376x7168, .f32⟩
  | 47 => ⟨S37376x7168, .f32⟩
  | 48 => ⟨S_, .f32⟩
  | 49 => ⟨S37376x7168, .f32⟩
  | 50 => ⟨S37376x7168, .f32⟩
  | 51 => ⟨S_, .f32⟩
  | 52 => ⟨S37376x7168, .f32⟩
  | 53 => ⟨S37376x7168, .f32⟩
  | 54 => ⟨S37376x7168, .f32⟩
  | 55 => ⟨S1x2048x7168, .f32⟩
  | 56 => ⟨S2048x7168, .f32⟩
  | 57 => ⟨S37376x7168, .f32⟩
  | 58 => ⟨S37376x7168, .f32⟩
  | 59 => ⟨S37376x7168, .i1⟩
  | 60 => ⟨S37376x7168, .f32⟩
  | 61 => ⟨S37376x7168, .bf16⟩
  | _ => ⟨S73, .i32⟩

abbrev hbmTy (i : Nat) : BufTy := match i / 128 with
  | 0 => hbmTy0_0 i
  | 1 => hbmTy0_1 i
  | _ => ⟨S73, .i32⟩

abbrev bufTy : (tb : Table) → Fin (tcTables nBuf tb) → BufTy
  | .hbm, ⟨i, _⟩ => hbmTy i
  | _, _ => ⟨S73, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call2_v0 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call3_v0 : Ref sig .tc := ⟨.hbm, 48, rfl⟩
abbrev main_call3_v1 : Ref sig .tc := ⟨.hbm, 49, rfl⟩
abbrev main_call3_cst : Ref sig .tc := ⟨.hbm, 50, rfl⟩
abbrev main_call3_v2 : Ref sig .tc := ⟨.hbm, 51, rfl⟩
abbrev main_call3_v3 : Ref sig .tc := ⟨.hbm, 52, rfl⟩
abbrev main_call3_cst_0 : Ref sig .tc := ⟨.hbm, 53, rfl⟩
abbrev main_call3_v4 : Ref sig .tc := ⟨.hbm, 54, rfl⟩
abbrev main_call3_v5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call4_v0 : Ref sig .tc := ⟨.hbm, 61, rfl⟩
abbrev main_v33 : Ref sig .tc := ⟨.hbm, 62, rfl⟩
abbrev main_c_2 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call5_v0 : Ref sig .tc := ⟨.hbm, 69, rfl⟩
abbrev main_call5_v1 : Ref sig .tc := ⟨.hbm, 70, rfl⟩
abbrev main_call5_cst : Ref sig .tc := ⟨.hbm, 71, rfl⟩
abbrev main_call5_v2 : Ref sig .tc := ⟨.hbm, 72, rfl⟩
abbrev main_call5_v3 : Ref sig .tc := ⟨.hbm, 73, rfl⟩
abbrev main_call5_cst_0 : Ref sig .tc := ⟨.hbm, 74, rfl⟩
abbrev main_call5_v4 : Ref sig .tc := ⟨.hbm, 75, rfl⟩
abbrev main_call5_v5 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_call6_v0 : Ref sig .tc := ⟨.hbm, 82, rfl⟩
abbrev main_v44 : Ref sig .tc := ⟨.hbm, 83, rfl⟩
abbrev main_c_3 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_call7_v0 : Ref sig .tc := ⟨.hbm, 90, rfl⟩
abbrev main_call7_v1 : Ref sig .tc := ⟨.hbm, 91, rfl⟩
abbrev main_call7_cst : Ref sig .tc := ⟨.hbm, 92, rfl⟩
abbrev main_call7_v2 : Ref sig .tc := ⟨.hbm, 93, rfl⟩
abbrev main_call7_v3 : Ref sig .tc := ⟨.hbm, 94, rfl⟩
abbrev main_call7_cst_0 : Ref sig .tc := ⟨.hbm, 95, rfl⟩
abbrev main_call7_v4 : Ref sig .tc := ⟨.hbm, 96, rfl⟩
abbrev main_call7_v5 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_call8_v0 : Ref sig .tc := ⟨.hbm, 103, rfl⟩
abbrev main_v55 : Ref sig .tc := ⟨.hbm, 104, rfl⟩
abbrev main_c_4 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_call9_v0 : Ref sig .tc := ⟨.hbm, 111, rfl⟩
abbrev main_call9_v1 : Ref sig .tc := ⟨.hbm, 112, rfl⟩
abbrev main_call9_cst : Ref sig .tc := ⟨.hbm, 113, rfl⟩
abbrev main_call9_v2 : Ref sig .tc := ⟨.hbm, 114, rfl⟩
abbrev main_call9_v3 : Ref sig .tc := ⟨.hbm, 115, rfl⟩
abbrev main_call9_cst_0 : Ref sig .tc := ⟨.hbm, 116, rfl⟩
abbrev main_call9_v4 : Ref sig .tc := ⟨.hbm, 117, rfl⟩
abbrev main_call9_v5 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_call10_v0 : Ref sig .tc := ⟨.hbm, 124, rfl⟩
abbrev main_v66 : Ref sig .tc := ⟨.hbm, 125, rfl⟩
abbrev main_c_5 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_call11_v0 : Ref sig .tc := ⟨.hbm, 132, rfl⟩
abbrev main_call11_v1 : Ref sig .tc := ⟨.hbm, 133, rfl⟩
abbrev main_call11_cst : Ref sig .tc := ⟨.hbm, 134, rfl⟩
abbrev main_call11_v2 : Ref sig .tc := ⟨.hbm, 135, rfl⟩
abbrev main_call11_v3 : Ref sig .tc := ⟨.hbm, 136, rfl⟩
abbrev main_call11_cst_0 : Ref sig .tc := ⟨.hbm, 137, rfl⟩
abbrev main_call11_v4 : Ref sig .tc := ⟨.hbm, 138, rfl⟩
abbrev main_call11_v5 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_call12_v0 : Ref sig .tc := ⟨.hbm, 145, rfl⟩
abbrev main_v77 : Ref sig .tc := ⟨.hbm, 146, rfl⟩
abbrev main_c_6 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_call13_v0 : Ref sig .tc := ⟨.hbm, 153, rfl⟩
abbrev main_call13_v1 : Ref sig .tc := ⟨.hbm, 154, rfl⟩
abbrev main_call13_cst : Ref sig .tc := ⟨.hbm, 155, rfl⟩
abbrev main_call13_v2 : Ref sig .tc := ⟨.hbm, 156, rfl⟩
abbrev main_call13_v3 : Ref sig .tc := ⟨.hbm, 157, rfl⟩
abbrev main_call13_cst_0 : Ref sig .tc := ⟨.hbm, 158, rfl⟩
abbrev main_call13_v4 : Ref sig .tc := ⟨.hbm, 159, rfl⟩
abbrev main_call13_v5 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_call14_v0 : Ref sig .tc := ⟨.hbm, 166, rfl⟩
abbrev main_v88 : Ref sig .tc := ⟨.hbm, 167, rfl⟩
abbrev main_c_7 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_call15_v0 : Ref sig .tc := ⟨.hbm, 174, rfl⟩
abbrev main_call15_v1 : Ref sig .tc := ⟨.hbm, 175, rfl⟩
abbrev main_call15_cst : Ref sig .tc := ⟨.hbm, 176, rfl⟩
abbrev main_call15_v2 : Ref sig .tc := ⟨.hbm, 177, rfl⟩
abbrev main_call15_v3 : Ref sig .tc := ⟨.hbm, 178, rfl⟩
abbrev main_call15_cst_0 : Ref sig .tc := ⟨.hbm, 179, rfl⟩
abbrev main_call15_v4 : Ref sig .tc := ⟨.hbm, 180, rfl⟩
abbrev main_call15_v5 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_call16_v0 : Ref sig .tc := ⟨.hbm, 187, rfl⟩
abbrev main_v99 : Ref sig .tc := ⟨.hbm, 188, rfl⟩
abbrev main_v100 : Ref sig .tc := ⟨.hbm, 189, rfl⟩

abbrev nD : Nat := 1
abbrev τ : Topo := Topo.v7x

variable {F : FTy → Type} [FloatOps F]
-- ==== Kernel3.lean ====
abbrev S73 : Shape := ⟨1, ![73]⟩
abbrev S1 : Shape := ⟨1, ![1]⟩
abbrev S37376x7168 : Shape := ⟨2, ![37376, 7168]⟩
abbrev S1x8x7168x2048 : Shape := ⟨4, ![1, 8, 7168, 2048]⟩
abbrev S37376x2048 : Shape := ⟨2, ![37376, 2048]⟩
abbrev S512x7168 : Shape := ⟨2, ![512, 7168]⟩
abbrev S1x1x7168x512 : Shape := ⟨4, ![1, 1, 7168, 512]⟩
abbrev S512x512 : Shape := ⟨2, ![512, 512]⟩
abbrev S7168x512 : Shape := ⟨2, ![7168, 512]⟩

abbrev nBuf : Space → Nat
  | .hbm => 3
  | .vmem => 7
  | .smem => 2
  | _ => 0

abbrev bufTy : (tb : Table) → Fin (tcTables nBuf tb) → BufTy
  | .hbm, ⟨0, _⟩ => ⟨S37376x7168, .bf16⟩
  | .hbm, ⟨1, _⟩ => ⟨S1x8x7168x2048, .f32⟩
  | .hbm, ⟨2, _⟩ => ⟨S37376x2048, .f32⟩
  | .local _ .vmem, ⟨0, _⟩ => ⟨S512x7168, .bf16⟩
  | .local _ .vmem, ⟨1, _⟩ => ⟨S512x7168, .bf16⟩
  | .local _ .vmem, ⟨2, _⟩ => ⟨S1x1x7168x512, .f32⟩
  | .local _ .vmem, ⟨3, _⟩ => ⟨S1x1x7168x512, .f32⟩
  | .local _ .vmem, ⟨4, _⟩ => ⟨S512x512, .f32⟩
  | .local _ .vmem, ⟨5, _⟩ => ⟨S512x512, .f32⟩
  | .local _ .vmem, ⟨6, _⟩ => ⟨S7168x512, .bf16⟩
  | .local _ .smem, ⟨0, _⟩ => ⟨S73, .i32⟩
  | .local _ .smem, ⟨1, _⟩ => ⟨S1, .i32⟩
  | _, _ => ⟨S37376x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 73], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let v17 : Index := Scalar.indexCast v16
  ![v17.toNat]
def k0_off2 (i : grid0.Coords) : Fin 1 → Nat :=
  let arg1 : BitVec 32 := BitVec.ofNat 32 (i 1).val
  let c1_i32_7 : BitVec 32 := 1#32
  let v23 : BitVec 32 := Scalar.subi arg1 c1_i32_7
  let c0_i32_8 : BitVec 32 := 0#32
  let v24 : BitVec 32 := Scalar.maxsi v23 c0_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c1_i32_9 : BitVec 32 := 1#32
  let c0_i32_12 : BitVec 32 := 0#32
  let v31 : BitVec 1 := Scalar.cmpi .sgt c1_i32_9 c0_i32_12
  let v32 : BitVec 32 := Scalar.extui v31
  let c0_i32_13 : BitVec 32 := 0#32
  let v33 : BitVec 1 := Scalar.cmpi .slt c1_i32_9 c0_i32_13
  let v34 : BitVec 32 := Scalar.extui v33
  let v35 : BitVec 32 := Scalar.subi v32 v34
  let v36 : BitVec 1 := Scalar.cmpi .ne v30 v35
  let v37 : BitVec 32 := Scalar.remsi v24 c1_i32_9
  let c0_i32_14 : BitVec 32 := 0#32
  let v38 : BitVec 1 := Scalar.cmpi .ne v37 c0_i32_14
  let v39 : BitVec 1 := Scalar.andi v36 v38
  let v25 : BitVec 32 := Scalar.divsi v24 c1_i32_9
  let c1_i32_15 : BitVec 32 := 1#32
  let v40 : BitVec 32 := Scalar.subi v25 c1_i32_15
  let v41 : BitVec 32 := Scalar.select v39 v40 v25
  let v42 : Index := Scalar.indexCast v41
  ![v42.toNat]
def k0_cond2 (i : grid0.Coords) (v0 : BitVec 32) : BitVec 1 :=
  let arg1 : BitVec 32 := BitVec.ofNat 32 (i 1).val
  let c1_i32 : BitVec 32 := 1#32
  let v1 : BitVec 32 := Scalar.muli v0 c1_i32
  let v2 : BitVec 1 := Scalar.cmpi .slt arg1 v1
  let v48 : BitVec 32 := Scalar.extui v2
  let c0_i32_17 : BitVec 32 := 0#32
  let v49 : BitVec 1 := Scalar.cmpi .ne v48 c0_i32_17
  v49

def k0_cond3 (i : grid0.Coords) (v0 : BitVec 32) : BitVec 1 :=
  let arg1 : BitVec 32 := BitVec.ofNat 32 (i 1).val
  let c1_i32 : BitVec 32 := 1#32
  let v1 : BitVec 32 := Scalar.muli v0 c1_i32
  let v2 : BitVec 1 := Scalar.cmpi .slt arg1 v1
  let v_true : BitVec 1 := 1#1
  let v50 : BitVec 1 := Scalar.xori v2 v_true
  let v51 : BitVec 32 := Scalar.extui v50
  let c0_i32_18 : BitVec 32 := 0#32
  let v52 : BitVec 1 := Scalar.cmpi .ne v51 c0_i32_18
  v52

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.muli v0 c1_i32
  let c1_i32_0 : BitVec 32 := 1#32
  let v2 : BitVec 32 := Scalar.subi v1 c1_i32_0
  let v3 : BitVec 32 := Scalar.minsi arg1 v2
  let c0_i32 : BitVec 32 := 0#32
  let c0_i32_1 : BitVec 32 := 0#32
  ![v3.toNat, c0_i32.toNat]

def cc0_transform_1 (k0_off1_inb : ∀ i : grid0.Coords, ∀ a, (k0_off1 i) a + S1.size a ≤ S73.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : Index := Scalar.indexCast v16
  let v18 : BitVec 32 := pf.at 0 (Rect.unit (s := S73) ![v17.toNat] S1.size (k0_off1_inb i)) numel1_S1
  let c0_i32_5 : BitVec 32 := 0#32
  let c0_i32_6 : BitVec 32 := 0#32
  let c0_i32_7 : BitVec 32 := 0#32
  ![c0_i32_5.toNat, v18.toNat, c0_i32_6.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S73 : Shape := ⟨1, ![73]⟩
abbrev S1 : Shape := ⟨1, ![1]⟩
abbrev S37376x7168 : Shape := ⟨2, ![37376, 7168]⟩
abbrev S1x8x7168x2048 : Shape := ⟨4, ![1, 8, 7168, 2048]⟩
abbrev S_ : Shape := ⟨0, ![]⟩
abbrev S73x1 : Shape := ⟨2, ![73, 1]⟩
abbrev S73x512 : Shape := ⟨2, ![73, 512]⟩
abbrev S37376x1 : Shape := ⟨2, ![37376, 1]⟩
abbrev S8x7168x2048 : Shape := ⟨3, ![8, 7168, 2048]⟩
abbrev S37376x2048 : Shape := ⟨2, ![37376, 2048]⟩
abbrev S1x7168x2048 : Shape := ⟨3, ![1, 7168, 2048]⟩
abbrev S7168x2048 : Shape := ⟨2, ![7168, 2048]⟩

abbrev nBuf : Space → Nat
  | .hbm => 83
  | .vmem => 0
  | .smem => 0
  | _ => 0

abbrev bufTy : (tb : Table) → Fin (tcTables nBuf tb) → BufTy
  | .hbm, ⟨0, _⟩ => ⟨S73, .i32⟩
  | .hbm, ⟨1, _⟩ => ⟨S1, .i32⟩
  | .hbm, ⟨2, _⟩ => ⟨S37376x7168, .bf16⟩
  | .hbm, ⟨3, _⟩ => ⟨S1x8x7168x2048, .f32⟩
  | .hbm, ⟨4, _⟩ => ⟨S73, .i32⟩
  | .hbm, ⟨5, _⟩ => ⟨S_, .i32⟩
  | .hbm, ⟨6, _⟩ => ⟨S73, .i32⟩
  | .hbm, ⟨7, _⟩ => ⟨S73, .i1⟩
  | .hbm, ⟨8, _⟩ => ⟨S_, .i32⟩
  | .hbm, ⟨9, _⟩ => ⟨S_, .i32⟩
  | .hbm, ⟨10, _⟩ => ⟨S73, .i32⟩
  | .hbm, ⟨11, _⟩ => ⟨S73, .i32⟩
  | .hbm, ⟨12, _⟩ => ⟨S73x1, .i32⟩
  | .hbm, ⟨13, _⟩ => ⟨S73x512, .i32⟩
  | .hbm, ⟨14, _⟩ => ⟨S37376x1, .i32⟩
  | .hbm, ⟨15, _⟩ => ⟨S37376x7168, .f32⟩
  | .hbm, ⟨16, _⟩ => ⟨S8x7168x2048, .f32⟩
  | .hbm, ⟨17, _⟩ => ⟨S_, .f32⟩
  | .hbm, ⟨18, _⟩ => ⟨S37376x2048, .f32⟩
  | .hbm, ⟨19, _⟩ => ⟨S_, .i32⟩
  | .hbm, ⟨20, _⟩ => ⟨S37376x1, .i32⟩
  | .hbm, ⟨21, _⟩ => ⟨S37376x1, .i1⟩
  | .hbm, ⟨22, _⟩ => ⟨S1x7168x2048, .f32⟩
  | .hbm, ⟨23, _⟩ => ⟨S7168x2048, .f32⟩
  | .hbm, ⟨24, _⟩ => ⟨S37376x2048, .f32⟩
  | .hbm, ⟨25, _⟩ => ⟨S37376x2048, .i1⟩
  | .hbm, ⟨26, _⟩ => ⟨S37376x2048, .f32⟩
  | .hbm, ⟨27, _⟩ => ⟨S_, .i32⟩
  | .hbm, ⟨28, _⟩ => ⟨S37376x1, .i32⟩
  | .hbm, ⟨29, _⟩ => ⟨S37376x1, .i1⟩
  | .hbm, ⟨30, _⟩ => ⟨S1x7168x2048, .f32⟩
  | .hbm, ⟨31, _⟩ => ⟨S7168x2048, .f32⟩
  | .hbm, ⟨32, _⟩ => ⟨S37376x2048, .f32⟩
  | .hbm, ⟨33, _⟩ => ⟨S37376x2048, .i1⟩
  | .hbm, ⟨34, _⟩ => ⟨S37376x2048, .f32⟩
  | .hbm, ⟨35, _⟩ => ⟨S_, .i32⟩
  | .hbm, ⟨36, _⟩ => ⟨S37376x1, .i32⟩
  | .hbm, ⟨37, _⟩ => ⟨S37376x1, .i1⟩
  | .hbm, ⟨38, _⟩ => ⟨S1x7168x2048, .f32⟩
  | .hbm, ⟨39, _⟩ => ⟨S7168x2048, .f32⟩
  | .hbm, ⟨40, _⟩ => ⟨S37376x2048, .f32⟩
  | .hbm, ⟨41, _⟩ => ⟨S37376x2048, .i1⟩
  | .hbm, ⟨42, _⟩ => ⟨S37376x2048, .f32⟩
  | .hbm, ⟨43, _⟩ => ⟨S_, .i32⟩
  | .hbm, ⟨44, _⟩ => ⟨S37376x1, .i32⟩
  | .hbm, ⟨45, _⟩ => ⟨S37376x1, .i1⟩
  | .hbm, ⟨46, _⟩ => ⟨S1x7168x2048, .f32⟩
  | .hbm, ⟨47, _⟩ => ⟨S7168x2048, .f32⟩
  | .hbm, ⟨48, _⟩ => ⟨S37376x2048, .f32⟩
  | .hbm, ⟨49, _⟩ => ⟨S37376x2048, .i1⟩
  | .hbm, ⟨50, _⟩ => ⟨S37376x2048, .f32⟩
  | .hbm, ⟨51, _⟩ => ⟨S_, .i32⟩
  | .hbm, ⟨52, _⟩ => ⟨S37376x1, .i32⟩
  | .hbm, ⟨53, _⟩ => ⟨S37376x1, .i1⟩
  | .hbm, ⟨54, _⟩ => ⟨S1x7168x2048, .f32⟩
  | .hbm, ⟨55, _⟩ => ⟨S7168x2048, .f32⟩
  | .hbm, ⟨56, _⟩ => ⟨S37376x2048, .f32⟩
  | .hbm, ⟨57, _⟩ => ⟨S37376x2048, .i1⟩
  | .hbm, ⟨58, _⟩ => ⟨S37376x2048, .f32⟩
  | .hbm, ⟨59, _⟩ => ⟨S_, .i32⟩
  | .hbm, ⟨60, _⟩ => ⟨S37376x1, .i32⟩
  | .hbm, ⟨61, _⟩ => ⟨S37376x1, .i1⟩
  | .hbm, ⟨62, _⟩ => ⟨S1x7168x2048, .f32⟩
  | .hbm, ⟨63, _⟩ => ⟨S7168x2048, .f32⟩
  | .hbm, ⟨64, _⟩ => ⟨S37376x2048, .f32⟩
  | .hbm, ⟨65, _⟩ => ⟨S37376x2048, .i1⟩
  | .hbm, ⟨66, _⟩ => ⟨S37376x2048, .f32⟩
  | .hbm, ⟨67, _⟩ => ⟨S_, .i32⟩
  | .hbm, ⟨68, _⟩ => ⟨S37376x1, .i32⟩
  | .hbm, ⟨69, _⟩ => ⟨S37376x1, .i1⟩
  | .hbm, ⟨70, _⟩ => ⟨S1x7168x2048, .f32⟩
  | .hbm, ⟨71, _⟩ => ⟨S7168x2048, .f32⟩
  | .hbm, ⟨72, _⟩ => ⟨S37376x2048, .f32⟩
  | .hbm, ⟨73, _⟩ => ⟨S37376x2048, .i1⟩
  | .hbm, ⟨74, _⟩ => ⟨S37376x2048, .f32⟩
  | .hbm, ⟨75, _⟩ => ⟨S_, .i32⟩
  | .hbm, ⟨76, _⟩ => ⟨S37376x1, .i32⟩
  | .hbm, ⟨77, _⟩ => ⟨S37376x1, .i1⟩
  | .hbm, ⟨78, _⟩ => ⟨S1x7168x2048, .f32⟩
  | .hbm, ⟨79, _⟩ => ⟨S7168x2048, .f32⟩
  | .hbm, ⟨80, _⟩ => ⟨S37376x2048, .f32⟩
  | .hbm, ⟨81, _⟩ => ⟨S37376x2048, .i1⟩
  | .hbm, ⟨82, _⟩ => ⟨S37376x2048, .f32⟩
  | _, _ => ⟨S73, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_v0 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call2_v0 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call3_v0 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call4_v0 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call5_v0 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call6_v0 : Ref sig .tc := ⟨.hbm, 65, rfl⟩
abbrev main_v46 : Ref sig .tc := ⟨.hbm, 66, rfl⟩
abbrev main_c_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call7_v0 : Ref sig .tc := ⟨.hbm, 73, rfl⟩
abbrev main_v52 : Ref sig .tc := ⟨.hbm, 74, rfl⟩
abbrev main_c_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call8_v0 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel4.lean ====
abbrev S16640x2048 : Shape := ⟨2, ![16640, 2048]⟩
abbrev S2x2048 : Shape := ⟨2, ![2, 2048]⟩
abbrev S2x2048x5632 : Shape := ⟨3, ![2, 2048, 5632]⟩
abbrev S2x1x2048 : Shape := ⟨3, ![2, 1, 2048]⟩
abbrev S16640x5632 : Shape := ⟨2, ![16640, 5632]⟩
abbrev S1280x2048 : Shape := ⟨2, ![1280, 2048]⟩
abbrev S1x1x2048 : Shape := ⟨3, ![1, 1, 2048]⟩
abbrev S1x2048x512 : Shape := ⟨3, ![1, 2048, 512]⟩
abbrev S1280x512 : Shape := ⟨2, ![1280, 512]⟩
abbrev S1280 : Shape := ⟨1, ![1280]⟩
abbrev S1280x1 : Shape := ⟨2, ![1280, 1]⟩
abbrev S1x2048 : Shape := ⟨2, ![1, 2048]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16640x2048, .f32⟩
  | .hbm, ⟨1, _⟩ => ⟨S2x2048, .f32⟩
  | .hbm, ⟨2, _⟩ => ⟨S2x2048x5632, .f32⟩
  | .hbm, ⟨3, _⟩ => ⟨S2x1x2048, .f32⟩
  | .hbm, ⟨4, _⟩ => ⟨S16640x5632, .f32⟩
  | .local _ .vmem, ⟨0, _⟩ => ⟨S1280x2048, .f32⟩
  | .local _ .vmem, ⟨1, _⟩ => ⟨S1280x2048, .f32⟩
  | .local _ .vmem, ⟨2, _⟩ => ⟨S1x1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1280x512, .f32⟩
  | .local _ .vmem, ⟨6, _⟩ => ⟨S1280x512, .f32⟩
  | .local _ .vmem, ⟨7, _⟩ => ⟨S1280x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16640x2048 : Shape := ⟨2, ![16640, 2048]⟩
abbrev S2x2048 : Shape := ⟨2, ![2, 2048]⟩
abbrev S2x2048x5632 : Shape := ⟨3, ![2, 2048, 5632]⟩
abbrev S1x2048 : Shape := ⟨2, ![1, 2048]⟩
abbrev S2048 : Shape := ⟨1, ![2048]⟩
abbrev S_ : Shape := ⟨0, ![]⟩
abbrev S16640 : Shape := ⟨1, ![16640]⟩
abbrev S16640x1 : Shape := ⟨2, ![16640, 1]⟩
abbrev S1x2048x5632 : Shape := ⟨3, ![1, 2048, 5632]⟩
abbrev S2048x5632 : Shape := ⟨2, ![2048, 5632]⟩
abbrev S16640x5632 : Shape := ⟨2, ![16640, 5632]⟩

abbrev nBuf : Space → Nat
  | .hbm => 24
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2x2048, .f32⟩
  | .hbm, ⟨2, _⟩ => ⟨S2x2048x5632, .f32⟩
  | .hbm, ⟨3, _⟩ => ⟨S1x2048, .f32⟩
  | .hbm, ⟨4, _⟩ => ⟨S2048, .f32⟩
  | .hbm, ⟨5, _⟩ => ⟨S16640x2048, .f32⟩
  | .hbm, ⟨6, _⟩ => ⟨S_, .f32⟩
  | .hbm, ⟨7, _⟩ => ⟨S16640, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S_, .f32⟩
  | .hbm, ⟨13, _⟩ => ⟨S16640x1, .f32⟩
  | .hbm, ⟨14, _⟩ => ⟨S16640x1, .f32⟩
  | .hbm, ⟨15, _⟩ => ⟨S16640x1, .f32⟩
  | .hbm, ⟨16, _⟩ => ⟨S16640x2048, .f32⟩
  | .hbm, ⟨17, _⟩ => ⟨S16640x2048, .f32⟩
  | .hbm, ⟨18, _⟩ => ⟨S1x2048, .f32⟩
  | .hbm, ⟨19, _⟩ => ⟨S16640x2048, .f32⟩
  | .hbm, ⟨20, _⟩ => ⟨S16640x2048, .f32⟩
  | .hbm, ⟨21, _⟩ => ⟨S1x2048x5632, .f32⟩
  | .hbm, ⟨22, _⟩ => ⟨S2048x5632, .f32⟩
  | .hbm, ⟨23, _⟩ => ⟨S16640x5632, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S16640x2048 : Shape := ⟨2, ![16640, 2048]⟩
abbrev S2x2048x2048 : Shape := ⟨3, ![2, 2048, 2048]⟩
abbrev S1280x2048 : Shape := ⟨2, ![1280, 2048]⟩
abbrev S1x2048x512 : Shape := ⟨3, ![1, 2048, 512]⟩
abbrev S1280x512 : Shape := ⟨2, ![1280, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S16640x2048, .bf16⟩
  | .hbm, ⟨1, _⟩ => ⟨S2x2048x2048, .f32⟩
  | .hbm, ⟨2, _⟩ => ⟨S16640x2048, .f32⟩
  | .hbm, ⟨3, _⟩ => ⟨S16640x2048, .f32⟩
  | .local _ .vmem, ⟨0, _⟩ => ⟨S1280x2048, .bf16⟩
  | .local _ .vmem, ⟨1, _⟩ => ⟨S1280x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1280x512, .f32⟩
  | .local _ .vmem, ⟨5, _⟩ => ⟨S1280x512, .f32⟩
  | .local _ .vmem, ⟨6, _⟩ => ⟨S1280x512, .f32⟩
  | .local _ .vmem, ⟨7, _⟩ => ⟨S1280x512, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S16640x2048 : Shape := ⟨2, ![16640, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2x2048x2048, .f32⟩
  | .hbm, ⟨2, _⟩ => ⟨S16640x2048, .f32⟩
  | .hbm, ⟨3, _⟩ => ⟨S16640x2048, .f32⟩
  | .hbm, ⟨4, _⟩ => ⟨S1x2048x2048, .f32⟩
  | .hbm, ⟨5, _⟩ => ⟨S2048x2048, .f32⟩
  | .hbm, ⟨6, _⟩ => ⟨S16640x2048, .f32⟩
  | .hbm, ⟨7, _⟩ => ⟨S16640x2048, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S13 : Shape := ⟨1, ![13]⟩
abbrev S1 : Shape := ⟨1, ![1]⟩
abbrev S16640x2048 : Shape := ⟨2, ![16640, 2048]⟩
abbrev S1x1x2048x5632 : Shape := ⟨4, ![1, 1, 2048, 5632]⟩
abbrev S16640x5632 : Shape := ⟨2, ![16640, 5632]⟩
abbrev S1280x2048 : Shape := ⟨2, ![1280, 2048]⟩
abbrev S1x1x2048x512 : Shape := ⟨4, ![1, 1, 2048, 512]⟩
abbrev S1280x512 : Shape := ⟨2, ![1280, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S16640x2048, .bf16⟩
  | .hbm, ⟨1, _⟩ => ⟨S1x1x2048x5632, .f32⟩
  | .hbm, ⟨2, _⟩ => ⟨S1x1x2048x5632, .f32⟩
  | .hbm, ⟨3, _⟩ => ⟨S16640x5632, .bf16⟩
  | .local _ .vmem, ⟨0, _⟩ => ⟨S1280x2048, .bf16⟩
  | .local _ .vmem, ⟨1, _⟩ => ⟨S1280x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1280x512, .bf16⟩
  | .local _ .vmem, ⟨7, _⟩ => ⟨S1280x512, .bf16⟩
  | .local _ .vmem, ⟨8, _⟩ => ⟨S2048x512, .bf16⟩
  | .local _ .vmem, ⟨9, _⟩ => ⟨S2048x512, .bf16⟩
  | .local _ .smem, ⟨0, _⟩ => ⟨S13, .i32⟩
  | .local _ .smem, ⟨1, _⟩ => ⟨S1, .i32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 13], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S13.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S13) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S13.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S13) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S13 : Shape := ⟨1, ![13]⟩
abbrev S1 : Shape := ⟨1, ![1]⟩
abbrev S16640x2048 : Shape := ⟨2, ![16640, 2048]⟩
abbrev S1x1x2048x5632 : Shape := ⟨4, ![1, 1, 2048, 5632]⟩
abbrev S2048x5632 : Shape := ⟨2, ![2048, 5632]⟩
abbrev S16640x5632 : Shape := ⟨2, ![16640, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S13, .i32⟩
  | .hbm, ⟨1, _⟩ => ⟨S1, .i32⟩
  | .hbm, ⟨2, _⟩ => ⟨S16640x2048, .bf16⟩
  | .hbm, ⟨3, _⟩ => ⟨S1x1x2048x5632, .f32⟩
  | .hbm, ⟨4, _⟩ => ⟨S1x1x2048x5632, .f32⟩
  | .hbm, ⟨5, _⟩ => ⟨S16640x2048, .f32⟩
  | .hbm, ⟨6, _⟩ => ⟨S2048x5632, .f32⟩
  | .hbm, ⟨7, _⟩ => ⟨S16640x5632, .f32⟩
  | .hbm, ⟨8, _⟩ => ⟨S16640x5632, .f32⟩
  | .hbm, ⟨9, _⟩ => ⟨S16640x5632, .f32⟩
  | .hbm, ⟨10, _⟩ => ⟨S_, .f32⟩
  | .hbm, ⟨11, _⟩ => ⟨S16640x5632, .f32⟩
  | .hbm, ⟨12, _⟩ => ⟨S16640x5632, .f32⟩
  | .hbm, ⟨13, _⟩ => ⟨S_, .f32⟩
  | .hbm, ⟨14, _⟩ => ⟨S16640x5632, .f32⟩
  | .hbm, ⟨15, _⟩ => ⟨S16640x5632, .f32⟩
  | .hbm, ⟨16, _⟩ => ⟨S16640x5632, .f32⟩
  | .hbm, ⟨17, _⟩ => ⟨S2048x5632, .f32⟩
  | .hbm, ⟨18, _⟩ => ⟨S16640x5632, .f32⟩
  | .hbm, ⟨19, _⟩ => ⟨S16640x5632, .f32⟩
  | .hbm, ⟨20, _⟩ => ⟨S16640x5632, .bf16⟩
  | _, _ => ⟨S13, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel7.lean ====
abbrev S16640x5632 : Shape := ⟨2, ![16640, 5632]⟩
abbrev S1x5632x2048 : Shape := ⟨3, ![1, 5632, 2048]⟩
abbrev S16640x2048 : Shape := ⟨2, ![16640, 2048]⟩
abbrev S1280x2816 : Shape := ⟨2, ![1280, 2816]⟩
abbrev S1x2816x512 : Shape := ⟨3, ![1, 2816, 512]⟩
abbrev S1280x512 : Shape := ⟨2, ![1280, 512]⟩
abbrev S2816x512 : Shape := ⟨2, ![2816, 512]⟩

abbrev nBuf : Space → Nat
  | .hbm => 4
  | .vmem => 8
  | .smem => 0
  | _ => 0

abbrev bufTy : (tb : Table) → Fin (tcTables nBuf tb) → BufTy
  | .hbm, ⟨0, _⟩ => ⟨S16640x5632, .bf16⟩
  | .hbm, ⟨1, _⟩ => ⟨S1x5632x2048, .f32⟩
  | .hbm, ⟨2, _⟩ => ⟨S16640x2048, .f32⟩
  | .hbm, ⟨3, _⟩ => ⟨S16640x2048, .f32⟩
  | .local _ .vmem, ⟨0, _⟩ => ⟨S1280x2816, .bf16⟩
  | .local _ .vmem, ⟨1, _⟩ => ⟨S1280x2816, .bf16⟩
  | .local _ .vmem, ⟨2, _⟩ => ⟨S1x2816x512, .f32⟩
  | .local _ .vmem, ⟨3, _⟩ => ⟨S1x2816x512, .f32⟩
  | .local _ .vmem, ⟨4, _⟩ => ⟨S1280x512, .f32⟩
  | .local _ .vmem, ⟨5, _⟩ => ⟨S1280x512, .f32⟩
  | .local _ .vmem, ⟨6, _⟩ => ⟨S1280x512, .f32⟩
  | .local _ .vmem, ⟨7, _⟩ => ⟨S1280x512, .f32⟩
  | _, _ => ⟨S16640x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S16640x5632 : Shape := ⟨2, ![16640, 5632]⟩
abbrev S1x5632x2048 : Shape := ⟨3, ![1, 5632, 2048]⟩
abbrev S16640x2048 : Shape := ⟨2, ![16640, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16640x5632, .bf16⟩
  | .hbm, ⟨1, _⟩ => ⟨S1x5632x2048, .f32⟩
  | .hbm, ⟨2, _⟩ => ⟨S16640x2048, .f32⟩
  | .hbm, ⟨3, _⟩ => ⟨S16640x5632, .f32⟩
  | .hbm, ⟨4, _⟩ => ⟨S5632x2048, .f32⟩
  | .hbm, ⟨5, _⟩ => ⟨S16640x2048, .f32⟩
  | .hbm, ⟨6, _⟩ => ⟨S16640x2048, .f32⟩
  | _, _ => ⟨S16640x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16640x5632 : Shape := ⟨2, ![16640, 5632]⟩
abbrev S2x64 : Shape := ⟨2, ![2, 64]⟩
abbrev S1x64 : Shape := ⟨2, ![1, 64]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S16640x1024 : Shape := ⟨2, ![16640, 1024]⟩
abbrev S640x1024 : Shape := ⟨2, ![640, 1024]⟩
abbrev S128x128 : Shape := ⟨2, ![128, 128]⟩
abbrev S640x128 : Shape := ⟨2, ![640, 128]⟩
abbrev S1x128 : Shape := ⟨2, ![1, 128]⟩

abbrev nBuf : Space → Nat
  | .hbm => 19
  | .vmem => 16
  | .smem => 0
  | _ => 0

abbrev bufTy : (tb : Table) → Fin (tcTables nBuf tb) → BufTy
  | .hbm, ⟨0, _⟩ => ⟨S16640x5632, .f32⟩
  | .hbm, ⟨1, _⟩ => ⟨S2x64, .f32⟩
  | .hbm, ⟨2, _⟩ => ⟨S2x64, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S16x64, .f32⟩
  | .hbm, ⟨7, _⟩ => ⟨S1024, .f32⟩
  | .hbm, ⟨8, _⟩ => ⟨S1x1024, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S16x64, .f32⟩
  | .hbm, ⟨13, _⟩ => ⟨S1024, .f32⟩
  | .hbm, ⟨14, _⟩ => ⟨S1x1024, .f32⟩
  | .hbm, ⟨15, _⟩ => ⟨S16640x1024, .bf16⟩
  | .hbm, ⟨16, _⟩ => ⟨S16640x1024, .f32⟩
  | .hbm, ⟨17, _⟩ => ⟨S16640x1024, .bf16⟩
  | .hbm, ⟨18, _⟩ => ⟨S16640x1024, .bf16⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | .local _ .vmem, ⟨7, _⟩ => ⟨S1x1024, .f32⟩
  | .local _ .vmem, ⟨8, _⟩ => ⟨S640x1024, .bf16⟩
  | .local _ .vmem, ⟨9, _⟩ => ⟨S640x1024, .bf16⟩
  | .local _ .vmem, ⟨10, _⟩ => ⟨S640x1024, .f32⟩
  | .local _ .vmem, ⟨11, _⟩ => ⟨S640x1024, .f32⟩
  | .local _ .vmem, ⟨12, _⟩ => ⟨S640x1024, .bf16⟩
  | .local _ .vmem, ⟨13, _⟩ => ⟨S640x1024, .bf16⟩
  | .local _ .vmem, ⟨14, _⟩ => ⟨S640x1024, .bf16⟩
  | .local _ .vmem, ⟨15, _⟩ => ⟨S640x1024, .bf16⟩
  | _, _ => ⟨S16640x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v12_2 : Ref sig .tc := ⟨.hbm, 17, rfl⟩
abbrev main_v12_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S16640x5632 : Shape := ⟨2, ![16640, 5632]⟩
abbrev S2x64 : Shape := ⟨2, ![2, 64]⟩
abbrev S16640x1024 : Shape := ⟨2, ![16640, 1024]⟩
abbrev S16640x16x64 : Shape := ⟨3, ![16640, 16, 64]⟩
abbrev S1x64 : Shape := ⟨2, ![1, 64]⟩
abbrev S64 : Shape := ⟨1, ![64]⟩
abbrev S_ : Shape := ⟨0, ![]⟩
abbrev S16640x16 : Shape := ⟨2, ![16640, 16]⟩
abbrev S16640x16x1 : Shape := ⟨3, ![16640, 16, 1]⟩
abbrev S1x1x64 : Shape := ⟨3, ![1, 1, 64]⟩

abbrev nBuf : Space → Nat
  | .hbm => 52
  | .vmem => 0
  | .smem => 0
  | _ => 0

abbrev bufTy : (tb : Table) → Fin (tcTables nBuf tb) → BufTy
  | .hbm, ⟨0, _⟩ => ⟨S16640x5632, .f32⟩
  | .hbm, ⟨1, _⟩ => ⟨S2x64, .f32⟩
  | .hbm, ⟨2, _⟩ => ⟨S2x64, .f32⟩
  | .hbm, ⟨3, _⟩ => ⟨S16640x1024, .f32⟩
  | .hbm, ⟨4, _⟩ => ⟨S16640x16x64, .f32⟩
  | .hbm, ⟨5, _⟩ => ⟨S1x64, .f32⟩
  | .hbm, ⟨6, _⟩ => ⟨S64, .f32⟩
  | .hbm, ⟨7, _⟩ => ⟨S16640x16x64, .f32⟩
  | .hbm, ⟨8, _⟩ => ⟨S_, .f32⟩
  | .hbm, ⟨9, _⟩ => ⟨S16640x16, .f32⟩
  | .hbm, ⟨10, _⟩ => ⟨S16640x16x1, .f32⟩
  | .hbm, ⟨11, _⟩ => ⟨S_, .f32⟩
  | .hbm, ⟨12, _⟩ => ⟨S16640x16x1, .f32⟩
  | .hbm, ⟨13, _⟩ => ⟨S16640x16x1, .f32⟩
  | .hbm, ⟨14, _⟩ => ⟨S_, .f32⟩
  | .hbm, ⟨15, _⟩ => ⟨S16640x16x1, .f32⟩
  | .hbm, ⟨16, _⟩ => ⟨S16640x16x1, .f32⟩
  | .hbm, ⟨17, _⟩ => ⟨S16640x16x1, .f32⟩
  | .hbm, ⟨18, _⟩ => ⟨S16640x16x64, .f32⟩
  | .hbm, ⟨19, _⟩ => ⟨S16640x16x64, .f32⟩
  | .hbm, ⟨20, _⟩ => ⟨S1x1x64, .f32⟩
  | .hbm, ⟨21, _⟩ => ⟨S16640x16x64, .f32⟩
  | .hbm, ⟨22, _⟩ => ⟨S16640x16x64, .f32⟩
  | .hbm, ⟨23, _⟩ => ⟨S16640x1024, .f32⟩
  | .hbm, ⟨24, _⟩ => ⟨S16640x16x64, .f32⟩
  | .hbm, ⟨25, _⟩ => ⟨S1x64, .f32⟩
  | .hbm, ⟨26, _⟩ => ⟨S64, .f32⟩
  | .hbm, ⟨27, _⟩ => ⟨S16640x16x64, .f32⟩
  | .hbm, ⟨28, _⟩ => ⟨S_, .f32⟩
  | .hbm, ⟨29, _⟩ => ⟨S16640x16, .f32⟩
  | .hbm, ⟨30, _⟩ => ⟨S16640x16x1, .f32⟩
  | .hbm, ⟨31, _⟩ => ⟨S_, .f32⟩
  | .hbm, ⟨32, _⟩ => ⟨S16640x16x1, .f32⟩
  | .hbm, ⟨33, _⟩ => ⟨S16640x16x1, .f32⟩
  | .hbm, ⟨34, _⟩ => ⟨S_, .f32⟩
  | .hbm, ⟨35, _⟩ => ⟨S16640x16x1, .f32⟩
  | .hbm, ⟨36, _⟩ => ⟨S16640x16x1, .f32⟩
  | .hbm, ⟨37, _⟩ => ⟨S16640x16x1, .f32⟩
  | .hbm, ⟨38, _⟩ => ⟨S16640x16x64, .f32⟩
  | .hbm, ⟨39, _⟩ => ⟨S16640x16x64, .f32⟩
  | .hbm, ⟨40, _⟩ => ⟨S1x1x64, .f32⟩
  | .hbm, ⟨41, _⟩ => ⟨S16640x16x64, .f32⟩
  | .hbm, ⟨42, _⟩ => ⟨S16640x16x64, .f32⟩
  | .hbm, ⟨43, _⟩ => ⟨S16640x1024, .f32⟩
  | .hbm, ⟨44, _⟩ => ⟨S_, .f32⟩
  | .hbm, ⟨45, _⟩ => ⟨S16640x16x64, .f32⟩
  | .hbm, ⟨46, _⟩ => ⟨S16640x16x64, .f32⟩
  | .hbm, ⟨47, _⟩ => ⟨S16640x1024, .f32⟩
  | .hbm, ⟨48, _⟩ => ⟨S16640x1024, .f32⟩
  | .hbm, ⟨49, _⟩ => ⟨S16640x1024, .bf16⟩
  | .hbm, ⟨50, _⟩ => ⟨S16640x1024, .bf16⟩
  | .hbm, ⟨51, _⟩ => ⟨S16640x1024, .bf16⟩
  | _, _ => ⟨S16640x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel9.lean ====
abbrev S16640x5632 : Shape := ⟨2, ![16640, 5632]⟩
abbrev S2x32x15x512 : Shape := ⟨4, ![2, 32, 15, 512]⟩
abbrev S2x4x128x128 : Shape := ⟨4, ![2, 4, 128, 128]⟩
abbrev S2x512 : Shape := ⟨2, ![2, 512]⟩
abbrev S1x32x15x512 : Shape := ⟨4, ![1, 32, 15, 512]⟩
abbrev S32x15x512 : Shape := ⟨3, ![32, 15, 512]⟩
abbrev S_ : Shape := ⟨0, ![]⟩
abbrev S32x16x512 : Shape := ⟨3, ![32, 16, 512]⟩
abbrev S2x1x512 : Shape := ⟨3, ![2, 1, 512]⟩
abbrev S256x512 : Shape := ⟨2, ![256, 512]⟩
abbrev S8x512 : Shape := ⟨2, ![8, 512]⟩
abbrev S1x16x512 : Shape := ⟨3, ![1, 16, 512]⟩
abbrev S1x4x128x128 : Shape := ⟨4, ![1, 4, 128, 128]⟩
abbrev S1x1x512 : Shape := ⟨3, ![1, 1, 512]⟩
abbrev S24x512 : Shape := ⟨2, ![24, 512]⟩
abbrev S16x512 : Shape := ⟨2, ![16, 512]⟩
abbrev S8x128 : Shape := ⟨2, ![8, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 12
  | .vmem => 12
  | .smem => 0
  | _ => 0

abbrev bufTy : (tb : Table) → Fin (tcTables nBuf tb) → BufTy
  | .hbm, ⟨0, _⟩ => ⟨S16640x5632, .f32⟩
  | .hbm, ⟨1, _⟩ => ⟨S2x32x15x512, .f32⟩
  | .hbm, ⟨2, _⟩ => ⟨S2x4x128x128, .f32⟩
  | .hbm, ⟨3, _⟩ => ⟨S2x512, .f32⟩
  | .hbm, ⟨4, _⟩ => ⟨S1x32x15x512, .f32⟩
  | .hbm, ⟨5, _⟩ => ⟨S32x15x512, .f32⟩
  | .hbm, ⟨6, _⟩ => ⟨S_, .i32⟩
  | .hbm, ⟨7, _⟩ => ⟨S_, .f32⟩
  | .hbm, ⟨8, _⟩ => ⟨S32x16x512, .f32⟩
  | .hbm, ⟨9, _⟩ => ⟨S2x1x512, .f32⟩
  | .hbm, ⟨10, _⟩ => ⟨S256x512, .f32⟩
  | .hbm, ⟨11, _⟩ => ⟨S32x16x512, .f32⟩
  | .local _ .vmem, ⟨0, _⟩ => ⟨S8x512, .f32⟩
  | .local _ .vmem, ⟨1, _⟩ => ⟨S8x512, .f32⟩
  | .local _ .vmem, ⟨2, _⟩ => ⟨S1x16x512, .f32⟩
  | .local _ .vmem, ⟨3, _⟩ => ⟨S1x16x512, .f32⟩
  | .local _ .vmem, ⟨4, _⟩ => ⟨S1x4x128x128, .f32⟩
  | .local _ .vmem, ⟨5, _⟩ => ⟨S1x1x512, .f32⟩
  | .local _ .vmem, ⟨6, _⟩ => ⟨S8x512, .f32⟩
  | .local _ .vmem, ⟨7, _⟩ => ⟨S8x512, .f32⟩
  | .local _ .vmem, ⟨8, _⟩ => ⟨S1x16x512, .f32⟩
  | .local _ .vmem, ⟨9, _⟩ => ⟨S1x16x512, .f32⟩
  | .local _ .vmem, ⟨10, _⟩ => ⟨S24x512, .f32⟩
  | .local _ .vmem, ⟨11, _⟩ => ⟨S24x512, .f32⟩
  | _, _ => ⟨S16640x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2048_i32 : BitVec 32 := 2048#32
  let v0 : BitVec 32 := Scalar.addi c2048_i32 arg0
  let c10_i32 : BitVec 32 := 10#32
  let c0_i32 : BitVec 32 := 0#32
  ![v0.toNat, c10_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S16640x5632 : Shape := ⟨2, ![16640, 5632]⟩
abbrev S2x32x15x512 : Shape := ⟨4, ![2, 32, 15, 512]⟩
abbrev S2x4x128x128 : Shape := ⟨4, ![2, 4, 128, 128]⟩
abbrev S2x512 : Shape := ⟨2, ![2, 512]⟩
abbrev S256x512 : Shape := ⟨2, ![256, 512]⟩
abbrev S32x8x512 : Shape := ⟨3, ![32, 8, 512]⟩
abbrev S1x32x15x512 : Shape := ⟨4, ![1, 32, 15, 512]⟩
abbrev S32x15x512 : Shape := ⟨3, ![32, 15, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S32x23x512 : Shape := ⟨3, ![32, 23, 512]⟩
abbrev S23 : Shape := ⟨1, ![23]⟩
abbrev S_ : Shape := ⟨0, ![]⟩
abbrev S1x23x1 : Shape := ⟨3, ![1, 23, 1]⟩
abbrev S32x9x128 : Shape := ⟨3, ![32, 9, 128]⟩
abbrev S32x8x128 : Shape := ⟨3, ![32, 8, 128]⟩
abbrev S9 : Shape := ⟨1, ![9]⟩
abbrev S8 : Shape := ⟨1, ![8]⟩
abbrev S1x8x1 : Shape := ⟨3, ![1, 8, 1]⟩
abbrev S1x128x128 : Shape := ⟨3, ![1, 128, 128]⟩
abbrev S128x128 : Shape := ⟨2, ![128, 128]⟩
abbrev S32x11x128 : Shape := ⟨3, ![32, 11, 128]⟩
abbrev S11 : Shape := ⟨1, ![11]⟩
abbrev S32x15x128 : Shape := ⟨3, ![32, 15, 128]⟩
abbrev S15 : Shape := ⟨1, ![15]⟩
abbrev S32x23x128 : Shape := ⟨3, ![32, 23, 128]⟩
abbrev S1x1x512 : Shape := ⟨3, ![1, 1, 512]⟩
abbrev S32x16x512 : Shape := ⟨3, ![32, 16, 512]⟩

abbrev nBuf : Space → Nat
  | .hbm => 102
  | .vmem => 0
  | .smem => 0
  | _ => 0

abbrev bufTy : (tb : Table) → Fin (tcTables nBuf tb) → BufTy
  | .hbm, ⟨0, _⟩ => ⟨S16640x5632, .f32⟩
  | .hbm, ⟨1, _⟩ => ⟨S2x32x15x512, .f32⟩
  | .hbm, ⟨2, _⟩ => ⟨S2x4x128x128, .f32⟩
  | .hbm, ⟨3, _⟩ => ⟨S2x512, .f32⟩
  | .hbm, ⟨4, _⟩ => ⟨S256x512, .f32⟩
  | .hbm, ⟨5, _⟩ => ⟨S32x8x512, .f32⟩
  | .hbm, ⟨6, _⟩ => ⟨S1x32x15x512, .f32⟩
  | .hbm, ⟨7, _⟩ => ⟨S32x15x512, .f32⟩
  | .hbm, ⟨8, _⟩ => ⟨S1x4x128x128, .f32⟩
  | .hbm, ⟨9, _⟩ => ⟨S4x128x128, .f32⟩
  | .hbm, ⟨10, _⟩ => ⟨S1x512, .f32⟩
  | .hbm, ⟨11, _⟩ => ⟨S512, .f32⟩
  | .hbm, ⟨12, _⟩ => ⟨S32x23x512, .f32⟩
  | .hbm, ⟨13, _⟩ => ⟨S23, .i32⟩
  | .hbm, ⟨14, _⟩ => ⟨S_, .i32⟩
  | .hbm, ⟨15, _⟩ => ⟨S23, .i32⟩
  | .hbm, ⟨16, _⟩ => ⟨S23, .i32⟩
  | .hbm, ⟨17, _⟩ => ⟨S_, .i32⟩
  | .hbm, ⟨18, _⟩ => ⟨S23, .i32⟩
  | .hbm, ⟨19, _⟩ => ⟨S23, .i1⟩
  | .hbm, ⟨20, _⟩ => ⟨S23, .f32⟩
  | .hbm, ⟨21, _⟩ => ⟨S1x23x1, .f32⟩
  | .hbm, ⟨22, _⟩ => ⟨S32x23x512, .f32⟩
  | .hbm, ⟨23, _⟩ => ⟨S32x23x512, .f32⟩
  | .hbm, ⟨24, _⟩ => ⟨S32x9x128, .f32⟩
  | .hbm, ⟨25, _⟩ => ⟨S_, .f32⟩
  | .hbm, ⟨26, _⟩ => ⟨S_, .f32⟩
  | .hbm, ⟨27, _⟩ => ⟨S32x8x128, .f32⟩
  | .hbm, ⟨28, _⟩ => ⟨S9, .f32⟩
  | .hbm, ⟨29, _⟩ => ⟨S_, .f32⟩
  | .hbm, ⟨30, _⟩ => ⟨S_, .f32⟩
  | .hbm, ⟨31, _⟩ => ⟨S8, .f32⟩
  | .hbm, ⟨32, _⟩ => ⟨S1x8x1, .f32⟩
  | .hbm, ⟨33, _⟩ => ⟨S32x8x128, .f32⟩
  | .hbm, ⟨34, _⟩ => ⟨S32x8x128, .f32⟩
  | .hbm, ⟨35, _⟩ => ⟨S32x8x128, .f32⟩
  | .hbm, ⟨36, _⟩ => ⟨S32x8x128, .f32⟩
  | .hbm, ⟨37, _⟩ => ⟨S1x128x128, .f32⟩
  | .hbm, ⟨38, _⟩ => ⟨S128x128, .f32⟩
  | .hbm, ⟨39, _⟩ => ⟨S32x8x128, .f32⟩
  | .hbm, ⟨40, _⟩ => ⟨S1x23x1, .f32⟩
  | .hbm, ⟨41, _⟩ => ⟨S32x23x512, .f32⟩
  | .hbm, ⟨42, _⟩ => ⟨S32x23x512, .f32⟩
  | .hbm, ⟨43, _⟩ => ⟨S32x11x128, .f32⟩
  | .hbm, ⟨44, _⟩ => ⟨S_, .f32⟩
  | .hbm, ⟨45, _⟩ => ⟨S_, .f32⟩
  | .hbm, ⟨46, _⟩ => ⟨S32x8x128, .f32⟩
  | .hbm, ⟨47, _⟩ => ⟨S11, .f32⟩
  | .hbm, ⟨48, _⟩ => ⟨S_, .f32⟩
  | .hbm, ⟨49, _⟩ => ⟨S_, .f32⟩
  | .hbm, ⟨50, _⟩ => ⟨S8, .f32⟩
  | .hbm, ⟨51, _⟩ => ⟨S1x8x1, .f32⟩
  | .hbm, ⟨52, _⟩ => ⟨S32x8x128, .f32⟩
  | .hbm, ⟨53, _⟩ => ⟨S32x8x128, .f32⟩
  | .hbm, ⟨54, _⟩ => ⟨S32x8x128, .f32⟩
  | .hbm, ⟨55, _⟩ => ⟨S32x8x128, .f32⟩
  | .hbm, ⟨56, _⟩ => ⟨S1x128x128, .f32⟩
  | .hbm, ⟨57, _⟩ => ⟨S128x128, .f32⟩
  | .hbm, ⟨58, _⟩ => ⟨S32x8x128, .f32⟩
  | .hbm, ⟨59, _⟩ => ⟨S1x23x1, .f32⟩
  | .hbm, ⟨60, _⟩ => ⟨S32x23x512, .f32⟩
  | .hbm, ⟨61, _⟩ => ⟨S32x23x512, .f32⟩
  | .hbm, ⟨62, _⟩ => ⟨S32x15x128, .f32⟩
  | .hbm, ⟨63, _⟩ => ⟨S_, .f32⟩
  | .hbm, ⟨64, _⟩ => ⟨S_, .f32⟩
  | .hbm, ⟨65, _⟩ => ⟨S32x8x128, .f32⟩
  | .hbm, ⟨66, _⟩ => ⟨S15, .f32⟩
  | .hbm, ⟨67, _⟩ => ⟨S_, .f32⟩
  | .hbm, ⟨68, _⟩ => ⟨S_, .f32⟩
  | .hbm, ⟨69, _⟩ => ⟨S8, .f32⟩
  | .hbm, ⟨70, _⟩ => ⟨S1x8x1, .f32⟩
  | .hbm, ⟨71, _⟩ => ⟨S32x8x128, .f32⟩
  | .hbm, ⟨72, _⟩ => ⟨S32x8x128, .f32⟩
  | .hbm, ⟨73, _⟩ => ⟨S32x8x128, .f32⟩
  | .hbm, ⟨74, _⟩ => ⟨S32x8x128, .f32⟩
  | .hbm, ⟨75, _⟩ => ⟨S1x128x128, .f32⟩
  | .hbm, ⟨76, _⟩ => ⟨S128x128, .f32⟩
  | .hbm, ⟨77, _⟩ => ⟨S32x8x128, .f32⟩
  | .hbm, ⟨78, _⟩ => ⟨S1x23x1, .f32⟩
  | .hbm, ⟨79, _⟩ => ⟨S32x23x512, .f32⟩
  | .hbm, ⟨80, _⟩ => ⟨S32x23x512, .f32⟩
  | .hbm, ⟨81, _⟩ => ⟨S32x23x128, .f32⟩
  | .hbm, ⟨82, _⟩ => ⟨S_, .f32⟩
  | .hbm, ⟨83, _⟩ => ⟨S_, .f32⟩
  | .hbm, ⟨84, _⟩ => ⟨S32x8x128, .f32⟩
  | .hbm, ⟨85, _⟩ => ⟨S_, .f32⟩
  | .hbm, ⟨86, _⟩ => ⟨S_, .f32⟩
  | .hbm, ⟨87, _⟩ => ⟨S8, .f32⟩
  | .hbm, ⟨88, _⟩ => ⟨S1x8x1, .f32⟩
  | .hbm, ⟨89, _⟩ => ⟨S32x8x128, .f32⟩
  | .hbm, ⟨90, _⟩ => ⟨S32x8x128, .f32⟩
  | .hbm, ⟨91, _⟩ => ⟨S32x8x128, .f32⟩
  | .hbm, ⟨92, _⟩ => ⟨S32x8x128, .f32⟩
  | .hbm, ⟨93, _⟩ => ⟨S1x128x128, .f32⟩
  | .hbm, ⟨94, _⟩ => ⟨S128x128, .f32⟩
  | .hbm, ⟨95, _⟩ => ⟨S32x8x128, .f32⟩
  | .hbm, ⟨96, _⟩ => ⟨S32x8x512, .f32⟩
  | .hbm, ⟨97, _⟩ => ⟨S1x1x512, .f32⟩
  | .hbm, ⟨98, _⟩ => ⟨S32x8x512, .f32⟩
  | .hbm, ⟨99, _⟩ => ⟨S32x8x512, .f32⟩
  | .hbm, ⟨100, _⟩ => ⟨S32x16x512, .f32⟩
  | .hbm, ⟨101, _⟩ => ⟨S256x512, .f32⟩
  | _, _ => ⟨S16640x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_6 : Ref sig .tc := ⟨.hbm, 82, rfl⟩
abbrev main_v70 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩

abbrev nD : Nat := 1
abbrev τ : Topo := Topo.v7x

variable {F : FTy → Type} [FloatOps F]
-- ==== Proof.Norm4.lean ====
/- The projections of the normalised tokens. -/
module

public import proofs.«01_k».proof.Defs
public import proofs.«01_k».proof.Proof.Gen.Kernel4Ideal.Value
public import proofs.«01_k».proof.Proof.Gen.Reference4Ideal.Run
public import Idealize.ShloMosaic.Lib.Pipeline.ReadBack
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic Idealize.SL.Sem

namespace Cert.Kernel4Ideal.Norm

open Cert.Kernel4Ideal Cert.Kernel4Ideal.Gen

/-- A row normalised by its mean square, with a gain. -/
def rowf (x : Fin 2048 → EReal) (g : Fin 2048 → EReal) (k : Fin 2048) : EReal :=
  x k * Ideal.rsqrt (Ideal.div (∑ e : Fin 2048, x e * x e) (Ideal.ofBits .f32 0x45000000#32) + Ideal.ofBits .f32 0x358637BD#32) * g k

/-- A token and a column: the normalised token by the column, of the first layer. -/
def outf (X : FVec Ideal S16640x2048 .f32) (G : FVec Ideal S2x2048 .f32) (W : FVec Ideal S2x2048x5632 .f32) (r : Fin 16640) (j : Fin 5632) : EReal :=
  ∑ k : Fin 2048, rowf (fun e => X (ix2 r e)) (fun e => G (ix2 0 e)) k * W (ix3 0 k j)

/-- The rows the body keeps. -/
theorem pay1_at (X : FVec Ideal S1280x2048 .f32) (G : FVec Ideal S1x1x2048 .f32) (r : Fin 1280) (k : Fin 2048) :
    k0_pay1 (F := Ideal) X G (ix2 r k) = rowf (fun e => X (ix2 r e)) (fun e => G (ix3 0 0 e)) k := by
  unfold rowf
  pointwise [k0_pay1]

/-- The product of the kept rows by a block of columns. -/
theorem pay2_at (H : FVec Ideal S1280x2048 .bf16) (W : FVec Ideal S1x2048x512 .f32) (r : Fin 1280) (l : Fin 512) :
    k0_pay2 (F := Ideal) H W (ix2 r l) = ∑ k : Fin 2048, H (ix2 r k) * W (ix3 0 k l) := by
  pointwise [k0_pay2]

/-- Every window's block index at point `t`: rows `t / 11`, columns `t % 11`. -/
theorem idx : ∀ t : Fin cfg0.N, win0_0.index t = ![t.val / 11, 0] ∧ win0_1.index t = ![0, 0, 0] ∧ win0_2.index t = ![0, 0, t.val % 11]
    ∧ win0_3.index t = ![t.val / 11, t.val % 11] :=
  (by decide +kernel : ∀ t : Fin grid0.N, _)

variable (m : (ℓ : Loc nD τ sig) → Buf (Elt Ideal) ℓ) (c : Dev nD) (t : Fin cfg0.N)

theorem lt_N : t.val < 143 := lt_of_lt_of_eq t.isLt N_0

theorem gain_at (e : Fin 2048) : Gen.V (F := Ideal) m c main_v0 (ix3 0 0 e) = m ((c.tc : Thread nD τ).loc main_arg1) (ix2 0 e) := by
  simp only [Gen.V, hostOps0, List.flatten_cons, List.flatten_nil, List.append_nil, List.cons_append, List.nil_append]
  entry_read
  pointwise []

theorem blk_x (r : Fin 1280) (k : Fin 2048) : iblk m c 0 t (ix2 r k)
    = m ((c.tc : Thread nD τ).loc main_arg0) (ix2 ⟨t.val / 11 * 1280 + r.val, by have := lt_N t; omega⟩ k) := by
  have := lt_N t
  blk_ext [iblk, V_main_arg0, idx t]
theorem blk_g (e : Fin 2048) : iblk m c 1 t (ix3 0 0 e) = m ((c.tc : Thread nD τ).loc main_arg1) (ix2 0 e) := by
  have := lt_N t
  refine Eq.trans ?_ (gain_at m c e)
  blk_ext [iblk, idx t]
theorem blk_w (k : Fin 2048) (l : Fin 512) : iblk m c 2 t (ix3 0 k l)
    = m ((c.tc : Thread nD τ).loc main_arg2) (ix3 0 k ⟨t.val % 11 * 512 + l.val, by omega⟩) := by
  have := lt_N t
  blk_ext [iblk, V_main_arg2, idx t]

/-- The kept rows after a point: those of its rows' block. -/
def Kept (t : ℕ) (H : Vec Ideal S1280x2048 .bf16) : Prop := ∀ (r : Fin 1280) (k : Fin 2048) (R : Fin 16640), R.val = t / 11 * 1280 + r.val →
  H (ix2 r k) = rowf (fun e => m ((c.tc : Thread nD τ).loc main_arg0) (ix2 R e)) (fun e => m ((c.tc : Thread nD τ).loc main_arg1) (ix2 0 e)) k

/-- The rows written at the first block of columns. -/
theorem kept_new : Kept m c t.val (k0_pay1 (F := Ideal) (iblk m c 0 t) (iblk m c 1 t)) := by
  intro r k R hR
  have nt := lt_N t
  refine (pay1_at _ _ r k).trans ?_
  have a0 : (⟨t.val / 11 * 1280 + r.val, by omega⟩ : Fin 16640) = R := Fin.ext hR.symm
  have e1 : (fun e => iblk m c 0 t (ix2 r e)) = fun e => m ((c.tc : Thread nD τ).loc main_arg0) (ix2 R e) := funext fun e => a0 ▸ blk_x m c t r e
  have e2 : (fun e => iblk m c 1 t (ix3 0 0 e)) = fun e => m ((c.tc : Thread nD τ).loc main_arg1) (ix2 0 e) := funext fun e => blk_g m c t e
  exact congrFun (congr (congrArg rowf e1) e2) k

theorem scratch_A (z : t.val % 11 = 0) : (outsAt0 m c t.val t.isLt).2 = k0_pay1 (F := Ideal) (iblk m c 0 t) (iblk m c 1 t) := by
  rw [outsAt0_A m c t z]
  frame_out
theorem scratch_B (z : ¬ t.val % 11 = 0) : (outsAt0 m c t.val t.isLt).2 = (outsAt0 m c (t.val - 1) (Nat.lt_of_le_of_lt (Nat.sub_le t.val 1) t.isLt)).2 := by
  rw [outsAt0_B m c t z]
  rfl
theorem out_A (z : t.val % 11 = 0) : (outsAt0 m c t.val t.isLt).1 = k0_pay2 (F := Ideal) (k0_pay1 (F := Ideal) (iblk m c 0 t) (iblk m c 1 t)) (iblk m c 2 t) := by
  rw [outsAt0_A m c t z]
  frame_out
theorem out_B (z : ¬ t.val % 11 = 0) : (outsAt0 m c t.val t.isLt).1
    = k0_pay2 (F := Ideal) (outsAt0 m c (t.val - 1) (Nat.lt_of_le_of_lt (Nat.sub_le t.val 1) t.isLt)).2 (iblk m c 2 t) := by
  rw [outsAt0_B m c t z]
  frame_out
  simp only [read_unread_whole]

/-- The rows are kept over the blocks of columns. -/
theorem kept : ∀ (n : ℕ) (h : n < cfg0.N), Kept m c n (outsAt0 m c n h).2 := by
  intro n
  induction n with
  | zero => intro h; rw [scratch_A m c ⟨0, h⟩ rfl]; exact kept_new m c ⟨0, h⟩
  | succ n ih =>
    intro h
    by_cases z : (n + 1) % 11 = 0
    · rw [scratch_A m c ⟨n + 1, h⟩ z]; exact kept_new m c ⟨n + 1, h⟩
    · rw [scratch_B m c ⟨n + 1, h⟩ z]
      intro r k R hR
      exact ih (Nat.lt_of_succ_lt h) r k R (by rw [hR]; have : (n + 1) / 11 = n / 11 := by omega
                                               rw [this])

/-- A point's output is the product of the rows it keeps. -/
theorem out_eq : (outsAt0 m c t.val t.isLt).1 = k0_pay2 (F := Ideal) (outsAt0 m c t.val t.isLt).2 (iblk m c 2 t) := by
  by_cases z : t.val % 11 = 0
  · rw [out_A m c t z, scratch_A m c t z]
  · rw [out_B m c t z, scratch_B m c t z]

/-- What a point writes back. -/
theorem point (y : S1280x512.Idx) (j : S16640x5632.Idx) (e0 : (j 0 : ℕ) = t.val / 11 * 1280 + y 0) (e1 : (j 1 : ℕ) = t.val % 11 * 512 + y 1) :
    (outsAt0 m c t.val t.isLt).1 y
      = outf (m ((c.tc : Thread nD τ).loc main_arg0)) (m ((c.tc : Thread nD τ).loc main_arg1)) (m ((c.tc : Thread nD τ).loc main_arg2)) (j 0) (j 1) := by
  have nt := lt_N t
  have y1 : (y 1).val < 512 := (y 1).isLt
  have a1 : (⟨t.val % 11 * 512 + (y 1).val, by omega⟩ : Fin 5632) = j 1 := Fin.ext e1.symm
  rw [out_eq]
  refine (congrArg _ (eq_ix2 y)).trans ((pay2_at _ _ (y 0) (y 1)).trans ?_)
  unfold outf
  refine Finset.sum_congr rfl fun k _ => ?_
  exact congr (congrArg _ (kept m c t.val t.isLt (y 0) k (j 0) e0)) (a1 ▸ blk_w m c t k (y 1))

/-- The result. -/
theorem final : (dats m 0 c).arrAt 3 (cfgs 0).N
    = fun i => outf (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  exact point m c t y _ (by blk_simp [idx t] <;> try omega) (by blk_simp [idx t] <;> try omega)

end Cert.Kernel4Ideal.Norm

namespace Cert.Proof.Norm4

open Cert.Reference4Ideal Cert.Reference4Ideal.Gen

/-- The reference's normalised rows. -/
def refRows (X : FVec Ideal S16640x2048 .f32) (G : FVec Ideal S2x2048 .f32) : FVec Ideal S16640x2048 .f32 :=
  mulf (mulf X (broadcastInDim S16640x2048 ![0, 1] bcast_S16640x1_S16640x2048_0_1 (Host.rsqrt (addf (Host.divf (broadcastInDim S16640x1 ![0] bcast_S16640_S16640x1_0 (Host.reduceAdd (mulf X X) (constant S_ .f32 0x00000000#32) reducesTo_S16640x2048_S16640_d1 h_S_)) (broadcastInDim S16640x1 ![] bcast_S_S16640x1 (constant S_ .f32 0x45000000#32))) (broadcastInDim S16640x1 ![] bcast_S_S16640x1 (constant S_ .f32 0x358637BD#32)))))) (broadcastInDim S16640x2048 ![0, 1] bcast_S1x2048_S16640x2048_0_1 (broadcastInDim S1x2048 ![1] bcast_S2048_S1x2048_1 (shapeCast _ (extractStridedSlice S1x2048 ![0, 0] G slices_S2x2048_S1x2048_0_0) shapeCasts_S1x2048_S2048)))

theorem rows_at (X : FVec Ideal S16640x2048 .f32) (G : FVec Ideal S2x2048 .f32) (r : Fin 16640) (k : Fin 2048) :
    refRows X G (ix2 r k) = Cert.Kernel4Ideal.Norm.rowf (fun e => X (ix2 r e)) (fun e => G (ix2 0 e)) k := by
  unfold Cert.Kernel4Ideal.Norm.rowf
  pointwise [refRows]

theorem dot_at (H : FVec Ideal S16640x2048 .f32) (W : FVec Ideal S2x2048x5632 .f32) (r : Fin 16640) (j : Fin 5632) :
    Host.dotGeneral (F := Ideal) dot_S16640x2048_S2048x5632_S16640x5632_1_0_0_1_n_n none H (shapeCast _ (extractStridedSlice S1x2048x5632 ![0, 0, 0] W slices_S2x2048x5632_S1x2048x5632_0_0_0) shapeCasts_S1x2048x5632_S2048x5632) (ix2 r j) = ∑ k : Fin 2048, H (ix2 r k) * W (ix3 0 k j) := by
  pointwise

/-- The two programs end with equal results. -/
theorem value : Cert.algebraic_Kernel4Ideal_Reference4Ideal := by
  pair_intro
  · run_from Cert.Kernel4Ideal.Value.run_blocks m g
  · run_from Cert.Reference4Ideal.Value.run m' g'
    · refine Eq.trans ?_ (Cert.Kernel4Ideal.Norm.final m c).symm
      funext i
      rw [eq_ix2 i]
      refine (dot_at (refRows _ _) _ _ _).trans ?_
      exact Finset.sum_congr rfl fun k _ => congrArg (· * _) (rows_at _ _ _ k)

/-- The reference runs and leaves its arguments; it declares no semaphore. -/
theorem frame_reference : Cert.quiescent_Reference4Ideal := fun m ρ _ =>
  (θ_run Cert.Reference4Ideal.defs _ _).mono (fun r q => ⟨fun c => (q c).2, sem_eq_zero_of_no_sems (by decide) r.2⟩)
    (Cert.Reference4Ideal.Value.run (F := Ideal) m ρ)

end Cert.Proof.Norm4

end
-- ==== Proof.Out5.lean ====
/- The product by `w_out`, added to the tokens. -/
module

public import proofs.«01_k».proof.Defs
public import proofs.«01_k».proof.Proof.Gen.Kernel5Ideal.Value
public import proofs.«01_k».proof.Proof.Gen.Reference5Ideal.Run
public import Idealize.ShloMosaic.Lib.Pipeline.ReadBack
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic Idealize.SL.Sem

namespace Cert.Kernel5Ideal.Out

open Cert.Kernel5Ideal Cert.Kernel5Ideal.Gen

/-- A token and a column: the token's entry and the product of its mixers' outputs by the column of the first layer. -/
def outf (A : FVec Ideal S16640x2048 .bf16) (W : FVec Ideal S2x2048x2048 .f32) (X : FVec Ideal S16640x2048 .f32) (r : Fin 16640) (j : Fin 2048) : EReal :=
  (∑ k : Fin 2048, A (ix2 r k) * W (ix3 0 k j)) + X (ix2 r j)

/-- The body's value on a block. -/
theorem pay_at (A : FVec Ideal S1280x2048 .bf16) (W : FVec Ideal S1x2048x512 .f32) (X : FVec Ideal S1280x512 .f32) (r : Fin 1280) (l : Fin 512) :
    k0_pay1 (F := Ideal) A W X (ix2 r l) = (∑ k : Fin 2048, A (ix2 r k) * W (ix3 0 k l)) + X (ix2 r l) := by
  pointwise [k0_pay1]

/-- Every window's block index at point `t`: rows `t / 4`, columns `t % 4`. -/
theorem idx : ∀ t : Fin cfg0.N, win0_0.index t = ![t.val / 4, 0] ∧ win0_1.index t = ![0, 0, t.val % 4] ∧ win0_2.index t = ![t.val / 4, t.val % 4]
    ∧ win0_3.index t = ![t.val / 4, t.val % 4] :=
  (by decide +kernel : ∀ t : Fin grid0.N, _)

variable (m : (ℓ : Loc nD τ sig) → Buf (Elt Ideal) ℓ) (c : Dev nD) (t : Fin cfg0.N)

theorem lt_N : t.val < 52 := lt_of_lt_of_eq t.isLt N_0

theorem blk_a (r : Fin 1280) (k : Fin 2048) : iblk m c 0 t (ix2 r k)
    = m ((c.tc : Thread nD τ).loc main_arg0) (ix2 ⟨t.val / 4 * 1280 + r.val, by have := lt_N t; omega⟩ k) := by
  have := lt_N t
  blk_ext [iblk, V_main_arg0, idx t]
theorem blk_w (k : Fin 2048) (l : Fin 512) : iblk m c 1 t (ix3 0 k l)
    = m ((c.tc : Thread nD τ).loc main_arg1) (ix3 0 k ⟨t.val % 4 * 512 + l.val, by omega⟩) := by
  have := lt_N t
  blk_ext [iblk, V_main_arg1, idx t]
theorem blk_x (r : Fin 1280) (l : Fin 512) : iblk m c 2 t (ix2 r l)
    = m ((c.tc : Thread nD τ).loc main_arg2) (ix2 ⟨t.val / 4 * 1280 + r.val, by have := lt_N t; omega⟩ ⟨t.val % 4 * 512 + l.val, by omega⟩) := by
  have := lt_N t
  blk_ext [iblk, V_main_arg2, idx t]

/-- What a point writes back. -/
theorem point (y : S1280x512.Idx) (j : S16640x2048.Idx) (e0 : (j 0 : ℕ) = t.val / 4 * 1280 + y 0) (e1 : (j 1 : ℕ) = t.val % 4 * 512 + y 1) :
    k0_pay1 (F := Ideal) (iblk m c 0 t) (iblk m c 1 t) (iblk m c 2 t) y
      = outf (m ((c.tc : Thread nD τ).loc main_arg0)) (m ((c.tc : Thread nD τ).loc main_arg1)) (m ((c.tc : Thread nD τ).loc main_arg2)) (j 0) (j 1) := by
  have nt := lt_N t
  have y0 : (y 0).val < 1280 := (y 0).isLt
  have y1 : (y 1).val < 512 := (y 1).isLt
  have a0 : (⟨t.val / 4 * 1280 + (y 0).val, by omega⟩ : Fin 16640) = j 0 := Fin.ext e0.symm
  have a1 : (⟨t.val % 4 * 512 + (y 1).val, by omega⟩ : Fin 2048) = j 1 := Fin.ext e1.symm
  refine (congrArg _ (eq_ix2 y)).trans ((pay_at _ _ _ (y 0) (y 1)).trans ?_)
  unfold outf
  rw [← a0, ← a1]
  refine congr (congrArg _ (Finset.sum_congr rfl fun k _ => ?_)) (blk_x m c t (y 0) (y 1))
  exact congr (congrArg _ (blk_a m c t (y 0) k)) (blk_w m c t k (y 1))

/-- The result. -/
theorem final : (dats m 0 c).arrAt 3 (cfgs 0).N
    = fun i => outf (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  frame_out
  exact point m c t y _ (by blk_simp [idx t] <;> try omega) (by blk_simp [idx t] <;> try omega)

end Cert.Kernel5Ideal.Out

namespace Cert.Proof.Out5

open Cert.Reference5Ideal Cert.Reference5Ideal.Gen in
/-- The reference's value at a token and a column. -/
theorem ref_at (A : FVec Ideal S16640x2048 .bf16) (W : FVec Ideal S2x2048x2048 .f32) (X : FVec Ideal S16640x2048 .f32) (r : Fin 16640) (j : Fin 2048) :
    addf X (Host.dotGeneral dot_S16640x2048_S2048x2048_S16640x2048_1_0_0_1_n_n none (extf .f32 A bitsLt_bf16_f32) (shapeCast _ (extractStridedSlice S1x2048x2048 ![0, 0, 0] W slices_S2x2048x2048_S1x2048x2048_0_0_0) shapeCasts_S1x2048x2048_S2048x2048)) (ix2 r j)
      = X (ix2 r j) + ∑ k : Fin 2048, A (ix2 r k) * W (ix3 0 k j) := by
  pointwise

/-- The two programs end with equal results. -/
theorem value : Cert.algebraic_Kernel5Ideal_Reference5Ideal := by
  pair_intro
  · run_from Cert.Kernel5Ideal.Value.run_blocks m g
  · run_from Cert.Reference5Ideal.Value.run m' g'
    · refine Eq.trans ?_ (Cert.Kernel5Ideal.Out.final m c).symm
      funext i
      rw [eq_ix2 i]
      exact (ref_at _ _ _ _ _).trans (add_comm _ _)

/-- The reference runs and leaves its arguments; it declares no semaphore. -/
theorem frame_reference : Cert.quiescent_Reference5Ideal := fun m ρ _ =>
  (θ_run Cert.Reference5Ideal.defs _ _).mono (fun r q => ⟨fun c => (q c).2, sem_eq_zero_of_no_sems (by decide) r.2⟩)
    (Cert.Reference5Ideal.Value.run (F := Ideal) m ρ)

end Cert.Proof.Out5

end
-- ==== Proof.Moe6ITab.lean ====
module

public import proofs.«01_k».proof.Proof.Gen.Kernel6Ideal.Flash.Runs
public import proofs.«01_k».proof.Proof.Gen.Kernel6Ideal.Launch
public import Idealize.ShloMosaic.Lib.Affine
public import Idealize.ShloMosaic.PureOps.Ideal

@[expose] public section
set_option maxRecDepth 16384
noncomputable section
namespace Cert.Kernel6Ideal.Moe
open Cert.Kernel6Ideal Cert.Kernel6Ideal.Gen
open Idealize.ShloMosaic
open Idealize.ShloMosaic.TcCoe Idealize.ShloMosaic.Tactic

/-- The two tables the kernel steers by: the expert of each tile, and how many tiles hold rows. -/
structure Tab where
  e : S13.Idx → BitVec 32
  n : S1.Idx → BitVec 32
  he : ∀ x, (e x).toNat < 1
  hn : ∀ x, n x = 13#32

/-- The tables as the launch hands them over. -/
def pf (v : Tab) : pre0.Contents (Elt Ideal) := fun | ⟨0, _⟩ => v.e | ⟨1, _⟩ => v.n | ⟨_ + 2, h⟩ => absurd h (by simp)

/-- The tile of a grid point. -/
def cur (i : grid0.Coords) : S13.Idx := fun a => ⟨(i 1).val, by revert a; rw [Fin.forall_fin_one]; exact (i 1).isLt⟩
/-- The tile before it, the first tile its own. -/
def prv (i : grid0.Coords) : S13.Idx := fun a => ⟨(i 1).val - 1, by revert a; rw [Fin.forall_fin_one]; exact Nat.lt_of_le_of_lt (Nat.sub_le _ _) (i 1).isLt⟩
/-- The one place of the second table. -/
abbrev zz : S1.Idx := Shape.Idx.first (numel1_S1.symm ▸ Nat.one_pos)

theorem off1_eq (i : grid0.Coords) : k0_off1 i = ![(i 1).val] := by
  have h : ∀ n : Fin 13, k0_off1 (fun | 0 => (0 : Fin 11) | 1 => n) = ![n.val] := by decide +kernel
  exact h (i 1)

theorem off2_eq (i : grid0.Coords) : k0_off2 i = ![(i 1).val - 1] := by
  have h : ∀ n : Fin 13, k0_off2 (fun | 0 => (0 : Fin 11) | 1 => n) = ![n.val - 1] := by decide +kernel
  exact h (i 1)

theorem emb_cur (i : grid0.Coords) (h : 0 < S1.numel) : (Rect.unit (s := S13) (k0_off1 i) S1.size (k0_off1_inb i)).emb (Shape.Idx.first h) = cur i := by
  funext a; apply Fin.ext; revert a; rw [Fin.forall_fin_one]
  show k0_off1 i 0 + 1 * 0 = (i 1).val
  rw [off1_eq]; rfl

theorem emb_prv (i : grid0.Coords) (h : 0 < S1.numel) : (Rect.unit (s := S13) (k0_off2 i) S1.size (k0_off2_inb i)).emb (Shape.Idx.first h) = prv i := by
  funext a; apply Fin.ext; revert a; rw [Fin.forall_fin_one]
  show k0_off2 i 0 + 1 * 0 = (i 1).val - 1
  rw [off2_eq]; rfl

/-- The word the body reads for its own tile. -/
theorem rd1 (i : grid0.Coords) (T : S13.Idx → Elt Ideal .i32) (h : 0 < S1.numel) : View.readAt (Elt Ideal) (tbM0_0).view (Rect.unit (s := S13) (k0_off1 i) S1.size (k0_off1_inb i)).toLoadRect T (Shape.Idx.first h) = T (cur i) :=
  (show _ = T ((Rect.unit (s := S13) (k0_off1 i) S1.size (k0_off1_inb i)).emb (Shape.Idx.first h)) from rfl).trans (congrArg T (emb_cur i h))

/-- The word the body reads for the tile before. -/
theorem rd2 (i : grid0.Coords) (T : S13.Idx → Elt Ideal .i32) (h : 0 < S1.numel) : View.readAt (Elt Ideal) (tbM0_0).view (Rect.unit (s := S13) (k0_off2 i) S1.size (k0_off2_inb i)).toLoadRect T (Shape.Idx.first h) = T (prv i) :=
  (show _ = T ((Rect.unit (s := S13) (k0_off2 i) S1.size (k0_off2_inb i)).emb (Shape.Idx.first h)) from rfl).trans (congrArg T (emb_prv i h))

theorem first_zz (x : S1.Idx) : x = zz := by
  funext a; revert a; rw [Fin.forall_fin_one]; exact Subsingleton.elim (α := Fin 1) _ _

/-- The word the body reads for the number of tiles. -/
theorem rdn (T : S1.Idx → Elt Ideal .i32) (h : 0 < S1.numel) : View.readAt (Elt Ideal) (tbM0_1).view (Rect.unit (s := S1) ![0] S1.size inb_S1_S1_0).toLoadRect T (Shape.Idx.first h) = T zz :=
  congrArg T (first_zz _)

/-- Whether the point starts a new tile of weights: the first tile, or another expert than the tile before. -/
abbrev Q0 (i : grid0.Coords) (a b : BitVec 32) : Prop :=
  Scalar.cmpi .ne (Scalar.extui (Scalar.ori (Scalar.cmpi .eq (BitVec.ofNat 32 (i 1).val) 0#32) (Scalar.cmpi .ne a b))) 0#32 = (1#1 : BitVec 1)

theorem not_Q0 {i : grid0.Coords} {a b : BitVec 32} (h : ¬ Q0 i a b) : (i 1).val ≠ 0 ∧ a = b := by
  refine ⟨fun h0 => h ?_, by_contra fun hab => h ?_⟩
  · unfold Q0; rw [h0]
    have : ∀ c : BitVec 1, Scalar.cmpi .ne (Scalar.extui (Scalar.ori (Scalar.cmpi .eq (BitVec.ofNat 32 0) 0#32) c) : BitVec 32) 0#32 = (1#1 : BitVec 1) := by decide
    exact this _
  · unfold Q0
    have e : Scalar.cmpi .ne a b = 1#1 := by
      have hb : (a != b) = true := bne_iff_ne.mpr hab
      show BitVec.ofBool (a != b) = 1#1
      rw [hb]; rfl
    rw [e]
    have : ∀ c : BitVec 1, Scalar.cmpi .ne (Scalar.extui (Scalar.ori c 1#1) : BitVec 32) 0#32 = (1#1 : BitVec 1) := by decide
    exact this _

theorem cond23 (i : grid0.Coords) (w : BitVec 32) : k0_cond3 i w = 1#1 ↔ ¬ k0_cond2 i w = 1#1 := by
  unfold k0_cond3 k0_cond2
  simp only [Scalar.cmpi, IntOp.cmpi]; generalize (BitVec.ofNat 32 (i 1).val) = u; rw [show w.sle u = !(u.slt w) from by simp [BitVec.sle_eq_not_slt]]; generalize u.slt w = c; revert c; decide

theorem min_word (n : ℕ) (hn : n < 13) (w : BitVec 32) (hw : 1 ≤ w.toInt) : (Scalar.minsi (BitVec.ofNat 32 n) (Scalar.subi w 1#32)).toNat = min n (w.toInt.toNat - 1) := by
  have h1 : w.toNat < 2147483648 ∧ w.toInt = w.toNat := by
    have := w.isLt
    rw [BitVec.toInt_eq_toNat_cond] at hw ⊢
    by_cases h : 2 * w.toNat < 2 ^ 32
    · rw [if_pos h] at hw ⊢; omega
    · rw [if_neg h] at hw; omega
  have h2 : (w - 1#32).toNat = w.toNat - 1 := by
    rw [BitVec.toNat_sub]; have : (1#32).toNat = 1 := rfl
    rw [this]; omega
  have h3 : (w - 1#32).toInt = w.toNat - 1 := by
    rw [BitVec.toInt_eq_toNat_cond, h2, if_pos (by omega)]; omega
  have h4 : (BitVec.ofNat 32 n).toNat = n := by rw [BitVec.toNat_ofNat]; omega
  have h5 : (BitVec.ofNat 32 n).toInt = n := by rw [BitVec.toInt_eq_toNat_cond, h4, if_pos (by omega)]
  show (if (BitVec.ofNat 32 n).slt (w - 1#32) then BitVec.ofNat 32 n else w - 1#32).toNat = _
  rw [h1.2]
  by_cases h : (BitVec.ofNat 32 n).slt (w - 1#32) = true
  · rw [if_pos h, h4]; rw [BitVec.slt_iff_toInt_lt, h5, h3] at h; omega
  · rw [if_neg h, h2]; rw [BitVec.slt_iff_toInt_lt, h5, h3] at h; omega

/-- The block index of the rows: the tile, the last one that holds rows after it. -/
theorem tr0 (v : Tab) (i : grid0.Coords) : cc0_transform_0 inb_S1_S1_0 numel1_S1 (pf v) i = ![min (i 1).val ((v.n zz).toInt.toNat - 1), 0] := by
  have hn : 1 ≤ (v.n zz).toInt := by rw [v.hn]; decide
  have e : (pf v).at 1 (Rect.unit (s := S1) ![0] S1.size inb_S1_S1_0) numel1_S1 = v.n zz := congrArg v.n (first_zz _)
  have h : cc0_transform_0 inb_S1_S1_0 numel1_S1 (pf v) i = ![(Scalar.minsi (BitVec.ofNat 32 (i 1).val) (Scalar.subi ((pf v).at 1 (Rect.unit (s := S1) ![0] S1.size inb_S1_S1_0) numel1_S1) 1#32)).toNat, 0] := rfl
  rw [h, e, min_word _ (i 1).isLt _ hn]

/-- The block index of the weights: the tile's expert, the column block. -/
theorem tr1 (v : Tab) (i : grid0.Coords) : cc0_transform_1 k0_off1_inb numel1_S1 (pf v) i = ![0, (v.e (cur i)).toNat, 0, (i 0).val] := by
  have e : (pf v).at 0 (Rect.unit (s := S13) (k0_off1 i) S1.size (k0_off1_inb i)) numel1_S1 = v.e (cur i) := congrArg v.e (emb_cur i _)
  have h : cc0_transform_1 k0_off1_inb numel1_S1 (pf v) i = ![0, ((pf v).at 0 (Rect.unit (s := S13) (k0_off1 i) S1.size (k0_off1_inb i)) numel1_S1).toNat, 0, (BitVec.ofNat 32 (i 0).val).toNat] := rfl
  rw [h, e, BitVec.toNat_ofNat, Nat.mod_eq_of_lt (lt_trans (i 0).isLt (by decide))]

/-- The third window's block index, the second's. -/
theorem tr2 (v : Tab) (i : grid0.Coords) : cc0_transform_2 k0_off1_inb numel1_S1 (pf v) i = ![0, (v.e (cur i)).toNat, 0, (i 0).val] := tr1 v i

/-- The block index of the result. -/
theorem tr3 (i : grid0.Coords) : cc0_transform_3 i = ![(i 1).val, (i 0).val] := by
  have h : cc0_transform_3 i = ![(BitVec.ofNat 32 (i 1).val).toNat, (BitVec.ofNat 32 (i 0).val).toNat] := rfl
  rw [h, BitVec.toNat_ofNat, BitVec.toNat_ofNat, Nat.mod_eq_of_lt (lt_trans (i 0).isLt (by decide)), Nat.mod_eq_of_lt (lt_trans (i 1).isLt (by decide))]

/-- At such tables every block lies inside its array. -/
theorem ok (v : Tab) : ok0 (pf v) := by
  refine ⟨?_, ?_, ?_⟩
  · intro i
    refine ⟨fun a => ?_, .inr (Affine.block_words_dvd (s := S16640x2048) (p := EltTy.packing .bf16) (by decide) (by decide))⟩
    rw [tr0 v i]
    revert a; rw [Fin.forall_fin_succ, Fin.forall_fin_one]
    refine ⟨?_, by show (0 + 1) * _ ≤ _; decide⟩
    show (min (i 1).val ((v.n zz).toInt.toNat - 1) + 1) * 1280 ≤ 16640
    have : (i 1).val < 13 := (i 1).isLt
    omega
  · intro i
    refine ⟨fun a => ?_, .inl rfl⟩
    rw [tr1 v i]
    have := v.he (cur i); have h0 := (i 0).isLt
    revert a; rw [Fin.forall_fin_succ, Fin.forall_fin_succ, Fin.forall_fin_succ, Fin.forall_fin_one]
    refine ⟨by show (0 + 1) * _ ≤ _; decide, ?_, by show (0 + 1) * _ ≤ _; decide, ?_⟩
    · show ((v.e (cur i)).toNat + 1) * 1 ≤ 1; omega
    · show ((i 0).val + 1) * 512 ≤ 5632; have : (i 0).val < 11 := h0; omega
  · intro i
    refine ⟨fun a => ?_, .inl rfl⟩
    rw [tr2 v i]
    have := v.he (cur i); have h0 := (i 0).isLt
    revert a; rw [Fin.forall_fin_succ, Fin.forall_fin_succ, Fin.forall_fin_succ, Fin.forall_fin_one]
    refine ⟨by show (0 + 1) * _ ≤ _; decide, ?_, by show (0 + 1) * _ ≤ _; decide, ?_⟩
    · show ((v.e (cur i)).toNat + 1) * 1 ≤ 1; omega
    · show ((i 0).val + 1) * 512 ≤ 5632; have : (i 0).val < 11 := h0; omega

/-- The admissible contents. -/
def adm (v : Tab) : (pcfg0 (F := Ideal)).Adm := ⟨pf v, ok v⟩
abbrev cfgA (v : Tab) : Pipeline.Cfg sig Λ₀ := cfg0 (F := Ideal) (adm v)
abbrev pcs (v : Tab) : Fin 1 → Pipeline.Cfg sig Λ₀ := Pipeline.pin (pcfgs (F := Ideal)) fun _ => adm v

/-- A point's coordinates. -/
abbrev crd (v : Tab) (t : Fin (cfgA v).N) : (cfgA v).grid.Coords := (cfgA v).grid.coords t

theorem crd_all : ∀ t : Fin grid0.N, (grid0.coords t 1).val = t.val % 13 ∧ (grid0.coords t 0).val = t.val / 13 := by decide +kernel

end Cert.Kernel6Ideal.Moe
end
-- ==== Proof.Moe6IRun.lean ====
module

public import proofs.«01_k».proof.Proof.Moe6ITab
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section
set_option maxRecDepth 16384
set_option Elab.async false
noncomputable section
namespace Cert.Kernel6Ideal.Moe
open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resources of the staging cells. -/
abbrev EPm : Emb (UR sig nD τ) 𝕄 := emb₁

/-- A store of a whole block, read back. -/
theorem read_store {sp : Space} {s : Shape} {e : EltTy} (w : View sig .tc sp s e) (f : w.ty.Contents (Elt Ideal)) {off : Fin s.rank → ℕ} (h : off = fun _ => 0)
    (inb : ∀ a, off a + s.size a ≤ s.size a) (x : s.Idx → Elt Ideal e) :
    w.read (Elt Ideal) (w.writes (Elt Ideal) f [⟨Rect.unit off s.size inb, x⟩]) = x := by
  subst h; exact View.read_writes_whole w f x

theorem congr3 {A B C D : Type} {f : A → B → C → D} {a a' : A} {b b' : B} {c c' : C} (ha : a = a') (hb : b = b') (hc : c = c') : f a b c = f a' b' c' := by subst ha hb hc; rfl
theorem congr2 {A B D : Type} {f : A → B → D} {a a' : A} {b b' : B} (ha : a = a') (hb : b = b') : f a b = f a' b' := by subst ha hb; rfl

/-- A store of a whole buffer leaves its payload. -/
theorem whole_store (b : Ref sig .tc) (f w : b.ty.Contents (Elt Ideal)) {off : Fin b.ty.shape.rank → ℕ} (h : off = fun _ => 0)
    (inb : ∀ a, off a + b.ty.shape.size a ≤ b.ty.shape.size a) :
    (View.whole b).writes (Elt Ideal) f [⟨Rect.unit off b.ty.shape.size inb, w⟩] = w := by
  have e := read_store (View.whole b) f h inb w
  exact (show _ = (View.whole b).read (Elt Ideal) _ from rfl).trans e

theorem out_A (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Ideal .i32)) (T1 : (S1.Idx → Elt Ideal .i32)) (x0 : (S1280x2048.Idx → Elt Ideal .bf16)) (x1 : (S1x1x2048x512.Idx → Elt Ideal .f32)) (x2 : (S1x1x2048x512.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S13) (k0_off1 i) S1.size (k0_off1_inb i)).toLoadRect T0 (Shape.Idx.first (numel1_S1.symm ▸ Nat.one_pos))) (View.readAt (Elt Ideal) (tbM0_0).view (Rect.unit (s := S13) (k0_off2 i) S1.size (k0_off2_inb i)).toLoadRect T0 (Shape.Idx.first (numel1_S1.symm ▸ Nat.one_pos)))))) 0#32) = 1#1) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1))
    (f : arg7.view.ty.Contents (Elt Ideal)) : arg7.view.read (Elt Ideal) (arg7.view.writes (Elt Ideal) f (kernelRun0_A c i arg4 harg4 arg5 harg5 arg6 harg6 arg7 harg7 T0 T1 x0 x1 x2 hc0 k0_h2 k0_h3).1) = (k0_pay3 x0 (k0_pay1 x1) (k0_pay2 x2)) := by
  dsimp only [kernelRun0_A]
  unfold kernelRun0_A.sl.HO3_1
  refine (read_store _ _ (by decide) _ _).trans ?_
  unfold kernelRun0_A.sl.v20 kernelRun0_A.sl.v22
  unfold kernelRun0_A.sl.HS0_1 kernelRun0_A.sl.HS1_1
  exact congr3 (View.readAt_rep_full _ _ _) ((View.readCov_unit_zero scM0_0.view (by decide) _ _).trans (congrArg k0_pay1 (View.readAt_rep_full _ _ _))) ((View.readCov_unit_zero scM0_1.view (by decide) _ _).trans (congrArg k0_pay2 (View.readAt_rep_full _ _ _)))

theorem sc0_A (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Ideal .i32)) (T1 : (S1.Idx → Elt Ideal .i32)) (x0 : (S1280x2048.Idx → Elt Ideal .bf16)) (x1 : (S1x1x2048x512.Idx → Elt Ideal .f32)) (x2 : (S1x1x2048x512.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S13) (k0_off1 i) S1.size (k0_off1_inb i)).toLoadRect T0 (Shape.Idx.first (numel1_S1.symm ▸ Nat.one_pos))) (View.readAt (Elt Ideal) (tbM0_0).view (Rect.unit (s := S13) (k0_off2 i) S1.size (k0_off2_inb i)).toLoadRect T0 (Shape.Idx.first (numel1_S1.symm ▸ Nat.one_pos)))))) 0#32) = 1#1) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 arg7 harg7 T0 T1 x0 x1 x2 hc0 k0_h2 k0_h3).2.1 = (k0_pay1 x1) := by
  dsimp only [kernelRun0_A]
  unfold kernelRun0_A.sl.HS0_1
  refine (whole_store cc0_scratch0 _ _ (by decide) _).trans ?_
  exact congrArg k0_pay1 (View.readAt_rep_full _ _ _)

theorem sc1_A (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Ideal .i32)) (T1 : (S1.Idx → Elt Ideal .i32)) (x0 : (S1280x2048.Idx → Elt Ideal .bf16)) (x1 : (S1x1x2048x512.Idx → Elt Ideal .f32)) (x2 : (S1x1x2048x512.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S13) (k0_off1 i) S1.size (k0_off1_inb i)).toLoadRect T0 (Shape.Idx.first (numel1_S1.symm ▸ Nat.one_pos))) (View.readAt (Elt Ideal) (tbM0_0).view (Rect.unit (s := S13) (k0_off2 i) S1.size (k0_off2_inb i)).toLoadRect T0 (Shape.Idx.first (numel1_S1.symm ▸ Nat.one_pos)))))) 0#32) = 1#1) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 arg7 harg7 T0 T1 x0 x1 x2 hc0 k0_h2 k0_h3).2.2.1 = (k0_pay2 x2) := by
  dsimp only [kernelRun0_A]
  unfold kernelRun0_A.sl.HS1_1
  refine (whole_store cc0_scratch1 _ _ (by decide) _).trans ?_
  exact congrArg k0_pay2 (View.readAt_rep_full _ _ _)

theorem out_B (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Ideal .i32)) (T1 : (S1.Idx → Elt Ideal .i32)) (x0 : (S1280x2048.Idx → Elt Ideal .bf16)) (x1 : (S1x1x2048x512.Idx → Elt Ideal .f32)) (x2 : (S1x1x2048x512.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S13) (k0_off1 i) S1.size (k0_off1_inb i)).toLoadRect T0 (Shape.Idx.first (numel1_S1.symm ▸ Nat.one_pos))) (View.readAt (Elt Ideal) (tbM0_0).view (Rect.unit (s := S13) (k0_off2 i) S1.size (k0_off2_inb i)).toLoadRect T0 (Shape.Idx.first (numel1_S1.symm ▸ Nat.one_pos)))))) 0#32) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1))
    (f : arg7.view.ty.Contents (Elt Ideal)) : arg7.view.read (Elt Ideal) (arg7.view.writes (Elt Ideal) f (kernelRun0_B c i arg4 harg4 arg5 harg5 arg6 harg6 arg7 harg7 T0 T1 x0 x1 x2 xa0 xa1 hc0 k0_h2 k0_h3).1) = (k0_pay3 x0 xa0 xa1) := by
  dsimp only [kernelRun0_B]
  unfold kernelRun0_B.sl.HO3_1
  refine (read_store _ _ (by decide) _ _).trans ?_
  exact congr3 (View.readAt_rep_full _ _ _) (Memref.readAt_unit_zero _ cc0_scratch0 (by decide) _ _) (Memref.readAt_unit_zero _ cc0_scratch1 (by decide) _ _)

theorem sc0_B (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Ideal .i32)) (T1 : (S1.Idx → Elt Ideal .i32)) (x0 : (S1280x2048.Idx → Elt Ideal .bf16)) (x1 : (S1x1x2048x512.Idx → Elt Ideal .f32)) (x2 : (S1x1x2048x512.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S13) (k0_off1 i) S1.size (k0_off1_inb i)).toLoadRect T0 (Shape.Idx.first (numel1_S1.symm ▸ Nat.one_pos))) (View.readAt (Elt Ideal) (tbM0_0).view (Rect.unit (s := S13) (k0_off2 i) S1.size (k0_off2_inb i)).toLoadRect T0 (Shape.Idx.first (numel1_S1.symm ▸ Nat.one_pos)))))) 0#32) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 arg7 harg7 T0 T1 x0 x1 x2 xa0 xa1 hc0 k0_h2 k0_h3).2.1 = xa0 := by
  dsimp only [kernelRun0_B]

theorem sc1_B (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Ideal .i32)) (T1 : (S1.Idx → Elt Ideal .i32)) (x0 : (S1280x2048.Idx → Elt Ideal .bf16)) (x1 : (S1x1x2048x512.Idx → Elt Ideal .f32)) (x2 : (S1x1x2048x512.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S13) (k0_off1 i) S1.size (k0_off1_inb i)).toLoadRect T0 (Shape.Idx.first (numel1_S1.symm ▸ Nat.one_pos))) (View.readAt (Elt Ideal) (tbM0_0).view (Rect.unit (s := S13) (k0_off2 i) S1.size (k0_off2_inb i)).toLoadRect T0 (Shape.Idx.first (numel1_S1.symm ▸ Nat.one_pos)))))) 0#32) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 arg7 harg7 T0 T1 x0 x1 x2 xa0 xa1 hc0 k0_h2 k0_h3).2.2.1 = xa1 := by
  dsimp only [kernelRun0_B]

end Cert.Kernel6Ideal.Moe
end
-- ==== Proof.Moe6I.lean ====
module

public import proofs.«01_k».proof.Proof.Moe6IRun
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section
set_option maxRecDepth 16384
set_option Elab.async false
noncomputable section
namespace Cert.Kernel6Ideal.Moe
open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (v : Tab) (m : (ℓ : Loc nD τ sig) → Buf (Elt Ideal) ℓ) (ρ : Dev nD → PrngReg)

abbrev ms0_0 (t : Fin (cfgA v).N) : Memref sig .tc .vmem S1280x2048 .bf16 := spec0_0.stage ((cfgA v).slots t (0 : Fin 4))
abbrev hs0_0 (t : Fin (cfgA v).N) : (ms0_0 v t).IsWhole := hstage0_0 (((cfgA v).slots t (0 : Fin 4)).cast nbuf0_0)
abbrev ms0_1 (t : Fin (cfgA v).N) : Memref sig .tc .vmem S1x1x2048x512 .f32 := spec0_1.stage ((cfgA v).slots t (1 : Fin 4))
abbrev hs0_1 (t : Fin (cfgA v).N) : (ms0_1 v t).IsWhole := hstage0_1 (((cfgA v).slots t (1 : Fin 4)).cast nbuf0_1)
abbrev ms0_2 (t : Fin (cfgA v).N) : Memref sig .tc .vmem S1x1x2048x512 .f32 := spec0_2.stage ((cfgA v).slots t (2 : Fin 4))
abbrev hs0_2 (t : Fin (cfgA v).N) : (ms0_2 v t).IsWhole := hstage0_2 (((cfgA v).slots t (2 : Fin 4)).cast nbuf0_2)
abbrev ms0_3 (t : Fin (cfgA v).N) : Memref sig .tc .vmem S1280x512 .bf16 := spec0_3.stage ((cfgA v).slots t (3 : Fin 4))
abbrev hs0_3 (t : Fin (cfgA v).N) : (ms0_3 v t).IsWhole := hstage0_3 (((cfgA v).slots t (3 : Fin 4)).cast nbuf0_3)

/-- A window's block at a point, read off its array at launch. -/
def iblk (c : Dev nD) (w : Fin (cfgA v).W) (t : Fin (cfgA v).N) : (((cfgA v).win w).xblock (crd v t)).Idx → Elt Ideal ((cfgA v).win w).elt :=
  (((cfgA v).win w).blk t).view.read (Elt Ideal) ((s₀ m ρ).mem (((cfgA v).win w).arr.view.loc (c : Thread nD τ)))

/-- Whether the point's tile holds rows. -/
abbrev Q1 (t : Fin (cfgA v).N) : Prop := k0_cond2 (crd v t) (v.n zz) = 1#1

/-- What the point leaves in the result's block. -/
def outv (c : Dev nD) (t : Fin (cfgA v).N) : S1280x512.Idx → Elt Ideal .bf16 :=
  if Q1 v t then k0_pay3 (iblk v m ρ c (0 : Fin 4) t) (k0_pay1 (iblk v m ρ c (1 : Fin 4) t)) (k0_pay2 (iblk v m ρ c (2 : Fin 4) t)) else k0_pay4 (F := Ideal)

/-- What the launch memory holds: the tables. -/
def Pinned : Prop :=
  (∀ c : Dev nD, m ((c : Thread nD τ).loc main_arg0) = v.e)
  ∧ (∀ c : Dev nD, m ((c : Thread nD τ).loc main_arg1) = v.n)

/-- Every tile holds rows. -/
theorem q1_all (t : Fin (cfgA v).N) : Q1 v t := by
  have h : ∀ n : Fin 13, k0_cond2 (fun | 0 => (0 : Fin 11) | 1 => n) 13#32 = 1#1 := by decide +kernel
  show k0_cond2 (crd v t) (v.n zz) = 1#1
  rw [v.hn]
  exact h (crd v t 1)

/-- No point leaves the result's block idle. -/
theorem idle_false (t : Fin (cfgA v).N) : (cfgA v).idle (3 : Fin 4) ((cfgA v).grid.coords t) = false := by
  have h : ∀ (i : grid0.Coords) (w : BitVec 32), (!(k0_cond2 i w == 1#1) && !(k0_cond3 i w == 1#1)) = false := fun i w => by
    by_cases h2 : k0_cond2 i w = 1#1
    · rw [h2]; rfl
    · rw [(cond23 i w).mpr h2]; exact Bool.and_false _
  exact h _ _

/-- An element of an array's block, where the array holds it. -/
theorem crd_of (t : Fin (cfgA v).N) : ((crd v t) 1).val = t.val % 13 ∧ ((crd v t) 0).val = t.val / 13 := crd_all t

/-- The words that steer the weights agree with the point before, where no new expert starts. -/
theorem prev_of (t : Fin (cfgA v).N) (h : ¬ Q0 (crd v t) (v.e (cur (crd v t))) (v.e (prv (crd v t)))) :
    t.val ≠ 0 ∧ ∀ s : Fin (cfgA v).N, s.val + 1 = t.val → ((crd v s) 0).val = ((crd v t) 0).val ∧ v.e (cur (crd v s)) = v.e (cur (crd v t)) := by
  obtain ⟨h1, h2⟩ := not_Q0 h
  have ht := crd_of v t
  refine ⟨fun h0 => h1 (by rw [ht.1, h0]), fun s hs => ?_⟩
  have hs' := crd_of v s
  rw [ht.1] at h1
  refine ⟨by rw [ht.2, hs'.2]; omega, ?_⟩
  rw [h2]
  congr 1
  funext a
  apply Fin.ext
  show ((crd v s) 1).val = ((crd v t) 1).val - 1
  rw [ht.1, hs'.1]; omega

/-- Equal steering words, equal weights. -/
theorem same1 (c : Dev nD) (s t : Fin (cfgA v).N) (h0 : ((crd v s) 0).val = ((crd v t) 0).val) (he : v.e (cur (crd v s)) = v.e (cur (crd v t))) :
    iblk v m ρ c (1 : Fin 4) s = iblk v m ρ c (1 : Fin 4) t := by
  have e : cc0_transform_1 k0_off1_inb numel1_S1 (pf v) (crd v s) = cc0_transform_1 k0_off1_inb numel1_S1 (pf v) (crd v t) := by
    rw [tr1, tr1, h0, he]
  funext y
  show m ((c : Thread nD τ).loc main_arg3) ((((cfgA v).win (1 : Fin 4)).rect s).emb y) = m ((c : Thread nD τ).loc main_arg3) ((((cfgA v).win (1 : Fin 4)).rect t).emb y)
  refine congrArg _ (funext fun a => Fin.ext ?_)
  show cc0_transform_1 k0_off1_inb numel1_S1 (pf v) (crd v s) a * S1x1x2048x512.size a + 1 * (y a).val = cc0_transform_1 k0_off1_inb numel1_S1 (pf v) (crd v t) a * S1x1x2048x512.size a + 1 * (y a).val
  rw [e]

/-- Equal steering words, equal weights. -/
theorem same2 (c : Dev nD) (s t : Fin (cfgA v).N) (h0 : ((crd v s) 0).val = ((crd v t) 0).val) (he : v.e (cur (crd v s)) = v.e (cur (crd v t))) :
    iblk v m ρ c (2 : Fin 4) s = iblk v m ρ c (2 : Fin 4) t := by
  have e : cc0_transform_2 k0_off1_inb numel1_S1 (pf v) (crd v s) = cc0_transform_2 k0_off1_inb numel1_S1 (pf v) (crd v t) := by
    rw [tr2, tr2, h0, he]
  funext y
  show m ((c : Thread nD τ).loc main_arg4) ((((cfgA v).win (2 : Fin 4)).rect s).emb y) = m ((c : Thread nD τ).loc main_arg4) ((((cfgA v).win (2 : Fin 4)).rect t).emb y)
  refine congrArg _ (funext fun a => Fin.ext ?_)
  show cc0_transform_2 k0_off1_inb numel1_S1 (pf v) (crd v s) a * S1x1x2048x512.size a + 1 * (y a).val = cc0_transform_2 k0_off1_inb numel1_S1 (pf v) (crd v t) a * S1x1x2048x512.size a + 1 * (y a).val
  rw [e]

/-- Before a point: each scratch holds the weights the point before used, and the tables are held. -/
def Phi (c : Dev nD) (t : Fin ((cfgA v).N + 1)) : sProp 𝕄 :=
  iprop((∃ a, ⌜∀ s : Fin (cfgA v).N, s.val + 1 = t.val → a = k0_pay1 (iblk v m ρ c (1 : Fin 4) s)⌝ ∗ (scM0_0.view.loc (c : Thread nD τ) ↦{fullShare} a)) ∗ (∃ a, ⌜∀ s : Fin (cfgA v).N, s.val + 1 = t.val → a = k0_pay2 (iblk v m ρ c (2 : Fin 4) s)⌝ ∗ (scM0_1.view.loc (c : Thread nD τ) ↦{fullShare} a)) ∗ (tbM0_0.view.loc (c : Thread nD τ) ↦{fullShare.right} v.e) ∗ (tbM0_1.view.loc (c : Thread nD τ) ↦{fullShare.right} v.n))

/-- The proof data of the pipeline. -/
def dats (_ : Fin 1) (c : Dev nD) : Dat τ (Elt Ideal) Unit ℕ (UR sig nD τ) ℕ (cfgA v) c where
  A w := (s₀ m ρ).mem (((cfgA v).win w).arr.view.loc (c : Thread nD τ))
  after w t := match w with
    | ⟨0, _⟩ => iblk v m ρ c (0 : Fin 4) t
    | ⟨1, _⟩ => iblk v m ρ c (1 : Fin 4) t
    | ⟨2, _⟩ => iblk v m ρ c (2 : Fin 4) t
    | ⟨3, _⟩ => outv v m ρ c t
  Φ t := Phi v m ρ c t
  q _ := fullShare
  owed _ := 0

theorem after0_0 (c : Dev nD) (t : Fin (cfgA v).N) : (dats v m ρ 0 c).after (0 : Fin 4) t = iblk v m ρ c (0 : Fin 4) t := rfl
theorem after0_1 (c : Dev nD) (t : Fin (cfgA v).N) : (dats v m ρ 0 c).after (1 : Fin 4) t = iblk v m ρ c (1 : Fin 4) t := rfl
theorem after0_2 (c : Dev nD) (t : Fin (cfgA v).N) : (dats v m ρ 0 c).after (2 : Fin 4) t = iblk v m ρ c (2 : Fin 4) t := rfl
theorem after0_3 (c : Dev nD) (t : Fin (cfgA v).N) : (dats v m ρ 0 c).after (3 : Fin 4) t = outv v m ρ c t := rfl

theorem before0_0 (c : Dev nD) (t : Fin (cfgA v).N) (d) : (dats v m ρ 0 c).before (0 : Fin 4) t d = iblk v m ρ c (0 : Fin 4) t :=
  ((dats v m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA v).N) (d) : (dats v m ρ 0 c).before (1 : Fin 4) t d = iblk v m ρ c (1 : Fin 4) t :=
  ((dats v m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA v).N) (d) : (dats v m ρ 0 c).before (2 : Fin 4) t d = iblk v m ρ c (2 : Fin 4) t :=
  ((dats v m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The body at a point on its staging buffers. -/
abbrev bodyAt0 (t : Fin (cfgA v).N) : Prog (TpuEff nD τ sig (Elt Ideal) Λ₀ .tc) PUnit :=
  cc0_gateup (crd v t) (Memref.whole main_arg0) (Memref.isWhole_whole _) (Memref.whole main_arg1) (Memref.isWhole_whole _) (ms0_0 v t) (hs0_0 v t) (ms0_1 v t) (hs0_1 v t) (ms0_2 v t) (hs0_2 v t) (ms0_3 v t) (hs0_3 v t) (Memref.whole cc0_scratch0) (Memref.isWhole_whole _) (Memref.whole cc0_scratch1) (Memref.isWhole_whole _)

set_option maxHeartbeats 4000000 in
/-- The body's obligation at a point, by its path. -/
theorem sound_body (c : Dev nD) (t : Fin (cfgA v).N) :
    iprop((dats v m ρ 0 c).Φ t.castSucc ∗ (dats v m ρ 0 c).owesAt () t.castSucc
        ∗ (∃ d, owns (c : Thread nD τ) (ms0_0 v t) fullShare ((dats v m ρ 0 c).before (0 : Fin 4) t d))
        ∗ (∃ d, owns (c : Thread nD τ) (ms0_1 v t) fullShare ((dats v m ρ 0 c).before (1 : Fin 4) t d))
        ∗ (∃ d, owns (c : Thread nD τ) (ms0_2 v t) fullShare ((dats v m ρ 0 c).before (2 : Fin 4) t d))
        ∗ (∃ d, owns (c : Thread nD τ) (ms0_3 v t) fullShare ((dats v m ρ 0 c).before (3 : Fin 4) t d)))
      ⊢ wp frame (wpE (defs₀ (F := Ideal)) Variants.none c none) Set.univ (bodyAt0 v t) fun _ =>
          iprop((dats v m ρ 0 c).Φ t.succ ∗ (dats v m ρ 0 c).owesAt () t.succ
            ∗ bigSep Finset.univ fun w : Fin (cfgA v).W =>
                match (cfgA v).idle w ((cfgA v).grid.coords t) with
                | true =>
                  match ((cfgA v).win w).flush t with
                  | false => iprop(∃ d, owns (c : Thread nD τ) (((cfgA v).win w).stage ((cfgA v).slots t w)) fullShare ((dats v m ρ 0 c).before w t d))
                  | true => owns (c : Thread nD τ) (((cfgA v).win w).stage ((cfgA v).slots t w)) fullShare ((dats v m ρ 0 c).after w t)
                | false => owns (c : Thread nD τ) (((cfgA v).win w).stage ((cfgA v).slots t w)) fullShare ((dats v m ρ 0 c).after w t)) := by
  rw [bigSep_W0]
  have i3 := idle_false v t
  rewrite [i3]
  simp only [before0_0, before0_1, before0_2, after0_0, after0_1, after0_2, after0_3]
  rewrite [show (dats v m ρ 0 c).Φ t.succ = Phi v m ρ c t.succ from rfl, show (dats v m ρ 0 c).Φ t.castSucc = Phi v m ρ c t.castSucc from rfl,
    show (dats v m ρ 0 c).owesAt () t.succ = (dats v m ρ 0 c).owesAt () t.castSucc from rfl]
  unfold Phi
  simp only [Fin.val_castSucc, Fin.val_succ]
  by_cases q0 : Q0 (crd v t) (v.e (cur (crd v t))) (v.e (prv (crd v t)))
  · by_cases q1 : Q1 v t
    · have hc0 : (Q0 (crd v t) (View.readAt (Elt Ideal) (tbM0_0).view (Rect.unit (s := S13) (k0_off1 (crd v t)) S1.size (k0_off1_inb (crd v t))).toLoadRect v.e (Shape.Idx.first (numel1_S1.symm ▸ Nat.one_pos))) (View.readAt (Elt Ideal) (tbM0_0).view (Rect.unit (s := S13) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact sc0_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HS1]
        · iexists _; isplitr; swap
          · iexact HS1
          · ipureintro; intro s hs; rw [show s = t from Fin.ext (Nat.succ.inj hs)]
            exact sc1_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3 e3).trans ?_
        rw [outv, if_pos q1]
    · exact absurd (q1_all v t) q1
  · obtain ⟨ht0, hpv⟩ := prev_of v t q0
    have hlt := t.isLt
    have hk0 : ∀ a : Buf (Elt Ideal) ((c : Thread nD τ).loc cc0_scratch0), (∀ s : Fin (cfgA v).N, s.val + 1 = t.val → a = k0_pay1 (iblk v m ρ c (1 : Fin 4) s)) → a = k0_pay1 (iblk v m ρ c (1 : Fin 4) t) := fun a ha => by
      have hs : (⟨t.val - 1, by omega⟩ : Fin (cfgA v).N).val + 1 = t.val := Nat.succ_pred ht0
      rw [ha _ hs, same1 v m ρ c _ t (hpv _ hs).1 (hpv _ hs).2]
    have hk1 : ∀ a : Buf (Elt Ideal) ((c : Thread nD τ).loc cc0_scratch1), (∀ s : Fin (cfgA v).N, s.val + 1 = t.val → a = k0_pay2 (iblk v m ρ c (2 : Fin 4) s)) → a = k0_pay2 (iblk v m ρ c (2 : Fin 4) t) := fun a ha => by
      have hs : (⟨t.val - 1, by omega⟩ : Fin (cfgA v).N).val + 1 = t.val := Nat.succ_pred ht0
      rw [ha _ hs, same2 v m ρ c _ t (hpv _ hs).1 (hpv _ hs).2]
    by_cases q1 : Q1 v t
    · have hc0 : ¬ (Q0 (crd v t) (View.readAt (Elt Ideal) (tbM0_0).view (Rect.unit (s := S13) (k0_off1 (crd v t)) S1.size (k0_off1_inb (crd v t))).toLoadRect v.e (Shape.Idx.first (numel1_S1.symm ▸ Nat.one_pos))) (View.readAt (Elt Ideal) (tbM0_0).view (Rect.unit (s := S13) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact (sc0_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk0 a0 ha0)
        isplitl [HS1]
        · iexists _; isplitr; swap
          · iexact HS1
          · ipureintro; intro s hs; rw [show s = t from Fin.ext (Nat.succ.inj hs)]
            exact (sc1_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk1 a1 ha1)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3 e3).trans ?_
        rw [outv, if_pos q1, hk0 a0 ha0, hk1 a1 ha1]
    · exact absurd (q1_all v t) q1

theorem body_obligation (c : Dev nD) : BodyObligation (dats v m ρ 0 c) (defs₀ (F := Ideal)) Variants.none () Set.univ := fun t => by
  rw [bigSep_W0]
  exact sound_body v m ρ c t

/-- The launch's resources. -/
def u₀ : UR sig nD τ :=
  initOf (Pipeline.cells (pcs v) ((launch0 (F := Ideal)).cellOf_inj fun _ => adm v))
    (Pipeline.launchToks (pcs v) ((launch0 (F := Ideal)).cellOf_inj fun _ => adm v))

theorem share_eq (c : Dev nD) (w : Fin (cfgA v).W) : (dats v m ρ 0 c).share w = fullShare := by unfold Dat.share; split <;> rfl

/-- The two tables, one by one. -/
theorem prefHeld_eq (c : Dev nD) (q : Fin 2 → PosShare TreeShare) (u : pre0.Contents (Elt Ideal)) :
    (Pipeline.prefHeld (Ix := Unit) (Name := ℕ) (U := UR sig nD τ) (Lvl := ℕ) pre0 c q u : sProp 𝕄)
      = iprop((((c : Thread nD τ).loc main_arg0) ↦{q 0} u 0) ∗ (((c : Thread nD τ).loc main_arg1) ↦{q 1} u 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm v).1 ∗ Pipeline.scopedRest spec0 c) ⊢ (dats v m ρ 0 c).Φ 0 := by
  rw [prefHeld_eq, scopedRest0_eq, show (dats v m ρ 0 c).Φ 0 = Phi v m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s h; exact absurd h (Nat.succ_ne_zero _)
  isplitl [HS1]
  · iexists a1; isplitr; swap
    · iexact HS1
    · ipureintro; intro s h; exact absurd h (Nat.succ_ne_zero _)
  isplitl [HT0]
  · iexact HT0
  iexact HT1

theorem phiN_exit (c : Dev nD) : (dats v m ρ 0 c).Φ (Fin.last (cfgA v).N) ⊢ iprop(BI.emp ∗ Pipeline.scopedRest spec0 c) := by
  rw [scopedRest0_eq, show (dats v m ρ 0 c).Φ (Fin.last (cfgA v).N) = Phi v m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What a run ends with: every array as the library computes it, the tables as they were. -/
def QC : PUnit × MemSt nD τ sig (Elt Ideal) → Prop := fun r =>
  ∀ c : Dev nD, (∀ w : Fin (cfgA v).W, r.2.mem (((cfgA v).win w).arr.view.loc (c : Thread nD τ)) = (dats v m ρ 0 c).arrAt w (cfgA v).N)
    ∧ ∀ j, r.2.mem ((c : Thread nD τ).loc (pre0.ref j)) = (adm v).1 j

theorem V_pre (hp : Pinned v m) (c : Dev nD) (j : Fin 2) : m ((c : Thread nD τ).loc (pre0.ref j)) = (adm v).1 j := by
  fin_cases j
  · exact hp.1 c
  · exact hp.2 c

set_option backward.isDefEq.respectTransparency.types false in
set_option maxHeartbeats 4000000 in
/-- From a memory that holds such tables every run ends, each array as computed, each counter at zero. -/
theorem run_main_quiescent (hp : Pinned v m) : θ_run (defs (F := Ideal)) (onTc (τ := τ) (main (F := Ideal))) (s₀ m ρ) (fun r => QC v m ρ r ∧ r.2.sem = fun _ => 0) :=
  Pipeline.θ_run_region_noSem_pf_quiescent pcfgs (fun _ => adm v) (dats v m ρ) () ((launch0 (F := Ideal)).cellOf_inj fun _ => adm v) (0 : Fin 1)
    (launch0 (F := Ideal)).win.to₀ (launch0 (F := Ideal)).pre EPm defs₀ Variants.none m ρ main
    (hbody := fun c => (body_obligation v m ρ c).loose) (hne := (launch0 (F := Ideal)).block_pos)
    (harr := (launch0 (F := Ideal)).arr_whole) (hstage := (launch0 (F := Ideal)).stage_whole) (howed := fun _ _ => rfl)
    (u₀ := u₀ v) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs v) (dats v m ρ) 0 (launch0 (F := Ideal)).win.arr_inj c (launch0 (F := Ideal)).arr_whole
      (share_eq v m ρ c) _ _ fun _ => rfl)
    (hpf := V_pre v m hp)
    (X := fun _ => iprop(emp)) (Y := fun _ => iprop(emp)) (Z := fun _ => iprop(emp))
    (hX := fun c => by rw [unscopedRestP0_eq]; iintro -; isplitr <;> iempintro)
    (hin := phi0_intro v m ρ)
    (hout := phiN_exit v m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned v m) : θ_run (defs (F := Ideal)) (onTc (τ := τ) (main (F := Ideal))) (s₀ m ρ) (QC v m ρ) :=
  (θ_run defs _ _).mono (fun _ h => h.1) (run_main_quiescent v m ρ hp)

theorem kept (hp : Pinned v m) (r : PUnit × MemSt nD τ sig (Elt Ideal)) (h : QC v m ρ r) (c : Dev nD) :
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  ⟨((h c).2 0).trans (hp.1 c).symm, ((h c).2 1).trans (hp.2 c).symm, ((h c).1 (0 : Fin 4)).trans ((dats v m ρ 0 c).arrAt_in (0 : Fin 4) rfl _), ((h c).1 (1 : Fin 4)).trans ((dats v m ρ 0 c).arrAt_in (1 : Fin 4) rfl _), ((h c).1 (2 : Fin 4)).trans ((dats v m ρ 0 c).arrAt_in (2 : Fin 4) rfl _)⟩

/-- The arguments end unchanged and every counter at zero. -/
theorem frame (hp : Pinned v m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun r h => ⟨fun c => kept v m ρ hp r h.1 c, h.2⟩) (run_main_quiescent v m ρ hp)

end Cert.Kernel6Ideal.Moe
end
-- ==== Proof.Moe6Ref.lean ====
/- The reference's side of the dense layer's gated projection, as plain sums. -/
module

public import proofs.«01_k».proof.Proof.Gen.Reference6Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference6Ideal.Moe

open Cert.Reference6Ideal Cert.Reference6Ideal.Gen Cert.Reference6Ideal.Value

/-- The gated product of two numbers. -/
def glu (a b : EReal) : EReal := a * Ideal.div 1 (1 + Ideal.exp (-a)) * b

/-- A matrix product at an index. -/
theorem dot_at (A : FVec Ideal S16640x2048 .bf16) (W : FVec Ideal S1x1x2048x5632 .f32) (r : Fin 16640) (j : Fin 5632) :
    Host.dotGeneral (F := Ideal) dot_S16640x2048_S2048x5632_S16640x5632_1_0_0_1_n_n none (extf .f32 A bitsLt_bf16_f32) (shapeCast _ W shapeCasts_S1x1x2048x5632_S2048x5632) (ix2 r j) = ∑ k : Fin 2048, A (ix2 r k) * W (ix4 0 0 k j) := by
  pointwise

/-- The gate: a product with its logistic, times the second product. -/
def gate (A B : FVec Ideal S16640x5632 .f32) : FVec Ideal S16640x5632 .bf16 :=
  truncf .bf16 (mulf (mulf A (Host.divf (broadcastInDim S16640x5632 ![] bcast_S_S16640x5632 (constant S_ .f32 0x3F800000#32)) (addf (broadcastInDim S16640x5632 ![] bcast_S_S16640x5632 (constant S_ .f32 0x3F800000#32)) (Host.exp (Host.negf A))))) B) bitsLt_bf16_f32

theorem gate_at (A B : FVec Ideal S16640x5632 .f32) (r : Fin 16640) (j : Fin 5632) : gate A B (ix2 r j) = glu (A (ix2 r j)) (B (ix2 r j)) := by
  unfold glu
  pointwise [gate]

/-- The result at a row and column. -/
def out (x : FVec Ideal S16640x2048 .bf16) (U W : FVec Ideal S1x1x2048x5632 .f32) (r : Fin 16640) (j : Fin 5632) : EReal :=
  glu (∑ k : Fin 2048, x (ix2 r k) * U (ix4 0 0 k j)) (∑ k : Fin 2048, x (ix2 r k) * W (ix4 0 0 k j))

/-- What the program computes. -/
def chain (x : FVec Ideal S16640x2048 .bf16) (U W : FVec Ideal S1x1x2048x5632 .f32) : FVec Ideal S16640x5632 .bf16 :=
  gate (Host.dotGeneral (F := Ideal) dot_S16640x2048_S2048x5632_S16640x5632_1_0_0_1_n_n none (extf .f32 x bitsLt_bf16_f32) (shapeCast _ U shapeCasts_S1x1x2048x5632_S2048x5632))
    (Host.dotGeneral (F := Ideal) dot_S16640x2048_S2048x5632_S16640x5632_1_0_0_1_n_n none (extf .f32 x bitsLt_bf16_f32) (shapeCast _ W shapeCasts_S1x1x2048x5632_S2048x5632))

theorem chain_at (x : FVec Ideal S16640x2048 .bf16) (U W : FVec Ideal S1x1x2048x5632 .f32) (r : Fin 16640) (j : Fin 5632) : chain x U W (ix2 r j) = out x U W r j := by
  unfold chain out
  rw [gate_at, dot_at, dot_at]

end Cert.Reference6Ideal.Moe

end
-- ==== Proof.Moe6Val.lean ====
/- The final array of the dense layer's gated projection. -/
module

public import proofs.«01_k».proof.Proof.Moe6I
public import proofs.«01_k».proof.Proof.Moe6Ref
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel6Ideal.Moe

open Cert.Kernel6Ideal Cert.Kernel6Ideal.Gen

variable (v : Tab) (m : (ℓ : Loc nD τ sig) → Buf (Elt Ideal) ℓ) (ρ : Dev nD → PrngReg)

/-- The point's tile holds rows exactly where its number is below the table's count. -/
theorem cond2_iff (i : grid0.Coords) (w : BitVec 32) : k0_cond2 i w = 1#1 ↔ (BitVec.ofNat 32 (i 1).val).slt w = true := by
  have h : k0_cond2 i w = Scalar.cmpi .ne (Scalar.extui (BitVec.ofBool ((BitVec.ofNat 32 (i 1).val).slt w)) : BitVec 32) 0#32 := rfl
  rw [h]
  cases (BitVec.ofNat 32 (i 1).val).slt w <;> decide

/-- A tile that holds rows is read at its own number. -/
theorem min_of (t : Fin (cfgA v).N) (q : Q1 v t) : min (crd v t 1).val ((v.n zz).toInt.toNat - 1) = (crd v t 1).val := by
  have h := (cond2_iff (crd v t) (v.n zz)).mp q
  have hl : (crd v t 1).val < 13 := (crd v t 1).isLt
  rw [BitVec.slt_iff_toInt_lt] at h
  have e : (BitVec.ofNat 32 (crd v t 1).val).toInt = ((crd v t 1).val : ℤ) := by
    have hm : (crd v t 1).val % 2 ^ 32 = (crd v t 1).val := Nat.mod_eq_of_lt (lt_trans hl (by decide))
    rw [BitVec.toInt_eq_toNat_cond, BitVec.toNat_ofNat, hm, if_pos (by omega)]
  rw [e] at h
  omega

/-- Two numbers over two axes agree where both do. -/
theorem at2 (f g : Fin 2 → ℕ) (h0 : f 0 = g 0) (h1 : f 1 = g 1) (a : Fin 2) : f a = g a := by
  revert a; rw [Fin.forall_fin_two]; exact ⟨h0, h1⟩

theorem at4 (f g : Fin 4 → ℕ) (h0 : f 0 = g 0) (h1 : f 1 = g 1) (h2 : f 2 = g 2) (h3 : f 3 = g 3) (a : Fin 4) : f a = g a := by
  fin_cases a
  exacts [h0, h1, h2, h3]

/-- A row of the point's tile of rows. -/
theorem x_at (c : Dev nD) (t : Fin (cfgA v).N) (q : Q1 v t) (r : Fin 1280) (k : Fin 2048) (R : Fin 16640) (hR : R.val = (crd v t 1).val * 1280 + r.val) :
    iblk v m ρ c (0 : Fin 4) t (ix2 r k) = m ((c : Thread nD τ).loc main_arg2) (ix2 R k) := by
  show m ((c : Thread nD τ).loc main_arg2) ((((cfgA v).win (0 : Fin 4)).rect t).emb (ix2 r k)) = _
  refine congrArg _ (funext fun a => Fin.ext ?_)
  show cc0_transform_0 inb_S1_S1_0 numel1_S1 (pf v) (crd v t) a * S1280x2048.size a + 1 * ((ix2 r k : S1280x2048.Idx) a).val = ((ix2 R k : S16640x2048.Idx) a).val
  rw [tr0, min_of v t q]
  refine at2 (fun a => (![(crd v t 1).val, 0] : Fin 2 → ℕ) a * S1280x2048.size a + 1 * ((ix2 r k : S1280x2048.Idx) a).val) (fun a => ((ix2 R k : S16640x2048.Idx) a).val) ?_ ?_ a
  · show (crd v t 1).val * 1280 + 1 * r.val = R.val
    omega
  · show 0 * 2048 + 1 * k.val = k.val
    omega

/-- An element of the point's weights. -/
theorem w1_at (c : Dev nD) (t : Fin (cfgA v).N) (k : Fin 2048) (l : Fin 512) (J : Fin 5632) (hJ : J.val = (crd v t 0).val * 512 + l.val) :
    iblk v m ρ c (1 : Fin 4) t (ix4 0 0 k l) = m ((c : Thread nD τ).loc main_arg3) (ix4 0 0 k J) := by
  show m ((c : Thread nD τ).loc main_arg3) ((((cfgA v).win (1 : Fin 4)).rect t).emb (ix4 0 0 k l)) = _
  refine congrArg _ (funext fun a => Fin.ext ?_)
  show cc0_transform_1 k0_off1_inb numel1_S1 (pf v) (crd v t) a * S1x1x2048x512.size a + 1 * ((ix4 0 0 k l : S1x1x2048x512.Idx) a).val = ((ix4 0 0 k J : S1x1x2048x5632.Idx) a).val
  rw [tr1]
  refine at4 (fun a => (![0, (v.e (cur (crd v t))).toNat, 0, (crd v t 0).val] : Fin 4 → ℕ) a * S1x1x2048x512.size a + 1 * ((ix4 0 0 k l : S1x1x2048x512.Idx) a).val)
    (fun a => ((ix4 0 0 k J : S1x1x2048x5632.Idx) a).val) ?_ ?_ ?_ ?_ a
  · show 0 * 1 + 1 * 0 = 0
    rfl
  · show (v.e (cur (crd v t))).toNat * 1 + 1 * 0 = 0
    have := v.he (cur (crd v t))
    omega
  · show 0 * 2048 + 1 * k.val = k.val
    omega
  · show (crd v t 0).val * 512 + 1 * l.val = J.val
    omega

/-- An element of the point's weights. -/
theorem w2_at (c : Dev nD) (t : Fin (cfgA v).N) (k : Fin 2048) (l : Fin 512) (J : Fin 5632) (hJ : J.val = (crd v t 0).val * 512 + l.val) :
    iblk v m ρ c (2 : Fin 4) t (ix4 0 0 k l) = m ((c : Thread nD τ).loc main_arg4) (ix4 0 0 k J) := by
  show m ((c : Thread nD τ).loc main_arg4) ((((cfgA v).win (2 : Fin 4)).rect t).emb (ix4 0 0 k l)) = _
  refine congrArg _ (funext fun a => Fin.ext ?_)
  show cc0_transform_2 k0_off1_inb numel1_S1 (pf v) (crd v t) a * S1x1x2048x512.size a + 1 * ((ix4 0 0 k l : S1x1x2048x512.Idx) a).val = ((ix4 0 0 k J : S1x1x2048x5632.Idx) a).val
  rw [tr2]
  refine at4 (fun a => (![0, (v.e (cur (crd v t))).toNat, 0, (crd v t 0).val] : Fin 4 → ℕ) a * S1x1x2048x512.size a + 1 * ((ix4 0 0 k l : S1x1x2048x512.Idx) a).val)
    (fun a => ((ix4 0 0 k J : S1x1x2048x5632.Idx) a).val) ?_ ?_ ?_ ?_ a
  · show 0 * 1 + 1 * 0 = 0
    rfl
  · show (v.e (cur (crd v t))).toNat * 1 + 1 * 0 = 0
    have := v.he (cur (crd v t))
    omega
  · show 0 * 2048 + 1 * k.val = k.val
    omega
  · show (crd v t 0).val * 512 + 1 * l.val = J.val
    omega

/-- A product at an index. -/
theorem mat_at (X : FVec Ideal S1280x2048 .bf16) (W : FVec Ideal S2048x512 .bf16) (r : Fin 1280) (l : Fin 512) :
    matmul (F := Ideal) dot_S1280x2048_S2048x512_S1280x512_1_0_0_1_n_n none X W (constant S1280x512 .f32 0x00000000#32) (ix2 r l) = ∑ k : Fin 2048, X (ix2 r k) * W (ix2 k l) := by
  pointwise

theorem pay1_at (W : FVec Ideal S1x1x2048x512 .f32) (k : Fin 2048) (l : Fin 512) : k0_pay1 (F := Ideal) W (ix2 k l) = W (ix4 0 0 k l) := by
  pointwise [k0_pay1]

theorem pay2_at (W : FVec Ideal S1x1x2048x512 .f32) (k : Fin 2048) (l : Fin 512) : k0_pay2 (F := Ideal) W (ix2 k l) = W (ix4 0 0 k l) := by
  pointwise [k0_pay2]

/-- The gate at an index. -/
theorem gate_at (A B : FVec Ideal S1280x512 .f32) (i : S1280x512.Idx) :
    (truncf .bf16 (mulf (mulf A (logistic A)) B) bitsLt_bf16_f32 : FVec Ideal S1280x512 .bf16) i = Cert.Reference6Ideal.Moe.glu (A i) (B i) := by
  pointwise [Cert.Reference6Ideal.Moe.glu]
  rfl

/-- The point's gated product at an index. -/
theorem pay_at (X : FVec Ideal S1280x2048 .bf16) (U W : FVec Ideal S1x1x2048x512 .f32) (r : Fin 1280) (l : Fin 512) :
    k0_pay3 (F := Ideal) X (k0_pay1 (F := Ideal) U) (k0_pay2 (F := Ideal) W) (ix2 r l) = Cert.Reference6Ideal.Moe.glu (∑ k : Fin 2048, X (ix2 r k) * U (ix4 0 0 k l)) (∑ k : Fin 2048, X (ix2 r k) * W (ix4 0 0 k l)) := by
  refine (gate_at _ _ _).trans ?_
  rw [mat_at, mat_at]
  simp only [pay1_at, pay2_at]

/-- What a point leaves, at an index of its block. -/
theorem out_point (c : Dev nD) (t : Fin (cfgA v).N) (r : Fin 1280) (l : Fin 512) (R : Fin 16640) (J : Fin 5632) (hR : R.val = (crd v t 1).val * 1280 + r.val)
    (hJ : J.val = (crd v t 0).val * 512 + l.val) :
    outv v m ρ c t (ix2 r l) = Cert.Reference6Ideal.Moe.out (m ((c : Thread nD τ).loc main_arg2)) (m ((c : Thread nD τ).loc main_arg3)) (m ((c : Thread nD τ).loc main_arg4)) R J := by
  have q := q1_all v t
  unfold outv Cert.Reference6Ideal.Moe.out
  rw [if_pos q]
  refine (pay_at _ _ _ r l).trans ?_
  have sm : ∀ (f g : Fin 2048 → EReal), (∀ k, f k = g k) → ∑ k, f k = ∑ k, g k := fun f g h => Finset.sum_congr rfl fun k _ => h k
  refine congrArg₂ Cert.Reference6Ideal.Moe.glu (sm _ _ fun k => ?_) (sm _ _ fun k => ?_)
  · rw [x_at v m ρ c t q r k R hR, w1_at v m ρ c t k l J hJ]
  · rw [x_at v m ρ c t q r k R hR, w2_at v m ρ c t k l J hJ]

/-- Every point writes its block back. -/
theorem flushed (t : Fin (cfgA v).N) : ((cfgA v).win (3 : Fin 4)).flush t = true := by
  have e : ((cfgA v).win (3 : Fin 4)).flush t = (true && (decide (t.val + 1 = (cfgA v).N) || decide (∃ h : t.val + 1 < (cfgA v).N, cc0_transform_3 (crd v ⟨t.val + 1, h⟩) ≠ cc0_transform_3 (crd v t)))) := rfl
  rw [e, Bool.true_and, Bool.or_eq_true, decide_eq_true_iff, decide_eq_true_iff]
  by_cases h : t.val + 1 = (cfgA v).N
  · exact .inl h
  · have hlt : t.val + 1 < (cfgA v).N := by have := t.isLt; omega
    refine .inr ⟨hlt, fun q => ?_⟩
    rw [tr3, tr3] at q
    have q0 : (crd v ⟨t.val + 1, hlt⟩ 1).val = (crd v t 1).val := congrFun q 0
    rw [(crd_of v _).1, (crd_of v t).1] at q0
    have q0' : (t.val + 1) % 13 = t.val % 13 := q0
    omega

/-- A block's place in the result. -/
theorem place (t : Fin (cfgA v).N) (y : S1280x512.Idx) (R : Fin 16640) (J : Fin 5632) (hR : R.val = (crd v t 1).val * 1280 + (y 0).val) (hJ : J.val = (crd v t 0).val * 512 + (y 1).val) :
    (((cfgA v).win (3 : Fin 4)).blk t).view.emb y = (ix2 R J : S16640x5632.Idx) := by
  refine funext fun a => Fin.ext ?_
  show cc0_transform_3 (crd v t) a * S1280x512.size a + 1 * (y a).val = ((ix2 R J : S16640x5632.Idx) a).val
  rw [tr3]
  refine at2 (fun a => (![(crd v t 1).val, (crd v t 0).val] : Fin 2 → ℕ) a * S1280x512.size a + 1 * (y a).val) (fun a => ((ix2 R J : S16640x5632.Idx) a).val) ?_ ?_ a
  · show (crd v t 1).val * 1280 + 1 * (y 0).val = R.val
    omega
  · show (crd v t 0).val * 512 + 1 * (y 1).val = J.val
    omega

/-- The result: every row gated. -/
theorem final (c : Dev nD) : (dats v m ρ 0 c).arrAt (3 : Fin 4) (cfgA v).N
    = fun i => Cert.Reference6Ideal.Moe.out (m ((c : Thread nD τ).loc main_arg2)) (m ((c : Thread nD τ).loc main_arg3)) (m ((c : Thread nD τ).loc main_arg4)) (i 0) (i 1) := by
  refine (dats v m ρ 0 c).arrAt_eq_of_emb (3 : Fin 4) _ (fun t hf y => ?_) fun i => ?_
  · have b1 : (crd v t 1).val < 13 := (crd v t 1).isLt
    have b0 : (crd v t 0).val < 11 := (crd v t 0).isLt
    have y0 : ((y : S1280x512.Idx) 0).val < 1280 := (y 0).isLt
    have y1 : ((y : S1280x512.Idx) 1).val < 512 := (y 1).isLt
    have pl := place v t y ⟨(crd v t 1).val * 1280 + ((y : S1280x512.Idx) 0).val, by omega⟩ ⟨(crd v t 0).val * 512 + ((y : S1280x512.Idx) 1).val, by omega⟩ rfl rfl
    show outv v m ρ c t y = _
    rw [pl]
    refine Eq.trans (congrArg _ (eq_ix2 (y : S1280x512.Idx))) ?_
    exact out_point v m ρ c t ((y : S1280x512.Idx) 0) ((y : S1280x512.Idx) 1) _ _ rfl rfl
  · have i0 : ((i : S16640x5632.Idx) 0).val < 16640 := (i 0).isLt
    have i1 : ((i : S16640x5632.Idx) 1).val < 5632 := (i 1).isLt
    have hN : (cfgA v).N = 143 := rfl
    refine ⟨⟨((i : S16640x5632.Idx) 1).val / 512 * 13 + ((i : S16640x5632.Idx) 0).val / 1280, by omega⟩, flushed v _, ?_⟩
    generalize ht : (⟨((i : S16640x5632.Idx) 1).val / 512 * 13 + ((i : S16640x5632.Idx) 0).val / 1280, by omega⟩ : Fin (cfgA v).N) = t
    have tv : t.val = ((i : S16640x5632.Idx) 1).val / 512 * 13 + ((i : S16640x5632.Idx) 0).val / 1280 := by rw [← ht]
    have c1 := (crd_of v t).1
    have c0 := (crd_of v t).2
    have pl := place v t (ix2 ⟨((i : S16640x5632.Idx) 0).val % 1280, by omega⟩ ⟨((i : S16640x5632.Idx) 1).val % 512, by omega⟩) ((i : S16640x5632.Idx) 0) ((i : S16640x5632.Idx) 1)
      (by show _ = _ + ((i : S16640x5632.Idx) 0).val % 1280; omega) (by show _ = _ + ((i : S16640x5632.Idx) 1).val % 512; omega)
    have ei : i = (ix2 ((i : S16640x5632.Idx) 0) ((i : S16640x5632.Idx) 1) : S16640x5632.Idx) := eq_ix2 (i : S16640x5632.Idx)
    rw [ei, ← pl]
    exact View.emb_mem_set _ _

end Cert.Kernel6Ideal.Moe

end
-- ==== Proof.Moe6BRun.lean ====
module

public import proofs.«01_k».proof.Proof.Moe6BTab
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.Adequacy
public import Idealize.ShloMosaic.Init

@[expose] public section
set_option maxRecDepth 16384
set_option Elab.async false
noncomputable section
namespace Cert.Kernel6.Moe
open Cert.Kernel6 Cert.Kernel6.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resources of the staging cells. -/
abbrev EPm : Emb (UR sig nD τ) 𝕄 := emb₁

/-- A store of a whole block, read back. -/
theorem read_store {sp : Space} {s : Shape} {e : EltTy} (w : View sig .tc sp s e) (f : w.ty.Contents (Elt Bits)) {off : Fin s.rank → ℕ} (h : off = fun _ => 0)
    (inb : ∀ a, off a + s.size a ≤ s.size a) (x : s.Idx → Elt Bits e) :
    w.read (Elt Bits) (w.writes (Elt Bits) f [⟨Rect.unit off s.size inb, x⟩]) = x := by
  subst h; exact View.read_writes_whole w f x

theorem congr3 {A B C D : Type} {f : A → B → C → D} {a a' : A} {b b' : B} {c c' : C} (ha : a = a') (hb : b = b') (hc : c = c') : f a b c = f a' b' c' := by subst ha hb hc; rfl
theorem congr2 {A B D : Type} {f : A → B → D} {a a' : A} {b b' : B} (ha : a = a') (hb : b = b') : f a b = f a' b' := by subst ha hb; rfl

/-- A store of a whole buffer leaves its payload. -/
theorem whole_store (b : Ref sig .tc) (f w : b.ty.Contents (Elt Bits)) {off : Fin b.ty.shape.rank → ℕ} (h : off = fun _ => 0)
    (inb : ∀ a, off a + b.ty.shape.size a ≤ b.ty.shape.size a) :
    (View.whole b).writes (Elt Bits) f [⟨Rect.unit off b.ty.shape.size inb, w⟩] = w := by
  have e := read_store (View.whole b) f h inb w
  exact (show _ = (View.whole b).read (Elt Bits) _ from rfl).trans e

theorem out_A (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Bits .i32)) (T1 : (S1.Idx → Elt Bits .i32)) (x0 : (S1280x2048.Idx → Elt Bits .bf16)) (x1 : (S1x1x2048x512.Idx → Elt Bits .f32)) (x2 : (S1x1x2048x512.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S13) (k0_off1 i) S1.size (k0_off1_inb i)).toLoadRect T0 (Shape.Idx.first (numel1_S1.symm ▸ Nat.one_pos))) (View.readAt (Elt Bits) (tbM0_0).view (Rect.unit (s := S13) (k0_off2 i) S1.size (k0_off2_inb i)).toLoadRect T0 (Shape.Idx.first (numel1_S1.symm ▸ Nat.one_pos)))))) 0#32) = 1#1) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1))
    (f : arg7.view.ty.Contents (Elt Bits)) : arg7.view.read (Elt Bits) (arg7.view.writes (Elt Bits) f (kernelRun0_A c i arg4 harg4 arg5 harg5 arg6 harg6 arg7 harg7 T0 T1 x0 x1 x2 hc0 k0_h2 k0_h3).1) = (k0_pay3 x0 (k0_pay1 x1) (k0_pay2 x2)) := by
  dsimp only [kernelRun0_A]
  unfold kernelRun0_A.sl.HO3_1
  refine (read_store _ _ (by decide) _ _).trans ?_
  unfold kernelRun0_A.sl.v20 kernelRun0_A.sl.v22
  unfold kernelRun0_A.sl.HS0_1 kernelRun0_A.sl.HS1_1
  exact congr3 (View.readAt_rep_full _ _ _) ((View.readCov_unit_zero scM0_0.view (by decide) _ _).trans (congrArg k0_pay1 (View.readAt_rep_full _ _ _))) ((View.readCov_unit_zero scM0_1.view (by decide) _ _).trans (congrArg k0_pay2 (View.readAt_rep_full _ _ _)))

theorem sc0_A (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Bits .i32)) (T1 : (S1.Idx → Elt Bits .i32)) (x0 : (S1280x2048.Idx → Elt Bits .bf16)) (x1 : (S1x1x2048x512.Idx → Elt Bits .f32)) (x2 : (S1x1x2048x512.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S13) (k0_off1 i) S1.size (k0_off1_inb i)).toLoadRect T0 (Shape.Idx.first (numel1_S1.symm ▸ Nat.one_pos))) (View.readAt (Elt Bits) (tbM0_0).view (Rect.unit (s := S13) (k0_off2 i) S1.size (k0_off2_inb i)).toLoadRect T0 (Shape.Idx.first (numel1_S1.symm ▸ Nat.one_pos)))))) 0#32) = 1#1) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 arg7 harg7 T0 T1 x0 x1 x2 hc0 k0_h2 k0_h3).2.1 = (k0_pay1 x1) := by
  dsimp only [kernelRun0_A]
  unfold kernelRun0_A.sl.HS0_1
  refine (whole_store cc0_scratch0 _ _ (by decide) _).trans ?_
  exact congrArg k0_pay1 (View.readAt_rep_full _ _ _)

theorem sc1_A (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Bits .i32)) (T1 : (S1.Idx → Elt Bits .i32)) (x0 : (S1280x2048.Idx → Elt Bits .bf16)) (x1 : (S1x1x2048x512.Idx → Elt Bits .f32)) (x2 : (S1x1x2048x512.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S13) (k0_off1 i) S1.size (k0_off1_inb i)).toLoadRect T0 (Shape.Idx.first (numel1_S1.symm ▸ Nat.one_pos))) (View.readAt (Elt Bits) (tbM0_0).view (Rect.unit (s := S13) (k0_off2 i) S1.size (k0_off2_inb i)).toLoadRect T0 (Shape.Idx.first (numel1_S1.symm ▸ Nat.one_pos)))))) 0#32) = 1#1) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 arg7 harg7 T0 T1 x0 x1 x2 hc0 k0_h2 k0_h3).2.2.1 = (k0_pay2 x2) := by
  dsimp only [kernelRun0_A]
  unfold kernelRun0_A.sl.HS1_1
  refine (whole_store cc0_scratch1 _ _ (by decide) _).trans ?_
  exact congrArg k0_pay2 (View.readAt_rep_full _ _ _)

theorem out_B (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Bits .i32)) (T1 : (S1.Idx → Elt Bits .i32)) (x0 : (S1280x2048.Idx → Elt Bits .bf16)) (x1 : (S1x1x2048x512.Idx → Elt Bits .f32)) (x2 : (S1x1x2048x512.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S13) (k0_off1 i) S1.size (k0_off1_inb i)).toLoadRect T0 (Shape.Idx.first (numel1_S1.symm ▸ Nat.one_pos))) (View.readAt (Elt Bits) (tbM0_0).view (Rect.unit (s := S13) (k0_off2 i) S1.size (k0_off2_inb i)).toLoadRect T0 (Shape.Idx.first (numel1_S1.symm ▸ Nat.one_pos)))))) 0#32) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1))
    (f : arg7.view.ty.Contents (Elt Bits)) : arg7.view.read (Elt Bits) (arg7.view.writes (Elt Bits) f (kernelRun0_B c i arg4 harg4 arg5 harg5 arg6 harg6 arg7 harg7 T0 T1 x0 x1 x2 xa0 xa1 hc0 k0_h2 k0_h3).1) = (k0_pay3 x0 xa0 xa1) := by
  dsimp only [kernelRun0_B]
  unfold kernelRun0_B.sl.HO3_1
  refine (read_store _ _ (by decide) _ _).trans ?_
  exact congr3 (View.readAt_rep_full _ _ _) (Memref.readAt_unit_zero _ cc0_scratch0 (by decide) _ _) (Memref.readAt_unit_zero _ cc0_scratch1 (by decide) _ _)

theorem sc0_B (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Bits .i32)) (T1 : (S1.Idx → Elt Bits .i32)) (x0 : (S1280x2048.Idx → Elt Bits .bf16)) (x1 : (S1x1x2048x512.Idx → Elt Bits .f32)) (x2 : (S1x1x2048x512.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S13) (k0_off1 i) S1.size (k0_off1_inb i)).toLoadRect T0 (Shape.Idx.first (numel1_S1.symm ▸ Nat.one_pos))) (View.readAt (Elt Bits) (tbM0_0).view (Rect.unit (s := S13) (k0_off2 i) S1.size (k0_off2_inb i)).toLoadRect T0 (Shape.Idx.first (numel1_S1.symm ▸ Nat.one_pos)))))) 0#32) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 arg7 harg7 T0 T1 x0 x1 x2 xa0 xa1 hc0 k0_h2 k0_h3).2.1 = xa0 := by
  dsimp only [kernelRun0_B]

theorem sc1_B (c : Dev nD) (i : grid0.Coords) (arg4 : Memref sig .tc .vmem S1280x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1280x512 .bf16) (harg7 : arg7.IsWhole) (T0 : (S13.Idx → Elt Bits .i32)) (T1 : (S1.Idx → Elt Bits .i32)) (x0 : (S1280x2048.Idx → Elt Bits .bf16)) (x1 : (S1x1x2048x512.Idx → Elt Bits .f32)) (x2 : (S1x1x2048x512.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S13) (k0_off1 i) S1.size (k0_off1_inb i)).toLoadRect T0 (Shape.Idx.first (numel1_S1.symm ▸ Nat.one_pos))) (View.readAt (Elt Bits) (tbM0_0).view (Rect.unit (s := S13) (k0_off2 i) S1.size (k0_off2_inb i)).toLoadRect T0 (Shape.Idx.first (numel1_S1.symm ▸ Nat.one_pos)))))) 0#32) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 arg7 harg7 T0 T1 x0 x1 x2 xa0 xa1 hc0 k0_h2 k0_h3).2.2.1 = xa1 := by
  dsimp only [kernelRun0_B]

end Cert.Kernel6.Moe
end
-- ==== Proof.Moe6B.lean ====
module

public import proofs.«01_k».proof.Proof.Moe6BRun
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.Adequacy
public import Idealize.ShloMosaic.Init

@[expose] public section
set_option maxRecDepth 16384
set_option Elab.async false
noncomputable section
namespace Cert.Kernel6.Moe
open Cert.Kernel6 Cert.Kernel6.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (v : Tab) (m : (ℓ : Loc nD τ sig) → Buf (Elt Bits) ℓ) (ρ : Dev nD → PrngReg)

abbrev ms0_0 (t : Fin (cfgA v).N) : Memref sig .tc .vmem S1280x2048 .bf16 := spec0_0.stage ((cfgA v).slots t (0 : Fin 4))
abbrev hs0_0 (t : Fin (cfgA v).N) : (ms0_0 v t).IsWhole := hstage0_0 (((cfgA v).slots t (0 : Fin 4)).cast nbuf0_0)
abbrev ms0_1 (t : Fin (cfgA v).N) : Memref sig .tc .vmem S1x1x2048x512 .f32 := spec0_1.stage ((cfgA v).slots t (1 : Fin 4))
abbrev hs0_1 (t : Fin (cfgA v).N) : (ms0_1 v t).IsWhole := hstage0_1 (((cfgA v).slots t (1 : Fin 4)).cast nbuf0_1)
abbrev ms0_2 (t : Fin (cfgA v).N) : Memref sig .tc .vmem S1x1x2048x512 .f32 := spec0_2.stage ((cfgA v).slots t (2 : Fin 4))
abbrev hs0_2 (t : Fin (cfgA v).N) : (ms0_2 v t).IsWhole := hstage0_2 (((cfgA v).slots t (2 : Fin 4)).cast nbuf0_2)
abbrev ms0_3 (t : Fin (cfgA v).N) : Memref sig .tc .vmem S1280x512 .bf16 := spec0_3.stage ((cfgA v).slots t (3 : Fin 4))
abbrev hs0_3 (t : Fin (cfgA v).N) : (ms0_3 v t).IsWhole := hstage0_3 (((cfgA v).slots t (3 : Fin 4)).cast nbuf0_3)

/-- A window's block at a point, read off its array at launch. -/
def iblk (c : Dev nD) (w : Fin (cfgA v).W) (t : Fin (cfgA v).N) : (((cfgA v).win w).xblock (crd v t)).Idx → Elt Bits ((cfgA v).win w).elt :=
  (((cfgA v).win w).blk t).view.read (Elt Bits) ((s₀ m ρ).mem (((cfgA v).win w).arr.view.loc (c : Thread nD τ)))

/-- Whether the point's tile holds rows. -/
abbrev Q1 (t : Fin (cfgA v).N) : Prop := k0_cond2 (crd v t) (v.n zz) = 1#1

/-- What the point leaves in the result's block. -/
def outv (c : Dev nD) (t : Fin (cfgA v).N) : S1280x512.Idx → Elt Bits .bf16 :=
  if Q1 v t then k0_pay3 (iblk v m ρ c (0 : Fin 4) t) (k0_pay1 (iblk v m ρ c (1 : Fin 4) t)) (k0_pay2 (iblk v m ρ c (2 : Fin 4) t)) else k0_pay4 (F := Bits)

/-- What the launch memory holds: the tables. -/
def Pinned : Prop :=
  (∀ c : Dev nD, m ((c : Thread nD τ).loc main_arg0) = v.e)
  ∧ (∀ c : Dev nD, m ((c : Thread nD τ).loc main_arg1) = v.n)

/-- Every tile holds rows. -/
theorem q1_all (t : Fin (cfgA v).N) : Q1 v t := by
  have h : ∀ n : Fin 13, k0_cond2 (fun | 0 => (0 : Fin 11) | 1 => n) 13#32 = 1#1 := by decide +kernel
  show k0_cond2 (crd v t) (v.n zz) = 1#1
  rw [v.hn]
  exact h (crd v t 1)

/-- No point leaves the result's block idle. -/
theorem idle_false (t : Fin (cfgA v).N) : (cfgA v).idle (3 : Fin 4) ((cfgA v).grid.coords t) = false := by
  have h : ∀ (i : grid0.Coords) (w : BitVec 32), (!(k0_cond2 i w == 1#1) && !(k0_cond3 i w == 1#1)) = false := fun i w => by
    by_cases h2 : k0_cond2 i w = 1#1
    · rw [h2]; rfl
    · rw [(cond23 i w).mpr h2]; exact Bool.and_false _
  exact h _ _

/-- An element of an array's block, where the array holds it. -/
theorem crd_of (t : Fin (cfgA v).N) : ((crd v t) 1).val = t.val % 13 ∧ ((crd v t) 0).val = t.val / 13 := crd_all t

/-- The words that steer the weights agree with the point before, where no new expert starts. -/
theorem prev_of (t : Fin (cfgA v).N) (h : ¬ Q0 (crd v t) (v.e (cur (crd v t))) (v.e (prv (crd v t)))) :
    t.val ≠ 0 ∧ ∀ s : Fin (cfgA v).N, s.val + 1 = t.val → ((crd v s) 0).val = ((crd v t) 0).val ∧ v.e (cur (crd v s)) = v.e (cur (crd v t)) := by
  obtain ⟨h1, h2⟩ := not_Q0 h
  have ht := crd_of v t
  refine ⟨fun h0 => h1 (by rw [ht.1, h0]), fun s hs => ?_⟩
  have hs' := crd_of v s
  rw [ht.1] at h1
  refine ⟨by rw [ht.2, hs'.2]; omega, ?_⟩
  rw [h2]
  congr 1
  funext a
  apply Fin.ext
  show ((crd v s) 1).val = ((crd v t) 1).val - 1
  rw [ht.1, hs'.1]; omega

/-- Equal steering words, equal weights. -/
theorem same1 (c : Dev nD) (s t : Fin (cfgA v).N) (h0 : ((crd v s) 0).val = ((crd v t) 0).val) (he : v.e (cur (crd v s)) = v.e (cur (crd v t))) :
    iblk v m ρ c (1 : Fin 4) s = iblk v m ρ c (1 : Fin 4) t := by
  have e : cc0_transform_1 k0_off1_inb numel1_S1 (pf v) (crd v s) = cc0_transform_1 k0_off1_inb numel1_S1 (pf v) (crd v t) := by
    rw [tr1, tr1, h0, he]
  funext y
  show m ((c : Thread nD τ).loc main_arg3) ((((cfgA v).win (1 : Fin 4)).rect s).emb y) = m ((c : Thread nD τ).loc main_arg3) ((((cfgA v).win (1 : Fin 4)).rect t).emb y)
  refine congrArg _ (funext fun a => Fin.ext ?_)
  show cc0_transform_1 k0_off1_inb numel1_S1 (pf v) (crd v s) a * S1x1x2048x512.size a + 1 * (y a).val = cc0_transform_1 k0_off1_inb numel1_S1 (pf v) (crd v t) a * S1x1x2048x512.size a + 1 * (y a).val
  rw [e]

/-- Equal steering words, equal weights. -/
theorem same2 (c : Dev nD) (s t : Fin (cfgA v).N) (h0 : ((crd v s) 0).val = ((crd v t) 0).val) (he : v.e (cur (crd v s)) = v.e (cur (crd v t))) :
    iblk v m ρ c (2 : Fin 4) s = iblk v m ρ c (2 : Fin 4) t := by
  have e : cc0_transform_2 k0_off1_inb numel1_S1 (pf v) (crd v s) = cc0_transform_2 k0_off1_inb numel1_S1 (pf v) (crd v t) := by
    rw [tr2, tr2, h0, he]
  funext y
  show m ((c : Thread nD τ).loc main_arg4) ((((cfgA v).win (2 : Fin 4)).rect s).emb y) = m ((c : Thread nD τ).loc main_arg4) ((((cfgA v).win (2 : Fin 4)).rect t).emb y)
  refine congrArg _ (funext fun a => Fin.ext ?_)
  show cc0_transform_2 k0_off1_inb numel1_S1 (pf v) (crd v s) a * S1x1x2048x512.size a + 1 * (y a).val = cc0_transform_2 k0_off1_inb numel1_S1 (pf v) (crd v t) a * S1x1x2048x512.size a + 1 * (y a).val
  rw [e]

/-- Before a point: each scratch holds the weights the point before used, and the tables are held. -/
def Phi (c : Dev nD) (t : Fin ((cfgA v).N + 1)) : sProp 𝕄 :=
  iprop((∃ a, ⌜∀ s : Fin (cfgA v).N, s.val + 1 = t.val → a = k0_pay1 (iblk v m ρ c (1 : Fin 4) s)⌝ ∗ (scM0_0.view.loc (c : Thread nD τ) ↦{fullShare} a)) ∗ (∃ a, ⌜∀ s : Fin (cfgA v).N, s.val + 1 = t.val → a = k0_pay2 (iblk v m ρ c (2 : Fin 4) s)⌝ ∗ (scM0_1.view.loc (c : Thread nD τ) ↦{fullShare} a)) ∗ (tbM0_0.view.loc (c : Thread nD τ) ↦{fullShare.right} v.e) ∗ (tbM0_1.view.loc (c : Thread nD τ) ↦{fullShare.right} v.n))

/-- The proof data of the pipeline. -/
def dats (_ : Fin 1) (c : Dev nD) : Dat τ (Elt Bits) Unit ℕ (UR sig nD τ) ℕ (cfgA v) c where
  A w := (s₀ m ρ).mem (((cfgA v).win w).arr.view.loc (c : Thread nD τ))
  after w t := match w with
    | ⟨0, _⟩ => iblk v m ρ c (0 : Fin 4) t
    | ⟨1, _⟩ => iblk v m ρ c (1 : Fin 4) t
    | ⟨2, _⟩ => iblk v m ρ c (2 : Fin 4) t
    | ⟨3, _⟩ => outv v m ρ c t
  Φ t := Phi v m ρ c t
  q _ := fullShare
  owed _ := 0

theorem after0_0 (c : Dev nD) (t : Fin (cfgA v).N) : (dats v m ρ 0 c).after (0 : Fin 4) t = iblk v m ρ c (0 : Fin 4) t := rfl
theorem after0_1 (c : Dev nD) (t : Fin (cfgA v).N) : (dats v m ρ 0 c).after (1 : Fin 4) t = iblk v m ρ c (1 : Fin 4) t := rfl
theorem after0_2 (c : Dev nD) (t : Fin (cfgA v).N) : (dats v m ρ 0 c).after (2 : Fin 4) t = iblk v m ρ c (2 : Fin 4) t := rfl
theorem after0_3 (c : Dev nD) (t : Fin (cfgA v).N) : (dats v m ρ 0 c).after (3 : Fin 4) t = outv v m ρ c t := rfl

theorem before0_0 (c : Dev nD) (t : Fin (cfgA v).N) (d) : (dats v m ρ 0 c).before (0 : Fin 4) t d = iblk v m ρ c (0 : Fin 4) t :=
  ((dats v m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA v).N) (d) : (dats v m ρ 0 c).before (1 : Fin 4) t d = iblk v m ρ c (1 : Fin 4) t :=
  ((dats v m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA v).N) (d) : (dats v m ρ 0 c).before (2 : Fin 4) t d = iblk v m ρ c (2 : Fin 4) t :=
  ((dats v m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The body at a point on its staging buffers. -/
abbrev bodyAt0 (t : Fin (cfgA v).N) : Prog (TpuEff nD τ sig (Elt Bits) Λ₀ .tc) PUnit :=
  cc0_gateup (crd v t) (Memref.whole main_arg0) (Memref.isWhole_whole _) (Memref.whole main_arg1) (Memref.isWhole_whole _) (ms0_0 v t) (hs0_0 v t) (ms0_1 v t) (hs0_1 v t) (ms0_2 v t) (hs0_2 v t) (ms0_3 v t) (hs0_3 v t) (Memref.whole cc0_scratch0) (Memref.isWhole_whole _) (Memref.whole cc0_scratch1) (Memref.isWhole_whole _)

set_option maxHeartbeats 4000000 in
/-- The body's obligation at a point, by its path. -/
theorem sound_body (c : Dev nD) (t : Fin (cfgA v).N) :
    iprop((dats v m ρ 0 c).Φ t.castSucc ∗ (dats v m ρ 0 c).owesAt () t.castSucc
        ∗ (∃ d, owns (c : Thread nD τ) (ms0_0 v t) fullShare ((dats v m ρ 0 c).before (0 : Fin 4) t d))
        ∗ (∃ d, owns (c : Thread nD τ) (ms0_1 v t) fullShare ((dats v m ρ 0 c).before (1 : Fin 4) t d))
        ∗ (∃ d, owns (c : Thread nD τ) (ms0_2 v t) fullShare ((dats v m ρ 0 c).before (2 : Fin 4) t d))
        ∗ (∃ d, owns (c : Thread nD τ) (ms0_3 v t) fullShare ((dats v m ρ 0 c).before (3 : Fin 4) t d)))
      ⊢ wp frame (wpE (defs₀ (F := Bits)) Variants.none c none) Set.univ (bodyAt0 v t) fun _ =>
          iprop((dats v m ρ 0 c).Φ t.succ ∗ (dats v m ρ 0 c).owesAt () t.succ
            ∗ bigSep Finset.univ fun w : Fin (cfgA v).W =>
                match (cfgA v).idle w ((cfgA v).grid.coords t) with
                | true =>
                  match ((cfgA v).win w).flush t with
                  | false => iprop(∃ d, owns (c : Thread nD τ) (((cfgA v).win w).stage ((cfgA v).slots t w)) fullShare ((dats v m ρ 0 c).before w t d))
                  | true => owns (c : Thread nD τ) (((cfgA v).win w).stage ((cfgA v).slots t w)) fullShare ((dats v m ρ 0 c).after w t)
                | false => owns (c : Thread nD τ) (((cfgA v).win w).stage ((cfgA v).slots t w)) fullShare ((dats v m ρ 0 c).after w t)) := by
  rw [bigSep_W0]
  have i3 := idle_false v t
  rewrite [i3]
  simp only [before0_0, before0_1, before0_2, after0_0, after0_1, after0_2, after0_3]
  rewrite [show (dats v m ρ 0 c).Φ t.succ = Phi v m ρ c t.succ from rfl, show (dats v m ρ 0 c).Φ t.castSucc = Phi v m ρ c t.castSucc from rfl,
    show (dats v m ρ 0 c).owesAt () t.succ = (dats v m ρ 0 c).owesAt () t.castSucc from rfl]
  unfold Phi
  simp only [Fin.val_castSucc, Fin.val_succ]
  by_cases q0 : Q0 (crd v t) (v.e (cur (crd v t))) (v.e (prv (crd v t)))
  · by_cases q1 : Q1 v t
    · have hc0 : (Q0 (crd v t) (View.readAt (Elt Bits) (tbM0_0).view (Rect.unit (s := S13) (k0_off1 (crd v t)) S1.size (k0_off1_inb (crd v t))).toLoadRect v.e (Shape.Idx.first (numel1_S1.symm ▸ Nat.one_pos))) (View.readAt (Elt Bits) (tbM0_0).view (Rect.unit (s := S13) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact sc0_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HS1]
        · iexists _; isplitr; swap
          · iexact HS1
          · ipureintro; intro s hs; rw [show s = t from Fin.ext (Nat.succ.inj hs)]
            exact sc1_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3 e3).trans ?_
        rw [outv, if_pos q1]
    · exact absurd (q1_all v t) q1
  · obtain ⟨ht0, hpv⟩ := prev_of v t q0
    have hlt := t.isLt
    have hk0 : ∀ a : Buf (Elt Bits) ((c : Thread nD τ).loc cc0_scratch0), (∀ s : Fin (cfgA v).N, s.val + 1 = t.val → a = k0_pay1 (iblk v m ρ c (1 : Fin 4) s)) → a = k0_pay1 (iblk v m ρ c (1 : Fin 4) t) := fun a ha => by
      have hs : (⟨t.val - 1, by omega⟩ : Fin (cfgA v).N).val + 1 = t.val := Nat.succ_pred ht0
      rw [ha _ hs, same1 v m ρ c _ t (hpv _ hs).1 (hpv _ hs).2]
    have hk1 : ∀ a : Buf (Elt Bits) ((c : Thread nD τ).loc cc0_scratch1), (∀ s : Fin (cfgA v).N, s.val + 1 = t.val → a = k0_pay2 (iblk v m ρ c (2 : Fin 4) s)) → a = k0_pay2 (iblk v m ρ c (2 : Fin 4) t) := fun a ha => by
      have hs : (⟨t.val - 1, by omega⟩ : Fin (cfgA v).N).val + 1 = t.val := Nat.succ_pred ht0
      rw [ha _ hs, same2 v m ρ c _ t (hpv _ hs).1 (hpv _ hs).2]
    by_cases q1 : Q1 v t
    · have hc0 : ¬ (Q0 (crd v t) (View.readAt (Elt Bits) (tbM0_0).view (Rect.unit (s := S13) (k0_off1 (crd v t)) S1.size (k0_off1_inb (crd v t))).toLoadRect v.e (Shape.Idx.first (numel1_S1.symm ▸ Nat.one_pos))) (View.readAt (Elt Bits) (tbM0_0).view (Rect.unit (s := S13) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact (sc0_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk0 a0 ha0)
        isplitl [HS1]
        · iexists _; isplitr; swap
          · iexact HS1
          · ipureintro; intro s hs; rw [show s = t from Fin.ext (Nat.succ.inj hs)]
            exact (sc1_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk1 a1 ha1)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3 e3).trans ?_
        rw [outv, if_pos q1, hk0 a0 ha0, hk1 a1 ha1]
    · exact absurd (q1_all v t) q1

theorem body_obligation (c : Dev nD) : BodyObligation (dats v m ρ 0 c) (defs₀ (F := Bits)) Variants.none () Set.univ := fun t => by
  rw [bigSep_W0]
  exact sound_body v m ρ c t

/-- The launch's resources. -/
def u₀ : UR sig nD τ :=
  initOf (Pipeline.cells (pcs v) ((launch0 (F := Bits)).cellOf_inj fun _ => adm v))
    (Pipeline.launchToks (pcs v) ((launch0 (F := Bits)).cellOf_inj fun _ => adm v))

theorem share_eq (c : Dev nD) (w : Fin (cfgA v).W) : (dats v m ρ 0 c).share w = fullShare := by unfold Dat.share; split <;> rfl

/-- The two tables, one by one. -/
theorem prefHeld_eq (c : Dev nD) (q : Fin 2 → PosShare TreeShare) (u : pre0.Contents (Elt Bits)) :
    (Pipeline.prefHeld (Ix := Unit) (Name := ℕ) (U := UR sig nD τ) (Lvl := ℕ) pre0 c q u : sProp 𝕄)
      = iprop((((c : Thread nD τ).loc main_arg0) ↦{q 0} u 0) ∗ (((c : Thread nD τ).loc main_arg1) ↦{q 1} u 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm v).1 ∗ Pipeline.scopedRest spec0 c) ⊢ (dats v m ρ 0 c).Φ 0 := by
  rw [prefHeld_eq, scopedRest0_eq, show (dats v m ρ 0 c).Φ 0 = Phi v m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s h; exact absurd h (Nat.succ_ne_zero _)
  isplitl [HS1]
  · iexists a1; isplitr; swap
    · iexact HS1
    · ipureintro; intro s h; exact absurd h (Nat.succ_ne_zero _)
  isplitl [HT0]
  · iexact HT0
  iexact HT1

theorem phiN_exit (c : Dev nD) : (dats v m ρ 0 c).Φ (Fin.last (cfgA v).N) ⊢ iprop(BI.emp ∗ Pipeline.scopedRest spec0 c) := by
  rw [scopedRest0_eq, show (dats v m ρ 0 c).Φ (Fin.last (cfgA v).N) = Phi v m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What a run ends with: every array as the library computes it, the tables as they were. -/
def QC : PUnit × MemSt nD τ sig (Elt Bits) → Prop := fun r =>
  ∀ c : Dev nD, (∀ w : Fin (cfgA v).W, r.2.mem (((cfgA v).win w).arr.view.loc (c : Thread nD τ)) = (dats v m ρ 0 c).arrAt w (cfgA v).N)
    ∧ ∀ j, r.2.mem ((c : Thread nD τ).loc (pre0.ref j)) = (adm v).1 j

theorem V_pre (hp : Pinned v m) (c : Dev nD) (j : Fin 2) : m ((c : Thread nD τ).loc (pre0.ref j)) = (adm v).1 j := by
  fin_cases j
  · exact hp.1 c
  · exact hp.2 c

set_option backward.isDefEq.respectTransparency.types false in
set_option maxHeartbeats 4000000 in
/-- From a memory that holds such tables every run ends, each array as computed, each counter at zero. -/
theorem run_main_quiescent (hp : Pinned v m) : θ_run (defs (F := Bits)) (onTc (τ := τ) (main (F := Bits))) (s₀ m ρ) (fun r => QC v m ρ r ∧ r.2.sem = fun _ => 0) :=
  Pipeline.θ_run_region_noSem_pf_quiescent pcfgs (fun _ => adm v) (dats v m ρ) () ((launch0 (F := Bits)).cellOf_inj fun _ => adm v) (0 : Fin 1)
    (launch0 (F := Bits)).win.to₀ (launch0 (F := Bits)).pre EPm defs₀ Variants.none m ρ main
    (hbody := fun c => (body_obligation v m ρ c).loose) (hne := (launch0 (F := Bits)).block_pos)
    (harr := (launch0 (F := Bits)).arr_whole) (hstage := (launch0 (F := Bits)).stage_whole) (howed := fun _ _ => rfl)
    (u₀ := u₀ v) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs v) (dats v m ρ) 0 (launch0 (F := Bits)).win.arr_inj c (launch0 (F := Bits)).arr_whole
      (share_eq v m ρ c) _ _ fun _ => rfl)
    (hpf := V_pre v m hp)
    (X := fun _ => iprop(emp)) (Y := fun _ => iprop(emp)) (Z := fun _ => iprop(emp))
    (hX := fun c => by rw [unscopedRestP0_eq]; iintro -; isplitr <;> iempintro)
    (hin := phi0_intro v m ρ)
    (hout := phiN_exit v m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned v m) : θ_run (defs (F := Bits)) (onTc (τ := τ) (main (F := Bits))) (s₀ m ρ) (QC v m ρ) :=
  (θ_run defs _ _).mono (fun _ h => h.1) (run_main_quiescent v m ρ hp)

theorem kept (hp : Pinned v m) (r : PUnit × MemSt nD τ sig (Elt Bits)) (h : QC v m ρ r) (c : Dev nD) :
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  ⟨((h c).2 0).trans (hp.1 c).symm, ((h c).2 1).trans (hp.2 c).symm, ((h c).1 (0 : Fin 4)).trans ((dats v m ρ 0 c).arrAt_in (0 : Fin 4) rfl _), ((h c).1 (1 : Fin 4)).trans ((dats v m ρ 0 c).arrAt_in (1 : Fin 4) rfl _), ((h c).1 (2 : Fin 4)).trans ((dats v m ρ 0 c).arrAt_in (2 : Fin 4) rfl _)⟩

/-- The arguments end unchanged and every counter at zero. -/
theorem frame (hp : Pinned v m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun r h => ⟨fun c => kept v m ρ hp r h.1 c, h.2⟩) (run_main_quiescent v m ρ hp)

end Cert.Kernel6.Moe
end
-- ==== Proof.Moe6Claim.lean ====
/- The claims about the dense layer's gated projection. -/
module

public import proofs.«01_k».proof.Defs
public import proofs.«01_k».proof.Proof.Gen.Pre_dense6
public import proofs.«01_k».proof.Proof.Moe6Val
public import proofs.«01_k».proof.Proof.Moe6B
public import Idealize.ShloMosaic.Lib.ReduceAll
public import Idealize.ShloMosaic.Lib.Pointwise
public import Idealize.ShloMosaic.Lib.Pipeline.ValueKit
public import Idealize.ShloMosaic.Adequacy
public import Idealize.ShloMosaic.Init

@[expose] public section

set_option maxRecDepth 16384
set_option maxHeartbeats 1000000

noncomputable section

namespace Cert.Proof.Moe6

open Idealize.ShloMosaic Idealize.ShloMosaic.TcCoe Idealize.SL.Sem

/-- The precondition, read: the tables name one block of weights and every tile holds rows. -/
theorem decode {F : FTy → Type} [FloatOps F] (e : IVec Cert.Pre_dense6.S13 32) (n : IVec Cert.Pre_dense6.S1 32) (x : FVec F Cert.Pre_dense6.S16640x2048 .bf16)
    (w0 w1 : FVec F Cert.Pre_dense6.S1x1x2048x5632 .f32) (h : Cert.Pre_dense6.fn (F := F) e n x w0 w1 = fun _ => 1#1) : (∀ i, (e i).toNat < 1) ∧ ∀ i, n i = 13#32 := by
  have key := congrFun h ix0
  dsimp only [Cert.Pre_dense6.fn] at key
  have an : ∀ a b : BitVec 1, IntOp.andi a b = 1#1 → a = 1#1 ∧ b = 1#1 := by decide
  have ob : ∀ b : Bool, BitVec.ofBool b = 1#1 → b = true := by decide
  obtain ⟨k1, k2⟩ := an _ _ key
  refine ⟨fun i => ?_, fun i => ?_⟩
  · have el : e i = 0#32 := eq_of_beq (ob _ (Host.reduce_andi_all _ _ _ _ _ k1 i))
    rw [el]; decide
  · exact eq_of_beq (ob _ (Host.reduce_andi_all _ _ _ _ _ k2 i))

/-- The launch's tables. -/
def tabB (m : (ℓ : Loc Cert.Kernel6.nD Cert.Kernel6.τ Cert.Kernel6.sig) → Buf (Elt Bits) ℓ) (h : Cert.Pre_Kernel6 m) : Cert.Kernel6.Moe.Tab where
  e := (m (((0 : Dev Cert.Kernel6.nD).tc : Thread Cert.Kernel6.nD Cert.Kernel6.τ).loc Cert.Kernel6.main_arg0))
  n := (m (((0 : Dev Cert.Kernel6.nD).tc : Thread Cert.Kernel6.nD Cert.Kernel6.τ).loc Cert.Kernel6.main_arg1))
  he := (decode _ _ _ _ _ (h 0)).1
  hn := (decode _ _ _ _ _ (h 0)).2

theorem pinnedB (m : (ℓ : Loc Cert.Kernel6.nD Cert.Kernel6.τ Cert.Kernel6.sig) → Buf (Elt Bits) ℓ) (h : Cert.Pre_Kernel6 m) : Cert.Kernel6.Moe.Pinned (tabB m h) m :=
  ⟨fun c => by obtain rfl : c = 0 := Subsingleton.elim _ _; rfl, fun c => by obtain rfl : c = 0 := Subsingleton.elim _ _; rfl⟩

/-- The kernel runs and leaves its arguments. -/
theorem frameB : Cert.quiescent_Kernel6 := fun m ρ h => Cert.Kernel6.Moe.frame (tabB m h) m ρ (pinnedB m h)

/-- The launch's tables, over the reals. -/
def tabI (m : (ℓ : Loc Cert.Kernel6Ideal.nD Cert.Kernel6Ideal.τ Cert.Kernel6Ideal.sig) → Buf (Elt Ideal) ℓ) (h : Cert.Pre_Kernel6Ideal m) : Cert.Kernel6Ideal.Moe.Tab where
  e := (m (((0 : Dev Cert.Kernel6Ideal.nD).tc : Thread Cert.Kernel6Ideal.nD Cert.Kernel6Ideal.τ).loc Cert.Kernel6Ideal.main_arg0))
  n := (m (((0 : Dev Cert.Kernel6Ideal.nD).tc : Thread Cert.Kernel6Ideal.nD Cert.Kernel6Ideal.τ).loc Cert.Kernel6Ideal.main_arg1))
  he := (decode _ _ _ _ _ (h 0)).1
  hn := (decode _ _ _ _ _ (h 0)).2

theorem pinnedI (m : (ℓ : Loc Cert.Kernel6Ideal.nD Cert.Kernel6Ideal.τ Cert.Kernel6Ideal.sig) → Buf (Elt Ideal) ℓ) (h : Cert.Pre_Kernel6Ideal m) : Cert.Kernel6Ideal.Moe.Pinned (tabI m h) m :=
  ⟨fun c => by obtain rfl : c = 0 := Subsingleton.elim _ _; rfl, fun c => by obtain rfl : c = 0 := Subsingleton.elim _ _; rfl⟩

/-- The kernel runs and leaves its arguments. -/
theorem frameI : Cert.quiescent_Kernel6Ideal := fun m ρ h => Cert.Kernel6Ideal.Moe.frame (tabI m h) m ρ (pinnedI m h)

/-- The reference runs and leaves its arguments; it declares no semaphore. -/
theorem frameR : Cert.quiescent_Reference6Ideal := fun m ρ _ =>
  (θ_run Cert.Reference6Ideal.defs _ _).mono (fun r q => ⟨fun c => (q c).2, sem_eq_zero_of_no_sems (by decide) r.2⟩)
    (Cert.Reference6Ideal.Value.run (F := Ideal) m ρ)

/-- The two programs end with equal results. -/
theorem value : Cert.algebraic_Kernel6Ideal_Reference6Ideal := by
  intro m g m' g' hpre hagree
  have hp := pinnedI m hpre
  refine ⟨fun c => ((Cert.Kernel6Ideal.Moe.dats (tabI m hpre) m g 0 c).arrAt (3 : Fin 4) (Cert.Kernel6Ideal.Moe.cfgA (tabI m hpre)).N), ?_, ?_⟩
  · exact (θ_run Cert.Kernel6Ideal.defs _ _).mono (fun r h c => ⟨(h c).1 (3 : Fin 4), Cert.Kernel6Ideal.Moe.kept (tabI m hpre) m g hp r h c⟩)
      (Cert.Kernel6Ideal.Moe.run_main (tabI m hpre) m g hp)
  · refine (θ_run Cert.Reference6Ideal.defs _ _).mono (fun r h c => ⟨(h c).1.trans ?_, (h c).2⟩) (Cert.Reference6Ideal.Value.run (F := Ideal) m' g')
    obtain rfl : c = 0 := Subsingleton.elim _ _
    refine Eq.trans ?_ (Cert.Kernel6Ideal.Moe.final (tabI m hpre) m g 0).symm
    refine Eq.trans (b := Cert.Reference6Ideal.Moe.chain (m' (((0 : Dev Cert.Reference6Ideal.nD).tc : Thread Cert.Reference6Ideal.nD Cert.Reference6Ideal.τ).loc Cert.Reference6Ideal.main_arg2)) (m' (((0 : Dev Cert.Reference6Ideal.nD).tc : Thread Cert.Reference6Ideal.nD Cert.Reference6Ideal.τ).loc Cert.Reference6Ideal.main_arg3)) (m' (((0 : Dev Cert.Reference6Ideal.nD).tc : Thread Cert.Reference6Ideal.nD Cert.Reference6Ideal.τ).loc Cert.Reference6Ideal.main_arg4))) rfl ?_
    rw [(hagree 0).2.2.1, (hagree 0).2.2.2.1, (hagree 0).2.2.2.2]
    funext i
    refine (congrArg _ (eq_ix2 i)).trans ?_
    exact Cert.Reference6Ideal.Moe.chain_at _ _ _ (i 0) (i 1)

end Cert.Proof.Moe6

end
-- ==== Proof.Down7.lean ====
/- The down product of the dense layer, added to the tokens. -/
module

public import proofs.«01_k».proof.Defs
public import proofs.«01_k».proof.Proof.Gen.Kernel7Ideal.Value
public import proofs.«01_k».proof.Proof.Gen.Reference7Ideal.Run
public import Idealize.ShloMosaic.Lib.Pipeline.ReadBack
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic Idealize.SL.Sem

namespace Cert.Kernel7Ideal.Down

open Cert.Kernel7Ideal Cert.Kernel7Ideal.Gen

/-- A token and a column: the token's entry and the product of its activations by the column. -/
def outf (A : FVec Ideal S16640x5632 .bf16) (W : FVec Ideal S1x5632x2048 .f32) (X : FVec Ideal S16640x2048 .f32) (r : Fin 16640) (j : Fin 2048) : EReal :=
  (∑ k : Fin 5632, A (ix2 r k) * W (ix3 0 k j)) + X (ix2 r j)

/-- The first half of the product, with the token. -/
theorem pay2_at (A : FVec Ideal S1280x2816 .bf16) (W : FVec Ideal S1x2816x512 .f32) (X : FVec Ideal S1280x512 .f32) (r : Fin 1280) (l : Fin 512) :
    k0_pay2 (F := Ideal) A W X (ix2 r l) = (∑ k : Fin 2816, A (ix2 r k) * W (ix3 0 k l)) + X (ix2 r l) := by
  pointwise [k0_pay2, k0_pay1]

/-- The second half of the product, added to what is there. -/
theorem pay3_at (A : FVec Ideal S1280x2816 .bf16) (W : FVec Ideal S1x2816x512 .f32) (X : FVec Ideal S1280x512 .f32) (r : Fin 1280) (l : Fin 512) :
    k0_pay3 (F := Ideal) A W X (ix2 r l) = X (ix2 r l) + ∑ k : Fin 2816, A (ix2 r k) * W (ix3 0 k l) := by
  pointwise [k0_pay3, k0_pay1]

/-- A sum over both halves of the inner axis. -/
theorem halves (f : Fin 5632 → EReal) : (∑ k : Fin 5632, f k) = (∑ k : Fin 2816, f ⟨k.val, by omega⟩) + ∑ k : Fin 2816, f ⟨2816 + k.val, by omega⟩ :=
  Fin.sum_univ_add (a := 2816) (b := 2816) f

/-- Every window's block index at point `t`: rows `t / 8`, columns `t / 2 % 4`, half `t % 2` of the inner axis. -/
theorem idx : ∀ t : Fin cfg0.N, win0_0.index t = ![t.val / 8, t.val % 2] ∧ win0_1.index t = ![0, t.val % 2, t.val / 2 % 4] ∧ win0_2.index t = ![t.val / 8, t.val / 2 % 4]
    ∧ win0_3.index t = ![t.val / 8, t.val / 2 % 4] :=
  (by decide +kernel : ∀ t : Fin grid0.N, _)

variable (m : (ℓ : Loc nD τ sig) → Buf (Elt Ideal) ℓ) (c : Dev nD) (t : Fin cfg0.N)

theorem lt_N : t.val < 104 := lt_of_lt_of_eq t.isLt N_0

theorem blk_a (r : Fin 1280) (k : Fin 2816) : iblk m c 0 t (ix2 r k)
    = m ((c.tc : Thread nD τ).loc main_arg0) (ix2 ⟨t.val / 8 * 1280 + r.val, by have := lt_N t; omega⟩ ⟨t.val % 2 * 2816 + k.val, by omega⟩) := by
  have := lt_N t
  blk_ext [iblk, V_main_arg0, idx t]
theorem blk_w (k : Fin 2816) (l : Fin 512) : iblk m c 1 t (ix3 0 k l)
    = m ((c.tc : Thread nD τ).loc main_arg1) (ix3 0 ⟨t.val % 2 * 2816 + k.val, by omega⟩ ⟨t.val / 2 % 4 * 512 + l.val, by omega⟩) := by
  have := lt_N t
  blk_ext [iblk, V_main_arg1, idx t]
theorem blk_x (r : Fin 1280) (l : Fin 512) : iblk m c 2 t (ix2 r l)
    = m ((c.tc : Thread nD τ).loc main_arg2) (ix2 ⟨t.val / 8 * 1280 + r.val, by have := lt_N t; omega⟩ ⟨t.val / 2 % 4 * 512 + l.val, by omega⟩) := by
  have := lt_N t
  blk_ext [iblk, V_main_arg2, idx t]

/-- The blocks and the arrays, at their shapes. -/
abbrev bA : FVec Ideal S1280x2816 .bf16 := iblk m c 0 t
abbrev bW : FVec Ideal S1x2816x512 .f32 := iblk m c 1 t
abbrev aA : FVec Ideal S16640x5632 .bf16 := m ((c.tc : Thread nD τ).loc main_arg0)
abbrev aW : FVec Ideal S1x5632x2048 .f32 := m ((c.tc : Thread nD τ).loc main_arg1)

/-- A block's half of the product at a token and a column of the arrays. -/
theorem half_at (r : Fin 1280) (l : Fin 512) (R : Fin 16640) (J : Fin 2048) (b : ℕ) (hb : b + 2816 ≤ 5632) (hR : R.val = t.val / 8 * 1280 + r.val)
    (hJ : J.val = t.val / 2 % 4 * 512 + l.val) (eb : b = t.val % 2 * 2816) :
    (∑ k : Fin 2816, bA m c t (ix2 r k) * bW m c t (ix3 0 k l))
      = ∑ k : Fin 2816, aA m c (ix2 R ⟨b + k.val, by omega⟩) * aW m c (ix3 0 ⟨b + k.val, by omega⟩ J) := by
  have nt := lt_N t
  subst eb
  have a0 : (⟨t.val / 8 * 1280 + r.val, by omega⟩ : Fin 16640) = R := Fin.ext hR.symm
  have a1 : (⟨t.val / 2 % 4 * 512 + l.val, by omega⟩ : Fin 2048) = J := Fin.ext hJ.symm
  exact Finset.sum_congr rfl fun k _ => congr (congrArg _ ((blk_a m c t r k).trans (congrArg (fun a => aA m c (ix2 a _)) a0))) ((blk_w m c t k l).trans (congrArg (fun a => aW m c (ix3 0 _ a)) a1))

/-- What the first half leaves. -/
theorem out_A (z : t.val % 2 = 0) : outsAt0 m c t.val t.isLt = k0_pay2 (F := Ideal) (iblk m c 0 t) (iblk m c 1 t) (iblk m c 2 t) := by
  rw [outsAt0_A m c t z (by omega)]
  frame_out
/-- What the second half leaves, over what the first left. -/
theorem out_B (z : t.val % 2 = 1) : outsAt0 m c t.val t.isLt
    = k0_pay3 (F := Ideal) (iblk m c 0 t) (iblk m c 1 t) (outsAt0 m c (t.val - 1) (Nat.lt_of_le_of_lt (Nat.sub_le t.val 1) t.isLt)) := by
  rw [outsAt0_B m c t (by omega) z]
  frame_out

/-- What a point at the second half writes back. -/
theorem point (last : t.val % 2 = 1) (y : S1280x512.Idx) (j : S16640x2048.Idx) (e0 : (j 0 : ℕ) = t.val / 8 * 1280 + y 0) (e1 : (j 1 : ℕ) = t.val / 2 % 4 * 512 + y 1) :
    outsAt0 m c t.val t.isLt y
      = outf (m ((c.tc : Thread nD τ).loc main_arg0)) (m ((c.tc : Thread nD τ).loc main_arg1)) (m ((c.tc : Thread nD τ).loc main_arg2)) (j 0) (j 1) := by
  have nt := lt_N t
  have lt' : t.val - 1 < cfg0.N := Nat.lt_of_le_of_lt (Nat.sub_le t.val 1) t.isLt
  have q8 : (t.val - 1) / 8 = t.val / 8 := by omega
  have q4 : (t.val - 1) / 2 % 4 = t.val / 2 % 4 := by omega
  have first := out_A m c ⟨t.val - 1, lt'⟩ (show (t.val - 1) % 2 = 0 by omega)
  rw [out_B m c t last]
  refine (congrArg _ (eq_ix2 y)).trans ((pay3_at (bA m c t) (bW m c t) _ (y 0) (y 1)).trans ?_)
  have a0 : (⟨(t.val - 1) / 8 * 1280 + (y 0).val, by have y0 : (y 0).val < 1280 := (y 0).isLt; omega⟩ : Fin 16640) = j 0 := Fin.ext (by rw [e0]; show (t.val - 1) / 8 * 1280 + (y 0).val = _; rw [q8])
  have a1 : (⟨(t.val - 1) / 2 % 4 * 512 + (y 1).val, by have y1 : (y 1).val < 512 := (y 1).isLt; omega⟩ : Fin 2048) = j 1 := Fin.ext (by rw [e1]; show (t.val - 1) / 2 % 4 * 512 + (y 1).val = _; rw [q4])
  have hx := blk_x m c ⟨t.val - 1, lt'⟩ (y 0) (y 1)
  have h0 := (congrFun first (ix2 (y 0) (y 1))).trans (pay2_at (bA m c ⟨t.val - 1, lt'⟩) (bW m c ⟨t.val - 1, lt'⟩) _ (y 0) (y 1))
  rw [half_at m c ⟨t.val - 1, lt'⟩ (y 0) (y 1) (j 0) (j 1) 0 (by omega) (by rw [e0, q8]) (by rw [e1, q4]) (by show 0 = (t.val - 1) % 2 * 2816; omega)] at h0
  unfold outf
  rw [halves]
  refine (congr (congrArg _ h0) (half_at m c t (y 0) (y 1) (j 0) (j 1) 2816 (by omega) e0 e1 (by omega))).trans ?_
  refine (add_right_comm _ _ _).trans (congr (congrArg _ (congrArg (· + _) (Finset.sum_congr rfl fun k _ => ?_))) ?_)
  · have hk : (⟨0 + k.val, by omega⟩ : Fin 5632) = ⟨k.val, by omega⟩ := Fin.ext (Nat.zero_add _)
    rw [hk]
  · refine hx.trans ?_
    exact congrArg (m ((c.tc : Thread nD τ).loc main_arg2)) (congr (congrArg ix2 a0) a1)

/-- The result. -/
theorem final : (dats m 0 c).arrAt 3 (cfgs 0).N
    = fun i => outf (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  exact point m c t ((flush0_3 t).mp hf) y _ (by blk_simp [idx t] <;> try omega) (by blk_simp [idx t] <;> try omega)

end Cert.Kernel7Ideal.Down

namespace Cert.Proof.Down7

open Cert.Reference7Ideal Cert.Reference7Ideal.Gen in
/-- The reference's value at a token and a column. -/
theorem ref_at (A : FVec Ideal S16640x5632 .bf16) (W : FVec Ideal S1x5632x2048 .f32) (X : FVec Ideal S16640x2048 .f32) (r : Fin 16640) (j : Fin 2048) :
    addf X (Host.dotGeneral dot_S16640x5632_S5632x2048_S16640x2048_1_0_0_1_n_n none (extf .f32 A bitsLt_bf16_f32) (shapeCast _ W shapeCasts_S1x5632x2048_S5632x2048)) (ix2 r j)
      = X (ix2 r j) + ∑ k : Fin 5632, A (ix2 r k) * W (ix3 0 k j) := by
  pointwise

/-- The two programs end with equal results. -/
theorem value : Cert.algebraic_Kernel7Ideal_Reference7Ideal := by
  pair_intro
  · run_from Cert.Kernel7Ideal.Value.run_blocks m g
  · run_from Cert.Reference7Ideal.Value.run m' g'
    · refine Eq.trans ?_ (Cert.Kernel7Ideal.Down.final m c).symm
      funext i
      rw [eq_ix2 i]
      exact (ref_at _ _ _ _ _).trans (add_comm _ _)

/-- The reference runs and leaves its arguments; it declares no semaphore. -/
theorem frame_reference : Cert.quiescent_Reference7Ideal := fun m ρ _ =>
  (θ_run Cert.Reference7Ideal.defs _ _).mono (fun r q => ⟨fun c => (q c).2, sem_eq_zero_of_no_sems (by decide) r.2⟩)
    (Cert.Reference7Ideal.Value.run (F := Ideal) m ρ)

end Cert.Proof.Down7

end
-- ==== Proof.RetRef.lean ====
/- The reference's side of the retention claim: its tables, its rotated queries and keys and its recurrence, read at an
   index as plain sums and products. -/
module

public import proofs.«01_k».proof.Proof.Gen.ReferenceIdeal.Step
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.RetVal

open Cert.ReferenceIdeal Cert.ReferenceIdeal.Gen Cert.ReferenceIdeal.Step

/-- The cosine of position `t`'s angle in plane `i`. -/
def cosT (t : Fin 2048) (i : Fin 32) : EReal := K_main_v21 (F := Ideal) (ix2 t i)
/-- The sine of position `t`'s angle in plane `i`. -/
def sinT (t : Fin 2048) (i : Fin 32) : EReal := K_main_v23 (F := Ideal) (ix2 t i)
/-- Head `h`'s decay from row `j` of a chunk to row `i`, zero above the diagonal. -/
def decT (h : Fin 8) (i j : Fin 128) : EReal := K_main_v94 (F := Ideal) (ix3 h i j)
/-- Head `h`'s decay of the entering state at row `i`. -/
def qdT (h : Fin 8) (i : Fin 128) : EReal := K_main_v102 (F := Ideal) (ix2 h i)
/-- Head `h`'s decay from row `j` to the chunk's end. -/
def kdT (h : Fin 8) (j : Fin 128) : EReal := K_main_v111 (F := Ideal) (ix2 h j)
/-- Head `h`'s decay over a whole chunk. -/
def cdT (h : Fin 8) : EReal := K_main_v115 (F := Ideal) (ix1 h)

/-- A head's row rotated at position `t`. -/
def rot (t : Fin 2048) (x : Fin 64 → EReal) (d : Fin 64) : EReal :=
  if h : d.val < 32 then x d * cosT t ⟨d.val, h⟩ - x ⟨d.val + 32, by omega⟩ * sinT t ⟨d.val, h⟩
  else x ⟨d.val - 32, by omega⟩ * sinT t ⟨d.val - 32, by omega⟩ + x d * cosT t ⟨d.val - 32, by omega⟩

/-- Entry `d` of head `h` at row `i` of chunk `n` of prompt `b`, in the group of columns that starts at `o`. -/
def colv (o : ℕ) (ho : o + 512 ≤ 5632) (p : FVec Ideal S16640x5632 .f32) (b : Fin 8) (n : Fin 16) (h : Fin 8) (i : Fin 128)
    (d : Fin 64) : EReal :=
  p (ix2 ⟨b.val * 2048 + n.val * 128 + i.val, by omega⟩ ⟨o + h.val * 64 + d.val, by omega⟩)

/-- The position inside its prompt of row `i` of chunk `n`. -/
def pos (n : Fin 16) (i : Fin 128) : Fin 2048 := ⟨n.val * 128 + i.val, by omega⟩

/-- The rotated query. -/
def qv (p : FVec Ideal S16640x5632 .f32) (b : Fin 8) (n : Fin 16) (h : Fin 8) (i : Fin 128) (d : Fin 64) : EReal :=
  rot (pos n i) (colv 3072 (by omega) p b n h i) d
/-- The rotated and scaled key. -/
def kv (p : FVec Ideal S16640x5632 .f32) (b : Fin 8) (n : Fin 16) (h : Fin 8) (i : Fin 128) (d : Fin 64) : EReal :=
  rot (pos n i) (colv 3584 (by omega) p b n h i) d * Ideal.ofBits .f32 0x3E000000#32
/-- The value. -/
abbrev vv (p : FVec Ideal S16640x5632 .f32) (b : Fin 8) (n : Fin 16) (h : Fin 8) (i : Fin 128) (d : Fin 64) : EReal :=
  colv 4096 (by omega) p b n h i d

/-- The state of head `h` of prompt `b` before chunk `n`. -/
def St (p : FVec Ideal S16640x5632 .f32) (b h : Fin 8) : ℕ → Fin 64 → Fin 64 → EReal
  | 0 => fun _ _ => 0
  | n + 1 => fun d e => if hn : n < 16 then
      St p b h n d e * cdT h + ∑ j : Fin 128, kv p b ⟨n, hn⟩ h j d * kdT h j * vv p b ⟨n, hn⟩ h j e
    else 0

/-- The retention output at row `i` of chunk `n`. -/
def Ov (p : FVec Ideal S16640x5632 .f32) (b : Fin 8) (n : Fin 16) (h : Fin 8) (i : Fin 128) (e : Fin 64) : EReal :=
  (∑ j : Fin 128, (∑ d : Fin 64, qv p b n h i d * kv p b n h j d) * decT h i j * vv p b n h j e)
    + (∑ d : Fin 64, qv p b n h i d * St p b h n.val d e) * qdT h i

/-- Rows cut into chunks, read at an index. -/
theorem chunk_at (X : FVec Ideal S8x2048x8x64 .f32) (n : Fin 16) (b h : Fin 8) (i : Fin 128) (d : Fin 64) :
    transpose S16x8x8x128x64 [1, 0, 3, 2, 4] (shapeCast S8x16x128x8x64 X shapeCasts_S8x2048x8x64_S8x16x128x8x64)
        transposes_S8x16x128x8x64_S16x8x8x128x64_1_0_3_2_4 (ix5 n b h i d)
      = X (ix4 b (pos n i) h d) := by
  pointwise [pos]

/-- The prompt's rows of the projection, cut into prompts, groups and heads. -/
theorem rows_at (p : FVec Ideal S16640x5632 .f32) (b : Fin 8) (t : Fin 2048) (g : Fin 4) (h : Fin 8) (d : Fin 64) :
    A_main_v1 (F := Ideal) p (ix5 b t g h d)
      = p (ix2 ⟨b.val * 2048 + t.val, by omega⟩ ⟨3072 + (g.val * 512 + h.val * 64 + d.val), by omega⟩) := by
  pointwise [A_main_v1, A_main_v0]
  blk_ext

/-- The query group. -/
theorem qcol_at (p : FVec Ideal S16640x5632 .f32) (b : Fin 8) (n : Fin 16) (i : Fin 128) (h : Fin 8) (d : Fin 64) :
    A_main_v3 (F := Ideal) p (ix4 b (pos n i) h d) = colv 3072 (by omega) p b n h i d := by
  refine Eq.trans (b := A_main_v1 (F := Ideal) p (ix5 b (pos n i) 0 h d)) (by pointwise [A_main_v3, A_main_v2]) ?_
  rw [rows_at]; unfold colv pos; blk_ext
/-- The key group. -/
theorem kcol_at (p : FVec Ideal S16640x5632 .f32) (b : Fin 8) (n : Fin 16) (i : Fin 128) (h : Fin 8) (d : Fin 64) :
    A_main_v5 (F := Ideal) p (ix4 b (pos n i) h d) = colv 3584 (by omega) p b n h i d := by
  refine Eq.trans (b := A_main_v1 (F := Ideal) p (ix5 b (pos n i) 1 h d)) (by pointwise [A_main_v5, A_main_v4]) ?_
  rw [rows_at]; unfold colv pos; blk_ext
/-- The value group. -/
theorem vcol_at (p : FVec Ideal S16640x5632 .f32) (b : Fin 8) (n : Fin 16) (i : Fin 128) (h : Fin 8) (d : Fin 64) :
    A_main_v7 (F := Ideal) p (ix4 b (pos n i) h d) = colv 4096 (by omega) p b n h i d := by
  refine Eq.trans (b := A_main_v1 (F := Ideal) p (ix5 b (pos n i) 2 h d)) (by pointwise [A_main_v7, A_main_v6]) ?_
  rw [rows_at]; unfold colv pos; blk_ext

/-- Two halves side by side, read at an index. -/
theorem cat_at (X Y : FVec Ideal S8x2048x8x32 .f32) (b : Fin 8) (t : Fin 2048) (h : Fin 8) (d : Fin 64) :
    concatenate S8x2048x8x64 3 [⟨S8x2048x8x32, X⟩, ⟨S8x2048x8x32, Y⟩] concatenates_S8x2048x8x32_S8x2048x8x32_S8x2048x8x64_d3
        (ix4 b t h d)
      = if h' : d.val < 32 then X (ix4 b t h ⟨d.val, h'⟩) else Y (ix4 b t h ⟨d.val - 32, by omega⟩) := by
  pointwise

/-- The rotation of a group, read at an index: the first half of a head's columns against the second. -/
theorem rot_at (X : FVec Ideal S8x2048x8x64 .f32) (C S S' C' : FVec Ideal S8x2048x8x32 .f32) (b : Fin 8) (t : Fin 2048)
    (h : Fin 8) (d : Fin 64) (hC : ∀ i : Fin 32, C (ix4 b t h i) = cosT t i) (hS : ∀ i : Fin 32, S (ix4 b t h i) = sinT t i)
    (hS' : ∀ i : Fin 32, S' (ix4 b t h i) = sinT t i) (hC' : ∀ i : Fin 32, C' (ix4 b t h i) = cosT t i) :
    concatenate S8x2048x8x64 3 [⟨S8x2048x8x32, subf
          (mulf (extractStridedSlice S8x2048x8x32 ![0, 0, 0, 0] X slices_S8x2048x8x64_S8x2048x8x32_0_0_0_0) C)
          (mulf (extractStridedSlice S8x2048x8x32 ![0, 0, 0, 32] X slices_S8x2048x8x64_S8x2048x8x32_0_0_0_32) S)⟩,
        ⟨S8x2048x8x32, addf
          (mulf (extractStridedSlice S8x2048x8x32 ![0, 0, 0, 0] X slices_S8x2048x8x64_S8x2048x8x32_0_0_0_0) S')
          (mulf (extractStridedSlice S8x2048x8x32 ![0, 0, 0, 32] X slices_S8x2048x8x64_S8x2048x8x32_0_0_0_32) C')⟩]
        concatenates_S8x2048x8x32_S8x2048x8x32_S8x2048x8x64_d3 (ix4 b t h d)
      = rot t (fun d => X (ix4 b t h d)) d := by
  have h0 : ∀ i : Fin 32, extractStridedSlice S8x2048x8x32 ![0, 0, 0, 0] X slices_S8x2048x8x64_S8x2048x8x32_0_0_0_0 (ix4 b t h i)
      = X (ix4 b t h (⟨i.val, by omega⟩ : Fin 64)) := fun i => by pointwise
  have h1 : ∀ i : Fin 32, extractStridedSlice S8x2048x8x32 ![0, 0, 0, 32] X slices_S8x2048x8x64_S8x2048x8x32_0_0_0_32 (ix4 b t h i)
      = X (ix4 b t h (⟨32 + i.val, by omega⟩ : Fin 64)) := fun i => by pointwise
  rw [cat_at]
  unfold rot
  split_ifs with hd
  · have e1 := h0 ⟨d.val, hd⟩
    have e2 := h1 ⟨d.val, hd⟩
    have e3 : (⟨32 + d.val, by omega⟩ : Fin 64) = ⟨d.val + 32, by omega⟩ := Fin.ext (by simp; omega)
    rw [e3] at e2
    exact congrArg₂ (· - ·) (congrArg₂ (· * ·) e1 (hC _)) (congrArg₂ (· * ·) e2 (hS _))
  · have e1 := h0 ⟨d.val - 32, by omega⟩
    have e2 := h1 ⟨d.val - 32, by omega⟩
    have e3 : (⟨32 + (d.val - 32), by omega⟩ : Fin 64) = d := Fin.ext (by simp; omega)
    rw [e3] at e2
    exact congrArg₂ (· + ·) (congrArg₂ (· * ·) e1 (hS' _)) (congrArg₂ (· * ·) e2 (hC' _))

theorem cos_q (b : Fin 8) (t : Fin 2048) (h : Fin 8) (i : Fin 32) : K_main_v27 (F := Ideal) (ix4 b t h i) = cosT t i := by
  unfold cosT; pointwise [K_main_v27, K_main_v22]
theorem sin_q (b : Fin 8) (t : Fin 2048) (h : Fin 8) (i : Fin 32) : K_main_v29 (F := Ideal) (ix4 b t h i) = sinT t i := by
  unfold sinT; pointwise [K_main_v29, K_main_v24]

/-- The rotated queries at a position. -/
theorem rotq_at (p : FVec Ideal S16640x5632 .f32) (b : Fin 8) (t : Fin 2048) (h : Fin 8) (d : Fin 64) :
    A_main_v37 (F := Ideal) p (ix4 b t h d) = rot t (fun d => A_main_v3 (F := Ideal) p (ix4 b t h d)) d := by
  unfold A_main_v37 A_main_v36 A_main_v35 A_main_v33 A_main_v31 A_main_v30 A_main_v28 A_main_v26 A_main_v25
  exact rot_at _ _ _ _ _ b t h d (cos_q b t h) (sin_q b t h) (sin_q b t h) (cos_q b t h)

/-- The rotated keys at a position. -/
theorem rotk_at (p : FVec Ideal S16640x5632 .f32) (b : Fin 8) (t : Fin 2048) (h : Fin 8) (d : Fin 64) :
    A_main_v66 (F := Ideal) p (ix4 b t h d) = rot t (fun d => A_main_v5 (F := Ideal) p (ix4 b t h d)) d := by
  unfold A_main_v66 A_main_v65 A_main_v64 A_main_v62 A_main_v60 A_main_v59 A_main_v57 A_main_v55 A_main_v54
  exact rot_at _ _ _ _ _ b t h d (cos_q b t h) (sin_q b t h) (sin_q b t h) (cos_q b t h)

/-- The scaled keys. -/
theorem scaled_at (X : FVec Ideal S8x2048x8x64 .f32) (b : Fin 8) (t : Fin 2048) (h : Fin 8) (d : Fin 64) :
    mulf X (K_main_v67 (F := Ideal)) (ix4 b t h d) = X (ix4 b t h d) * Ideal.ofBits .f32 0x3E000000#32 := by
  pointwise [K_main_v67, K_main_cst_3]

/-- The queries of a chunk. -/
theorem q_at (p : FVec Ideal S16640x5632 .f32) (n : Fin 16) (b h : Fin 8) (i : Fin 128) (d : Fin 64) :
    A_main_v118 (F := Ideal) p (ix5 n b h i d) = qv p b n h i d := by
  refine (chunk_at (A_main_v37 (F := Ideal) p) n b h i d).trans ((rotq_at p b (pos n i) h d).trans ?_)
  exact congrArg (fun x => rot (pos n i) x d) (funext fun d => qcol_at p b n i h d)
/-- The keys of a chunk. -/
theorem k_at (p : FVec Ideal S16640x5632 .f32) (n : Fin 16) (b h : Fin 8) (i : Fin 128) (d : Fin 64) :
    A_main_v120 (F := Ideal) p (ix5 n b h i d) = kv p b n h i d := by
  refine (chunk_at (A_main_v68 (F := Ideal) p) n b h i d).trans ((scaled_at _ b (pos n i) h d).trans ?_)
  refine congrArg (· * _) ((rotk_at p b (pos n i) h d).trans ?_)
  exact congrArg (fun x => rot (pos n i) x d) (funext fun d => kcol_at p b n i h d)
/-- The values of a chunk. -/
theorem v_at (p : FVec Ideal S16640x5632 .f32) (n : Fin 16) (b h : Fin 8) (i : Fin 128) (d : Fin 64) :
    A_main_v122 (F := Ideal) p (ix5 n b h i d) = vv p b n h i d :=
  (chunk_at (A_main_v7 (F := Ideal) p) n b h i d).trans (vcol_at p b n i h d)

end Cert.ReferenceIdeal.RetVal

end
-- ==== Proof.RetLoop.lean ====
/- The reference's recurrence: what its carried arrays hold before each trip. -/
module

public import proofs.«01_k».proof.Proof.RetRef
public import proofs.«01_k».proof.Proof.Gen.ReferenceIdeal.Run
public import Idealize.ShloMosaic.Lib.Pointwise
public import Idealize.ShloMosaic.Lib.Pipeline.ValueKit

@[expose] public section

set_option maxRecDepth 65536
set_option maxHeartbeats 700000

noncomputable section

open Idealize.ShloMosaic Idealize.ShloMosaic.TcCoe Idealize.ShloMosaic.Tactic Idealize.SL.Sem
open Idealize.ShloMosaic.StableHlo

namespace Cert.ReferenceIdeal.RetVal

open Cert.ReferenceIdeal Cert.ReferenceIdeal.Gen Cert.ReferenceIdeal.Step Cert.ReferenceIdeal.Value

/-- Where a trip's chunk starts. -/
theorem start_0 (ht : S1x8x8x128x64.rank = S16x8x8x128x64.rank) (st : Fin 5 → ℤ) (n : Fin 16) (h0 : st 0 = n.val) :
    Host.clampedStart S16x8x8x128x64 S1x8x8x128x64 ht st 0 = n.val := by
  unfold Host.clampedStart
  rw [h0]
  have := n.isLt
  show (min (max (n.val : ℤ) 0) ((16 - 1 : ℕ) : ℤ)).toNat = n.val
  omega
/-- The other axes start at zero. -/
theorem start_s (ht : S1x8x8x128x64.rank = S16x8x8x128x64.rank) (st : Fin 5 → ℤ) (k : Fin 5) (h0 : st k = 0) :
    Host.clampedStart S16x8x8x128x64 S1x8x8x128x64 ht st k = 0 := by
  unfold Host.clampedStart
  rw [h0]
  omega

/-- The trip's chunk out of an array of chunks. -/
theorem slice_at (X : FVec Ideal S16x8x8x128x64 .f32) (st : Fin 5 → ℤ) (n : Fin 16) (h0 : st 0 = n.val) (h1 : st 1 = 0)
    (h2 : st 2 = 0) (h3 : st 3 = 0) (h4 : st 4 = 0) (b h : Fin 8) (i : Fin 128) (d : Fin 64) :
    shapeCast S8x8x128x64 (Host.dynamicSlice S1x8x8x128x64 X st sliceFits_S16x8x8x128x64_S1x8x8x128x64) shapeCasts_S1x8x8x128x64_S8x8x128x64
        (ix4 b h i d) = X (ix5 n b h i d) := by
  have e0 := start_0 rfl st n h0
  have e1 := start_s rfl st 1 h1
  have e2 := start_s rfl st 2 h2
  have e3 := start_s rfl st 3 h3
  have e4 := start_s rfl st 4 h4
  pointwise
  simp only [e0, e1, e2, e3, e4]
  congr 2 <;> exact Fin.ext (Nat.zero_add _)

/-- The array of outputs with the trip's chunk written. -/
theorem update_at (X : FVec Ideal S16x8x8x128x64 .f32) (U : FVec Ideal S8x8x128x64 .f32) (st : Fin 5 → ℤ) (n n' : Fin 16)
    (h0 : st 0 = n.val) (h1 : st 1 = 0)
    (h2 : st 2 = 0) (h3 : st 3 = 0) (h4 : st 4 = 0) (b h : Fin 8) (i : Fin 128) (d : Fin 64) :
    Host.dynamicUpdateSlice X (broadcastInDim S1x8x8x128x64 ![1, 2, 3, 4] bcast_S8x8x128x64_S1x8x8x128x64_1_2_3_4 U) st updateFits_S16x8x8x128x64_S1x8x8x128x64
        (ix5 n' b h i d) = if n' = n then U (ix4 b h i d) else X (ix5 n' b h i d) := by
  have e0 := start_0 rfl st n h0
  have e1 := start_s rfl st 1 h1
  have e2 := start_s rfl st 2 h2
  have e3 := start_s rfl st 3 h3
  have e4 := start_s rfl st 4 h4
  pointwise
  simp only [e0, e1, e2, e3, e4]
  split_ifs with ha hb hb
  · rfl
  · exact absurd (Fin.ext (by omega)) hb
  · subst hb
    exact absurd ⟨⟨le_refl _, by omega⟩, by omega, by omega, by omega, by omega⟩ ha
  · rfl

/-- The next state, read at an index. -/
theorem state_at (s : FVec Ideal S8x8x64x64 .f32) (k v : FVec Ideal S8x8x128x64 .f32) (b h : Fin 8) (d e : Fin 64) :
    addf (mulf s (broadcastInDim S8x8x64x64 ![0, 1, 2, 3] bcast_S1x8x1x1_S8x8x64x64_0_1_2_3 (K_main_v116 (F := Ideal)))) (Host.dotGeneral dot_S8x8x128x64_S8x8x128x64_S8x8x64x64_2_2_3_3_01_01 none (mulf k (broadcastInDim S8x8x128x64 ![0, 1, 2, 3] bcast_S1x8x128x1_S8x8x128x64_0_1_2_3 (K_main_v112 (F := Ideal)))) v)
        (ix4 b h d e)
      = s (ix4 b h d e) * cdT h + ∑ j : Fin 128, k (ix4 b h j d) * kdT h j * v (ix4 b h j e) := by
  unfold cdT kdT
  pointwise [K_main_v116, K_main_v112]

/-- A chunk's output, read at an index. -/
theorem outc_at (s : FVec Ideal S8x8x64x64 .f32) (q k v : FVec Ideal S8x8x128x64 .f32) (b h : Fin 8) (i : Fin 128) (e : Fin 64) :
    addf (Host.dotGeneral (F := Ideal) (φ₁ := .f32) (φ₂ := .f32) dot_S8x8x128x128_S8x8x128x64_S8x8x128x64_3_2_2_3_01_01 none (mulf (Host.dotGeneral dot_S8x8x128x64_S8x8x128x64_S8x8x128x128_3_3_2_2_01_01 none q k) (broadcastInDim S8x8x128x128 ![0, 1, 2, 3] bcast_S1x8x128x128_S8x8x128x128_0_1_2_3 (broadcastInDim S1x8x128x128 ![1, 2, 3] bcast_S8x128x128_S1x8x128x128_1_2_3 (K_main_v94 (F := Ideal))))) v) (mulf (Host.dotGeneral dot_S8x8x128x64_S8x8x64x64_S8x8x128x64_3_2_2_3_01_01 none q s) (broadcastInDim S8x8x128x64 ![0, 1, 2, 3] bcast_S1x8x128x1_S8x8x128x64_0_1_2_3 (K_main_v103 (F := Ideal))))
        (ix4 b h i e)
      = (∑ j : Fin 128, (∑ d : Fin 64, q (ix4 b h i d) * k (ix4 b h j d)) * decT h i j * v (ix4 b h j e))
        + (∑ d : Fin 64, q (ix4 b h i d) * s (ix4 b h d e)) * qdT h i := by
  unfold decT qdT
  pointwise [K_main_v103]

variable (m : (ℓ : Loc nD τ sig) → Buf (Elt Ideal) ℓ)

/-- What the carried arrays hold before trip `n`. -/
structure Held (p : FVec Ideal S16640x5632 .f32) (V : Valuation τ sig (Elt Ideal)) (n : ℕ) : Prop where
  q : V (Proc.devRef .tc main_v124_0) = A_main_v118 (F := Ideal) p
  k : V (Proc.devRef .tc main_v124_1) = A_main_v120 (F := Ideal) p
  v : V (Proc.devRef .tc main_v124_2) = A_main_v122 (F := Ideal) p
  dec : V (Proc.devRef .tc main_v124_3) = K_main_v94 (F := Ideal)
  qd : V (Proc.devRef .tc main_v124_4) = K_main_v103 (F := Ideal)
  cd : V (Proc.devRef .tc main_v124_5) = K_main_v116 (F := Ideal)
  kd : V (Proc.devRef .tc main_v124_6) = K_main_v112 (F := Ideal)
  ctr : V (Proc.devRef .tc main_v124_7) = constantI S_ 32 (BitVec.ofNat 32 n)
  state : ∀ (b h : Fin 8) (d e : Fin 64), (V (Proc.devRef .tc main_v124_8) : FVec Ideal S8x8x64x64 .f32) (ix4 b h d e) = St p b h n d e
  out : ∀ (n' : Fin 16) (b h : Fin 8) (i : Fin 128) (e : Fin 64), n'.val < n →
    (V (Proc.devRef .tc main_v124_9) : FVec Ideal S16x8x8x128x64 .f32) (ix5 n' b h i e) = Ov p b n' h i e

/-- A trip's number as the counter holds it. -/
theorem toInt_trip (n : Fin 16) : (BitVec.ofNat 32 n.val).toInt = (n.val : ℤ) := by
  revert n; decide

/-- The trip's queries. -/
theorem res_q (p : FVec Ideal S16640x5632 .f32) (V : Valuation τ sig (Elt Ideal)) (n : Fin 16) (H : Held p V n.val)
    (b h : Fin 8) (i : Fin 128) (d : Fin 64) : (res_main_while0b_v165 V : FVec Ideal S8x8x128x64 .f32) (ix4 b h i d) = qv p b n h i d := by
  have hn := toInt_trip n
  unfold res_main_while0b_v165
  rw [H.q, H.ctr]
  exact (slice_at _ _ n hn rfl rfl rfl rfl b h i d).trans (q_at p n b h i d)
/-- The trip's keys. -/
theorem res_k (p : FVec Ideal S16640x5632 .f32) (V : Valuation τ sig (Elt Ideal)) (n : Fin 16) (H : Held p V n.val)
    (b h : Fin 8) (i : Fin 128) (d : Fin 64) : (res_main_while0b_v166 V : FVec Ideal S8x8x128x64 .f32) (ix4 b h i d) = kv p b n h i d := by
  have hn := toInt_trip n
  unfold res_main_while0b_v166
  rw [H.k, H.ctr]
  exact (slice_at _ _ n hn rfl rfl rfl rfl b h i d).trans (k_at p n b h i d)
/-- The trip's values. -/
theorem res_v (p : FVec Ideal S16640x5632 .f32) (V : Valuation τ sig (Elt Ideal)) (n : Fin 16) (H : Held p V n.val)
    (b h : Fin 8) (i : Fin 128) (d : Fin 64) : (res_main_while0b_v167 V : FVec Ideal S8x8x128x64 .f32) (ix4 b h i d) = vv p b n h i d := by
  have hn := toInt_trip n
  unfold res_main_while0b_v167
  rw [H.v, H.ctr]
  exact (slice_at _ _ n hn rfl rfl rfl rfl b h i d).trans (v_at p n b h i d)

/-- One trip carries what is held on. -/
theorem held_step (p : FVec Ideal S16640x5632 .f32) (V : Valuation τ sig (Elt Ideal)) (n : Fin 16) (H : Held p V n.val) :
    Held p (STEP V) (n.val + 1) where
  q := (STEP_main_v124_0 V).trans H.q
  k := (STEP_main_v124_1 V).trans H.k
  v := (STEP_main_v124_2 V).trans H.v
  dec := (STEP_main_v124_3 V).trans H.dec
  qd := (STEP_main_v124_4 V).trans H.qd
  cd := (STEP_main_v124_5 V).trans H.cd
  kd := (STEP_main_v124_6 V).trans H.kd
  ctr := by
    rw [STEP_main_v124_7]
    unfold Value.step_main_v124_7
    rw [H.ctr, BitVec.ofNat_add]
    rfl
  state := fun b h d e => by
    rw [STEP_main_v124_8]
    unfold Value.step_main_v124_8
    rw [H.cd, H.kd]
    refine (state_at _ _ _ b h d e).trans ?_
    rw [H.state b h d e, St]
    beta_reduce
    rw [dif_pos n.isLt]
    refine congrArg (_ + ·) (Finset.sum_congr rfl fun j _ => ?_)
    rw [res_k p V n H, res_v p V n H]
  out := fun n' b h i e hn' => by
    have hn := toInt_trip n
    rw [STEP_main_v124_9]
    unfold Value.step_main_v124_9
    rw [H.dec, H.qd, H.ctr]
    refine (update_at _ _ _ n n' hn rfl rfl rfl rfl b h i e).trans ?_
    split_ifs with he
    · subst he
      refine (outc_at _ _ _ _ b h i e).trans ?_
      unfold Ov
      refine congrArg₂ (· + ·) (Finset.sum_congr rfl fun j _ => ?_) (congrArg (· * _) (Finset.sum_congr rfl fun d _ => ?_))
      · rw [res_v p V n' H]
        refine congrArg (· * _ * _) (Finset.sum_congr rfl fun d _ => ?_)
        rw [res_q p V n' H, res_k p V n' H]
      · rw [res_q p V n' H, H.state]
    · exact H.out n' b h i e (by
        have : n'.val ≠ n.val := fun h => he (Fin.ext h)
        omega)

/-- What is held at the loop's entry. -/
theorem held_entry (c : Dev nD) : Held (m ((c.tc : Thread nD τ).loc main_arg0)) (entryContents preI m c) 0 := by
  constructor
  case state =>
    intro b h d e
    have hz : entryContents preI m c (Proc.devRef .tc main_v124_8) = K_main_v69 (F := Ideal) := by
      (simp only [entryContents, afterL_cons, afterL_nil]; after_reads_simp) <;> rfl
    rw [hz]
    show _ = (0 : EReal)
    pointwise [K_main_v69, K_main_cst_4]
  case out => exact fun n' b h i e hn => absurd hn (Nat.not_lt_zero _)
  all_goals (simp only [entryContents, afterL_cons, afterL_nil]; after_reads_simp) <;> rfl

/-- What is held after `n` trips. -/
theorem held_iter (c : Dev nD) : ∀ n, n ≤ 16 → Held (m ((c.tc : Thread nD τ).loc main_arg0)) (STEP^[n] (entryContents preI m c)) n
  | 0, _ => held_entry m c
  | n + 1, h => by
    rw [Function.iterate_succ_apply']
    exact held_step _ _ ⟨n, h⟩ (held_iter c n (by omega))

end Cert.ReferenceIdeal.RetVal

end
-- ==== Proof.RetPost.lean ====
/- The reference's results, read at an index. -/
module

public import proofs.«01_k».proof.Proof.RetLoop
public import Idealize.ShloMosaic.Lib.Pointwise
public import Idealize.ShloMosaic.Lib.Pipeline.ValueKit

@[expose] public section

set_option maxRecDepth 65536
set_option maxHeartbeats 700000

noncomputable section

open Idealize.ShloMosaic Idealize.ShloMosaic.TcCoe Idealize.ShloMosaic.Tactic Idealize.SL.Sem
open Idealize.ShloMosaic.StableHlo

namespace Cert.ReferenceIdeal.RetVal

open Cert.ReferenceIdeal Cert.ReferenceIdeal.Gen Cert.ReferenceIdeal.Step Cert.ReferenceIdeal.Value

/-- The chunks put back side by side. -/
theorem unchunk_at (X : FVec Ideal S16x8x8x128x64 .f32) (b : Fin 8) (n : Fin 16) (i : Fin 128) (h : Fin 8) (d : Fin 64) :
    shapeCast S8x2048x8x64 (transpose S8x16x128x8x64 [1, 0, 3, 2, 4] X transposes_S16x8x8x128x64_S8x16x128x8x64_1_0_3_2_4) shapeCasts_S8x16x128x8x64_S8x2048x8x64 (ix4 b (pos n i) h d)
      = X (ix5 n b h i d) := by
  unfold pos
  pointwise
  blk_ext

/-- The gate. -/
theorem gate_at (p : FVec Ideal S16640x5632 .f32) (b : Fin 8) (n : Fin 16) (i : Fin 128) (h : Fin 8) (d : Fin 64) :
    shapeCast S8x2048x8x64 (extractStridedSlice S16384x512 ![0, 4608] p slices_S16640x5632_S16384x512_0_4608) shapeCasts_S16384x512_S8x2048x8x64 (ix4 b (pos n i) h d)
      = colv 4608 (by omega) p b n h i d := by
  unfold pos colv
  pointwise
  blk_ext

/-- A gated and normalised entry, of its gate, its head's row and its gain. -/
def yOf (g : EReal) (o : Fin 64 → EReal) (w : EReal) (d : Fin 64) : EReal :=
  g * Ideal.div 1 (1 + Ideal.exp (-g)) *
    (o d * Ideal.rsqrt (Ideal.div (∑ x, o x * o x) (Ideal.ofBits FTy.f32 0x42800000#32) + Ideal.ofBits FTy.f32 0x358637BD#32) * w)

/-- The gated and normalised output, read at an index. -/
theorem gated_at (O G : FVec Ideal S8x2048x8x64 .f32) (gain : FVec Ideal S8x64 .f32) (b : Fin 8) (t : Fin 2048) (h : Fin 8) (d : Fin 64) :
    mulf (mulf G (Host.divf (broadcastInDim S8x2048x8x64 ![] bcast_S_S8x2048x8x64 (constant (F := Ideal) S_ .f32 0x3F800000#32)) (addf (broadcastInDim S8x2048x8x64 ![] bcast_S_S8x2048x8x64 (constant S_ .f32 0x3F800000#32)) (Host.exp (Host.negf G))))) (mulf (mulf O (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf O O) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x8x64_S8x2048x8x64_0_1_2_3 (broadcastInDim S1x1x8x64 ![2, 3] bcast_S8x64_S1x1x8x64_2_3 gain))) (ix4 b t h d)
      = yOf (G (ix4 b t h d)) (fun e => O (ix4 b t h e)) (gain (ix2 h d)) d := by
  unfold yOf
  pointwise

/-- The rows put back into the projection's layout. -/
theorem flat_at (X : FVec Ideal S8x2048x8x64 .f32) (b : Fin 8) (t : Fin 2048) (h : Fin 8) (d : Fin 64) :
    truncf .bf16 (shapeCast S16384x512 X shapeCasts_S8x2048x8x64_S16384x512) bitsLt_bf16_f32 (ix2 ⟨b.val * 2048 + t.val, by omega⟩ ⟨h.val * 64 + d.val, by omega⟩) = X (ix4 b t h d) := by
  pointwise

/-- The block of results inside `mix`. -/
theorem placed_at (X : FVec Ideal S16640x2048 .bf16) (U : FVec Ideal S16384x512 .bf16) (r : Fin 16640) (j : Fin 2048) :
    Host.dynamicUpdateSlice X U (fun k => (((![constantI S_ 32 0#32, constantI S_ 32 1024#32] : Fin 2 → (⟨S_, .i32⟩ : BufTy).Contents (Elt Ideal))) k (Shape.Idx.first h_S_)).toInt) updateFits_S16640x2048_S16384x512 (ix2 r j)
     = if hr : r.val < 16384 ∧ 1024 ≤ j.val ∧ j.val < 1536 then U (ix2 ⟨r.val, hr.1⟩ ⟨j.val - 1024, by omega⟩) else X (ix2 r j) := by
  have e0 : Host.clampedStart S16640x2048 S16384x512 rfl (fun k => (((![constantI S_ 32 0#32, constantI S_ 32 1024#32] : Fin 2 → (⟨S_, .i32⟩ : BufTy).Contents (Elt Ideal))) k (Shape.Idx.first h_S_)).toInt) 0 = 0 := by
    unfold Host.clampedStart; rfl
  have e1 : Host.clampedStart S16640x2048 S16384x512 rfl (fun k => (((![constantI S_ 32 0#32, constantI S_ 32 1024#32] : Fin 2 → (⟨S_, .i32⟩ : BufTy).Contents (Elt Ideal))) k (Shape.Idx.first h_S_)).toInt) 1 = 1024 := by
    unfold Host.clampedStart; rfl
  pointwise
  simp only [e0, e1]
  split_ifs with ha hb hb
  · rfl
  · exact absurd ⟨by omega, by omega, by omega⟩ hb
  · exact absurd ⟨⟨by omega, by omega⟩, by omega, by omega⟩ ha
  · rfl

/-- The states laid out as pairs of heads. -/
theorem pairs_at (X : FVec Ideal S8x8x64x64 .f32) (b : Fin 8) (h : Fin 4) (r c : Fin 128) :
  shapeCast S8x4x128x128 (select (broadcastInDim S8x4x2x64x2x64 ![0, 1, 2, 3, 4, 5] bcast_S1x1x2x1x2x1_S8x4x2x64x2x64_0_1_2_3_4_5 (broadcastInDim S1x1x2x1x2x1 ![2, 4] bcast_S2x2_S1x1x2x1x2x1_2_4 (cmpi .eq (broadcastInDim S2x2 ![0, 1] bcast_S2x1_S2x2_0_1 (broadcastInDim S2x1 ![0] bcast_S2_S2x1_0 (iotaInDim S2 32 0))) (broadcastInDim S2x2 ![0, 1] bcast_S1x2_S2x2_0_1 (broadcastInDim S1x2 ![1] bcast_S2_S1x2_1 (iotaInDim S2 32 0)))))) (broadcastInDim S8x4x2x64x2x64 ![0, 1, 2, 3, 4, 5] bcast_S8x4x2x64x1x64_S8x4x2x64x2x64_0_1_2_3_4_5 (broadcastInDim S8x4x2x64x1x64 ![0, 1, 2, 3, 5] bcast_S8x4x2x64x64_S8x4x2x64x1x64_0_1_2_3_5 (shapeCast S8x4x2x64x64 X shapeCasts_S8x8x64x64_S8x4x2x64x64))) (broadcastInDim S8x4x2x64x2x64 ![] bcast_S_S8x4x2x64x2x64 (id (constant (F := Ideal) S_ .f32 0x00000000#32)))) shapeCasts_S8x4x2x64x2x64_S8x4x128x128
      (ix4 b h r c) = if r.val / 64 = c.val / 64 then X (ix4 b ⟨h.val * 2 + r.val / 64, by omega⟩ ⟨r.val % 64, by omega⟩ ⟨c.val % 64, by omega⟩) else 0 := by
  have hz : ∀ x y : ℕ, x < 2 → y < 2 → IntOp.cmpi CmpIPredicate.eq (BitVec.ofNat 32 x) (BitVec.ofNat 32 y) = if x = y then 1#1 else 0#1 := by
    intro x y hx hy
    interval_cases x <;> interval_cases y <;> decide
  pointwise
  rw [hz _ _ (by omega) (by omega)]
  split_ifs with hh
  · rfl
  · show id (constant (F := Ideal) S_ FTy.f32 0#32) ix0 = 0
    unfold id
    pointwise

variable (m : (ℓ : Loc nD τ sig) → Buf (Elt Ideal) ℓ)

/-- The result inside `mix`, read at an index. -/
def mixOf (p : FVec Ideal S16640x5632 .f32) (gain : FVec Ideal S8x64 .f32) (mix : FVec Ideal S16640x2048 .bf16) (r : Fin 16640) (j : Fin 2048) : EReal :=
  if hr : r.val < 16384 ∧ 1024 ≤ j.val ∧ j.val < 1536 then
    yOf (colv 4608 (by omega) p ⟨r.val / 2048, by omega⟩ ⟨r.val % 2048 / 128, by omega⟩ ⟨(j.val - 1024) / 64, by omega⟩ ⟨r.val % 128, by omega⟩ ⟨j.val % 64, by omega⟩)
      (Ov p ⟨r.val / 2048, by omega⟩ ⟨r.val % 2048 / 128, by omega⟩ ⟨(j.val - 1024) / 64, by omega⟩ ⟨r.val % 128, by omega⟩)
      (gain (ix2 ⟨(j.val - 1024) / 64, by omega⟩ ⟨j.val % 64, by omega⟩)) ⟨j.val % 64, by omega⟩
  else mix (ix2 r j)

/-- The final states, read at an index. -/
def stOf (p : FVec Ideal S16640x5632 .f32) (b : Fin 8) (h : Fin 4) (r c : Fin 128) : EReal :=
  if r.val / 64 = c.val / 64 then St p b ⟨h.val * 2 + r.val / 64, by omega⟩ 16 ⟨r.val % 64, by omega⟩ ⟨c.val % 64, by omega⟩ else 0

/-- The second result of the reference. -/
theorem out_state (p : FVec Ideal S16640x5632 .f32) (V : Valuation τ sig (Elt Ideal)) (H : Held p V 16) (b : Fin 8) (h : Fin 4) (r c : Fin 128) :
    (out_main_v164 V : FVec Ideal S8x4x128x128 .f32) (ix4 b h r c) = stOf p b h r c := by
  unfold out_main_v164
  refine (pairs_at _ b h r c).trans ?_
  unfold stOf
  split_ifs with hh
  · exact H.state _ _ _ _
  · rfl

/-- The first result of the reference. -/
theorem out_mix (p : FVec Ideal S16640x5632 .f32) (gain : FVec Ideal S8x64 .f32) (mix : FVec Ideal S16640x2048 .bf16) (V : Valuation τ sig (Elt Ideal)) (H : Held p V 16)
    (h0 : V (Proc.devRef .tc main_arg0) = p) (h1 : V (Proc.devRef .tc main_arg1) = gain) (h2 : V (Proc.devRef .tc main_arg2) = mix) (r : Fin 16640) (j : Fin 2048) :
    (out_main_v152 V : FVec Ideal S16640x2048 .bf16) (ix2 r j) = mixOf p gain mix r j := by
  unfold out_main_v152
  rw [h0, h1, h2]
  refine (placed_at _ _ r j).trans ?_
  unfold mixOf
  split_ifs with hr
  · have hi : (ix2 (⟨r.val, hr.1⟩ : Fin 16384) (⟨j.val - 1024, by omega⟩ : Fin 512) : S16384x512.Idx)
        = ix2 (⟨(⟨r.val / 2048, by omega⟩ : Fin 8).val * 2048 + (pos ⟨r.val % 2048 / 128, by omega⟩ ⟨r.val % 128, by omega⟩).val, by unfold pos; simp only; omega⟩ : Fin 16384)
            (⟨(⟨(j.val - 1024) / 64, by omega⟩ : Fin 8).val * 64 + (⟨j.val % 64, by omega⟩ : Fin 64).val, by simp only; omega⟩ : Fin 512) := by
      refine congrArg₂ ix2 (Fin.ext ?_) (Fin.ext ?_)
      · unfold pos; simp only; omega
      · simp only; omega
    rw [hi]
    refine (flat_at _ _ _ _ _).trans ((gated_at _ _ gain _ _ _ _).trans ?_)
    rw [gate_at]
    congr 1
    funext e
    exact (unchunk_at _ _ _ _ _ _).trans (H.out _ _ _ _ _ (by simp only; omega))
  · rfl

end Cert.ReferenceIdeal.RetVal

end
-- ==== Proof.RetTab.lean ====
/- The tables the kernel reads are the reference's. -/
module

public import proofs.«01_k».proof.Proof.Gen.KernelIdeal.Value
public import proofs.«01_k».proof.Proof.RetPost
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.KernelIdeal.RetTab

open Cert.KernelIdeal Cert.KernelIdeal.Gen
open Cert.ReferenceIdeal.RetVal (rot cosT sinT decT qdT kdT cdT colv pos qv kv vv St Ov yOf)

variable (m : (ℓ : Loc nD τ sig) → Buf (Elt Ideal) ℓ) (c : Dev nD)

/-- The cosine table, one plane's angle repeated over the four groups of lanes. -/
theorem cos_at (t : Fin 2048) (l : Fin 128) : Gen.V (F := Ideal) m c main_v17 (ix2 t l) = cosT t ⟨l.val % 32, by omega⟩ := by
  simp only [Gen.V, hostOps0, hostOps0_1, hostOps0_2, List.flatten_cons, List.flatten_nil, List.append_nil, List.cons_append, List.nil_append]
  entry_read
  unfold cosT
  pointwise [Cert.ReferenceIdeal.Step.K_main_cst, Cert.ReferenceIdeal.Step.K_main_cst_0, Cert.ReferenceIdeal.Step.K_main_v8, Cert.ReferenceIdeal.Step.K_main_v9, Cert.ReferenceIdeal.Step.K_main_v10, Cert.ReferenceIdeal.Step.K_main_v11, Cert.ReferenceIdeal.Step.K_main_v12, Cert.ReferenceIdeal.Step.K_main_v13, Cert.ReferenceIdeal.Step.K_main_v14, Cert.ReferenceIdeal.Step.K_main_v15, Cert.ReferenceIdeal.Step.K_main_v16, Cert.ReferenceIdeal.Step.K_main_v17, Cert.ReferenceIdeal.Step.K_main_v18, Cert.ReferenceIdeal.Step.K_main_v19, Cert.ReferenceIdeal.Step.K_main_v20, Cert.ReferenceIdeal.Step.K_main_v21, Cert.ReferenceIdeal.Step.K_main_v23]

/-- The sine table, negated on each head's first half. -/
theorem sin_at (t : Fin 2048) (l : Fin 128) : Gen.V (F := Ideal) m c main_v22 (ix2 t l) = if l.val % 64 < 32 then -sinT t ⟨l.val % 32, by omega⟩ else sinT t ⟨l.val % 32, by omega⟩ := by
  simp only [Gen.V, hostOps0, hostOps0_1, hostOps0_2, List.flatten_cons, List.flatten_nil, List.append_nil, List.cons_append, List.nil_append]
  entry_read
  unfold sinT
  pointwise [Cert.ReferenceIdeal.Step.K_main_cst, Cert.ReferenceIdeal.Step.K_main_cst_0, Cert.ReferenceIdeal.Step.K_main_v8, Cert.ReferenceIdeal.Step.K_main_v9, Cert.ReferenceIdeal.Step.K_main_v10, Cert.ReferenceIdeal.Step.K_main_v11, Cert.ReferenceIdeal.Step.K_main_v12, Cert.ReferenceIdeal.Step.K_main_v13, Cert.ReferenceIdeal.Step.K_main_v14, Cert.ReferenceIdeal.Step.K_main_v15, Cert.ReferenceIdeal.Step.K_main_v16, Cert.ReferenceIdeal.Step.K_main_v17, Cert.ReferenceIdeal.Step.K_main_v18, Cert.ReferenceIdeal.Step.K_main_v19, Cert.ReferenceIdeal.Step.K_main_v20, Cert.ReferenceIdeal.Step.K_main_v21, Cert.ReferenceIdeal.Step.K_main_v23]
  by_cases h : l.val % 64 < 32
  · rw [dif_pos h, if_pos h, show l.val % 64 = l.val % 32 from by omega]
  · rw [dif_neg h, if_neg h, show l.val % 64 - 32 = l.val % 32 from by omega]

/-- The decay table of a pair's head. -/
theorem dec_at (g : Fin 4) (e : Fin 2) (i j : Fin 128) : Gen.V (F := Ideal) m c main_v67 (ix4 g e i j) = decT ⟨g.val * 2 + e.val, by omega⟩ i j := by
  simp only [Gen.V, hostOps0, hostOps0_1, hostOps0_2, List.flatten_cons, List.flatten_nil, List.append_nil, List.cons_append, List.nil_append]
  entry_read
  simp only [StableHlo.TRef.toBuf, StableHlo.TRef.ofBuf, cast_cast, cast_eq]
  unfold decT
  pointwise [Cert.ReferenceIdeal.Step.K_main_cst_5, Cert.ReferenceIdeal.Step.K_main_cst_6, Cert.ReferenceIdeal.Step.K_main_cst_7, Cert.ReferenceIdeal.Step.K_main_v70, Cert.ReferenceIdeal.Step.K_main_v71, Cert.ReferenceIdeal.Step.K_main_v72, Cert.ReferenceIdeal.Step.K_main_v73, Cert.ReferenceIdeal.Step.K_main_v74, Cert.ReferenceIdeal.Step.K_main_v75, Cert.ReferenceIdeal.Step.K_main_v76, Cert.ReferenceIdeal.Step.K_main_v77, Cert.ReferenceIdeal.Step.K_main_v78, Cert.ReferenceIdeal.Step.K_main_cst_8, Cert.ReferenceIdeal.Step.K_main_cst_9, Cert.ReferenceIdeal.Step.K_main_cst_10, Cert.ReferenceIdeal.Step.K_main_call0_v0, Cert.ReferenceIdeal.Step.K_main_call0_v1, Cert.ReferenceIdeal.Step.K_main_call0_v2, Cert.ReferenceIdeal.Step.K_main_v79, Cert.ReferenceIdeal.Step.K_main_v80, Cert.ReferenceIdeal.Step.K_main_v81, Cert.ReferenceIdeal.Step.K_main_v82, Cert.ReferenceIdeal.Step.K_main_v83, Cert.ReferenceIdeal.Step.K_main_v84, Cert.ReferenceIdeal.Step.K_main_v85, Cert.ReferenceIdeal.Step.K_main_v86, Cert.ReferenceIdeal.Step.K_main_v87, Cert.ReferenceIdeal.Step.K_main_v88, Cert.ReferenceIdeal.Step.K_main_v89, Cert.ReferenceIdeal.Step.K_main_v90, Cert.ReferenceIdeal.Step.K_main_v91, Cert.ReferenceIdeal.Step.K_main_v92, Cert.ReferenceIdeal.Step.K_main_v93, Cert.ReferenceIdeal.Step.K_main_v94]
  simp only [id_eq]
  pointwise

/-- The entering state's decay. -/
theorem qd_at (g : Fin 4) (r l : Fin 128) : Gen.V (F := Ideal) m c main_v76 (ix3 g r l) = qdT ⟨g.val * 2 + l.val / 64, by omega⟩ r := by
  simp only [Gen.V, hostOps0, hostOps0_1, hostOps0_2, List.flatten_cons, List.flatten_nil, List.append_nil, List.cons_append, List.nil_append]
  entry_read
  unfold qdT
  pointwise [Cert.ReferenceIdeal.Step.K_main_cst_5, Cert.ReferenceIdeal.Step.K_main_cst_6, Cert.ReferenceIdeal.Step.K_main_cst_7, Cert.ReferenceIdeal.Step.K_main_v70, Cert.ReferenceIdeal.Step.K_main_v71, Cert.ReferenceIdeal.Step.K_main_v72, Cert.ReferenceIdeal.Step.K_main_v73, Cert.ReferenceIdeal.Step.K_main_v74, Cert.ReferenceIdeal.Step.K_main_v75, Cert.ReferenceIdeal.Step.K_main_v76, Cert.ReferenceIdeal.Step.K_main_v77, Cert.ReferenceIdeal.Step.K_main_v78, Cert.ReferenceIdeal.Step.K_main_cst_11, Cert.ReferenceIdeal.Step.K_main_v95, Cert.ReferenceIdeal.Step.K_main_v96, Cert.ReferenceIdeal.Step.K_main_v97, Cert.ReferenceIdeal.Step.K_main_v98, Cert.ReferenceIdeal.Step.K_main_v99, Cert.ReferenceIdeal.Step.K_main_v100, Cert.ReferenceIdeal.Step.K_main_v101, Cert.ReferenceIdeal.Step.K_main_v102]

/-- The rows' decay to the chunk's end. -/
theorem kd_at (g : Fin 4) (r l : Fin 128) : Gen.V (F := Ideal) m c main_v80 (ix3 g r l) = kdT ⟨g.val * 2 + l.val / 64, by omega⟩ r := by
  simp only [Gen.V, hostOps0, hostOps0_1, hostOps0_2, List.flatten_cons, List.flatten_nil, List.append_nil, List.cons_append, List.nil_append]
  entry_read
  unfold kdT
  pointwise [Cert.ReferenceIdeal.Step.K_main_cst_5, Cert.ReferenceIdeal.Step.K_main_cst_6, Cert.ReferenceIdeal.Step.K_main_cst_7, Cert.ReferenceIdeal.Step.K_main_v70, Cert.ReferenceIdeal.Step.K_main_v71, Cert.ReferenceIdeal.Step.K_main_v72, Cert.ReferenceIdeal.Step.K_main_v73, Cert.ReferenceIdeal.Step.K_main_v74, Cert.ReferenceIdeal.Step.K_main_v75, Cert.ReferenceIdeal.Step.K_main_v76, Cert.ReferenceIdeal.Step.K_main_v77, Cert.ReferenceIdeal.Step.K_main_v78, Cert.ReferenceIdeal.Step.K_main_cst_12, Cert.ReferenceIdeal.Step.K_main_v104, Cert.ReferenceIdeal.Step.K_main_v105, Cert.ReferenceIdeal.Step.K_main_v106, Cert.ReferenceIdeal.Step.K_main_v107, Cert.ReferenceIdeal.Step.K_main_v108, Cert.ReferenceIdeal.Step.K_main_v109, Cert.ReferenceIdeal.Step.K_main_v110, Cert.ReferenceIdeal.Step.K_main_v111]

/-- The decay over a whole chunk. -/
theorem cd_at (g : Fin 4) (r l : Fin 128) : Gen.V (F := Ideal) m c main_v72 (ix3 g r l) = cdT ⟨g.val * 2 + r.val / 64, by omega⟩ := by
  simp only [Gen.V, hostOps0, hostOps0_1, hostOps0_2, List.flatten_cons, List.flatten_nil, List.append_nil, List.cons_append, List.nil_append]
  entry_read
  unfold cdT
  pointwise [Cert.ReferenceIdeal.Step.K_main_cst_5, Cert.ReferenceIdeal.Step.K_main_cst_6, Cert.ReferenceIdeal.Step.K_main_cst_7, Cert.ReferenceIdeal.Step.K_main_v70, Cert.ReferenceIdeal.Step.K_main_v71, Cert.ReferenceIdeal.Step.K_main_v72, Cert.ReferenceIdeal.Step.K_main_v73, Cert.ReferenceIdeal.Step.K_main_v74, Cert.ReferenceIdeal.Step.K_main_v75, Cert.ReferenceIdeal.Step.K_main_v76, Cert.ReferenceIdeal.Step.K_main_v77, Cert.ReferenceIdeal.Step.K_main_v78, Cert.ReferenceIdeal.Step.K_main_cst_13, Cert.ReferenceIdeal.Step.K_main_v113, Cert.ReferenceIdeal.Step.K_main_v114, Cert.ReferenceIdeal.Step.K_main_v115]

/-- The gains in one row. -/
theorem gain_at (l : Fin 512) : Gen.V (F := Ideal) m c main_v81 (ix2 0 l) = m ((c.tc : Thread nD τ).loc main_arg1) (ix2 ⟨l.val / 64, by omega⟩ ⟨l.val % 64, by omega⟩) := by
  simp only [Gen.V, hostOps0, hostOps0_1, hostOps0_2, List.flatten_cons, List.flatten_nil, List.append_nil, List.cons_append, List.nil_append]
  entry_read
  pointwise []

/-- The state starts at zero. -/
theorem zero_at (b : Fin 8) (g : Fin 4) (r l : Fin 128) : Gen.V (F := Ideal) m c main_v82 (ix4 b g r l) = (0 : EReal) := by
  simp only [Gen.V, hostOps0, hostOps0_1, hostOps0_2, List.flatten_cons, List.flatten_nil, List.append_nil, List.cons_append, List.nil_append]
  entry_read
  pointwise []

/-- The first result's array starts as the array it is written into. -/
theorem mix_at  : Gen.V (F := Ideal) m c main_v83_0 = m ((c.tc : Thread nD τ).loc main_arg2) := by
  simp only [Gen.V, hostOps0, hostOps0_1, hostOps0_2, List.flatten_cons, List.flatten_nil, List.append_nil, List.cons_append, List.nil_append]
  entry_read
  rfl

end Cert.KernelIdeal.RetTab

end
-- ==== Proof.RetBlk.lean ====
/- What the blocks of a grid point hold. -/
module

public import proofs.«01_k».proof.Proof.Gen.KernelIdeal.Value
public import proofs.«01_k».proof.Proof.RetTab

public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.KernelIdeal.RetBlk

open Cert.KernelIdeal Cert.KernelIdeal.Gen
open Cert.ReferenceIdeal.RetVal (rot cosT sinT decT qdT kdT cdT colv pos qv kv vv St Ov yOf)

open Cert.KernelIdeal.RetTab

/-- Every window's block index at point `t`: prompt `t / 16`, chunk `t % 16`. -/
theorem idx : ∀ t : Fin cfg0.N, win0_0.index t = ![t.val, 6] ∧ win0_1.index t = ![t.val, 7] ∧ win0_2.index t = ![t.val, 8] ∧ win0_3.index t = ![t.val, 9]
    ∧ win0_4.index t = ![t.val % 16, 0] ∧ win0_5.index t = ![t.val % 16, 0] ∧ win0_6.index t = ![0, 0, 0, 0] ∧ win0_7.index t = ![0, 0, 0]
    ∧ win0_8.index t = ![0, 0, 0] ∧ win0_9.index t = ![0, 0, 0] ∧ win0_10.index t = ![t.val / 16, 0, 0, 0] ∧ win0_11.index t = ![0, 0]
    ∧ win0_12.index t = ![t.val, 2] ∧ win0_13.index t = ![t.val / 16, 0, 0, 0] :=
  (by decide +kernel : ∀ t : Fin grid0.N, _)

variable (m : (ℓ : Loc nD τ sig) → Buf (Elt Ideal) ℓ) (c : Dev nD) (t : Fin cfg0.N)

theorem lt_N : t.val < 128 := lt_of_lt_of_eq t.isLt N_0

theorem blk_q (r : Fin 128) (l : Fin 512) : iblk m c 0 t (ix2 r l)
    = m ((c.tc : Thread nD τ).loc main_arg0) (ix2 ⟨t.val * 128 + r.val, by have := lt_N t; omega⟩ ⟨3072 + l.val, by omega⟩) := by
  have := lt_N t
  blk_ext [iblk, V_main_arg0, idx t]
theorem blk_k (r : Fin 128) (l : Fin 512) : iblk m c 1 t (ix2 r l)
    = m ((c.tc : Thread nD τ).loc main_arg0) (ix2 ⟨t.val * 128 + r.val, by have := lt_N t; omega⟩ ⟨3584 + l.val, by omega⟩) := by
  have := lt_N t
  blk_ext [iblk, V_main_arg0, idx t]
theorem blk_v (r : Fin 128) (l : Fin 512) : iblk m c 2 t (ix2 r l)
    = m ((c.tc : Thread nD τ).loc main_arg0) (ix2 ⟨t.val * 128 + r.val, by have := lt_N t; omega⟩ ⟨4096 + l.val, by omega⟩) := by
  have := lt_N t
  blk_ext [iblk, V_main_arg0, idx t]
theorem blk_g (r : Fin 128) (l : Fin 512) : iblk m c 3 t (ix2 r l)
    = m ((c.tc : Thread nD τ).loc main_arg0) (ix2 ⟨t.val * 128 + r.val, by have := lt_N t; omega⟩ ⟨4608 + l.val, by omega⟩) := by
  have := lt_N t
  blk_ext [iblk, V_main_arg0, idx t]
theorem blk_cos (r : Fin 128) (l : Fin 128) : iblk m c 4 t (ix2 r l) = cosT ⟨t.val % 16 * 128 + r.val, by omega⟩ ⟨l.val % 32, by omega⟩ := by
  refine Eq.trans ?_ (cos_at m c _ l)
  blk_ext [iblk, idx t]
theorem blk_sin (r : Fin 128) (l : Fin 128) : iblk m c 5 t (ix2 r l)
    = if l.val % 64 < 32 then -sinT ⟨t.val % 16 * 128 + r.val, by omega⟩ ⟨l.val % 32, by omega⟩ else sinT ⟨t.val % 16 * 128 + r.val, by omega⟩ ⟨l.val % 32, by omega⟩ := by
  refine Eq.trans ?_ (sin_at m c _ l)
  blk_ext [iblk, idx t]
theorem blk_dec (g : Fin 4) (e : Fin 2) (i j : Fin 128) : iblk m c 6 t (ix4 g e i j) = decT ⟨g.val * 2 + e.val, by omega⟩ i j := by
  refine Eq.trans ?_ (dec_at m c g e i j)
  blk_ext [iblk, idx t]
theorem blk_qd (g : Fin 4) (r l : Fin 128) : iblk m c 7 t (ix3 g r l) = qdT ⟨g.val * 2 + l.val / 64, by omega⟩ r := by
  refine Eq.trans ?_ (qd_at m c g r l)
  blk_ext [iblk, idx t]
theorem blk_kd (g : Fin 4) (r l : Fin 128) : iblk m c 8 t (ix3 g r l) = kdT ⟨g.val * 2 + l.val / 64, by omega⟩ r := by
  refine Eq.trans ?_ (kd_at m c g r l)
  blk_ext [iblk, idx t]
theorem blk_cd (g : Fin 4) (r l : Fin 128) : iblk m c 9 t (ix3 g r l) = cdT ⟨g.val * 2 + r.val / 64, by omega⟩ := by
  refine Eq.trans ?_ (cd_at m c g r l)
  blk_ext [iblk, idx t]
theorem blk_zero (g : Fin 4) (r l : Fin 128) : iblk m c 10 t (ix4 0 g r l) = (0 : EReal) := by
  have := lt_N t
  refine Eq.trans ?_ (zero_at m c ⟨t.val / 16, by omega⟩ g r l)
  blk_ext [iblk, idx t]
theorem blk_gain (l : Fin 512) : iblk m c 11 t (ix2 0 l)
    = m ((c.tc : Thread nD τ).loc main_arg1) (ix2 ⟨l.val / 64, by omega⟩ ⟨l.val % 64, by omega⟩) := by
  refine Eq.trans ?_ (gain_at m c l)
  blk_ext [iblk, idx t]

end Cert.KernelIdeal.RetBlk

end
-- ==== Proof.RetFin.lean ====
/- The retention's values are finite where its arguments are. -/
module

public import proofs.«01_k».proof.Proof.RetRef
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.ReferenceIdeal.RetVal

open Cert.ReferenceIdeal Cert.ReferenceIdeal.Gen Cert.ReferenceIdeal.Step

/-- A finite value. -/
def Fn (x : EReal) : Prop := ∃ r : ℝ, x = (r : EReal)

theorem fn_coe (r : ℝ) : Fn (r : EReal) := ⟨r, rfl⟩
theorem fn_zero : Fn 0 := ⟨0, rfl⟩
theorem fn_add {x y : EReal} : Fn x → Fn y → Fn (x + y) := by
  rintro ⟨a, rfl⟩ ⟨b, rfl⟩; exact ⟨a + b, (EReal.coe_add a b).symm⟩
theorem fn_sub {x y : EReal} : Fn x → Fn y → Fn (x - y) := by
  rintro ⟨a, rfl⟩ ⟨b, rfl⟩; exact ⟨a - b, (EReal.coe_sub a b).symm⟩
theorem fn_mul {x y : EReal} : Fn x → Fn y → Fn (x * y) := by
  rintro ⟨a, rfl⟩ ⟨b, rfl⟩; exact ⟨a * b, (EReal.coe_mul a b).symm⟩
theorem fn_max {x y : EReal} : Fn x → Fn y → Fn (max x y) := by
  intro hx hy
  rcases max_choice x y with h | h <;> rw [h] <;> assumption
theorem fn_sum {ι : Type} (s : Finset ι) {f : ι → EReal} (h : ∀ i, Fn (f i)) : Fn (∑ i ∈ s, f i) := by
  classical
  induction s using Finset.induction_on with
  | empty => exact ⟨0, rfl⟩
  | insert a s ha ih => rw [Finset.sum_insert ha]; exact fn_add (h a) ih
theorem fn_exp {x : EReal} : Fn x → Fn (Ideal.exp x) := by
  rintro ⟨a, rfl⟩; exact ⟨Real.exp a, rfl⟩
theorem fn_cos {x : EReal} : Fn x → Fn (Ideal.cos x) := by
  rintro ⟨a, rfl⟩; exact ⟨Real.cos a, rfl⟩
theorem fn_sin {x : EReal} : Fn x → Fn (Ideal.sin x) := by
  rintro ⟨a, rfl⟩; exact ⟨Real.sin a, rfl⟩
theorem fn_pow {x y : EReal} : Fn x → Fn y → Fn (Ideal.pow x y) := by
  rintro ⟨a, rfl⟩ ⟨b, rfl⟩; exact ⟨Real.rpow a b, rfl⟩
theorem fn_neg {x : EReal} : Fn x → Fn (-x) := by
  rintro ⟨a, rfl⟩; exact ⟨-a, (EReal.coe_neg a).symm⟩

/-- The constants. -/
theorem bits_theta : Ideal.ofBits FTy.f32 1176256512#32 = ((10000 : ℝ) : EReal) := by
  simp [Ideal.ofBits, Ideal.ieee, -EReal.coe_mul]; norm_num
theorem bits_half : Ideal.ofBits FTy.f32 1107296256#32 = ((32 : ℝ) : EReal) := by
  simp [Ideal.ofBits, Ideal.ieee, -EReal.coe_mul]; norm_num
theorem bits_two : Ideal.ofBits FTy.f32 1073741824#32 = ((2 : ℝ) : EReal) := by
  simp [Ideal.ofBits, Ideal.ieee, -EReal.coe_mul]; try norm_num
theorem bits_five : Ideal.ofBits FTy.f32 3231711232#32 = ((-5 : ℝ) : EReal) := by
  simp [Ideal.ofBits, Ideal.ieee, -EReal.coe_mul, -EReal.coe_neg]; try norm_num
theorem bits_scale : Fn (Ideal.ofBits FTy.f32 0x3E000000#32) := by
  refine ⟨1 / 8, ?_⟩
  simp [Ideal.ofBits, Ideal.ieee, -EReal.coe_mul]; try norm_num
theorem bits_127 : Fn (Ideal.ofBits FTy.f32 0x42FE0000#32) := by
  refine ⟨127, ?_⟩
  simp [Ideal.ofBits, Ideal.ieee, -EReal.coe_mul]; try norm_num
theorem bits_128 : Fn (Ideal.ofBits FTy.f32 0x43000000#32) := by
  refine ⟨128, ?_⟩
  simp [Ideal.ofBits, Ideal.ieee, -EReal.coe_mul]; try norm_num
theorem fn_int (b : BitVec 32) : Fn (FloatOps.sitofp (F := Ideal) FTy.f32 b) := ⟨(b.toInt : ℝ), rfl⟩

/-- The angles are finite. -/
theorem fn_ang (t : Fin 2048) (i : Fin 32) : Fn (K_main_v20 (F := Ideal) (ix2 t i)) := by
  pointwise [K_main_cst, K_main_cst_0, K_main_v8, K_main_v9, K_main_v10, K_main_v11, K_main_v12, K_main_v13, K_main_v14, K_main_v15, K_main_v16, K_main_v17, K_main_v18, K_main_v19, K_main_v20]
  refine fn_mul (fn_int _) (fn_pow (by rw [bits_theta]; exact fn_coe _) ?_)
  rw [bits_half, Ideal.div, if_neg (by norm_num), ← EReal.coe_inv]
  exact fn_mul (fn_neg (fn_int _)) (fn_coe _)
theorem fn_cosT (t : Fin 2048) (i : Fin 32) : Fn (cosT t i) := fn_cos (fn_ang t i)
theorem fn_sinT (t : Fin 2048) (i : Fin 32) : Fn (sinT t i) := fn_sin (fn_ang t i)

/-- The logarithm of a head's decay is finite: the decay is positive. -/
theorem fn_log (h : Fin 8) : Fn (K_main_v77 (F := Ideal) (ix1 h)) := by
  pointwise [K_main_cst_5, K_main_cst_6, K_main_cst_7, K_main_v70, K_main_v71, K_main_v72, K_main_v73, K_main_v74, K_main_v75, K_main_v76, K_main_v77]
  rw [bits_two, bits_five]
  have e : (FloatOps.sitofp FTy.f32 (BitVec.ofNat 32 h.val) : Ideal FTy.f32) = ((h.val : ℝ) : EReal) := by
    show (((BitVec.ofNat 32 h.val).toInt : ℝ) : EReal) = _
    have : (BitVec.ofNat 32 h.val).toInt = (h.val : ℤ) := by
      revert h; decide
    rw [this]; norm_cast
  rw [e, ← EReal.coe_sub]
  show Fn (Ideal.log (1 - ((Real.rpow 2 (-5 - (h.val : ℝ)) : ℝ) : EReal)))
  have hlt : Real.rpow 2 (-5 - (h.val : ℝ)) < 1 := by
    refine Real.rpow_lt_one_of_one_lt_of_neg (by norm_num) ?_
    have : (0 : ℝ) ≤ (h.val : ℝ) := Nat.cast_nonneg _
    linarith
  rw [← EReal.coe_one, ← EReal.coe_sub]
  show Fn (if 1 - Real.rpow 2 (-5 - (h.val : ℝ)) ≤ 0 then ⊥ else _)
  rw [if_neg (by linarith)]
  exact fn_coe _

theorem fn_decT (h : Fin 8) (i j : Fin 128) : Fn (decT h i j) := by
  have hl := fn_log h
  unfold decT
  pointwise [K_main_v78, K_main_cst_8, K_main_cst_9, K_main_cst_10, K_main_call0_v0, K_main_call0_v1, K_main_call0_v2, K_main_v79, K_main_v80, K_main_v81, K_main_v82, K_main_v83, K_main_v84, K_main_v85, K_main_v86, K_main_v87, K_main_v88, K_main_v89, K_main_v90, K_main_v91, K_main_v92, K_main_v93, K_main_v94]
  split_ifs
  · exact fn_exp (fn_mul hl (fn_max (fn_sub (fn_int _) (fn_int _)) fn_zero))
  · simp only [id_eq]; pointwise; exact fn_zero
theorem fn_qdT (h : Fin 8) (i : Fin 128) : Fn (qdT h i) := by
  have hl := fn_log h
  unfold qdT
  pointwise [K_main_v78, K_main_cst_11, K_main_v95, K_main_v96, K_main_v97, K_main_v98, K_main_v99, K_main_v100, K_main_v101, K_main_v102]
  exact fn_exp (fn_mul hl (fn_add (fn_int _) ⟨1, rfl⟩))
theorem fn_kdT (h : Fin 8) (i : Fin 128) : Fn (kdT h i) := by
  have hl := fn_log h
  unfold kdT
  pointwise [K_main_v78, K_main_cst_12, K_main_v104, K_main_v105, K_main_v106, K_main_v107, K_main_v108, K_main_v109, K_main_v110, K_main_v111]
  exact fn_exp (fn_mul hl (fn_sub bits_127 (fn_int _)))
theorem fn_cdT (h : Fin 8) : Fn (cdT h) := by
  have hl := fn_log h
  unfold cdT
  pointwise [K_main_cst_13, K_main_v113, K_main_v114, K_main_v115]
  exact fn_exp (fn_mul hl bits_128)

variable {p : FVec Ideal S16640x5632 .f32}

theorem fn_rot (t : Fin 2048) (x : Fin 64 → EReal) (hx : ∀ d, Fn (x d)) (d : Fin 64) : Fn (rot t x d) := by
  unfold rot
  split_ifs
  · exact fn_sub (fn_mul (hx _) (fn_cosT _ _)) (fn_mul (hx _) (fn_sinT _ _))
  · exact fn_add (fn_mul (hx _) (fn_sinT _ _)) (fn_mul (hx _) (fn_cosT _ _))
theorem fn_qv (hp : ∀ i, Fn (p i)) (b : Fin 8) (n : Fin 16) (h : Fin 8) (i : Fin 128) (d : Fin 64) : Fn (qv p b n h i d) :=
  fn_rot _ _ (fun _ => hp _) _
theorem fn_kv (hp : ∀ i, Fn (p i)) (b : Fin 8) (n : Fin 16) (h : Fin 8) (i : Fin 128) (d : Fin 64) : Fn (kv p b n h i d) :=
  fn_mul (fn_rot _ _ (fun _ => hp _) _) bits_scale
theorem fn_St (hp : ∀ i, Fn (p i)) (b h : Fin 8) : ∀ (n : ℕ) (d e : Fin 64), Fn (St p b h n d e)
  | 0, d, e => fn_zero
  | n + 1, d, e => by
    rw [St]
    beta_reduce
    split_ifs
    · exact fn_add (fn_mul (fn_St hp b h n d e) (fn_cdT h)) (fn_sum _ fun j => fn_mul (fn_mul (fn_kv hp _ _ _ _ _) (fn_kdT _ _)) (hp _))
    · exact fn_zero
/-- The retention output of finite arguments is finite. -/
theorem fn_Ov (hp : ∀ i, Fn (p i)) (b : Fin 8) (n : Fin 16) (h : Fin 8) (i : Fin 128) (e : Fin 64) : Fn (Ov p b n h i e) :=
  fn_add (fn_sum _ fun j => fn_mul (fn_mul (fn_sum _ fun d => fn_mul (fn_qv hp _ _ _ _ _) (fn_kv hp _ _ _ _ _)) (fn_decT _ _ _)) (hp _))
    (fn_mul (fn_sum _ fun d => fn_mul (fn_qv hp _ _ _ _ _) (fn_St hp _ _ _ _ _)) (fn_qdT _ _))

end Cert.ReferenceIdeal.RetVal

end
-- ==== Proof.RetBody.lean ====
/- One grid point of the kernel's body, read at an index: masks, rotation, products, the new state and the output. -/
module

public import proofs.«01_k».proof.Proof.Gen.KernelIdeal.Value
public import proofs.«01_k».proof.Proof.RetRef
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.KernelIdeal.RetBody

open Cert.KernelIdeal Cert.KernelIdeal.Gen
open Cert.ReferenceIdeal.RetVal (rot cosT sinT)

/-- Lane `d` of head `e` of a pair. -/
def lane (e : Fin 2) (d : Fin 64) : Fin 128 := ⟨e.val * 64 + d.val, by omega⟩

/-- A sum over a pair's lanes is the sum over the head that carries it. -/
theorem sum_head (e : Fin 2) (f : Fin 128 → EReal) (h : ∀ m : Fin 128, m.val / 64 ≠ e.val → f m = 0) :
    ∑ m, f m = ∑ d : Fin 64, f (lane e d) := by
  rw [show (∑ m, f m) = ∑ m : Fin (64 + 64), f m from rfl, Fin.sum_univ_add]
  match e, h with
  | 0, h =>
    rw [Finset.sum_eq_zero (s := Finset.univ) (f := fun i : Fin 64 => f (Fin.natAdd 64 i)) (fun i _ => h _ (by
      show (64 + i.val) / 64 ≠ 0
      omega)), add_zero]
    exact Finset.sum_congr rfl fun i _ => congrArg f (Fin.ext (by simp [lane]))
  | 1, h =>
    rw [Finset.sum_eq_zero (s := Finset.univ) (f := fun i : Fin 64 => f (Fin.castAdd 64 i)) (fun i _ => h _ (by
      show i.val / 64 ≠ 1
      omega)), zero_add]
    exact Finset.sum_congr rfl fun i _ => congrArg f (Fin.ext (by
      show 64 + i.val = 1 * 64 + i.val
      omega))

/-- The lanes of a pair's first head. -/
theorem first_at (r l : Fin 128) : k0_pay3 (ix2 r l) = if l.val < 64 then 1#1 else 0#1 := by
  pointwise [k0_pay3]
  revert l; decide +kernel

/-- The lanes of a head's first half. -/
theorem half_at (r l : Fin 128) : k0_pay4 (ix2 r l) = if l.val % 64 < 32 then 1#1 else 0#1 := by
  pointwise [k0_pay4]
  revert l; decide +kernel

/-- Entries whose row and lane belong to one head. -/
theorem same_at (r l : Fin 128) : k0_pay7 k0_pay5 k0_pay6 1#32 (ix2 r l) = if r.val / 64 = l.val / 64 then 1#1 else 0#1 := by
  pointwise [k0_pay7, k0_pay5, k0_pay6]
  revert r l; decide +kernel

/-- A bit as a number. -/
theorem bit_val (c : Prop) [Decidable c] :
    (FloatOps.sitofp FTy.f32 (BitVec.setWidth 32 (if c then 1#1 else 0#1)) : Ideal .f32) = if c then (1 : EReal) else 0 := by
  split_ifs
  · show (((BitVec.setWidth 32 1#1).toInt : ℝ) : EReal) = 1
    rw [show (BitVec.setWidth 32 1#1).toInt = 1 by decide]
    norm_num
  · show (((BitVec.setWidth 32 0#1).toInt : ℝ) : EReal) = 0
    rw [show (BitVec.setWidth 32 0#1).toInt = 0 by decide]
    norm_num

/-- The table that adds the lanes of one head. -/
theorem ones_at (r l : Fin 128) : k0_pay11 (F := Ideal) k0_pay8 k0_pay9 k0_pay10 (ix2 r l) = if r.val / 64 = l.val / 64 then (1 : EReal) else 0 := by
  refine Eq.trans ?_ (bit_val _)
  refine Eq.trans ?_ (congrArg (fun b => (FloatOps.sitofp FTy.f32 (BitVec.setWidth 32 b) : Ideal .f32)) (same_at r l))
  pointwise [k0_pay11, k0_pay8, k0_pay9, k0_pay10, k0_pay7, k0_pay5, k0_pay6]

/-- A pair's rotated lanes before scaling. -/
theorem rotated_at (t : Fin 2048) (C S X : FVec Ideal S128x128 .f32) (r : Fin 128) (e : Fin 2) (d : Fin 64)
    (hC : ∀ l : Fin 128, C (ix2 r l) = cosT t ⟨l.val % 32, by omega⟩)
    (hS : ∀ l : Fin 128, S (ix2 r l) = if l.val % 64 < 32 then -sinT t ⟨l.val % 32, by omega⟩ else sinT t ⟨l.val % 32, by omega⟩) :
    X (ix2 r (lane e d)) * C (ix2 r (lane e d)) +
        Scalar.select (if (lane e d).val % 64 < 32 then 1#1 else 0#1) (X (ix2 r ⟨((lane e d).val + 128 - 96) % 128, by omega⟩))
            (X (ix2 r ⟨((lane e d).val + 128 - 32) % 128, by omega⟩)) * S (ix2 r (lane e d))
      = rot t (fun d => X (ix2 r (lane e d))) d := by
  rw [hC, hS]
  unfold rot
  have hm : (lane e d).val % 64 = d.val := by show (e.val * 64 + d.val) % 64 = d.val; omega
  have hm' : (lane e d).val % 32 = d.val % 32 := by show (e.val * 64 + d.val) % 32 = d.val % 32; omega
  have he : e.val < 2 := e.isLt
  simp only [hm, hm']
  by_cases hd : d.val < 32
  · rw [if_pos hd, if_pos hd, dif_pos hd]
    have h1 : (⟨((lane e d).val + 128 - 96) % 128, by omega⟩ : Fin 128) = lane e ⟨d.val + 32, by omega⟩ := Fin.ext (by
      show (e.val * 64 + d.val + 128 - 96) % 128 = e.val * 64 + (d.val + 32); omega)
    have h2 : (⟨d.val % 32, by omega⟩ : Fin 32) = ⟨d.val, hd⟩ := Fin.ext (by simp only; omega)
    rw [h1, h2]
    show _ + X (ix2 r (lane e ⟨d.val + 32, by omega⟩)) * -sinT t ⟨d.val, hd⟩ = _
    rw [mul_neg, ← sub_eq_add_neg]
  · rw [if_neg hd, if_neg hd, dif_neg hd]
    have h1 : (⟨((lane e d).val + 128 - 32) % 128, by omega⟩ : Fin 128) = lane e ⟨d.val - 32, by omega⟩ := Fin.ext (by
      show (e.val * 64 + d.val + 128 - 32) % 128 = e.val * 64 + (d.val - 32); omega)
    have h2 : (⟨d.val % 32, by omega⟩ : Fin 32) = ⟨d.val - 32, by omega⟩ := Fin.ext (by simp only; omega)
    rw [h1, h2, add_comm]
    rfl

/-- The scaled and rotated keys of a pair. -/
theorem rotk_at (t : Fin 2048) (C S X : FVec Ideal S128x128 .f32) (r : Fin 128) (e : Fin 2) (d : Fin 64)
    (hC : ∀ l : Fin 128, C (ix2 r l) = cosT t ⟨l.val % 32, by omega⟩)
    (hS : ∀ l : Fin 128, S (ix2 r l) = if l.val % 64 < 32 then -sinT t ⟨l.val % 32, by omega⟩ else sinT t ⟨l.val % 32, by omega⟩) :
    k0_pay15 (F := Ideal) k0_pay4 (k0_pay13 C) (k0_pay14 S) X (ix2 r (lane e d))
      = rot t (fun d => X (ix2 r (lane e d))) d * Ideal.ofBits .f32 0x3E000000#32 := by
  pointwise [k0_pay15, k0_pay13, k0_pay14]
  rw [half_at, rotated_at t C S X r e d hC hS]

/-- The rotated queries of a pair. -/
theorem rotq_at (t : Fin 2048) (C S X : FVec Ideal S128x128 .f32) (r : Fin 128) (e : Fin 2) (d : Fin 64)
    (hC : ∀ l : Fin 128, C (ix2 r l) = cosT t ⟨l.val % 32, by omega⟩)
    (hS : ∀ l : Fin 128, S (ix2 r l) = if l.val % 64 < 32 then -sinT t ⟨l.val % 32, by omega⟩ else sinT t ⟨l.val % 32, by omega⟩) :
    k0_pay20 (F := Ideal) k0_pay4 (k0_pay13 C) (k0_pay14 S) X (k0_pay19 X) 32#32 (ix2 r (lane e d))
      = rot t (fun d => X (ix2 r (lane e d))) d := by
  pointwise [k0_pay20, k0_pay13, k0_pay14, k0_pay19]
  rw [half_at, rotated_at t C S X r e d hC hS]

/-- The part of the output that comes from the entering state. -/
theorem cross_at (Q : FVec Ideal S128x128 .bf16) (S : FVec Ideal S1x128x128 .f32) (r : Fin 128) (e : Fin 2) (d : Fin 64)
    (hz : ∀ m l : Fin 128, m.val / 64 ≠ l.val / 64 → S (ix3 0 m l) = 0) :
    k0_pay37 (F := Ideal) Q S (ix2 r (lane e d)) = ∑ x : Fin 64, Q (ix2 r (lane e x)) * S (ix3 0 (lane e x) (lane e d)) := by
  have hl : (lane e d).val / 64 = e.val := by show (e.val * 64 + d.val) / 64 = e.val; omega
  refine Eq.trans (b := ∑ m : Fin 128, Q (ix2 r m) * S (ix3 0 m (lane e d))) ?_ (sum_head e _ fun m hm => ?_)
  · pointwise [k0_pay37, k0_pay33]
  · rw [hz m (lane e d) (by rw [hl]; exact hm), mul_zero]

/-- The scores of a pair's first head. -/
theorem att0_at (Q K : FVec Ideal S128x128 .bf16) (r j : Fin 128) :
    k0_pay41 (F := Ideal) k0_pay3 Q K (ix2 r j) = ∑ x : Fin 64, Q (ix2 r (lane 0 x)) * K (ix2 j (lane 0 x)) := by
  refine Eq.trans (b := ∑ m : Fin 128, Scalar.select (k0_pay3 (ix2 r m)) (Q (ix2 r m) * K (ix2 j m)) 0) ?_ ((sum_head 0 _ fun m hm => ?_).trans (Finset.sum_congr rfl fun x _ => ?_))
  · pointwise [k0_pay41, k0_pay32]
  · rw [first_at, if_neg (by have : m.val / 64 ≠ 0 := hm; omega)]; rfl
  · rw [first_at, if_pos (by show 0 * 64 + x.val < 64; omega)]; rfl

/-- The scores of a pair's second head. -/
theorem att1_at (Q K : FVec Ideal S128x128 .bf16) (r j : Fin 128) :
    k0_pay42 (F := Ideal) k0_pay3 Q K (ix2 r j) = ∑ x : Fin 64, Q (ix2 r (lane 1 x)) * K (ix2 j (lane 1 x)) := by
  refine Eq.trans (b := ∑ m : Fin 128, Scalar.select (k0_pay3 (ix2 r m)) 0 (Q (ix2 r m) * K (ix2 j m))) ?_ ((sum_head 1 _ fun m hm => ?_).trans (Finset.sum_congr rfl fun x _ => ?_))
  · pointwise [k0_pay42, k0_pay32]
  · rw [first_at, if_pos (by have : m.val / 64 ≠ 1 := hm; omega)]; rfl
  · rw [first_at, if_neg (by show ¬ 1 * 64 + x.val < 64; omega)]; rfl

/-- The chunk's outer product. -/
theorem upd_at (K : FVec Ideal S128x128 .f32) (V : FVec Ideal S128x128 .bf16) (D : FVec Ideal S1x128x128 .f32) (r l : Fin 128) :
    k0_pay49 (F := Ideal) K V D (ix2 r l) = ∑ j : Fin 128, K (ix2 j r) * D (ix3 0 j r) * V (ix2 j l) := by
  pointwise [k0_pay49]

/-- The part of the output that comes from the chunk itself. -/
theorem inner_at (V : FVec Ideal S128x128 .bf16) (A : FVec Ideal S128x128 .f32) (D : FVec Ideal S1x1x128x128 .f32) (r l : Fin 128) :
    k0_pay53 (F := Ideal) V A D (ix2 r l) = ∑ j : Fin 128, A (ix2 r j) * D (ix4 0 0 r j) * V (ix2 j l) := by
  pointwise [k0_pay53]

/-- The new state of a pair. -/
theorem ns_at (S : FVec Ideal S1x128x128 .f32) (U : FVec Ideal S128x128 .f32) (D : FVec Ideal S1x128x128 .f32) (r l : Fin 128) :
    k0_pay61 (F := Ideal) (k0_pay7 k0_pay5 k0_pay6 1#32) (k0_pay33 S) U D (ix2 r l)
      = S (ix3 0 r l) * D (ix3 0 r l) + if r.val / 64 = l.val / 64 then U (ix2 r l) else 0 := by
  pointwise [k0_pay61, k0_pay33]
  rw [same_at]
  split_ifs <;> rfl

/-- The output of a pair before it is normalised. -/
theorem o_at (C I0 I1 : FVec Ideal S128x128 .f32) (D : FVec Ideal S1x128x128 .f32) (r l : Fin 128) :
    k0_pay73 (F := Ideal) k0_pay3 C I0 I1 D (ix2 r l)
      = C (ix2 r l) * D (ix3 0 r l) + if l.val < 64 then I0 (ix2 r l) else I1 (ix2 r l) := by
  pointwise [k0_pay73]
  rw [first_at]
  split_ifs <;> rfl

/-- A head's sum of squares, of finite entries. -/
theorem ss_at (O : FVec Ideal S128x128 .f32) (r : Fin 128) (e : Fin 2) (d : Fin 64) (hO : ∀ l : Fin 128, ∃ x : ℝ, O (ix2 r l) = (x : EReal)) :
    k0_pay77 (F := Ideal) (k0_pay11 (F := Ideal) k0_pay8 k0_pay9 k0_pay10) O (ix2 r (lane e d))
      = ∑ x : Fin 64, O (ix2 r (lane e x)) * O (ix2 r (lane e x)) := by
  have hl : (lane e d).val / 64 = e.val := by show (e.val * 64 + d.val) / 64 = e.val; omega
  have hl' : ∀ x : Fin 64, (lane e x).val / 64 = e.val := fun x => by show (e.val * 64 + x.val) / 64 = e.val; omega
  have hlo : ∀ m : Fin 128, (O (ix2 r m) * O (ix2 r m) - O (ix2 r m) * O (ix2 r m)) = 0 := fun m => by
    obtain ⟨x, hx⟩ := hO m
    rw [hx, ← EReal.coe_mul, ← EReal.coe_sub, sub_self, EReal.coe_zero]
  refine Eq.trans (b := (∑ m : Fin 128, O (ix2 r m) * O (ix2 r m) * k0_pay11 (F := Ideal) k0_pay8 k0_pay9 k0_pay10 (ix2 m (lane e d)))
    + ∑ m : Fin 128, (O (ix2 r m) * O (ix2 r m) - O (ix2 r m) * O (ix2 r m)) * k0_pay11 (F := Ideal) k0_pay8 k0_pay9 k0_pay10 (ix2 m (lane e d))) ?_ ?_
  · generalize k0_pay11 (F := Ideal) k0_pay8 k0_pay9 k0_pay10 = W
    pointwise [k0_pay77]
  · rw [Finset.sum_eq_zero (s := Finset.univ) (f := fun m : Fin 128 => (O (ix2 r m) * O (ix2 r m) - O (ix2 r m) * O (ix2 r m)) * k0_pay11 (F := Ideal) k0_pay8 k0_pay9 k0_pay10 (ix2 m (lane e d))) (fun m _ => by
      show _ * _ = _
      rw [hlo m, zero_mul]), add_zero]
    refine (sum_head e _ fun m hm => ?_).trans (Finset.sum_congr rfl fun x _ => ?_)
    · rw [ones_at, if_neg (by rw [hl]; exact hm), mul_zero]
    · rw [ones_at, if_pos (by rw [hl, hl']), mul_one]

/-- Division by 64 as a product. -/
theorem div_64 (x : EReal) : x * Ideal.ofBits FTy.f32 0x3C800000#32 = Ideal.div x (Ideal.ofBits FTy.f32 0x42800000#32) := by
  have h1 : Ideal.ofBits FTy.f32 0x3C800000#32 = (((1 : ℝ) / 64 : ℝ) : EReal) := by
    simp [Ideal.ofBits, Ideal.ieee, -EReal.coe_mul]; norm_num
  have h2 : Ideal.ofBits FTy.f32 0x42800000#32 = ((64 : ℝ) : EReal) := by
    simp [Ideal.ofBits, Ideal.ieee, -EReal.coe_mul]; norm_num
  rw [h1, h2]
  unfold Ideal.div
  rw [if_neg (by norm_num), ← EReal.coe_inv, one_div]

/-- The gated and normalised entry. -/
theorem y_at (O SS : FVec Ideal S128x128 .f32) (G : FVec Ideal S128x128 .f32) (W : FVec Ideal S1x128 .f32)  (r l : Fin 128) :
    k0_pay2 (F := Ideal) O SS W G (ix2 r l)
      = G (ix2 r l) * Ideal.div 1 (1 + Ideal.exp (-G (ix2 r l))) *
      (O (ix2 r l) * Ideal.rsqrt (Ideal.div (SS (ix2 r l)) (Ideal.ofBits FTy.f32 0x42800000#32) + Ideal.ofBits FTy.f32 0x358637BD#32) * W (ix2 0 l)) := by
  rw [← div_64]
  pointwise [k0_pay2]
  rfl

end Cert.KernelIdeal.RetBody

end
-- ==== Proof.RetPair.lean ====
/- A pair of heads at one grid point: what the body computes for it is the recurrence's step. -/
module

public import proofs.«01_k».proof.Proof.RetBody
public import proofs.«01_k».proof.Proof.RetPost
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.KernelIdeal.RetBody

open Cert.KernelIdeal Cert.KernelIdeal.Gen
open Cert.ReferenceIdeal.RetVal (rot cosT sinT decT qdT kdT cdT colv pos qv kv vv St Ov yOf)

/-- Head `e` of pair `g`. -/
def hd (g : Fin 4) (e : Fin 2) : Fin 8 := ⟨g.val * 2 + e.val, by omega⟩

/-- Every lane is some head's. -/
theorem lane_split (l : Fin 128) : ∃ e d, l = lane e d :=
  ⟨⟨l.val / 64, by omega⟩, ⟨l.val % 64, by omega⟩, Fin.ext (by simp only [lane]; omega)⟩
theorem lane_div (e : Fin 2) (d : Fin 64) : (lane e d).val / 64 = e.val := by
  show (e.val * 64 + d.val) / 64 = e.val
  omega

/-- What the operands of pair `g` hold at chunk `n` of prompt `b`. -/
structure PairIn (p : FVec Ideal Cert.ReferenceIdeal.S16640x5632 .f32) (b : Fin 8) (n : Fin 16) (g : Fin 4)
    (C S Xq Xk Xv : FVec Ideal S128x128 .f32) (T KD CD QD : FVec Ideal S1x128x128 .f32) (D0 D1 : FVec Ideal S1x1x128x128 .f32) : Prop where
  cos : ∀ r l : Fin 128, C (ix2 r l) = cosT (pos n r) ⟨l.val % 32, by omega⟩
  sin : ∀ r l : Fin 128, S (ix2 r l) = if l.val % 64 < 32 then -sinT (pos n r) ⟨l.val % 32, by omega⟩ else sinT (pos n r) ⟨l.val % 32, by omega⟩
  q : ∀ (r : Fin 128) (e : Fin 2) (d : Fin 64), Xq (ix2 r (lane e d)) = colv 3072 (by omega) p b n (hd g e) r d
  k : ∀ (r : Fin 128) (e : Fin 2) (d : Fin 64), Xk (ix2 r (lane e d)) = colv 3584 (by omega) p b n (hd g e) r d
  v : ∀ (r : Fin 128) (e : Fin 2) (d : Fin 64), Xv (ix2 r (lane e d)) = colv 4096 (by omega) p b n (hd g e) r d
  st : ∀ (e : Fin 2) (d : Fin 64) (e' : Fin 2) (d' : Fin 64), T (ix3 0 (lane e d) (lane e' d')) = if e = e' then St p b (hd g e) n.val d d' else 0
  kd : ∀ (r : Fin 128) (e : Fin 2) (d : Fin 64), KD (ix3 0 r (lane e d)) = kdT (hd g e) r
  cd : ∀ (e : Fin 2) (d : Fin 64) (l : Fin 128), CD (ix3 0 (lane e d) l) = cdT (hd g e)
  qd : ∀ (r : Fin 128) (e : Fin 2) (d : Fin 64), QD (ix3 0 r (lane e d)) = qdT (hd g e) r
  d0 : ∀ r j : Fin 128, D0 (ix4 0 0 r j) = decT (hd g 0) r j
  d1 : ∀ r j : Fin 128, D1 (ix4 0 0 r j) = decT (hd g 1) r j

variable {p : FVec Ideal Cert.ReferenceIdeal.S16640x5632 .f32} {b : Fin 8} {n : Fin 16} {g : Fin 4}
    {C S Xq Xk Xv : FVec Ideal S128x128 .f32} {T KD CD QD : FVec Ideal S1x128x128 .f32} {D0 D1 : FVec Ideal S1x1x128x128 .f32}

/-- The pair's scaled and rotated keys. -/
theorem pair_k (H : PairIn p b n g C S Xq Xk Xv T KD CD QD D0 D1) (r : Fin 128) (e : Fin 2) (d : Fin 64) :
    k0_pay15 (F := Ideal) k0_pay4 (k0_pay13 C) (k0_pay14 S) Xk (ix2 r (lane e d)) = kv p b n (hd g e) r d := by
  rw [rotk_at (pos n r) C S Xk r e d (H.cos r) (H.sin r)]
  exact congrArg (fun x => rot (pos n r) x d * _) (funext fun d => H.k r e d)
/-- The pair's rotated queries. -/
theorem pair_q (H : PairIn p b n g C S Xq Xk Xv T KD CD QD D0 D1) (r : Fin 128) (e : Fin 2) (d : Fin 64) :
    k0_pay20 (F := Ideal) k0_pay4 (k0_pay13 C) (k0_pay14 S) Xq (k0_pay19 Xq) 32#32 (ix2 r (lane e d)) = qv p b n (hd g e) r d := by
  rw [rotq_at (pos n r) C S Xq r e d (H.cos r) (H.sin r)]
  exact congrArg (fun x => rot (pos n r) x d) (funext fun d => H.q r e d)

/-- The pair's new state. -/
theorem pair_state (H : PairIn p b n g C S Xq Xk Xv T KD CD QD D0 D1) (e : Fin 2) (d : Fin 64) (e' : Fin 2) (d' : Fin 64) :
    k0_pay61 (F := Ideal) (k0_pay7 k0_pay5 k0_pay6 1#32) (k0_pay33 T)
        (k0_pay49 (k0_pay15 k0_pay4 (k0_pay13 C) (k0_pay14 S) Xk) (k0_pay28 Xv) KD) CD (ix2 (lane e d) (lane e' d'))
      = if e = e' then St p b (hd g e) (n.val + 1) d d' else 0 := by
  rw [ns_at, H.st, H.cd, lane_div, lane_div]
  by_cases he : e = e'
  · subst he
    rw [if_pos rfl, if_pos rfl, if_pos rfl, upd_at, St]
    beta_reduce
    rw [dif_pos n.isLt]
    refine congrArg (_ + ·) (Finset.sum_congr rfl fun j _ => ?_)
    rw [pair_k H, H.kd]
    exact congrArg (_ * ·) (H.v j e d')
  · rw [if_neg he, if_neg he, if_neg (fun h => he (Fin.ext h)), zero_mul, add_zero]

/-- The pair's output before it is normalised. -/
theorem pair_o (H : PairIn p b n g C S Xq Xk Xv T KD CD QD D0 D1) (r : Fin 128) (e : Fin 2) (d : Fin 64) :
    k0_pay73 (F := Ideal) k0_pay3 (k0_pay37 (k0_pay20 k0_pay4 (k0_pay13 C) (k0_pay14 S) Xq (k0_pay19 Xq) 32#32) T)
        (k0_pay53 (k0_pay28 Xv) (k0_pay41 k0_pay3 (k0_pay20 k0_pay4 (k0_pay13 C) (k0_pay14 S) Xq (k0_pay19 Xq) 32#32)
          (k0_pay24 (k0_pay15 k0_pay4 (k0_pay13 C) (k0_pay14 S) Xk))) D0)
        (k0_pay54 (k0_pay28 Xv) (k0_pay42 k0_pay3 (k0_pay20 k0_pay4 (k0_pay13 C) (k0_pay14 S) Xq (k0_pay19 Xq) 32#32)
          (k0_pay24 (k0_pay15 k0_pay4 (k0_pay13 C) (k0_pay14 S) Xk))) D1) QD (ix2 r (lane e d))
      = Ov p b n (hd g e) r d := by
  rw [o_at, cross_at _ _ _ _ _ (fun m l hml => by
    obtain ⟨e1, d1, rfl⟩ := lane_split m
    obtain ⟨e2, d2, rfl⟩ := lane_split l
    rw [H.st, if_neg (fun h => hml (by rw [h, lane_div, lane_div]))]), H.qd]
  unfold Ov
  rw [add_comm]
  refine congrArg₂ (· + ·) ?_ (congrArg (· * _) (Finset.sum_congr rfl fun x _ => ?_))
  · have hl : (lane e d).val = e.val * 64 + d.val := rfl
    match e, hl with
    | 0, hl =>
      rw [if_pos (by rw [hl]; show 0 * 64 + d.val < 64; omega), inner_at]
      refine Finset.sum_congr rfl fun j _ => congrArg₂ (· * ·) (congrArg₂ (· * ·) ?_ (H.d0 r j)) (H.v j 0 d)
      rw [att0_at]
      exact Finset.sum_congr rfl fun x _ => congrArg₂ (· * ·) (pair_q H r 0 x) (pair_k H j 0 x)
    | 1, hl =>
      rw [if_neg (by rw [hl]; show ¬ 1 * 64 + d.val < 64; omega)]
      refine (inner_at _ _ _ _ _).trans ?_
      refine Finset.sum_congr rfl fun j _ => congrArg₂ (· * ·) (congrArg₂ (· * ·) ?_ (H.d1 r j)) (H.v j 1 d)
      rw [att1_at]
      exact Finset.sum_congr rfl fun x _ => congrArg₂ (· * ·) (pair_q H r 1 x) (pair_k H j 1 x)
  · rw [pair_q H, H.st, if_pos rfl]

/-- The pair's gated and normalised output. -/
theorem pair_y (O Xg : FVec Ideal S128x128 .f32) (W : FVec Ideal S1x128 .f32) (gain : FVec Ideal Cert.ReferenceIdeal.S8x64 .f32) (r : Fin 128) (e : Fin 2) (d : Fin 64)
    (hO : ∀ (e : Fin 2) (d : Fin 64), O (ix2 r (lane e d)) = Ov p b n (hd g e) r d)
    (hf : ∀ (e : Fin 2) (d : Fin 64), ∃ x : ℝ, Ov p b n (hd g e) r d = (x : EReal))
    (hg : Xg (ix2 r (lane e d)) = colv 4608 (by omega) p b n (hd g e) r d)
    (hw : W (ix2 0 (lane e d)) = gain (ix2 (hd g e) d)) :
    k0_pay2 (F := Ideal) O (k0_pay77 (k0_pay11 (F := Ideal) k0_pay8 k0_pay9 k0_pay10) O) W Xg (ix2 r (lane e d))
      = yOf (colv 4608 (by omega) p b n (hd g e) r d) (Ov p b n (hd g e) r) (gain (ix2 (hd g e) d)) d := by
  rw [y_at, ss_at O r e d (fun l => by
    obtain ⟨e1, d1, rfl⟩ := lane_split l
    obtain ⟨x, hx⟩ := hf e1 d1
    exact ⟨x, (hO e1 d1).trans hx⟩), hg, hw]
  have hs : (∑ x : Fin 64, O (ix2 r (lane e x)) * O (ix2 r (lane e x))) = ∑ x : Fin 64, Ov p b n (hd g e) r x * Ov p b n (hd g e) r x :=
    Finset.sum_congr rfl fun x _ => by rw [hO]
  rw [hs, hO]
  rfl

end Cert.KernelIdeal.RetBody

end
-- ==== Proof.RetPoint.lean ====
/- One grid point: from the state before a chunk to the state after it. -/
module

public import proofs.«01_k».proof.Proof.Gen.KernelIdeal.Value
public import proofs.«01_k».proof.Proof.RetBlk
public import proofs.«01_k».proof.Proof.RetFin
public import proofs.«01_k».proof.Proof.RetPair
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic Idealize.SL.Sem

namespace Cert.KernelIdeal.RetPoint

open Cert.KernelIdeal Cert.KernelIdeal.Gen Cert.KernelIdeal.RetBody
open Cert.ReferenceIdeal.RetVal (rot cosT sinT decT qdT kdT cdT colv pos qv kv vv St Ov yOf)

open Cert.KernelIdeal.RetBlk

/-- Column block `g` of a staged block. -/
def col (g : Fin 4) (X : FVec Ideal S128x512 .f32) : FVec Ideal S128x128 .f32 :=
  View.ld (Val := Elt Ideal) (e' := .f32) X (Rect.unit (s := S128x512) ![0, 128 * g.val] ![128, 128] (by
    intro a; match a with
    | 0 => exact Nat.le_refl _
    | 1 => show 128 * g.val + 128 ≤ 512; omega))
/-- Slab `g` of a table. -/
def slab (g : Fin 4) (X : FVec Ideal S4x128x128 .f32) : FVec Ideal S1x128x128 .f32 :=
  View.ld (Val := Elt Ideal) (e' := .f32) X (Rect.unit (s := S4x128x128) ![g.val, 0, 0] ![1, 128, 128] (by
    intro a; match a with
    | 0 => show g.val + 1 ≤ 4; omega
    | 1 => exact Nat.le_refl _
    | 2 => exact Nat.le_refl _))
/-- Slab `(g, e)` of the decay table. -/
def slab2 (g : Fin 4) (e : Fin 2) (X : FVec Ideal S4x2x128x128 .f32) : FVec Ideal S1x1x128x128 .f32 :=
  View.ld (Val := Elt Ideal) (e' := .f32) X (Rect.unit (s := S4x2x128x128) ![g.val, e.val, 0, 0] ![1, 1, 128, 128] (by
    intro a; match a with
    | 0 => show g.val + 1 ≤ 4; omega
    | 1 => show e.val + 1 ≤ 2; omega
    | 2 => exact Nat.le_refl _
    | 3 => exact Nat.le_refl _))

theorem col_at (g : Fin 4) (X : FVec Ideal S128x512 .f32) (r l : Fin 128) : col g X (ix2 r l) = X (ix2 r ⟨128 * g.val + l.val, by omega⟩) := by
  pointwise [col]
theorem slab_at (g : Fin 4) (X : FVec Ideal S4x128x128 .f32) (r l : Fin 128) : slab g X (ix3 0 r l) = X (ix3 g r l) := by
  pointwise [slab]
theorem slab2_at (g : Fin 4) (e : Fin 2) (X : FVec Ideal S4x2x128x128 .f32) (r l : Fin 128) : slab2 g e X (ix4 0 0 r l) = X (ix4 g e r l) := by
  pointwise [slab2]

variable (m : (ℓ : Loc nD τ sig) → Buf (Elt Ideal) ℓ) (c : Dev nD) (t : Fin cfg0.N)

/-- The prompt of a grid point. -/
def bt : Fin 8 := ⟨t.val / 16, by have := lt_N t; omega⟩
/-- The chunk of a grid point. -/
def nt : Fin 16 := ⟨t.val % 16, by omega⟩
/-- The projections. -/
abbrev P : FVec Ideal Cert.ReferenceIdeal.S16640x5632 .f32 := m ((c.tc : Thread nD τ).loc main_arg0)

/-- A slab of states holds the recurrence's states before chunk `n`, a pair's two heads on the diagonal. -/
def StateAt (p : FVec Ideal Cert.ReferenceIdeal.S16640x5632 .f32) (b : Fin 8) (n : ℕ) (T : FVec Ideal S4x128x128 .f32) : Prop :=
  ∀ (g : Fin 4) (e : Fin 2) (d : Fin 64) (e' : Fin 2) (d' : Fin 64), T (ix3 g (lane e d) (lane e' d')) = if e = e' then St p b (hd g e) n d d' else 0

theorem col_read (o : ℕ) (ho : o + 512 ≤ 5632) (X : FVec Ideal S128x512 .f32)
    (hX : ∀ (r : Fin 128) (l : Fin 512), X (ix2 r l) = P m c (ix2 ⟨t.val * 128 + r.val, by have := lt_N t; omega⟩ ⟨o + l.val, by omega⟩))
    (g : Fin 4) (r : Fin 128) (e : Fin 2) (d : Fin 64) :
    col g X (ix2 r (lane e d)) = colv o ho (P m c) (bt t) (nt t) (hd g e) r d := by
  rw [col_at, hX]
  have hb : (bt t).val = t.val / 16 := rfl
  have hn : (nt t).val = t.val % 16 := rfl
  have hh : (hd g e).val = g.val * 2 + e.val := rfl
  have hl : (lane e d).val = e.val * 64 + d.val := rfl
  exact congrArg (P m c) (congrArg₂ ix2 (Fin.ext (by simp only []; omega)) (Fin.ext (by simp only []; omega)))

theorem lane_head (g : Fin 4) (e : Fin 2) (d : Fin 64) (h : g.val * 2 + (lane e d).val / 64 < 8) : (⟨g.val * 2 + (lane e d).val / 64, h⟩ : Fin 8) = hd g e :=
  Fin.ext (by show g.val * 2 + (lane e d).val / 64 = g.val * 2 + e.val; rw [lane_div])

/-- At every grid point the operands of every pair are the recurrence's. -/
theorem pair_in (T : FVec Ideal S4x128x128 .f32) (hT : StateAt (P m c) (bt t) (nt t).val T) (g : Fin 4) :
    PairIn (P m c) (bt t) (nt t) g (iblk m c 4 t) (iblk m c 5 t) (col g (iblk m c 0 t)) (col g (iblk m c 1 t)) (col g (iblk m c 2 t))
      (slab g T) (slab g (iblk m c 8 t)) (slab g (iblk m c 9 t)) (slab g (iblk m c 7 t)) (slab2 g 0 (iblk m c 6 t)) (slab2 g 1 (iblk m c 6 t)) where
  cos r l := blk_cos m c t r l
  sin r l := blk_sin m c t r l
  q r e d := col_read m c t 3072 _ _ (blk_q m c t) g r e d
  k r e d := col_read m c t 3584 _ _ (blk_k m c t) g r e d
  v r e d := col_read m c t 4096 _ _ (blk_v m c t) g r e d
  st e d e' d' := (slab_at g T _ _).trans (hT g e d e' d')
  kd r e d := (slab_at g _ _ _).trans ((blk_kd m c t g _ _).trans (congrArg (kdT · r) (lane_head g e d _)))
  cd e d l := (slab_at g _ _ _).trans ((blk_cd m c t g _ _).trans (congrArg cdT (lane_head g e d _)))
  qd r e d := (slab_at g _ _ _).trans ((blk_qd m c t g _ _).trans (congrArg (qdT · r) (lane_head g e d _)))
  d0 r j := (slab2_at g 0 _ _ _).trans (blk_dec m c t g 0 r j)
  d1 r j := (slab2_at g 1 _ _ _).trans (blk_dec m c t g 1 r j)

/-- A pair's new state as it is stored. -/
theorem store_at (M : IVec S128x128 1) (S U : FVec Ideal S128x128 .f32) (D : FVec Ideal S1x128x128 .f32) (r l : Fin 128) :
    k0_pay62 (F := Ideal) M S U D (ix3 0 r l) = k0_pay61 M S U D (ix2 r l) := by
  pointwise [k0_pay62]
theorem store4_at (M : IVec S128x128 1) (S U : FVec Ideal S128x128 .f32) (D : FVec Ideal S1x128x128 .f32) (r l : Fin 128) :
    k0_pay63 (F := Ideal) M S U D (ix4 0 0 r l) = k0_pay61 M S U D (ix2 r l) := by
  pointwise [k0_pay63]
/-- The entering block of states. -/
theorem enter_at (X : FVec Ideal S1x4x128x128 .f32) (g : Fin 4) (r l : Fin 128) : k0_pay12 (F := Ideal) X (ix3 g r l) = X (ix4 0 g r l) := by
  pointwise [k0_pay12]

/-- The pair's state after the chunk, as stored from the operands of slab `g`. -/
theorem state_piece (T : FVec Ideal S4x128x128 .f32) (hT : StateAt (P m c) (bt t) (nt t).val T) (g : Fin 4)
    (e : Fin 2) (d : Fin 64) (e' : Fin 2) (d' : Fin 64) :
    k0_pay62 (F := Ideal) (k0_pay7 k0_pay5 k0_pay6 1#32) (k0_pay33 (slab g T))
        (k0_pay49 (k0_pay15 k0_pay4 (k0_pay13 (iblk m c 4 t)) (k0_pay14 (iblk m c 5 t)) (col g (iblk m c 1 t))) (k0_pay28 (col g (iblk m c 2 t)))
          (slab g (iblk m c 8 t))) (slab g (iblk m c 9 t)) (ix3 0 (lane e d) (lane e' d'))
      = if e = e' then St (P m c) (bt t) (hd g e) ((nt t).val + 1) d d' else 0 :=
  (store_at _ _ _ _ _ _).trans (pair_state (pair_in m c t T hT g) e d e' d')

end Cert.KernelIdeal.RetPoint

end
-- ==== Proof.RetStep.lean ====
/- The state after every grid point. -/
module

public import proofs.«01_k».proof.Proof.Gen.KernelIdeal.Value
public import proofs.«01_k».proof.Proof.RetPoint
public import Idealize.ShloMosaic.Lib.Pipeline.ReadBack
public import proofs.«01_k».proof.Proof.RetFin
public import proofs.«01_k».proof.Proof.RetPair
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic Idealize.SL.Sem

namespace Cert.KernelIdeal.RetStep

open Cert.KernelIdeal Cert.KernelIdeal.Gen Cert.KernelIdeal.RetBody
open Cert.ReferenceIdeal.RetVal (rot cosT sinT decT qdT kdT cdT colv pos qv kv vv St Ov yOf)

open Cert.KernelIdeal.RetBlk Cert.KernelIdeal.RetPoint

/-- Later stores that cover an index hide the earlier ones. -/
theorem canon_keep {S : Shape} {e : EltTy} (L L' : List (View.Piece (Elt Ideal) S e)) (y : S.Idx) (hy : ∃ p ∈ L, y ∈ p.1.set) :
    View.canon (L ++ L') y = View.canon L y := by
  induction L with
  | nil => obtain ⟨p, hp, _⟩ := hy; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine ih ?_
      obtain ⟨q, hq, hyq⟩ := hy
      rcases List.mem_cons.mp hq with rfl | hq'
      · exact absurd hyq hm
      · exact ⟨q, hq', hyq⟩

theorem idx3_eq (x : S1x128x128.Idx) (r l : Fin 128) (h1 : r.val = (x 1).val) (h2 : l.val = (x 2).val) : x = ix3 0 r l := by
  exact (eq_ix3 x).trans (congr (congr (congrArg ix3 (Subsingleton.elim (α := Fin 1) (x 0) 0)) (Fin.ext h1.symm)) (Fin.ext h2.symm))
theorem idx4_eq (x : S1x1x128x128.Idx) (r l : Fin 128) (h1 : r.val = (x 2).val) (h2 : l.val = (x 3).val) : x = ix4 0 0 r l := by
  exact (eq_ix4 x).trans (congr (congr (congr (congrArg ix4 (Subsingleton.elim (α := Fin 1) (x 0) 0)) (Subsingleton.elim (α := Fin 1) (x 1) 0)) (Fin.ext h1.symm)) (Fin.ext h2.symm))

variable (m : (ℓ : Loc nD τ sig) → Buf (Elt Ideal) ℓ) (c : Dev nD) (t : Fin cfg0.N)

/-- The pair's state after the chunk, as written to the block of final states. -/
theorem state_piece4 (T : FVec Ideal S4x128x128 .f32) (hT : StateAt (P m c) (bt t) (nt t).val T) (g : Fin 4)
    (e : Fin 2) (d : Fin 64) (e' : Fin 2) (d' : Fin 64) :
    k0_pay63 (F := Ideal) (k0_pay7 k0_pay5 k0_pay6 1#32) (k0_pay33 (slab g T))
        (k0_pay49 (k0_pay15 k0_pay4 (k0_pay13 (iblk m c 4 t)) (k0_pay14 (iblk m c 5 t)) (col g (iblk m c 1 t))) (k0_pay28 (col g (iblk m c 2 t)))
          (slab g (iblk m c 8 t))) (slab g (iblk m c 9 t)) (ix4 0 0 (lane e d) (lane e' d'))
      = if e = e' then St (P m c) (bt t) (hd g e) ((nt t).val + 1) d d' else 0 :=
  (store4_at _ _ _ _ _ _).trans (pair_state (pair_in m c t T hT g) e d e' d')

/-- The states that enter at a prompt's first chunk are zero. -/
theorem enter_state (z : t.val % 16 = 0) : StateAt (P m c) (bt t) (nt t).val (k0_pay12 (F := Ideal) (iblk m c 10 t)) := by
  intro g e d e' d'
  have hn : (nt t).val = 0 := z
  rw [enter_at, blk_zero, hn]
  split_ifs <;> rfl

/-- From the states before the chunk to the states after it, where the states are carried. -/
theorem state_B (nz : ¬ t.val % 16 = 0) (sT : StateAt (P m c) (bt t) (nt t).val (outsAt0 m c (t.val - 1) (Nat.lt_of_le_of_lt (Nat.sub_le t.val 1) t.isLt)).2.2) :
    StateAt (P m c) (bt t) ((nt t).val + 1) (outsAt0 m c t.val t.isLt).2.2 := by
  intro g e d e' d'
  rw [outsAt0_B m c t nz]
  frame_out
  simp only [read_unread_whole]
  canon_tiles x h
  · have ex := idx3_eq x _ _ h1 h2
    obtain rfl : g = 3 := Fin.ext (by have e0 : g.val = 3 + (x 0).val := h0; have e1 : (x 0).val < 1 := x0_lt; show g.val = 3; omega)
    rw [ex]
    exact state_piece m c t _ sT 3 e d e' d'
  · have ex := idx3_eq x _ _ h1 h2
    obtain rfl : g = 2 := Fin.ext (by have e0 : g.val = 2 + (x 0).val := h0; have e1 : (x 0).val < 1 := x0_lt; show g.val = 2; omega)
    rw [ex]
    exact state_piece m c t _ sT 2 e d e' d'
  · have ex := idx3_eq x _ _ h1 h2
    obtain rfl : g = 1 := Fin.ext (by have e0 : g.val = 1 + (x 0).val := h0; have e1 : (x 0).val < 1 := x0_lt; show g.val = 1; omega)
    rw [ex]
    exact state_piece m c t _ sT 1 e d e' d'
  · have ex := idx3_eq x _ _ h1 h2
    obtain rfl : g = 0 := Fin.ext (by have e0 : g.val = 0 + (x 0).val := h0.trans (Nat.zero_add _).symm; have e1 : (x 0).val < 1 := x0_lt; show g.val = 0; omega)
    rw [ex]
    exact state_piece m c t _ sT 0 e d e' d'

/-- At a prompt's first chunk the states start from zero. -/
theorem state_A (z : t.val % 16 = 0) : StateAt (P m c) (bt t) ((nt t).val + 1) (outsAt0 m c t.val t.isLt).2.2 := by
  intro g e d e' d'
  rw [outsAt0_A m c t z]
  frame_out
  rw [View.readCov_fill _ _ _ _ _ (by decide), View.readCov_fill _ _ _ _ _ (by decide), View.readCov_fill _ _ _ _ _ (by decide), View.readCov_fill _ _ _ _ _ (by decide)]
  refine (canon_keep [_, _, _, _] [_] _ (View.cover_of_tiled_head _ _ _ rfl _)).trans ?_
  canon_tiles x h
  · have ex := idx3_eq x _ _ h1 h2
    obtain rfl : g = 3 := Fin.ext (by have e0 : g.val = 3 + (x 0).val := h0; have e1 : (x 0).val < 1 := x0_lt; show g.val = 3; omega)
    rw [ex]
    exact state_piece m c t _ (enter_state m c t z) 3 e d e' d'
  · have ex := idx3_eq x _ _ h1 h2
    obtain rfl : g = 2 := Fin.ext (by have e0 : g.val = 2 + (x 0).val := h0; have e1 : (x 0).val < 1 := x0_lt; show g.val = 2; omega)
    rw [ex]
    exact state_piece m c t _ (enter_state m c t z) 2 e d e' d'
  · have ex := idx3_eq x _ _ h1 h2
    obtain rfl : g = 1 := Fin.ext (by have e0 : g.val = 1 + (x 0).val := h0; have e1 : (x 0).val < 1 := x0_lt; show g.val = 1; omega)
    rw [ex]
    exact state_piece m c t _ (enter_state m c t z) 1 e d e' d'
  · have ex := idx3_eq x _ _ h1 h2
    obtain rfl : g = 0 := Fin.ext (by have e0 : g.val = 0 + (x 0).val := h0.trans (Nat.zero_add _).symm; have e1 : (x 0).val < 1 := x0_lt; show g.val = 0; omega)
    rw [ex]
    exact state_piece m c t _ (enter_state m c t z) 0 e d e' d'

/-- What a point leaves in the block of final states, where the states are carried. -/
theorem final_B (nz : ¬ t.val % 16 = 0) (sT : StateAt (P m c) (bt t) (nt t).val (outsAt0 m c (t.val - 1) (Nat.lt_of_le_of_lt (Nat.sub_le t.val 1) t.isLt)).2.2)
    (g : Fin 4) (e : Fin 2) (d : Fin 64) (e' : Fin 2) (d' : Fin 64) :
    (outsAt0 m c t.val t.isLt).2.1 (ix4 0 g (lane e d) (lane e' d')) = if e = e' then St (P m c) (bt t) (hd g e) ((nt t).val + 1) d d' else 0 := by
  rw [outsAt0_B m c t nz]
  frame_out
  simp only [read_unread_whole]
  canon_tiles x h
  · have ex := idx4_eq x _ _ h2 h3
    obtain rfl : g = 3 := Fin.ext (by have e0 : g.val = 3 + (x 1).val := h1; have e1 : (x 1).val < 1 := x1_lt; show g.val = 3; omega)
    rw [ex]
    exact state_piece4 m c t _ sT 3 e d e' d'
  · have ex := idx4_eq x _ _ h2 h3
    obtain rfl : g = 2 := Fin.ext (by have e0 : g.val = 2 + (x 1).val := h1; have e1 : (x 1).val < 1 := x1_lt; show g.val = 2; omega)
    rw [ex]
    exact state_piece4 m c t _ sT 2 e d e' d'
  · have ex := idx4_eq x _ _ h2 h3
    obtain rfl : g = 1 := Fin.ext (by have e0 : g.val = 1 + (x 1).val := h1; have e1 : (x 1).val < 1 := x1_lt; show g.val = 1; omega)
    rw [ex]
    exact state_piece4 m c t _ sT 1 e d e' d'
  · have ex := idx4_eq x _ _ h2 h3
    obtain rfl : g = 0 := Fin.ext (by have e0 : g.val = 0 + (x 1).val := h1.trans (Nat.zero_add _).symm; have e1 : (x 1).val < 1 := x1_lt; show g.val = 0; omega)
    rw [ex]
    exact state_piece4 m c t _ sT 0 e d e' d'

/-- After every grid point the carried states are the recurrence's after its chunk. -/
theorem state_after (n : ℕ) (hn : n < cfg0.N) :
    StateAt (P m c) (bt ⟨n, hn⟩) ((nt ⟨n, hn⟩).val + 1) (outsAt0 m c n hn).2.2 := by
  induction n with
  | zero => exact state_A m c ⟨0, hn⟩ rfl
  | succ k ih =>
    by_cases z : (k + 1) % 16 = 0
    · exact state_A m c ⟨k + 1, hn⟩ z
    · refine state_B m c ⟨k + 1, hn⟩ z ?_
      have key := ih (Nat.lt_of_succ_lt hn)
      have hb : bt ⟨k + 1, hn⟩ = bt ⟨k, Nat.lt_of_succ_lt hn⟩ := Fin.ext (by show (k + 1) / 16 = k / 16; omega)
      have hm : (nt ⟨k + 1, hn⟩).val = (nt ⟨k, Nat.lt_of_succ_lt hn⟩).val + 1 := by show (k + 1) % 16 = k % 16 + 1; omega
      rw [hb, hm]
      exact key

/-- Before a carried point the states are the recurrence's before its chunk. -/
theorem state_before (nz : ¬ t.val % 16 = 0) : StateAt (P m c) (bt t) (nt t).val (outsAt0 m c (t.val - 1) (Nat.lt_of_le_of_lt (Nat.sub_le t.val 1) t.isLt)).2.2 := by
  have key := state_after m c (t.val - 1) (Nat.lt_of_le_of_lt (Nat.sub_le t.val 1) t.isLt)
  have hb : bt t = bt ⟨t.val - 1, Nat.lt_of_le_of_lt (Nat.sub_le t.val 1) t.isLt⟩ := Fin.ext (by show t.val / 16 = (t.val - 1) / 16; omega)
  have hm : (nt t).val = (nt ⟨t.val - 1, Nat.lt_of_le_of_lt (Nat.sub_le t.val 1) t.isLt⟩).val + 1 := by show t.val % 16 = (t.val - 1) % 16 + 1; omega
  rw [hb, hm]
  exact key

end Cert.KernelIdeal.RetStep

end
-- ==== Proof.RetYs.lean ====
/- The written output of every grid point. -/
module

public import proofs.«01_k».proof.Proof.Gen.KernelIdeal.Value
public import proofs.«01_k».proof.Proof.RetStep
public import Idealize.ShloMosaic.Lib.Pipeline.ReadBack
public import proofs.«01_k».proof.Proof.RetFin
public import proofs.«01_k».proof.Proof.RetPair
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic Idealize.SL.Sem

namespace Cert.KernelIdeal.RetYs

open Cert.KernelIdeal Cert.KernelIdeal.Gen Cert.KernelIdeal.RetBody
open Cert.ReferenceIdeal.RetVal (rot cosT sinT decT qdT kdT cdT colv pos qv kv vv St Ov yOf Fn fn_Ov)

open Cert.KernelIdeal.RetBlk Cert.KernelIdeal.RetPoint Cert.KernelIdeal.RetStep

/-- Columns of pair `g` of the gain row. -/
def gcol (g : Fin 4) (X : FVec Ideal S1x512 .f32) : FVec Ideal S1x128 .f32 :=
  View.ld (Val := Elt Ideal) (e' := .f32) X (Rect.unit (s := S1x512) ![0, 128 * g.val] ![1, 128] (by
    intro a; match a with
    | 0 => exact Nat.le_refl _
    | 1 => show 128 * g.val + 128 ≤ 512; omega))
theorem gcol_at (g : Fin 4) (X : FVec Ideal S1x512 .f32) (l : Fin 128) : gcol g X (ix2 0 l) = X (ix2 0 ⟨128 * g.val + l.val, by omega⟩) := by
  pointwise [gcol]

variable (m : (ℓ : Loc nD τ sig) → Buf (Elt Ideal) ℓ) (c : Dev nD) (t : Fin cfg0.N)

/-- A pair's attention outputs at a grid point. -/
def oPair (T : FVec Ideal S4x128x128 .f32) (g : Fin 4) : FVec Ideal S128x128 .f32 :=
  k0_pay73 (F := Ideal) k0_pay3 (k0_pay37 (k0_pay20 k0_pay4 (k0_pay13 (iblk m c 4 t)) (k0_pay14 (iblk m c 5 t)) (col g (iblk m c 0 t)) (k0_pay19 (col g (iblk m c 0 t))) 32#32) (slab g T))
    (k0_pay53 (k0_pay28 (col g (iblk m c 2 t))) (k0_pay41 k0_pay3 (k0_pay20 k0_pay4 (k0_pay13 (iblk m c 4 t)) (k0_pay14 (iblk m c 5 t)) (col g (iblk m c 0 t)) (k0_pay19 (col g (iblk m c 0 t))) 32#32) (k0_pay24 (k0_pay15 k0_pay4 (k0_pay13 (iblk m c 4 t)) (k0_pay14 (iblk m c 5 t)) (col g (iblk m c 1 t))))) (slab2 g 0 (iblk m c 6 t)))
    (k0_pay54 (k0_pay28 (col g (iblk m c 2 t))) (k0_pay42 k0_pay3 (k0_pay20 k0_pay4 (k0_pay13 (iblk m c 4 t)) (k0_pay14 (iblk m c 5 t)) (col g (iblk m c 0 t)) (k0_pay19 (col g (iblk m c 0 t))) 32#32) (k0_pay24 (k0_pay15 k0_pay4 (k0_pay13 (iblk m c 4 t)) (k0_pay14 (iblk m c 5 t)) (col g (iblk m c 1 t))))) (slab2 g 1 (iblk m c 6 t))) (slab g (iblk m c 7 t))

/-- The gated, normalised outputs of a pair at a grid point. -/
theorem y_piece (hp : ∀ i, Fn (P m c i)) (T : FVec Ideal S4x128x128 .f32) (hT : StateAt (P m c) (bt t) (nt t).val T) (g : Fin 4)
    (r : Fin 128) (e : Fin 2) (d : Fin 64) :
    k0_pay2 (F := Ideal) (oPair m c t T g) (k0_pay77 (k0_pay11 (F := Ideal) k0_pay8 k0_pay9 k0_pay10) (oPair m c t T g))
        (gcol g (iblk m c 11 t)) (col g (iblk m c 3 t)) (ix2 r (lane e d))
      = yOf (colv 4608 (by omega) (P m c) (bt t) (nt t) (hd g e) r d) (Ov (P m c) (bt t) (nt t) (hd g e) r)
          (m ((c.tc : Thread nD τ).loc main_arg1) (ix2 (hd g e) d)) d :=
  pair_y (p := P m c) (b := bt t) (n := nt t) (g := g) (oPair m c t T g) (col g (iblk m c 3 t)) (gcol g (iblk m c 11 t)) (m ((c.tc : Thread nD τ).loc main_arg1)) r e d
    (fun e d => pair_o (pair_in m c t T hT g) r e d)
    (fun e d => fn_Ov hp _ _ _ _ _)
    (col_read m c t 4608 _ _ (blk_g m c t) g r e d)
    ((gcol_at g _ _).trans ((blk_gain m c t _).trans (congrArg (m ((c.tc : Thread nD τ).loc main_arg1)) (by
      have hh : (hd g e).val = g.val * 2 + e.val := rfl
      have hl : (lane e d).val = e.val * 64 + d.val := rfl
      exact congrArg₂ ix2 (Fin.ext (by simp only []; omega)) (Fin.ext (by simp only []; omega))))))

theorem idx2_eq (x : S128x128.Idx) (r l : Fin 128) (h1 : r.val = (x 0).val) (h2 : l.val = (x 1).val) : x = ix2 r l :=
  (eq_ix2 x).trans (congr (congrArg ix2 (Fin.ext h1.symm)) (Fin.ext h2.symm))

/-- The written outputs where the states are carried. -/
theorem y_B (nz : ¬ t.val % 16 = 0) (hp : ∀ i, Fn (P m c i)) (r : Fin 128) (g : Fin 4) (e : Fin 2) (d : Fin 64) :
    (outsAt0 m c t.val t.isLt).1 (ix2 r ⟨128 * g.val + (lane e d).val, by have := (lane e d).isLt; omega⟩)
      = yOf (colv 4608 (by omega) (P m c) (bt t) (nt t) (hd g e) r d) (Ov (P m c) (bt t) (nt t) (hd g e) r)
          (m ((c.tc : Thread nD τ).loc main_arg1) (ix2 (hd g e) d)) d := by
  rw [outsAt0_B m c t nz]
  have sT := state_before m c t nz
  frame_out
  simp only [read_unread_whole]
  canon_tiles x h
  · have e0 : 128 * g.val + (lane e d).val = 384 + (x 1).val := h1
    have e1 : (x 1).val < 128 := x1_lt
    have e2 : (lane e d).val < 128 := (lane e d).isLt
    obtain rfl : g = 3 := Fin.ext (by show g.val = 3; omega)
    have ex := idx2_eq x r (lane e d) h0 (by have e3 : (((3 : Fin 4) : ℕ)) = 3 := rfl; omega)
    rw [ex]
    exact y_piece m c t hp _ sT 3 r e d
  · have e0 : 128 * g.val + (lane e d).val = 256 + (x 1).val := h1
    have e1 : (x 1).val < 128 := x1_lt
    have e2 : (lane e d).val < 128 := (lane e d).isLt
    obtain rfl : g = 2 := Fin.ext (by show g.val = 2; omega)
    have ex := idx2_eq x r (lane e d) h0 (by have e3 : (((2 : Fin 4) : ℕ)) = 2 := rfl; omega)
    rw [ex]
    exact y_piece m c t hp _ sT 2 r e d
  · have e0 : 128 * g.val + (lane e d).val = 128 + (x 1).val := h1
    have e1 : (x 1).val < 128 := x1_lt
    have e2 : (lane e d).val < 128 := (lane e d).isLt
    obtain rfl : g = 1 := Fin.ext (by show g.val = 1; omega)
    have ex := idx2_eq x r (lane e d) h0 (by have e3 : (((1 : Fin 4) : ℕ)) = 1 := rfl; omega)
    rw [ex]
    exact y_piece m c t hp _ sT 1 r e d
  · have e0 : 128 * g.val + (lane e d).val = 0 + (x 1).val := h1.trans (Nat.zero_add _).symm
    have e1 : (x 1).val < 128 := x1_lt
    have e2 : (lane e d).val < 128 := (lane e d).isLt
    obtain rfl : g = 0 := Fin.ext (by show g.val = 0; omega)
    have ex := idx2_eq x r (lane e d) h0 (by have e3 : (((0 : Fin 4) : ℕ)) = 0 := rfl; omega)
    rw [ex]
    exact y_piece m c t hp _ sT 0 r e d

/-- The written outputs at a prompt's first chunk. -/
theorem y_A (z : t.val % 16 = 0) (hp : ∀ i, Fn (P m c i)) (r : Fin 128) (g : Fin 4) (e : Fin 2) (d : Fin 64) :
    (outsAt0 m c t.val t.isLt).1 (ix2 r ⟨128 * g.val + (lane e d).val, by have := (lane e d).isLt; omega⟩)
      = yOf (colv 4608 (by omega) (P m c) (bt t) (nt t) (hd g e) r d) (Ov (P m c) (bt t) (nt t) (hd g e) r)
          (m ((c.tc : Thread nD τ).loc main_arg1) (ix2 (hd g e) d)) d := by
  rw [outsAt0_A m c t z]
  frame_out
  rw [View.readCov_fill _ _ _ _ _ (by decide), View.readCov_fill _ _ _ _ _ (by decide), View.readCov_fill _ _ _ _ _ (by decide), View.readCov_fill _ _ _ _ _ (by decide)]
  canon_tiles x h
  · have e0 : 128 * g.val + (lane e d).val = 384 + (x 1).val := h1
    have e1 : (x 1).val < 128 := x1_lt
    have e2 : (lane e d).val < 128 := (lane e d).isLt
    obtain rfl : g = 3 := Fin.ext (by show g.val = 3; omega)
    have ex := idx2_eq x r (lane e d) h0 (by have e3 : (((3 : Fin 4) : ℕ)) = 3 := rfl; omega)
    rw [ex]
    exact y_piece m c t hp _ (enter_state m c t z) 3 r e d
  · have e0 : 128 * g.val + (lane e d).val = 256 + (x 1).val := h1
    have e1 : (x 1).val < 128 := x1_lt
    have e2 : (lane e d).val < 128 := (lane e d).isLt
    obtain rfl : g = 2 := Fin.ext (by show g.val = 2; omega)
    have ex := idx2_eq x r (lane e d) h0 (by have e3 : (((2 : Fin 4) : ℕ)) = 2 := rfl; omega)
    rw [ex]
    exact y_piece m c t hp _ (enter_state m c t z) 2 r e d
  · have e0 : 128 * g.val + (lane e d).val = 128 + (x 1).val := h1
    have e1 : (x 1).val < 128 := x1_lt
    have e2 : (lane e d).val < 128 := (lane e d).isLt
    obtain rfl : g = 1 := Fin.ext (by show g.val = 1; omega)
    have ex := idx2_eq x r (lane e d) h0 (by have e3 : (((1 : Fin 4) : ℕ)) = 1 := rfl; omega)
    rw [ex]
    exact y_piece m c t hp _ (enter_state m c t z) 1 r e d
  · have e0 : 128 * g.val + (lane e d).val = 0 + (x 1).val := h1.trans (Nat.zero_add _).symm
    have e1 : (x 1).val < 128 := x1_lt
    have e2 : (lane e d).val < 128 := (lane e d).isLt
    obtain rfl : g = 0 := Fin.ext (by show g.val = 0; omega)
    have ex := idx2_eq x r (lane e d) h0 (by have e3 : (((0 : Fin 4) : ℕ)) = 0 := rfl; omega)
    rw [ex]
    exact y_piece m c t hp _ (enter_state m c t z) 0 r e d

/-- The written outputs of every grid point. -/
theorem y_all (hp : ∀ i, Fn (P m c i)) (r : Fin 128) (g : Fin 4) (e : Fin 2) (d : Fin 64) :
    (outsAt0 m c t.val t.isLt).1 (ix2 r ⟨128 * g.val + (lane e d).val, by have := (lane e d).isLt; omega⟩)
      = yOf (colv 4608 (by omega) (P m c) (bt t) (nt t) (hd g e) r d) (Ov (P m c) (bt t) (nt t) (hd g e) r)
          (m ((c.tc : Thread nD τ).loc main_arg1) (ix2 (hd g e) d)) d := by
  by_cases z : t.val % 16 = 0
  · exact y_A m c t z hp r g e d
  · exact y_B m c t z hp r g e d

end Cert.KernelIdeal.RetYs

end
-- ==== Proof.RetFinal.lean ====
/- The kernel's final arrays. -/
module

public import proofs.«01_k».proof.Proof.Gen.KernelIdeal.Value
public import proofs.«01_k».proof.Proof.RetYs
public import Idealize.ShloMosaic.Lib.Pipeline.ReadBack
public import proofs.«01_k».proof.Proof.RetFin
public import proofs.«01_k».proof.Proof.RetPair
public import Idealize.ShloMosaic.Lib.Pointwise
public import Idealize.ShloMosaic.Lib.Pipeline.ValueKit
public import Idealize.ShloMosaic.Lib.Pipeline.ValueKit.Partial

@[expose] public section

set_option maxRecDepth 16384
set_option maxHeartbeats 1000000

noncomputable section

open Idealize.ShloMosaic Idealize.ShloMosaic.TcCoe Idealize.ShloMosaic.Tactic Idealize.SL.Sem

namespace Cert.KernelIdeal.RetFinal

open Cert.KernelIdeal Cert.KernelIdeal.Gen Cert.KernelIdeal.RetBody
open Cert.ReferenceIdeal.RetVal (rot cosT sinT decT qdT kdT cdT colv pos qv kv vv St Ov yOf Fn fn_Ov mixOf stOf)

open Cert.KernelIdeal.RetBlk Cert.KernelIdeal.RetPoint Cert.KernelIdeal.RetStep Cert.KernelIdeal.RetYs Cert.KernelIdeal.RetTab

variable (m : (ℓ : Loc nD τ sig) → Buf (Elt Ideal) ℓ) (c : Dev nD) (t : Fin cfg0.N)

/-- The gated outputs at equal coordinates. -/
theorem yOf_eq (p : FVec Ideal Cert.ReferenceIdeal.S16640x5632 .f32) (gain : FVec Ideal Cert.ReferenceIdeal.S8x64 .f32)
    {b b' : Fin 8} {n n' : Fin 16} {h h' : Fin 8} {r r' : Fin 128} {d d' : Fin 64} (eb : b = b') (en : n = n') (eh : h = h') (er : r = r') (ed : d = d') :
    yOf (colv 4608 (by omega) p b n h r d) (Ov p b n h r) (gain (ix2 h d)) d = yOf (colv 4608 (by omega) p b' n' h' r' d') (Ov p b' n' h' r') (gain (ix2 h' d')) d' := by
  subst eb en eh er ed
  rfl

/-- The final block of states of a prompt. -/
theorem st_block (last : t.val % 16 = 15) (g : Fin 4) (r l : Fin 128) :
    (outsAt0 m c t.val t.isLt).2.1 (ix4 0 g r l) = stOf (P m c) (bt t) g r l := by
  have nz : ¬ t.val % 16 = 0 := by omega
  obtain ⟨e, d, rfl⟩ := lane_split r
  obtain ⟨e', d', rfl⟩ := lane_split l
  rw [final_B m c t nz (state_before m c t nz) g e d e' d']
  have hn : (nt t).val + 1 = 16 := by show t.val % 16 + 1 = 16; omega
  have hl : (lane e d).val = e.val * 64 + d.val := rfl
  have hl' : (lane e' d').val = e'.val * 64 + d'.val := rfl
  rw [hn]
  unfold stOf
  refine if_congr ?_ ?_ rfl
  · rw [lane_div, lane_div]; exact Fin.ext_iff
  · have a1 : hd g e = ⟨g.val * 2 + (lane e d).val / 64, by omega⟩ := Fin.ext (by show g.val * 2 + e.val = _; simp only []; omega)
    have a2 : d = ⟨(lane e d).val % 64, by omega⟩ := Fin.ext (by simp only []; omega)
    have a3 : d' = ⟨(lane e' d').val % 64, by omega⟩ := Fin.ext (by simp only []; omega)
    exact congr (congr (congrArg (fun h => St (P m c) (bt t) h 16) a1) a2) a3

theorem st_point (last : t.val % 16 = 15) (y : S1x4x128x128.Idx) (j : S8x4x128x128.Idx) (e0 : (j 0 : ℕ) = t.val / 16) (e1 : (j 1 : ℕ) = y 1) (e2 : (j 2 : ℕ) = y 2)
    (e3 : (j 3 : ℕ) = y 3) : (outsAt0 m c t.val t.isLt).2.1 y = stOf (P m c) (j 0) (j 1) (j 2) (j 3) := by
  have ey : y = ix4 0 (y 1) (y 2) (y 3) := (eq_ix4 y).trans (congrArg (ix4 · (y 1) (y 2) (y 3)) (Subsingleton.elim (α := Fin 1) (y 0) 0))
  rw [ey]
  refine (st_block m c t last (y 1) (y 2) (y 3)).trans ?_
  have a0 : bt t = j 0 := Fin.ext e0.symm
  have a1 : y 1 = j 1 := Fin.ext e1.symm
  have a2 : y 2 = j 2 := Fin.ext e2.symm
  have a3 : y 3 = j 3 := Fin.ext e3.symm
  exact congr (congr (congr (congrArg (stOf (P m c)) a0) a1) a2) a3

theorem mix_point (hp : ∀ i, Fn (P m c i)) (y : S128x512.Idx) (j : S16640x2048.Idx) (e0 : (j 0 : ℕ) = t.val * 128 + y 0) (e1 : (j 1 : ℕ) = 1024 + y 1) :
    (outsAt0 m c t.val t.isLt).1 y = mixOf (P m c) (m ((c.tc : Thread nD τ).loc main_arg1)) (m ((c.tc : Thread nD τ).loc main_arg2)) (j 0) (j 1) := by
  have n0 : (y 0).val < 128 := (y 0).isLt
  have n1 : (y 1).val < 512 := (y 1).isLt
  have nt' := lt_N t
  obtain ⟨e, d, hed⟩ := lane_split ⟨(y 1).val % 128, by omega⟩
  have hl : (lane e d).val = e.val * 64 + d.val := rfl
  have hv : (y 1).val % 128 = (lane e d).val := congrArg Fin.val hed
  have key := y_all m c t hp (y 0) ⟨(y 1).val / 128, by omega⟩ e d
  have ey : y = ix2 (y 0) ⟨128 * ((y 1).val / 128) + (lane e d).val, by omega⟩ := (eq_ix2 y).trans (congrArg (ix2 (y 0)) (Fin.ext (by simp only []; omega)))
  rw [ey]
  refine key.trans ?_
  unfold mixOf
  rw [dif_pos (by omega)]
  have b0 : bt t = ⟨(j 0).val / 2048, by omega⟩ := Fin.ext (by show t.val / 16 = _; simp only []; omega)
  have b1 : nt t = ⟨(j 0).val % 2048 / 128, by omega⟩ := Fin.ext (by show t.val % 16 = _; simp only []; omega)
  have b2 : hd ⟨(y 1).val / 128, by omega⟩ e = ⟨((j 1).val - 1024) / 64, by omega⟩ := Fin.ext (by show (y 1).val / 128 * 2 + e.val = _; simp only []; omega)
  have b3 : y 0 = (⟨(j 0).val % 128, by omega⟩ : Fin 128) := Fin.ext (by simp only []; omega)
  have b4 : d = ⟨(j 1).val % 64, by omega⟩ := Fin.ext (by simp only []; omega)
  exact yOf_eq _ _ b0 b1 b2 b3 b4

/-- The state result. -/
theorem final13 : (dats m 0 c).arrAt 13 (cfgs 0).N = fun i => stOf (P m c) (i 0) (i 1) (i 2) (i 3) := by
  refine (dats m 0 c).arrAt_eq_of_covers 13 _ (by decide +kernel) fun t hf y => ?_
  blk_simp
  rw [after0_13]
  exact st_point m c t ((flush0_13 t).mp hf) y _ (by blk_simp [idx t] <;> try omega) (by blk_simp [idx t] <;> try omega) (by blk_simp [idx t] <;> try omega) (by blk_simp [idx t] <;> try omega)

/-- The outputs result. -/
theorem final12 (hp : ∀ i, Fn (P m c i)) : (dats m 0 c).arrAt 12 (cfgs 0).N
    = fun i => if (i 0 : ℕ) < 16384 ∧ 512 * 2 ≤ (i 1 : ℕ) ∧ (i 1 : ℕ) < 512 * 3 then mixOf (P m c) (m ((c.tc : Thread nD τ).loc main_arg1)) (m ((c.tc : Thread nD τ).loc main_arg2)) (i 0) (i 1) else Gen.V m c main_v83_0 i := by
  refine (dats m 0 c).arrAt_eq_of_coversWhere 12 _ (fun β => β 0 < 128 ∧ β 1 = 2) (by decide +kernel) (fun t hf y => ?_)
    (fun j => by blk_simp [Pipeline.Window.cell_apply]; omega)
  blk_simp
  rw [after0_12]
  exact mix_point m c t hp y _ (by blk_simp [idx t] <;> try omega) (by blk_simp [idx t] <;> try omega)

end Cert.KernelIdeal.RetFinal

end
-- ==== Proof.RetClaim.lean ====
/- The two programs' results agree. -/
module

public import proofs.«01_k».proof.Defs
public import proofs.«01_k».proof.Proof.Gen.Kernel
public import proofs.«01_k».proof.Proof.RetFinal
public import proofs.«01_k».proof.Proof.RetPost
public import proofs.«01_k».proof.Proof.Gen.ReferenceIdeal.Run
public import Idealize.ShloMosaic.Lib.ReduceAll
public import Idealize.ShloMosaic.Lib.Pointwise
public import Idealize.ShloMosaic.Lib.Pipeline.ValueKit
public import Idealize.ShloMosaic.Adequacy
public import Idealize.ShloMosaic.Init

@[expose] public section

set_option maxRecDepth 16384
set_option maxHeartbeats 1000000

noncomputable section

namespace Cert.Proof.Ret

open Idealize.ShloMosaic Idealize.ShloMosaic.TcCoe Idealize.ShloMosaic.Tactic Idealize.SL.Sem

/-- The shape facts the precondition states. -/
theorem preFacts : Cert.Pre_p_finite.Facts where
  bcast_S_S16640x5632 := by decide
  reducesTo_S16640x5632_S_d0_1 := by decide
  h_S_ := by decide

attribute [local instance] preFacts Cert.Kernel.Gen.facts Cert.KernelIdeal.Gen.facts Cert.ReferenceIdeal.Gen.facts

/-- The precondition makes every projection a real. -/
theorem fn_of_pre (p : FVec Ideal Cert.Pre_p_finite.S16640x5632 .f32) (g : FVec Ideal Cert.Pre_p_finite.S8x64 .f32) (x : FVec Ideal Cert.Pre_p_finite.S16640x2048 .bf16)
    (h : Cert.Pre_p_finite.fn (F := Ideal) p g x = fun _ => 1#1) (i : Cert.Pre_p_finite.S16640x5632.Idx) : Cert.ReferenceIdeal.RetVal.Fn (p i) := by
  have key := congrFun h ix0
  dsimp only [Cert.Pre_p_finite.fn] at key
  have el := Host.reduce_andi_all _ _ _ _ _ key i
  have lt : max (p i) (-(p i)) < (⊤ : EReal) := by
    have two : Ideal.ofBits .f32 0x7F800000#32 = (⊤ : EReal) := by simp [Ideal.ofBits, Ideal.ieee]
    revert el
    pointwise
    rw [two]
    intro q
    by_contra con
    have : BitVec.ofBool (decide (FloatOps.absf (F := Ideal) (φ := .f32) (p i) < (⊤ : EReal))) = 0#1 := by
      exact congrArg BitVec.ofBool (decide_eq_false con)
    rw [this] at q
    exact absurd q (by decide)
  refine ⟨(p i).toReal, (EReal.coe_toReal ?_ ?_).symm⟩
  · intro e
    rw [e] at lt
    exact absurd lt (by simp)
  · intro e
    rw [e] at lt
    exact absurd lt (by simp)

/-- The part outside the written columns keeps its entry contents. -/
theorem mixOf_else (p : FVec Ideal Cert.ReferenceIdeal.S16640x5632 .f32) (gain : FVec Ideal Cert.ReferenceIdeal.S8x64 .f32) (mix : FVec Ideal Cert.ReferenceIdeal.S16640x2048 .bf16)
    (r : Fin 16640) (j : Fin 2048) (no : ¬ (r.val < 16384 ∧ 1024 ≤ j.val ∧ j.val < 1536)) : Cert.ReferenceIdeal.RetVal.mixOf p gain mix r j = mix (ix2 r j) := by
  unfold Cert.ReferenceIdeal.RetVal.mixOf
  rw [dif_neg no]

/-- The two programs end with equal results where the projections are reals. -/
theorem value : Cert.algebraic_KernelIdeal_ReferenceIdeal_pre_p_finite := by
  pair_intro
  · run_from Cert.KernelIdeal.Value.run_blocks m g
  · run_from Cert.ReferenceIdeal.Value.run m' g'
    · have hp : ∀ i, Cert.ReferenceIdeal.RetVal.Fn (Cert.KernelIdeal.RetPoint.P m c i) := fun i => fn_of_pre _ _ _ (hpre c) i
      refine Eq.trans ?_ (Cert.KernelIdeal.RetFinal.final12 m c hp).symm
      funext i
      rw [eq_ix2 i]
      refine (Cert.ReferenceIdeal.RetVal.out_mix _ _ _ _ (Cert.ReferenceIdeal.RetVal.held_iter m' c 16 (Nat.le_refl _)) (Cert.ReferenceIdeal.Value.iter_main_arg0 m' c 16)
        (Cert.ReferenceIdeal.Value.iter_main_arg1 m' c 16) (Cert.ReferenceIdeal.Value.iter_main_arg2 m' c 16) _ _).trans ?_
      rw [(hagree c).1, (hagree c).2.1, (hagree c).2.2]
      show _ = if _ then _ else _
      split_ifs with hc
      · rfl
      · rw [Cert.KernelIdeal.RetTab.mix_at]
        exact mixOf_else _ _ _ _ _ (fun q => hc q)
    · refine Eq.trans ?_ (Cert.KernelIdeal.RetFinal.final13 m c).symm
      funext i
      rw [eq_ix4 i]
      refine (Cert.ReferenceIdeal.RetVal.out_state _ _ (Cert.ReferenceIdeal.RetVal.held_iter m' c 16 (Nat.le_refl _)) _ _ _ _).trans ?_
      rw [(hagree c).1]
      rfl

/-- The reference runs and leaves its arguments; it declares no semaphore. -/
theorem frame_reference : Cert.quiescent_ReferenceIdeal := fun m ρ _ =>
  (θ_run Cert.ReferenceIdeal.defs _ _).mono (fun r q => ⟨fun c => (q c).2.2, sem_eq_zero_of_no_sems (by decide) r.2⟩)
    (Cert.ReferenceIdeal.Value.run (F := Ideal) m ρ)

end Cert.Proof.Ret

end
-- ==== Proof.Moe2ITab.lean ====
module

public import proofs.«01_k».proof.Proof.Gen.Kernel2Ideal.Flash.Runs
public import proofs.«01_k».proof.Proof.Gen.Kernel2Ideal.Launch
public import Idealize.ShloMosaic.Lib.Affine
public import Idealize.ShloMosaic.PureOps.Ideal

@[expose] public section
set_option maxRecDepth 16384
noncomputable section
namespace Cert.Kernel2Ideal.Moe
open Cert.Kernel2Ideal Cert.Kernel2Ideal.Gen
open Idealize.ShloMosaic
open Idealize.ShloMosaic.TcCoe Idealize.ShloMosaic.Tactic

/-- The two tables the kernel steers by: the expert of each tile, and how many tiles hold rows. -/
structure Tab where
  e : S73.Idx → BitVec 32
  n : S1.Idx → BitVec 32
  he : ∀ x, (e x).toNat < 8
  hn : ∀ x, 1 ≤ (n x).toInt

/-- The tables as the launch hands them over. -/
def pf (v : Tab) : pre0.Contents (Elt Ideal) := fun | ⟨0, _⟩ => v.e | ⟨1, _⟩ => v.n | ⟨_ + 2, h⟩ => absurd h (by simp)

/-- The tile of a grid point. -/
def cur (i : grid0.Coords) : S73.Idx := fun a => ⟨(i 1).val, by revert a; rw [Fin.forall_fin_one]; exact (i 1).isLt⟩
/-- The tile before it, the first tile its own. -/
def prv (i : grid0.Coords) : S73.Idx := fun a => ⟨(i 1).val - 1, by revert a; rw [Fin.forall_fin_one]; exact Nat.lt_of_le_of_lt (Nat.sub_le _ _) (i 1).isLt⟩
/-- The one place of the second table. -/
abbrev zz : S1.Idx := Shape.Idx.first (numel1_S1.symm ▸ Nat.one_pos)

theorem off1_eq (i : grid0.Coords) : k0_off1 i = ![(i 1).val] := by
  have h : ∀ n : Fin 73, k0_off1 (fun | 0 => (0 : Fin 7) | 1 => n) = ![n.val] := by decide +kernel
  exact h (i 1)

theorem off2_eq (i : grid0.Coords) : k0_off2 i = ![(i 1).val - 1] := by
  have h : ∀ n : Fin 73, k0_off2 (fun | 0 => (0 : Fin 7) | 1 => n) = ![n.val - 1] := by decide +kernel
  exact h (i 1)

theorem emb_cur (i : grid0.Coords) (h : 0 < S1.numel) : (Rect.unit (s := S73) (k0_off1 i) S1.size (k0_off1_inb i)).emb (Shape.Idx.first h) = cur i := by
  funext a; apply Fin.ext; revert a; rw [Fin.forall_fin_one]
  show k0_off1 i 0 + 1 * 0 = (i 1).val
  rw [off1_eq]; rfl

theorem emb_prv (i : grid0.Coords) (h : 0 < S1.numel) : (Rect.unit (s := S73) (k0_off2 i) S1.size (k0_off2_inb i)).emb (Shape.Idx.first h) = prv i := by
  funext a; apply Fin.ext; revert a; rw [Fin.forall_fin_one]
  show k0_off2 i 0 + 1 * 0 = (i 1).val - 1
  rw [off2_eq]; rfl

/-- The word the body reads for its own tile. -/
theorem rd1 (i : grid0.Coords) (T : S73.Idx → Elt Ideal .i32) (h : 0 < S1.numel) : View.readAt (Elt Ideal) (tbM0_0).view (Rect.unit (s := S73) (k0_off1 i) S1.size (k0_off1_inb i)).toLoadRect T (Shape.Idx.first h) = T (cur i) :=
  (show _ = T ((Rect.unit (s := S73) (k0_off1 i) S1.size (k0_off1_inb i)).emb (Shape.Idx.first h)) from rfl).trans (congrArg T (emb_cur i h))

/-- The word the body reads for the tile before. -/
theorem rd2 (i : grid0.Coords) (T : S73.Idx → Elt Ideal .i32) (h : 0 < S1.numel) : View.readAt (Elt Ideal) (tbM0_0).view (Rect.unit (s := S73) (k0_off2 i) S1.size (k0_off2_inb i)).toLoadRect T (Shape.Idx.first h) = T (prv i) :=
  (show _ = T ((Rect.unit (s := S73) (k0_off2 i) S1.size (k0_off2_inb i)).emb (Shape.Idx.first h)) from rfl).trans (congrArg T (emb_prv i h))

theorem first_zz (x : S1.Idx) : x = zz := by
  funext a; revert a; rw [Fin.forall_fin_one]; exact Subsingleton.elim (α := Fin 1) _ _

/-- The word the body reads for the number of tiles. -/
theorem rdn (T : S1.Idx → Elt Ideal .i32) (h : 0 < S1.numel) : View.readAt (Elt Ideal) (tbM0_1).view (Rect.unit (s := S1) ![0] S1.size inb_S1_S1_0).toLoadRect T (Shape.Idx.first h) = T zz :=
  congrArg T (first_zz _)

/-- Whether the point starts a new tile of weights: the first tile, or another expert than the tile before. -/
abbrev Q0 (i : grid0.Coords) (a b : BitVec 32) : Prop :=
  Scalar.cmpi .ne (Scalar.extui (Scalar.ori (Scalar.cmpi .eq (BitVec.ofNat 32 (i 1).val) 0#32) (Scalar.cmpi .ne a b))) 0#32 = (1#1 : BitVec 1)

theorem not_Q0 {i : grid0.Coords} {a b : BitVec 32} (h : ¬ Q0 i a b) : (i 1).val ≠ 0 ∧ a = b := by
  refine ⟨fun h0 => h ?_, by_contra fun hab => h ?_⟩
  · unfold Q0; rw [h0]
    have : ∀ c : BitVec 1, Scalar.cmpi .ne (Scalar.extui (Scalar.ori (Scalar.cmpi .eq (BitVec.ofNat 32 0) 0#32) c) : BitVec 32) 0#32 = (1#1 : BitVec 1) := by decide
    exact this _
  · unfold Q0
    have e : Scalar.cmpi .ne a b = 1#1 := by
      have hb : (a != b) = true := bne_iff_ne.mpr hab
      show BitVec.ofBool (a != b) = 1#1
      rw [hb]; rfl
    rw [e]
    have : ∀ c : BitVec 1, Scalar.cmpi .ne (Scalar.extui (Scalar.ori c 1#1) : BitVec 32) 0#32 = (1#1 : BitVec 1) := by decide
    exact this _

theorem cond23 (i : grid0.Coords) (w : BitVec 32) : k0_cond3 i w = 1#1 ↔ ¬ k0_cond2 i w = 1#1 := by
  unfold k0_cond3 k0_cond2
  simp only [Scalar.cmpi, IntOp.cmpi]; generalize (BitVec.ofNat 32 (i 1).val) = u; rw [show w.sle u = !(u.slt w) from by simp [BitVec.sle_eq_not_slt]]; generalize u.slt w = c; revert c; decide

theorem min_word (n : ℕ) (hn : n < 73) (w : BitVec 32) (hw : 1 ≤ w.toInt) : (Scalar.minsi (BitVec.ofNat 32 n) (Scalar.subi w 1#32)).toNat = min n (w.toInt.toNat - 1) := by
  have h1 : w.toNat < 2147483648 ∧ w.toInt = w.toNat := by
    have := w.isLt
    rw [BitVec.toInt_eq_toNat_cond] at hw ⊢
    by_cases h : 2 * w.toNat < 2 ^ 32
    · rw [if_pos h] at hw ⊢; omega
    · rw [if_neg h] at hw; omega
  have h2 : (w - 1#32).toNat = w.toNat - 1 := by
    rw [BitVec.toNat_sub]; have : (1#32).toNat = 1 := rfl
    rw [this]; omega
  have h3 : (w - 1#32).toInt = w.toNat - 1 := by
    rw [BitVec.toInt_eq_toNat_cond, h2, if_pos (by omega)]; omega
  have h4 : (BitVec.ofNat 32 n).toNat = n := by rw [BitVec.toNat_ofNat]; omega
  have h5 : (BitVec.ofNat 32 n).toInt = n := by rw [BitVec.toInt_eq_toNat_cond, h4, if_pos (by omega)]
  show (if (BitVec.ofNat 32 n).slt (w - 1#32) then BitVec.ofNat 32 n else w - 1#32).toNat = _
  rw [h1.2]
  by_cases h : (BitVec.ofNat 32 n).slt (w - 1#32) = true
  · rw [if_pos h, h4]; rw [BitVec.slt_iff_toInt_lt, h5, h3] at h; omega
  · rw [if_neg h, h2]; rw [BitVec.slt_iff_toInt_lt, h5, h3] at h; omega

/-- The block index of the rows: the tile, the last one that holds rows after it. -/
theorem tr0 (v : Tab) (i : grid0.Coords) : cc0_transform_0 inb_S1_S1_0 numel1_S1 (pf v) i = ![min (i 1).val ((v.n zz).toInt.toNat - 1), 0] := by
  have hn := v.hn zz
  have e : (pf v).at 1 (Rect.unit (s := S1) ![0] S1.size inb_S1_S1_0) numel1_S1 = v.n zz := congrArg v.n (first_zz _)
  have h : cc0_transform_0 inb_S1_S1_0 numel1_S1 (pf v) i = ![(Scalar.minsi (BitVec.ofNat 32 (i 1).val) (Scalar.subi ((pf v).at 1 (Rect.unit (s := S1) ![0] S1.size inb_S1_S1_0) numel1_S1) 1#32)).toNat, 0] := rfl
  rw [h, e, min_word _ (i 1).isLt _ hn]

/-- The block index of the weights: the tile's expert, the column block. -/
theorem tr1 (v : Tab) (i : grid0.Coords) : cc0_transform_1 k0_off1_inb numel1_S1 (pf v) i = ![0, (v.e (cur i)).toNat, 0, (i 0).val] := by
  have e : (pf v).at 0 (Rect.unit (s := S73) (k0_off1 i) S1.size (k0_off1_inb i)) numel1_S1 = v.e (cur i) := congrArg v.e (emb_cur i _)
  have h : cc0_transform_1 k0_off1_inb numel1_S1 (pf v) i = ![0, ((pf v).at 0 (Rect.unit (s := S73) (k0_off1 i) S1.size (k0_off1_inb i)) numel1_S1).toNat, 0, (BitVec.ofNat 32 (i 0).val).toNat] := rfl
  rw [h, e, BitVec.toNat_ofNat, Nat.mod_eq_of_lt (lt_trans (i 0).isLt (by decide))]

/-- The third window's block index, the second's. -/
theorem tr2 (v : Tab) (i : grid0.Coords) : cc0_transform_2 k0_off1_inb numel1_S1 (pf v) i = ![0, (v.e (cur i)).toNat, 0, (i 0).val] := tr1 v i

/-- The block index of the result. -/
theorem tr3 (i : grid0.Coords) : cc0_transform_3 i = ![(i 1).val, (i 0).val] := by
  have h : cc0_transform_3 i = ![(BitVec.ofNat 32 (i 1).val).toNat, (BitVec.ofNat 32 (i 0).val).toNat] := rfl
  rw [h, BitVec.toNat_ofNat, BitVec.toNat_ofNat, Nat.mod_eq_of_lt (lt_trans (i 0).isLt (by decide)), Nat.mod_eq_of_lt (lt_trans (i 1).isLt (by decide))]

/-- At such tables every block lies inside its array. -/
theorem ok (v : Tab) : ok0 (pf v) := by
  refine ⟨?_, ?_, ?_⟩
  · intro i
    refine ⟨fun a => ?_, .inr (Affine.block_words_dvd (s := S37376x2048) (p := EltTy.packing .bf16) (by decide) (by decide))⟩
    rw [tr0 v i]
    revert a; rw [Fin.forall_fin_succ, Fin.forall_fin_one]
    refine ⟨?_, by show (0 + 1) * _ ≤ _; decide⟩
    show (min (i 1).val ((v.n zz).toInt.toNat - 1) + 1) * 512 ≤ 37376
    have : (i 1).val < 73 := (i 1).isLt
    omega
  · intro i
    refine ⟨fun a => ?_, .inl rfl⟩
    rw [tr1 v i]
    have := v.he (cur i); have h0 := (i 0).isLt
    revert a; rw [Fin.forall_fin_succ, Fin.forall_fin_succ, Fin.forall_fin_succ, Fin.forall_fin_one]
    refine ⟨by show (0 + 1) * _ ≤ _; decide, ?_, by show (0 + 1) * _ ≤ _; decide, ?_⟩
    · show ((v.e (cur i)).toNat + 1) * 1 ≤ 8; omega
    · show ((i 0).val + 1) * 1024 ≤ 7168; have : (i 0).val < 7 := h0; omega
  · intro i
    refine ⟨fun a => ?_, .inl rfl⟩
    rw [tr2 v i]
    have := v.he (cur i); have h0 := (i 0).isLt
    revert a; rw [Fin.forall_fin_succ, Fin.forall_fin_succ, Fin.forall_fin_succ, Fin.forall_fin_one]
    refine ⟨by show (0 + 1) * _ ≤ _; decide, ?_, by show (0 + 1) * _ ≤ _; decide, ?_⟩
    · show ((v.e (cur i)).toNat + 1) * 1 ≤ 8; omega
    · show ((i 0).val + 1) * 1024 ≤ 7168; have : (i 0).val < 7 := h0; omega

/-- The admissible contents. -/
def adm (v : Tab) : (pcfg0 (F := Ideal)).Adm := ⟨pf v, ok v⟩
abbrev cfgA (v : Tab) : Pipeline.Cfg sig Λ₀ := cfg0 (F := Ideal) (adm v)
abbrev pcs (v : Tab) : Fin 1 → Pipeline.Cfg sig Λ₀ := Pipeline.pin (pcfgs (F := Ideal)) fun _ => adm v

/-- A point's coordinates. -/
abbrev crd (v : Tab) (t : Fin (cfgA v).N) : (cfgA v).grid.Coords := (cfgA v).grid.coords t

theorem crd_all : ∀ t : Fin grid0.N, (grid0.coords t 1).val = t.val % 73 ∧ (grid0.coords t 0).val = t.val / 73 := by decide +kernel

end Cert.Kernel2Ideal.Moe
end
-- ==== Proof.Moe2IRun.lean ====
module

public import proofs.«01_k».proof.Proof.Moe2ITab
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section
set_option maxRecDepth 16384
set_option Elab.async false
noncomputable section
namespace Cert.Kernel2Ideal.Moe
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resources of the staging cells. -/
abbrev EPm : Emb (UR sig nD τ) 𝕄 := emb₁

/-- A store of a whole block, read back. -/
theorem read_store {sp : Space} {s : Shape} {e : EltTy} (w : View sig .tc sp s e) (f : w.ty.Contents (Elt Ideal)) {off : Fin s.rank → ℕ} (h : off = fun _ => 0)
    (inb : ∀ a, off a + s.size a ≤ s.size a) (x : s.Idx → Elt Ideal e) :
    w.read (Elt Ideal) (w.writes (Elt Ideal) f [⟨Rect.unit off s.size inb, x⟩]) = x := by
  subst h; exact View.read_writes_whole w f x

theorem congr3 {A B C D : Type} {f : A → B → C → D} {a a' : A} {b b' : B} {c c' : C} (ha : a = a') (hb : b = b') (hc : c = c') : f a b c = f a' b' c' := by subst ha hb hc; rfl
theorem congr2 {A B D : Type} {f : A → B → D} {a a' : A} {b b' : B} (ha : a = a') (hb : b = b') : f a b = f a' b' := by subst ha hb; rfl

/-- A store of a whole buffer leaves its payload. -/
theorem whole_store (b : Ref sig .tc) (f w : b.ty.Contents (Elt Ideal)) {off : Fin b.ty.shape.rank → ℕ} (h : off = fun _ => 0)
    (inb : ∀ a, off a + b.ty.shape.size a ≤ b.ty.shape.size a) :
    (View.whole b).writes (Elt Ideal) f [⟨Rect.unit off b.ty.shape.size inb, w⟩] = w := by
  have e := read_store (View.whole b) f h inb w
  exact (show _ = (View.whole b).read (Elt Ideal) _ from rfl).trans e

theorem out_A (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1))
    (f : arg7.view.ty.Contents (Elt Ideal)) : arg7.view.read (Elt Ideal) (arg7.view.writes (Elt Ideal) f (kernelRun0_A c i arg4 harg4 arg5 harg5 arg6 harg6 arg7 harg7 T0 T1 x0 x1 x2 hc0 k0_h2 k0_h3).1) = (k0_pay3 x0 (k0_pay1 x1) (k0_pay2 x2)) := by
  dsimp only [kernelRun0_A]
  unfold kernelRun0_A.sl.HO3_1
  refine (read_store _ _ (by decide) _ _).trans ?_
  unfold kernelRun0_A.sl.v20 kernelRun0_A.sl.v22
  unfold kernelRun0_A.sl.HS0_1 kernelRun0_A.sl.HS1_1
  exact congr3 (View.readAt_rep_full _ _ _) ((View.readCov_unit_zero scM0_0.view (by decide) _ _).trans (congrArg k0_pay1 (View.readAt_rep_full _ _ _))) ((View.readCov_unit_zero scM0_1.view (by decide) _ _).trans (congrArg k0_pay2 (View.readAt_rep_full _ _ _)))

theorem sc0_A (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 arg7 harg7 T0 T1 x0 x1 x2 hc0 k0_h2 k0_h3).2.1 = (k0_pay1 x1) := by
  dsimp only [kernelRun0_A]
  unfold kernelRun0_A.sl.HS0_1
  refine (whole_store cc0_scratch0 _ _ (by decide) _).trans ?_
  exact congrArg k0_pay1 (View.readAt_rep_full _ _ _)

theorem sc1_A (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 arg7 harg7 T0 T1 x0 x1 x2 hc0 k0_h2 k0_h3).2.2.1 = (k0_pay2 x2) := by
  dsimp only [kernelRun0_A]
  unfold kernelRun0_A.sl.HS1_1
  refine (whole_store cc0_scratch1 _ _ (by decide) _).trans ?_
  exact congrArg k0_pay2 (View.readAt_rep_full _ _ _)

theorem out_B (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1))
    (f : arg7.view.ty.Contents (Elt Ideal)) : arg7.view.read (Elt Ideal) (arg7.view.writes (Elt Ideal) f (kernelRun0_B c i arg4 harg4 arg5 harg5 arg6 harg6 arg7 harg7 T0 T1 x0 x1 x2 xa0 xa1 hc0 k0_h2 k0_h3).1) = (k0_pay3 x0 xa0 xa1) := by
  dsimp only [kernelRun0_B]
  unfold kernelRun0_B.sl.HO3_1
  refine (read_store _ _ (by decide) _ _).trans ?_
  exact congr3 (View.readAt_rep_full _ _ _) (Memref.readAt_unit_zero _ cc0_scratch0 (by decide) _ _) (Memref.readAt_unit_zero _ cc0_scratch1 (by decide) _ _)

theorem sc0_B (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 arg7 harg7 T0 T1 x0 x1 x2 xa0 xa1 hc0 k0_h2 k0_h3).2.1 = xa0 := by
  dsimp only [kernelRun0_B]

theorem sc1_B (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 arg7 harg7 T0 T1 x0 x1 x2 xa0 xa1 hc0 k0_h2 k0_h3).2.2.1 = xa1 := by
  dsimp only [kernelRun0_B]

theorem out_C (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1)
    (f : arg7.view.ty.Contents (Elt Ideal)) : arg7.view.read (Elt Ideal) (arg7.view.writes (Elt Ideal) f (kernelRun0_C c i arg4 harg4 arg5 harg5 arg6 harg6 arg7 harg7 T0 T1 x0 x1 x2 xa0 xa1 hc0 k0_h2 k0_h3).1) = k0_pay4 (F := Ideal) := by
  dsimp only [kernelRun0_C]
  unfold kernelRun0_C.sl.HO3_1
  refine (read_store _ _ (by decide) _ _).trans ?_
  rfl

theorem sc0_C (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1) : (kernelRun0_C c i arg4 harg4 arg5 harg5 arg6 harg6 arg7 harg7 T0 T1 x0 x1 x2 xa0 xa1 hc0 k0_h2 k0_h3).2.1 = xa0 := by
  dsimp only [kernelRun0_C]

theorem sc1_C (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1) : (kernelRun0_C c i arg4 harg4 arg5 harg5 arg6 harg6 arg7 harg7 T0 T1 x0 x1 x2 xa0 xa1 hc0 k0_h2 k0_h3).2.2.1 = xa1 := by
  dsimp only [kernelRun0_C]

theorem out_D (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1)
    (f : arg7.view.ty.Contents (Elt Ideal)) : arg7.view.read (Elt Ideal) (arg7.view.writes (Elt Ideal) f (kernelRun0_D c i arg4 harg4 arg5 harg5 arg6 harg6 arg7 harg7 T0 T1 x0 x1 x2 hc0 k0_h2 k0_h3).1) = k0_pay4 (F := Ideal) := by
  dsimp only [kernelRun0_D]
  unfold kernelRun0_D.sl.HO3_1
  refine (read_store _ _ (by decide) _ _).trans ?_
  rfl

theorem sc0_D (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1) : (kernelRun0_D c i arg4 harg4 arg5 harg5 arg6 harg6 arg7 harg7 T0 T1 x0 x1 x2 hc0 k0_h2 k0_h3).2.1 = (k0_pay1 x1) := by
  dsimp only [kernelRun0_D]
  unfold kernelRun0_D.sl.HS0_1
  refine (whole_store cc0_scratch0 _ _ (by decide) _).trans ?_
  exact congrArg k0_pay1 (View.readAt_rep_full _ _ _)

theorem sc1_D (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Ideal .i32)) (T1 : (S1.Idx → Elt Ideal .i32)) (x0 : (S512x2048.Idx → Elt Ideal .bf16)) (x1 : (S1x1x2048x1024.Idx → Elt Ideal .f32)) (x2 : (S1x1x2048x1024.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1) : (kernelRun0_D c i arg4 harg4 arg5 harg5 arg6 harg6 arg7 harg7 T0 T1 x0 x1 x2 hc0 k0_h2 k0_h3).2.2.1 = (k0_pay2 x2) := by
  dsimp only [kernelRun0_D]
  unfold kernelRun0_D.sl.HS1_1
  refine (whole_store cc0_scratch1 _ _ (by decide) _).trans ?_
  exact congrArg k0_pay2 (View.readAt_rep_full _ _ _)

end Cert.Kernel2Ideal.Moe
end
-- ==== Proof.Moe2I.lean ====
module

public import proofs.«01_k».proof.Proof.Moe2IRun
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section
set_option maxRecDepth 16384
set_option Elab.async false
noncomputable section
namespace Cert.Kernel2Ideal.Moe
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (v : Tab) (m : (ℓ : Loc nD τ sig) → Buf (Elt Ideal) ℓ) (ρ : Dev nD → PrngReg)

abbrev ms0_0 (t : Fin (cfgA v).N) : Memref sig .tc .vmem S512x2048 .bf16 := spec0_0.stage ((cfgA v).slots t (0 : Fin 4))
abbrev hs0_0 (t : Fin (cfgA v).N) : (ms0_0 v t).IsWhole := hstage0_0 (((cfgA v).slots t (0 : Fin 4)).cast nbuf0_0)
abbrev ms0_1 (t : Fin (cfgA v).N) : Memref sig .tc .vmem S1x1x2048x1024 .f32 := spec0_1.stage ((cfgA v).slots t (1 : Fin 4))
abbrev hs0_1 (t : Fin (cfgA v).N) : (ms0_1 v t).IsWhole := hstage0_1 (((cfgA v).slots t (1 : Fin 4)).cast nbuf0_1)
abbrev ms0_2 (t : Fin (cfgA v).N) : Memref sig .tc .vmem S1x1x2048x1024 .f32 := spec0_2.stage ((cfgA v).slots t (2 : Fin 4))
abbrev hs0_2 (t : Fin (cfgA v).N) : (ms0_2 v t).IsWhole := hstage0_2 (((cfgA v).slots t (2 : Fin 4)).cast nbuf0_2)
abbrev ms0_3 (t : Fin (cfgA v).N) : Memref sig .tc .vmem S512x1024 .bf16 := spec0_3.stage ((cfgA v).slots t (3 : Fin 4))
abbrev hs0_3 (t : Fin (cfgA v).N) : (ms0_3 v t).IsWhole := hstage0_3 (((cfgA v).slots t (3 : Fin 4)).cast nbuf0_3)

/-- A window's block at a point, read off its array at launch. -/
def iblk (c : Dev nD) (w : Fin (cfgA v).W) (t : Fin (cfgA v).N) : (((cfgA v).win w).xblock (crd v t)).Idx → Elt Ideal ((cfgA v).win w).elt :=
  (((cfgA v).win w).blk t).view.read (Elt Ideal) ((s₀ m ρ).mem (((cfgA v).win w).arr.view.loc (c : Thread nD τ)))

/-- Whether the point's tile holds rows. -/
abbrev Q1 (t : Fin (cfgA v).N) : Prop := k0_cond2 (crd v t) (v.n zz) = 1#1

/-- What the point leaves in the result's block. -/
def outv (c : Dev nD) (t : Fin (cfgA v).N) : S512x1024.Idx → Elt Ideal .bf16 :=
  if Q1 v t then k0_pay3 (iblk v m ρ c (0 : Fin 4) t) (k0_pay1 (iblk v m ρ c (1 : Fin 4) t)) (k0_pay2 (iblk v m ρ c (2 : Fin 4) t)) else k0_pay4 (F := Ideal)

/-- What the launch memory holds: the tables. -/
def Pinned : Prop :=
  (∀ c : Dev nD, m ((c : Thread nD τ).loc main_arg0) = v.e)
  ∧ (∀ c : Dev nD, m ((c : Thread nD τ).loc main_arg1) = v.n)

/-- No point leaves the result's block idle. -/
theorem idle_false (t : Fin (cfgA v).N) : (cfgA v).idle (3 : Fin 4) ((cfgA v).grid.coords t) = false := by
  have h : ∀ (i : grid0.Coords) (w : BitVec 32), (!(k0_cond2 i w == 1#1) && !(k0_cond3 i w == 1#1)) = false := fun i w => by
    by_cases h2 : k0_cond2 i w = 1#1
    · rw [h2]; rfl
    · rw [(cond23 i w).mpr h2]; exact Bool.and_false _
  exact h _ _

/-- An element of an array's block, where the array holds it. -/
theorem crd_of (t : Fin (cfgA v).N) : ((crd v t) 1).val = t.val % 73 ∧ ((crd v t) 0).val = t.val / 73 := crd_all t

/-- The words that steer the weights agree with the point before, where no new expert starts. -/
theorem prev_of (t : Fin (cfgA v).N) (h : ¬ Q0 (crd v t) (v.e (cur (crd v t))) (v.e (prv (crd v t)))) :
    t.val ≠ 0 ∧ ∀ s : Fin (cfgA v).N, s.val + 1 = t.val → ((crd v s) 0).val = ((crd v t) 0).val ∧ v.e (cur (crd v s)) = v.e (cur (crd v t)) := by
  obtain ⟨h1, h2⟩ := not_Q0 h
  have ht := crd_of v t
  refine ⟨fun h0 => h1 (by rw [ht.1, h0]), fun s hs => ?_⟩
  have hs' := crd_of v s
  rw [ht.1] at h1
  refine ⟨by rw [ht.2, hs'.2]; omega, ?_⟩
  rw [h2]
  congr 1
  funext a
  apply Fin.ext
  show ((crd v s) 1).val = ((crd v t) 1).val - 1
  rw [ht.1, hs'.1]; omega

/-- Equal steering words, equal weights. -/
theorem same1 (c : Dev nD) (s t : Fin (cfgA v).N) (h0 : ((crd v s) 0).val = ((crd v t) 0).val) (he : v.e (cur (crd v s)) = v.e (cur (crd v t))) :
    iblk v m ρ c (1 : Fin 4) s = iblk v m ρ c (1 : Fin 4) t := by
  have e : cc0_transform_1 k0_off1_inb numel1_S1 (pf v) (crd v s) = cc0_transform_1 k0_off1_inb numel1_S1 (pf v) (crd v t) := by
    rw [tr1, tr1, h0, he]
  funext y
  show m ((c : Thread nD τ).loc main_arg3) ((((cfgA v).win (1 : Fin 4)).rect s).emb y) = m ((c : Thread nD τ).loc main_arg3) ((((cfgA v).win (1 : Fin 4)).rect t).emb y)
  refine congrArg _ (funext fun a => Fin.ext ?_)
  show cc0_transform_1 k0_off1_inb numel1_S1 (pf v) (crd v s) a * S1x1x2048x1024.size a + 1 * (y a).val = cc0_transform_1 k0_off1_inb numel1_S1 (pf v) (crd v t) a * S1x1x2048x1024.size a + 1 * (y a).val
  rw [e]

/-- Equal steering words, equal weights. -/
theorem same2 (c : Dev nD) (s t : Fin (cfgA v).N) (h0 : ((crd v s) 0).val = ((crd v t) 0).val) (he : v.e (cur (crd v s)) = v.e (cur (crd v t))) :
    iblk v m ρ c (2 : Fin 4) s = iblk v m ρ c (2 : Fin 4) t := by
  have e : cc0_transform_2 k0_off1_inb numel1_S1 (pf v) (crd v s) = cc0_transform_2 k0_off1_inb numel1_S1 (pf v) (crd v t) := by
    rw [tr2, tr2, h0, he]
  funext y
  show m ((c : Thread nD τ).loc main_arg4) ((((cfgA v).win (2 : Fin 4)).rect s).emb y) = m ((c : Thread nD τ).loc main_arg4) ((((cfgA v).win (2 : Fin 4)).rect t).emb y)
  refine congrArg _ (funext fun a => Fin.ext ?_)
  show cc0_transform_2 k0_off1_inb numel1_S1 (pf v) (crd v s) a * S1x1x2048x1024.size a + 1 * (y a).val = cc0_transform_2 k0_off1_inb numel1_S1 (pf v) (crd v t) a * S1x1x2048x1024.size a + 1 * (y a).val
  rw [e]

/-- Before a point: each scratch holds the weights the point before used, and the tables are held. -/
def Phi (c : Dev nD) (t : Fin ((cfgA v).N + 1)) : sProp 𝕄 :=
  iprop((∃ a, ⌜∀ s : Fin (cfgA v).N, s.val + 1 = t.val → a = k0_pay1 (iblk v m ρ c (1 : Fin 4) s)⌝ ∗ (scM0_0.view.loc (c : Thread nD τ) ↦{fullShare} a)) ∗ (∃ a, ⌜∀ s : Fin (cfgA v).N, s.val + 1 = t.val → a = k0_pay2 (iblk v m ρ c (2 : Fin 4) s)⌝ ∗ (scM0_1.view.loc (c : Thread nD τ) ↦{fullShare} a)) ∗ (tbM0_0.view.loc (c : Thread nD τ) ↦{fullShare.right} v.e) ∗ (tbM0_1.view.loc (c : Thread nD τ) ↦{fullShare.right} v.n))

/-- The proof data of the pipeline. -/
def dats (_ : Fin 1) (c : Dev nD) : Dat τ (Elt Ideal) Unit ℕ (UR sig nD τ) ℕ (cfgA v) c where
  A w := (s₀ m ρ).mem (((cfgA v).win w).arr.view.loc (c : Thread nD τ))
  after w t := match w with
    | ⟨0, _⟩ => iblk v m ρ c (0 : Fin 4) t
    | ⟨1, _⟩ => iblk v m ρ c (1 : Fin 4) t
    | ⟨2, _⟩ => iblk v m ρ c (2 : Fin 4) t
    | ⟨3, _⟩ => outv v m ρ c t
  Φ t := Phi v m ρ c t
  q _ := fullShare
  owed _ := 0

theorem after0_0 (c : Dev nD) (t : Fin (cfgA v).N) : (dats v m ρ 0 c).after (0 : Fin 4) t = iblk v m ρ c (0 : Fin 4) t := rfl
theorem after0_1 (c : Dev nD) (t : Fin (cfgA v).N) : (dats v m ρ 0 c).after (1 : Fin 4) t = iblk v m ρ c (1 : Fin 4) t := rfl
theorem after0_2 (c : Dev nD) (t : Fin (cfgA v).N) : (dats v m ρ 0 c).after (2 : Fin 4) t = iblk v m ρ c (2 : Fin 4) t := rfl
theorem after0_3 (c : Dev nD) (t : Fin (cfgA v).N) : (dats v m ρ 0 c).after (3 : Fin 4) t = outv v m ρ c t := rfl

theorem before0_0 (c : Dev nD) (t : Fin (cfgA v).N) (d) : (dats v m ρ 0 c).before (0 : Fin 4) t d = iblk v m ρ c (0 : Fin 4) t :=
  ((dats v m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA v).N) (d) : (dats v m ρ 0 c).before (1 : Fin 4) t d = iblk v m ρ c (1 : Fin 4) t :=
  ((dats v m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA v).N) (d) : (dats v m ρ 0 c).before (2 : Fin 4) t d = iblk v m ρ c (2 : Fin 4) t :=
  ((dats v m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The body at a point on its staging buffers. -/
abbrev bodyAt0 (t : Fin (cfgA v).N) : Prog (TpuEff nD τ sig (Elt Ideal) Λ₀ .tc) PUnit :=
  cc0_gateup (crd v t) (Memref.whole main_arg0) (Memref.isWhole_whole _) (Memref.whole main_arg1) (Memref.isWhole_whole _) (ms0_0 v t) (hs0_0 v t) (ms0_1 v t) (hs0_1 v t) (ms0_2 v t) (hs0_2 v t) (ms0_3 v t) (hs0_3 v t) (Memref.whole cc0_scratch0) (Memref.isWhole_whole _) (Memref.whole cc0_scratch1) (Memref.isWhole_whole _)

set_option maxHeartbeats 4000000 in
/-- The body's obligation at a point, by its path. -/
theorem sound_body (c : Dev nD) (t : Fin (cfgA v).N) :
    iprop((dats v m ρ 0 c).Φ t.castSucc ∗ (dats v m ρ 0 c).owesAt () t.castSucc
        ∗ (∃ d, owns (c : Thread nD τ) (ms0_0 v t) fullShare ((dats v m ρ 0 c).before (0 : Fin 4) t d))
        ∗ (∃ d, owns (c : Thread nD τ) (ms0_1 v t) fullShare ((dats v m ρ 0 c).before (1 : Fin 4) t d))
        ∗ (∃ d, owns (c : Thread nD τ) (ms0_2 v t) fullShare ((dats v m ρ 0 c).before (2 : Fin 4) t d))
        ∗ (∃ d, owns (c : Thread nD τ) (ms0_3 v t) fullShare ((dats v m ρ 0 c).before (3 : Fin 4) t d)))
      ⊢ wp frame (wpE (defs₀ (F := Ideal)) Variants.none c none) Set.univ (bodyAt0 v t) fun _ =>
          iprop((dats v m ρ 0 c).Φ t.succ ∗ (dats v m ρ 0 c).owesAt () t.succ
            ∗ bigSep Finset.univ fun w : Fin (cfgA v).W =>
                match (cfgA v).idle w ((cfgA v).grid.coords t) with
                | true =>
                  match ((cfgA v).win w).flush t with
                  | false => iprop(∃ d, owns (c : Thread nD τ) (((cfgA v).win w).stage ((cfgA v).slots t w)) fullShare ((dats v m ρ 0 c).before w t d))
                  | true => owns (c : Thread nD τ) (((cfgA v).win w).stage ((cfgA v).slots t w)) fullShare ((dats v m ρ 0 c).after w t)
                | false => owns (c : Thread nD τ) (((cfgA v).win w).stage ((cfgA v).slots t w)) fullShare ((dats v m ρ 0 c).after w t)) := by
  rw [bigSep_W0]
  have i3 := idle_false v t
  rewrite [i3]
  simp only [before0_0, before0_1, before0_2, after0_0, after0_1, after0_2, after0_3]
  rewrite [show (dats v m ρ 0 c).Φ t.succ = Phi v m ρ c t.succ from rfl, show (dats v m ρ 0 c).Φ t.castSucc = Phi v m ρ c t.castSucc from rfl,
    show (dats v m ρ 0 c).owesAt () t.succ = (dats v m ρ 0 c).owesAt () t.castSucc from rfl]
  unfold Phi
  simp only [Fin.val_castSucc, Fin.val_succ]
  by_cases q0 : Q0 (crd v t) (v.e (cur (crd v t))) (v.e (prv (crd v t)))
  · by_cases q1 : Q1 v t
    · have hc0 : (Q0 (crd v t) (View.readAt (Elt Ideal) (tbM0_0).view (Rect.unit (s := S73) (k0_off1 (crd v t)) S1.size (k0_off1_inb (crd v t))).toLoadRect v.e (Shape.Idx.first (numel1_S1.symm ▸ Nat.one_pos))) (View.readAt (Elt Ideal) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact sc0_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HS1]
        · iexists _; isplitr; swap
          · iexact HS1
          · ipureintro; intro s hs; rw [show s = t from Fin.ext (Nat.succ.inj hs)]
            exact sc1_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3 e3).trans ?_
        rw [outv, if_pos q1]
    · have hc0 : (Q0 (crd v t) (View.readAt (Elt Ideal) (tbM0_0).view (Rect.unit (s := S73) (k0_off1 (crd v t)) S1.size (k0_off1_inb (crd v t))).toLoadRect v.e (Shape.Idx.first (numel1_S1.symm ▸ Nat.one_pos))) (View.readAt (Elt Ideal) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : ¬ (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_D c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact sc0_D c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HS1]
        · iexists _; isplitr; swap
          · iexact HS1
          · ipureintro; intro s hs; rw [show s = t from Fin.ext (Nat.succ.inj hs)]
            exact sc1_D c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_D c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3 e3).trans ?_
        rw [outv, if_neg q1]
  · obtain ⟨ht0, hpv⟩ := prev_of v t q0
    have hlt := t.isLt
    have hk0 : ∀ a : Buf (Elt Ideal) ((c : Thread nD τ).loc cc0_scratch0), (∀ s : Fin (cfgA v).N, s.val + 1 = t.val → a = k0_pay1 (iblk v m ρ c (1 : Fin 4) s)) → a = k0_pay1 (iblk v m ρ c (1 : Fin 4) t) := fun a ha => by
      have hs : (⟨t.val - 1, by omega⟩ : Fin (cfgA v).N).val + 1 = t.val := Nat.succ_pred ht0
      rw [ha _ hs, same1 v m ρ c _ t (hpv _ hs).1 (hpv _ hs).2]
    have hk1 : ∀ a : Buf (Elt Ideal) ((c : Thread nD τ).loc cc0_scratch1), (∀ s : Fin (cfgA v).N, s.val + 1 = t.val → a = k0_pay2 (iblk v m ρ c (2 : Fin 4) s)) → a = k0_pay2 (iblk v m ρ c (2 : Fin 4) t) := fun a ha => by
      have hs : (⟨t.val - 1, by omega⟩ : Fin (cfgA v).N).val + 1 = t.val := Nat.succ_pred ht0
      rw [ha _ hs, same2 v m ρ c _ t (hpv _ hs).1 (hpv _ hs).2]
    by_cases q1 : Q1 v t
    · have hc0 : ¬ (Q0 (crd v t) (View.readAt (Elt Ideal) (tbM0_0).view (Rect.unit (s := S73) (k0_off1 (crd v t)) S1.size (k0_off1_inb (crd v t))).toLoadRect v.e (Shape.Idx.first (numel1_S1.symm ▸ Nat.one_pos))) (View.readAt (Elt Ideal) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact (sc0_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk0 a0 ha0)
        isplitl [HS1]
        · iexists _; isplitr; swap
          · iexact HS1
          · ipureintro; intro s hs; rw [show s = t from Fin.ext (Nat.succ.inj hs)]
            exact (sc1_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk1 a1 ha1)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3 e3).trans ?_
        rw [outv, if_pos q1, hk0 a0 ha0, hk1 a1 ha1]
    · have hc0 : ¬ (Q0 (crd v t) (View.readAt (Elt Ideal) (tbM0_0).view (Rect.unit (s := S73) (k0_off1 (crd v t)) S1.size (k0_off1_inb (crd v t))).toLoadRect v.e (Shape.Idx.first (numel1_S1.symm ▸ Nat.one_pos))) (View.readAt (Elt Ideal) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : ¬ (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_C c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact (sc0_C c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk0 a0 ha0)
        isplitl [HS1]
        · iexists _; isplitr; swap
          · iexact HS1
          · ipureintro; intro s hs; rw [show s = t from Fin.ext (Nat.succ.inj hs)]
            exact (sc1_C c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk1 a1 ha1)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_C c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3 e3).trans ?_
        rw [outv, if_neg q1]

theorem body_obligation (c : Dev nD) : BodyObligation (dats v m ρ 0 c) (defs₀ (F := Ideal)) Variants.none () Set.univ := fun t => by
  rw [bigSep_W0]
  exact sound_body v m ρ c t

/-- The launch's resources. -/
def u₀ : UR sig nD τ :=
  initOf (Pipeline.cells (pcs v) ((launch0 (F := Ideal)).cellOf_inj fun _ => adm v))
    (Pipeline.launchToks (pcs v) ((launch0 (F := Ideal)).cellOf_inj fun _ => adm v))

theorem share_eq (c : Dev nD) (w : Fin (cfgA v).W) : (dats v m ρ 0 c).share w = fullShare := by unfold Dat.share; split <;> rfl

/-- The two tables, one by one. -/
theorem prefHeld_eq (c : Dev nD) (q : Fin 2 → PosShare TreeShare) (u : pre0.Contents (Elt Ideal)) :
    (Pipeline.prefHeld (Ix := Unit) (Name := ℕ) (U := UR sig nD τ) (Lvl := ℕ) pre0 c q u : sProp 𝕄)
      = iprop((((c : Thread nD τ).loc main_arg0) ↦{q 0} u 0) ∗ (((c : Thread nD τ).loc main_arg1) ↦{q 1} u 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm v).1 ∗ Pipeline.scopedRest spec0 c) ⊢ (dats v m ρ 0 c).Φ 0 := by
  rw [prefHeld_eq, scopedRest0_eq, show (dats v m ρ 0 c).Φ 0 = Phi v m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s h; exact absurd h (Nat.succ_ne_zero _)
  isplitl [HS1]
  · iexists a1; isplitr; swap
    · iexact HS1
    · ipureintro; intro s h; exact absurd h (Nat.succ_ne_zero _)
  isplitl [HT0]
  · iexact HT0
  iexact HT1

theorem phiN_exit (c : Dev nD) : (dats v m ρ 0 c).Φ (Fin.last (cfgA v).N) ⊢ iprop(BI.emp ∗ Pipeline.scopedRest spec0 c) := by
  rw [scopedRest0_eq, show (dats v m ρ 0 c).Φ (Fin.last (cfgA v).N) = Phi v m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What a run ends with: every array as the library computes it, the tables as they were. -/
def QC : PUnit × MemSt nD τ sig (Elt Ideal) → Prop := fun r =>
  ∀ c : Dev nD, (∀ w : Fin (cfgA v).W, r.2.mem (((cfgA v).win w).arr.view.loc (c : Thread nD τ)) = (dats v m ρ 0 c).arrAt w (cfgA v).N)
    ∧ ∀ j, r.2.mem ((c : Thread nD τ).loc (pre0.ref j)) = (adm v).1 j

theorem V_pre (hp : Pinned v m) (c : Dev nD) (j : Fin 2) : m ((c : Thread nD τ).loc (pre0.ref j)) = (adm v).1 j := by
  fin_cases j
  · exact hp.1 c
  · exact hp.2 c

set_option backward.isDefEq.respectTransparency.types false in
set_option maxHeartbeats 4000000 in
/-- From a memory that holds such tables every run ends, each array as computed, each counter at zero. -/
theorem run_main_quiescent (hp : Pinned v m) : θ_run (defs (F := Ideal)) (onTc (τ := τ) (main (F := Ideal))) (s₀ m ρ) (fun r => QC v m ρ r ∧ r.2.sem = fun _ => 0) :=
  Pipeline.θ_run_region_noSem_pf_quiescent pcfgs (fun _ => adm v) (dats v m ρ) () ((launch0 (F := Ideal)).cellOf_inj fun _ => adm v) (0 : Fin 1)
    (launch0 (F := Ideal)).win.to₀ (launch0 (F := Ideal)).pre EPm defs₀ Variants.none m ρ main
    (hbody := fun c => (body_obligation v m ρ c).loose) (hne := (launch0 (F := Ideal)).block_pos)
    (harr := (launch0 (F := Ideal)).arr_whole) (hstage := (launch0 (F := Ideal)).stage_whole) (howed := fun _ _ => rfl)
    (u₀ := u₀ v) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs v) (dats v m ρ) 0 (launch0 (F := Ideal)).win.arr_inj c (launch0 (F := Ideal)).arr_whole
      (share_eq v m ρ c) _ _ fun _ => rfl)
    (hpf := V_pre v m hp)
    (X := fun _ => iprop(emp)) (Y := fun _ => iprop(emp)) (Z := fun _ => iprop(emp))
    (hX := fun c => by rw [unscopedRestP0_eq]; iintro -; isplitr <;> iempintro)
    (hin := phi0_intro v m ρ)
    (hout := phiN_exit v m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned v m) : θ_run (defs (F := Ideal)) (onTc (τ := τ) (main (F := Ideal))) (s₀ m ρ) (QC v m ρ) :=
  (θ_run defs _ _).mono (fun _ h => h.1) (run_main_quiescent v m ρ hp)

theorem kept (hp : Pinned v m) (r : PUnit × MemSt nD τ sig (Elt Ideal)) (h : QC v m ρ r) (c : Dev nD) :
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  ⟨((h c).2 0).trans (hp.1 c).symm, ((h c).2 1).trans (hp.2 c).symm, ((h c).1 (0 : Fin 4)).trans ((dats v m ρ 0 c).arrAt_in (0 : Fin 4) rfl _), ((h c).1 (1 : Fin 4)).trans ((dats v m ρ 0 c).arrAt_in (1 : Fin 4) rfl _), ((h c).1 (2 : Fin 4)).trans ((dats v m ρ 0 c).arrAt_in (2 : Fin 4) rfl _)⟩

/-- The arguments end unchanged and every counter at zero. -/
theorem frame (hp : Pinned v m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun r h => ⟨fun c => kept v m ρ hp r h.1 c, h.2⟩) (run_main_quiescent v m ρ hp)

end Cert.Kernel2Ideal.Moe
end
-- ==== Proof.Moe2Ref.lean ====
/- The reference's side of the gated projection of the routed experts: each row's expert, and the row's result as plain sums. -/
module

public import proofs.«01_k».proof.Proof.Gen.Reference2Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference2Ideal.Moe

open Cert.Reference2Ideal Cert.Reference2Ideal.Gen Cert.Reference2Ideal.Value

/-- A choice by a truth value. -/
theorem sel {α : Type} (b : Bool) (x y : α) : Scalar.select (BitVec.ofBool b) x y = if b = true then x else y := by
  cases b <;> rfl

/-- The column that holds each row's expert, minus one where the row's tile is not used. -/
def col (e : IVec S73 32) (n : IVec S1 32) : IVec S37376x1 32 :=
  shapeCast _ (broadcastInDim S73x512 ![0, 1] bcast_S73x1_S73x512_0_1 (broadcastInDim S73x1 ![0] bcast_S73_S73x1_0 (select (cmpi .slt (iotaInDim S73 32 0) (broadcastInDim S73 ![] bcast_S_S73 (shapeCast _ n shapeCasts_S1_S_))) e (broadcastInDim S73 ![] bcast_S_S73 (id (constantI S_ 32 4294967295#32)))))) shapeCasts_S73x512_S37376x1

/-- A row's expert. -/
theorem col_at (e : IVec S73 32) (n : IVec S1 32) (r : Fin 37376) :
    col e n (ix2 r 0) = if (BitVec.ofNat 32 (r.val / 512)).slt (n (ix1 0)) = true then e (ix1 ⟨r.val / 512, by omega⟩) else 4294967295#32 := by
  pointwise [col]
  exact sel _ _ _

/-- One expert's result kept on its own rows. -/
def pick (k : BitVec 32) (cl : IVec S37376x1 32) (A B : FVec Ideal S37376x7168 .f32) : FVec Ideal S37376x7168 .f32 :=
  select (broadcastInDim S37376x7168 ![0, 1] bcast_S37376x1_S37376x7168_0_1 (cmpi .eq cl (broadcastInDim S37376x1 ![] bcast_S_S37376x1 (constantI S_ 32 k)))) A B

theorem pick_at (k : BitVec 32) (cl : IVec S37376x1 32) (A B : FVec Ideal S37376x7168 .f32) (r : Fin 37376) (j : Fin 7168) :
    pick k cl A B (ix2 r j) = if cl (ix2 r 0) = k then A (ix2 r j) else B (ix2 r j) := by
  pointwise [pick]
  refine (sel _ _ _).trans (if_congr ?_ rfl rfl)
  exact beq_iff_eq

/-- A matrix product at an index. -/
theorem dot_at (A : FVec Ideal S37376x2048 .f32) (B : FVec Ideal S2048x7168 .f32) (r : Fin 37376) (j : Fin 7168) :
    Host.dotGeneral (F := Ideal) dot_S37376x2048_S2048x7168_S37376x7168_1_0_0_1_n_n none A B (ix2 r j) = ∑ k : Fin 2048, A (ix2 r k) * B (ix2 k j) := by
  pointwise

/-- Expert `o`'s matrix. -/
def wt (o : ℕ) (h : S8x2048x7168.Slices ![o, 0, 0] S1x2048x7168) (W : FVec Ideal S1x8x2048x7168 .f32) : FVec Ideal S2048x7168 .f32 :=
  shapeCast S2048x7168 (extractStridedSlice S1x2048x7168 ![o, 0, 0] (shapeCast S8x2048x7168 W shapeCasts_S1x8x2048x7168_S8x2048x7168) h) shapeCasts_S1x2048x7168_S2048x7168

theorem wt_at (o : ℕ) (h : S8x2048x7168.Slices ![o, 0, 0] S1x2048x7168) (q : Fin 8) (hq : q.val = o) (W : FVec Ideal S1x8x2048x7168 .f32) (k : Fin 2048) (j : Fin 7168) : wt o h W (ix2 k j) = W (ix4 0 q k j) := by
  subst hq
  pointwise [wt]

/-- The gate: a product with its logistic, times the second product. -/
def gate (A B : FVec Ideal S37376x7168 .f32) : FVec Ideal S37376x7168 .f32 :=
  mulf (mulf A (Host.divf (broadcastInDim S37376x7168 ![] bcast_S_S37376x7168 (constant S_ .f32 0x3F800000#32)) (addf (broadcastInDim S37376x7168 ![] bcast_S_S37376x7168 (constant S_ .f32 0x3F800000#32)) (Host.exp (Host.negf A))))) B

theorem gate_at (A B : FVec Ideal S37376x7168 .f32) (r : Fin 37376) (j : Fin 7168) :
    gate A B (ix2 r j) = A (ix2 r j) * Ideal.div 1 (1 + Ideal.exp (-(A (ix2 r j)))) * B (ix2 r j) := by
  pointwise [gate]

/-- The gated product of two numbers. -/
def glu (a b : EReal) : EReal := a * Ideal.div 1 (1 + Ideal.exp (-a)) * b

/-- Expert `q`'s result at a row and column. -/
def val (x : FVec Ideal S37376x2048 .bf16) (U W : FVec Ideal S1x8x2048x7168 .f32) (q : Fin 8) (r : Fin 37376) (j : Fin 7168) : EReal :=
  glu (∑ k : Fin 2048, x (ix2 r k) * U (ix4 0 q k j)) (∑ k : Fin 2048, x (ix2 r k) * W (ix4 0 q k j))

/-- Expert `o`'s result. -/
def ex (x : FVec Ideal S37376x2048 .bf16) (U W : FVec Ideal S1x8x2048x7168 .f32) (o : ℕ) (h : S8x2048x7168.Slices ![o, 0, 0] S1x2048x7168) : FVec Ideal S37376x7168 .f32 :=
  gate (Host.dotGeneral (F := Ideal) dot_S37376x2048_S2048x7168_S37376x7168_1_0_0_1_n_n none (extf .f32 x bitsLt_bf16_f32) (wt o h U)) (Host.dotGeneral (F := Ideal) dot_S37376x2048_S2048x7168_S37376x7168_1_0_0_1_n_n none (extf .f32 x bitsLt_bf16_f32) (wt o h W))

theorem ex_at (x : FVec Ideal S37376x2048 .bf16) (U W : FVec Ideal S1x8x2048x7168 .f32) (o : ℕ) (h : S8x2048x7168.Slices ![o, 0, 0] S1x2048x7168) (ho : o < 8) (r : Fin 37376) (j : Fin 7168) : ex x U W o h (ix2 r j) = val x U W ⟨o, ho⟩ r j := by
  unfold ex
  rw [gate_at, dot_at, dot_at]
  unfold val glu
  simp only [wt_at o h ⟨o, ho⟩ rfl]
  rfl

/-- The experts' results, each on its own rows. -/
def chain (e : IVec S73 32) (n : IVec S1 32) (x : FVec Ideal S37376x2048 .bf16) (U W : FVec Ideal S1x8x2048x7168 .f32) : FVec Ideal S37376x7168 .f32 :=
  pick 7#32 (col e n) (ex x U W 7 slices_S8x2048x7168_S1x2048x7168_7_0_0) (pick 6#32 (col e n) (ex x U W 6 slices_S8x2048x7168_S1x2048x7168_6_0_0) (pick 5#32 (col e n) (ex x U W 5 slices_S8x2048x7168_S1x2048x7168_5_0_0) (pick 4#32 (col e n) (ex x U W 4 slices_S8x2048x7168_S1x2048x7168_4_0_0) (pick 3#32 (col e n) (ex x U W 3 slices_S8x2048x7168_S1x2048x7168_3_0_0) (pick 2#32 (col e n) (ex x U W 2 slices_S8x2048x7168_S1x2048x7168_2_0_0) (pick 1#32 (col e n) (ex x U W 1 slices_S8x2048x7168_S1x2048x7168_1_0_0) (pick 0#32 (col e n) (ex x U W 0 slices_S8x2048x7168_S1x2048x7168_0_0_0) (broadcastInDim S37376x7168 ![] bcast_S_S37376x7168 (constant S_ .f32 0x00000000#32)))))))))

/-- What the program computes at a row and column. -/
def out (e : IVec S73 32) (n : IVec S1 32) (x : FVec Ideal S37376x2048 .bf16) (U W : FVec Ideal S1x8x2048x7168 .f32) (he : ∀ i, (e i).toNat < 8) (r : Fin 37376) (j : Fin 7168) : EReal :=
  if (BitVec.ofNat 32 (r.val / 512)).slt (n (ix1 0)) = true then val x U W ⟨(e (ix1 ⟨r.val / 512, by omega⟩)).toNat, he _⟩ r j else 0

theorem zero_at (r : Fin 37376) (j : Fin 7168) : (broadcastInDim S37376x7168 ![] bcast_S_S37376x7168 (constant (F := Ideal) S_ .f32 0x00000000#32)) (ix2 r j) = (0 : EReal) := by
  have z : Ideal.ofBits .f32 0x00000000#32 = (0 : EReal) := by simp [Ideal.ofBits, Ideal.ieee]
  exact z

/-- One of eight by a word below eight. -/
theorem pick8 (w : BitVec 32) (hw : w.toNat < 8) (f : Fin 8 → EReal) :
    (if w = 7#32 then f 7 else if w = 6#32 then f 6 else if w = 5#32 then f 5 else if w = 4#32 then f 4 else if w = 3#32 then f 3
      else if w = 2#32 then f 2 else if w = 1#32 then f 1 else if w = 0#32 then f 0 else 0) = f ⟨w.toNat, hw⟩ := by
  obtain ⟨k, hk, rfl⟩ : ∃ k : ℕ, k < 8 ∧ w = BitVec.ofNat 32 k := ⟨w.toNat, hw, by simp⟩
  interval_cases k <;> rfl

theorem chain_at (e : IVec S73 32) (n : IVec S1 32) (x : FVec Ideal S37376x2048 .bf16) (U W : FVec Ideal S1x8x2048x7168 .f32) (he : ∀ i, (e i).toNat < 8) (r : Fin 37376) (j : Fin 7168) :
    chain e n x U W (ix2 r j) = out e n x U W he r j := by
  unfold chain
  rw [pick_at, ex_at x U W 7 _ (by decide), pick_at, ex_at x U W 6 _ (by decide), pick_at, ex_at x U W 5 _ (by decide), pick_at, ex_at x U W 4 _ (by decide), pick_at, ex_at x U W 3 _ (by decide), pick_at, ex_at x U W 2 _ (by decide), pick_at, ex_at x U W 1 _ (by decide), pick_at, ex_at x U W 0 _ (by decide), zero_at, col_at]
  unfold out
  by_cases h : (BitVec.ofNat 32 (r.val / 512)).slt (n (ix1 0)) = true
  · rw [if_pos h, if_pos h]
    exact pick8 _ (he _) (fun q => val x U W q r j)
  · rw [if_neg h, if_neg h]
    rfl

end Cert.Reference2Ideal.Moe

end
-- ==== Proof.Moe2Val.lean ====
/- The final array of the gated projection of the routed experts. -/
module

public import proofs.«01_k».proof.Proof.Moe2I
public import proofs.«01_k».proof.Proof.Moe2Ref
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen

variable (v : Tab) (m : (ℓ : Loc nD τ sig) → Buf (Elt Ideal) ℓ) (ρ : Dev nD → PrngReg)

/-- The point's tile holds rows exactly where its number is below the table's count. -/
theorem cond2_iff (i : grid0.Coords) (w : BitVec 32) : k0_cond2 i w = 1#1 ↔ (BitVec.ofNat 32 (i 1).val).slt w = true := by
  have h : k0_cond2 i w = Scalar.cmpi .ne (Scalar.extui (BitVec.ofBool ((BitVec.ofNat 32 (i 1).val).slt w)) : BitVec 32) 0#32 := rfl
  rw [h]
  cases (BitVec.ofNat 32 (i 1).val).slt w <;> decide

/-- A tile that holds rows is read at its own number. -/
theorem min_of (t : Fin (cfgA v).N) (q : Q1 v t) : min (crd v t 1).val ((v.n zz).toInt.toNat - 1) = (crd v t 1).val := by
  have h := (cond2_iff (crd v t) (v.n zz)).mp q
  have hl : (crd v t 1).val < 73 := (crd v t 1).isLt
  rw [BitVec.slt_iff_toInt_lt] at h
  have e : (BitVec.ofNat 32 (crd v t 1).val).toInt = ((crd v t 1).val : ℤ) := by
    have hm : (crd v t 1).val % 2 ^ 32 = (crd v t 1).val := Nat.mod_eq_of_lt (lt_trans hl (by decide))
    rw [BitVec.toInt_eq_toNat_cond, BitVec.toNat_ofNat, hm, if_pos (by omega)]
  rw [e] at h
  omega

/-- Two numbers over two axes agree where both do. -/
theorem at2 (f g : Fin 2 → ℕ) (h0 : f 0 = g 0) (h1 : f 1 = g 1) (a : Fin 2) : f a = g a := by
  revert a; rw [Fin.forall_fin_two]; exact ⟨h0, h1⟩

theorem at4 (f g : Fin 4 → ℕ) (h0 : f 0 = g 0) (h1 : f 1 = g 1) (h2 : f 2 = g 2) (h3 : f 3 = g 3) (a : Fin 4) : f a = g a := by
  fin_cases a
  exacts [h0, h1, h2, h3]

/-- A row of the point's tile of rows. -/
theorem x_at (c : Dev nD) (t : Fin (cfgA v).N) (q : Q1 v t) (r : Fin 512) (k : Fin 2048) (R : Fin 37376) (hR : R.val = (crd v t 1).val * 512 + r.val) :
    iblk v m ρ c (0 : Fin 4) t (ix2 r k) = m ((c : Thread nD τ).loc main_arg2) (ix2 R k) := by
  show m ((c : Thread nD τ).loc main_arg2) ((((cfgA v).win (0 : Fin 4)).rect t).emb (ix2 r k)) = _
  refine congrArg _ (funext fun a => Fin.ext ?_)
  show cc0_transform_0 inb_S1_S1_0 numel1_S1 (pf v) (crd v t) a * S512x2048.size a + 1 * ((ix2 r k : S512x2048.Idx) a).val = ((ix2 R k : S37376x2048.Idx) a).val
  rw [tr0, min_of v t q]
  refine at2 (fun a => (![(crd v t 1).val, 0] : Fin 2 → ℕ) a * S512x2048.size a + 1 * ((ix2 r k : S512x2048.Idx) a).val) (fun a => ((ix2 R k : S37376x2048.Idx) a).val) ?_ ?_ a
  · show (crd v t 1).val * 512 + 1 * r.val = R.val
    omega
  · show 0 * 2048 + 1 * k.val = k.val
    omega

/-- An element of the point's weights. -/
theorem w1_at (c : Dev nD) (t : Fin (cfgA v).N) (k : Fin 2048) (l : Fin 1024) (J : Fin 7168) (hJ : J.val = (crd v t 0).val * 1024 + l.val) :
    iblk v m ρ c (1 : Fin 4) t (ix4 0 0 k l) = m ((c : Thread nD τ).loc main_arg3) (ix4 0 ⟨(v.e (cur (crd v t))).toNat, v.he _⟩ k J) := by
  show m ((c : Thread nD τ).loc main_arg3) ((((cfgA v).win (1 : Fin 4)).rect t).emb (ix4 0 0 k l)) = _
  refine congrArg _ (funext fun a => Fin.ext ?_)
  show cc0_transform_1 k0_off1_inb numel1_S1 (pf v) (crd v t) a * S1x1x2048x1024.size a + 1 * ((ix4 0 0 k l : S1x1x2048x1024.Idx) a).val = ((ix4 0 ⟨(v.e (cur (crd v t))).toNat, v.he _⟩ k J : S1x8x2048x7168.Idx) a).val
  rw [tr1]
  refine at4 (fun a => (![0, (v.e (cur (crd v t))).toNat, 0, (crd v t 0).val] : Fin 4 → ℕ) a * S1x1x2048x1024.size a + 1 * ((ix4 0 0 k l : S1x1x2048x1024.Idx) a).val)
    (fun a => ((ix4 0 ⟨(v.e (cur (crd v t))).toNat, v.he _⟩ k J : S1x8x2048x7168.Idx) a).val) ?_ ?_ ?_ ?_ a
  · show 0 * 1 + 1 * 0 = 0
    rfl
  · show (v.e (cur (crd v t))).toNat * 1 + 1 * 0 = (v.e (cur (crd v t))).toNat
    omega
  · show 0 * 2048 + 1 * k.val = k.val
    omega
  · show (crd v t 0).val * 1024 + 1 * l.val = J.val
    omega

/-- An element of the point's weights. -/
theorem w2_at (c : Dev nD) (t : Fin (cfgA v).N) (k : Fin 2048) (l : Fin 1024) (J : Fin 7168) (hJ : J.val = (crd v t 0).val * 1024 + l.val) :
    iblk v m ρ c (2 : Fin 4) t (ix4 0 0 k l) = m ((c : Thread nD τ).loc main_arg4) (ix4 0 ⟨(v.e (cur (crd v t))).toNat, v.he _⟩ k J) := by
  show m ((c : Thread nD τ).loc main_arg4) ((((cfgA v).win (2 : Fin 4)).rect t).emb (ix4 0 0 k l)) = _
  refine congrArg _ (funext fun a => Fin.ext ?_)
  show cc0_transform_2 k0_off1_inb numel1_S1 (pf v) (crd v t) a * S1x1x2048x1024.size a + 1 * ((ix4 0 0 k l : S1x1x2048x1024.Idx) a).val = ((ix4 0 ⟨(v.e (cur (crd v t))).toNat, v.he _⟩ k J : S1x8x2048x7168.Idx) a).val
  rw [tr2]
  refine at4 (fun a => (![0, (v.e (cur (crd v t))).toNat, 0, (crd v t 0).val] : Fin 4 → ℕ) a * S1x1x2048x1024.size a + 1 * ((ix4 0 0 k l : S1x1x2048x1024.Idx) a).val)
    (fun a => ((ix4 0 ⟨(v.e (cur (crd v t))).toNat, v.he _⟩ k J : S1x8x2048x7168.Idx) a).val) ?_ ?_ ?_ ?_ a
  · show 0 * 1 + 1 * 0 = 0
    rfl
  · show (v.e (cur (crd v t))).toNat * 1 + 1 * 0 = (v.e (cur (crd v t))).toNat
    omega
  · show 0 * 2048 + 1 * k.val = k.val
    omega
  · show (crd v t 0).val * 1024 + 1 * l.val = J.val
    omega

/-- A product at an index. -/
theorem mat_at (X : FVec Ideal S512x2048 .bf16) (W : FVec Ideal S2048x1024 .bf16) (r : Fin 512) (l : Fin 1024) :
    matmul (F := Ideal) dot_S512x2048_S2048x1024_S512x1024_1_0_0_1_n_n none X W (constant S512x1024 .f32 0x00000000#32) (ix2 r l) = ∑ k : Fin 2048, X (ix2 r k) * W (ix2 k l) := by
  pointwise

theorem pay1_at (W : FVec Ideal S1x1x2048x1024 .f32) (k : Fin 2048) (l : Fin 1024) : k0_pay1 (F := Ideal) W (ix2 k l) = W (ix4 0 0 k l) := by
  pointwise [k0_pay1]

theorem pay2_at (W : FVec Ideal S1x1x2048x1024 .f32) (k : Fin 2048) (l : Fin 1024) : k0_pay2 (F := Ideal) W (ix2 k l) = W (ix4 0 0 k l) := by
  pointwise [k0_pay2]

/-- The gate at an index. -/
theorem gate_at (A B : FVec Ideal S512x1024 .f32) (i : S512x1024.Idx) :
    (truncf .bf16 (mulf (mulf A (logistic A)) B) bitsLt_bf16_f32 : FVec Ideal S512x1024 .bf16) i = Cert.Reference2Ideal.Moe.glu (A i) (B i) := by
  pointwise [Cert.Reference2Ideal.Moe.glu]
  rfl

/-- The point's gated product at an index. -/
theorem pay_at (X : FVec Ideal S512x2048 .bf16) (U W : FVec Ideal S1x1x2048x1024 .f32) (r : Fin 512) (l : Fin 1024) :
    k0_pay3 (F := Ideal) X (k0_pay1 (F := Ideal) U) (k0_pay2 (F := Ideal) W) (ix2 r l) = Cert.Reference2Ideal.Moe.glu (∑ k : Fin 2048, X (ix2 r k) * U (ix4 0 0 k l)) (∑ k : Fin 2048, X (ix2 r k) * W (ix4 0 0 k l)) := by
  refine (gate_at _ _ _).trans ?_
  rw [mat_at, mat_at]
  simp only [pay1_at, pay2_at]

theorem zero_at (y : S512x1024.Idx) : k0_pay4 (F := Ideal) y = (0 : EReal) := by
  have z : Ideal.ofBits .bf16 0x0000#16 = (0 : EReal) := by simp [Ideal.ofBits, Ideal.ieee]
  exact z

/-- What a point leaves, at an index of its block. -/
theorem out_point (c : Dev nD) (t : Fin (cfgA v).N) (r : Fin 512) (l : Fin 1024) (R : Fin 37376) (J : Fin 7168) (hR : R.val = (crd v t 1).val * 512 + r.val)
    (hJ : J.val = (crd v t 0).val * 1024 + l.val) :
    outv v m ρ c t (ix2 r l) = Cert.Reference2Ideal.Moe.out v.e v.n (m ((c : Thread nD τ).loc main_arg2)) (m ((c : Thread nD τ).loc main_arg3)) (m ((c : Thread nD τ).loc main_arg4)) v.he R J := by
  have hr : r.val < 512 := r.isLt
  have hd : R.val / 512 = (crd v t 1).val := by omega
  have hc : (BitVec.ofNat 32 (R.val / 512)).slt (v.n (ix1 0)) = true ↔ Q1 v t := by
    rw [hd, show (ix1 0 : S1.Idx) = zz from first_zz _]
    exact (cond2_iff _ _).symm
  unfold outv Cert.Reference2Ideal.Moe.out
  by_cases q : Q1 v t
  · rw [if_pos q, if_pos (hc.mpr q)]
    refine (pay_at _ _ _ r l).trans ?_
    have ec : (ix1 ⟨R.val / 512, by omega⟩ : S73.Idx) = cur (crd v t) := by
      funext a; apply Fin.ext; revert a; rw [Fin.forall_fin_one]; exact hd
    unfold Cert.Reference2Ideal.Moe.val
    have sm : ∀ (f g : Fin 2048 → EReal), (∀ k, f k = g k) → ∑ k, f k = ∑ k, g k := fun f g h => Finset.sum_congr rfl fun k _ => h k
    refine congrArg₂ Cert.Reference2Ideal.Moe.glu (sm _ _ fun k => ?_) (sm _ _ fun k => ?_)
    · rw [x_at v m ρ c t q r k R hR, w1_at v m ρ c t k l J hJ]
      simp only [ec]
    · rw [x_at v m ρ c t q r k R hR, w2_at v m ρ c t k l J hJ]
      simp only [ec]
  · rw [if_neg q, if_neg (fun h => q (hc.mp h))]
    exact zero_at _

/-- Every point writes its block back. -/
theorem flushed (t : Fin (cfgA v).N) : ((cfgA v).win (3 : Fin 4)).flush t = true := by
  have e : ((cfgA v).win (3 : Fin 4)).flush t = (true && (decide (t.val + 1 = (cfgA v).N) || decide (∃ h : t.val + 1 < (cfgA v).N, cc0_transform_3 (crd v ⟨t.val + 1, h⟩) ≠ cc0_transform_3 (crd v t)))) := rfl
  rw [e, Bool.true_and, Bool.or_eq_true, decide_eq_true_iff, decide_eq_true_iff]
  by_cases h : t.val + 1 = (cfgA v).N
  · exact .inl h
  · have hlt : t.val + 1 < (cfgA v).N := by have := t.isLt; omega
    refine .inr ⟨hlt, fun q => ?_⟩
    rw [tr3, tr3] at q
    have q0 : (crd v ⟨t.val + 1, hlt⟩ 1).val = (crd v t 1).val := congrFun q 0
    rw [(crd_of v _).1, (crd_of v t).1] at q0
    have q0' : (t.val + 1) % 73 = t.val % 73 := q0
    omega

/-- A block's place in the result. -/
theorem place (t : Fin (cfgA v).N) (y : S512x1024.Idx) (R : Fin 37376) (J : Fin 7168) (hR : R.val = (crd v t 1).val * 512 + (y 0).val) (hJ : J.val = (crd v t 0).val * 1024 + (y 1).val) :
    (((cfgA v).win (3 : Fin 4)).blk t).view.emb y = (ix2 R J : S37376x7168.Idx) := by
  refine funext fun a => Fin.ext ?_
  show cc0_transform_3 (crd v t) a * S512x1024.size a + 1 * (y a).val = ((ix2 R J : S37376x7168.Idx) a).val
  rw [tr3]
  refine at2 (fun a => (![(crd v t 1).val, (crd v t 0).val] : Fin 2 → ℕ) a * S512x1024.size a + 1 * (y a).val) (fun a => ((ix2 R J : S37376x7168.Idx) a).val) ?_ ?_ a
  · show (crd v t 1).val * 512 + 1 * (y 0).val = R.val
    omega
  · show (crd v t 0).val * 1024 + 1 * (y 1).val = J.val
    omega

/-- The result: every row its expert's, the rows of unused tiles zero. -/
theorem final (c : Dev nD) : (dats v m ρ 0 c).arrAt (3 : Fin 4) (cfgA v).N
    = fun i => Cert.Reference2Ideal.Moe.out v.e v.n (m ((c : Thread nD τ).loc main_arg2)) (m ((c : Thread nD τ).loc main_arg3)) (m ((c : Thread nD τ).loc main_arg4)) v.he (i 0) (i 1) := by
  refine (dats v m ρ 0 c).arrAt_eq_of_emb (3 : Fin 4) _ (fun t hf y => ?_) fun i => ?_
  · have b1 : (crd v t 1).val < 73 := (crd v t 1).isLt
    have b0 : (crd v t 0).val < 7 := (crd v t 0).isLt
    have y0 : ((y : S512x1024.Idx) 0).val < 512 := (y 0).isLt
    have y1 : ((y : S512x1024.Idx) 1).val < 1024 := (y 1).isLt
    have pl := place v t y ⟨(crd v t 1).val * 512 + ((y : S512x1024.Idx) 0).val, by omega⟩ ⟨(crd v t 0).val * 1024 + ((y : S512x1024.Idx) 1).val, by omega⟩ rfl rfl
    show outv v m ρ c t y = _
    rw [pl]
    refine Eq.trans (congrArg _ (eq_ix2 (y : S512x1024.Idx))) ?_
    exact out_point v m ρ c t ((y : S512x1024.Idx) 0) ((y : S512x1024.Idx) 1) _ _ rfl rfl
  · have i0 : ((i : S37376x7168.Idx) 0).val < 37376 := (i 0).isLt
    have i1 : ((i : S37376x7168.Idx) 1).val < 7168 := (i 1).isLt
    have hN : (cfgA v).N = 511 := rfl
    refine ⟨⟨((i : S37376x7168.Idx) 1).val / 1024 * 73 + ((i : S37376x7168.Idx) 0).val / 512, by omega⟩, flushed v _, ?_⟩
    generalize ht : (⟨((i : S37376x7168.Idx) 1).val / 1024 * 73 + ((i : S37376x7168.Idx) 0).val / 512, by omega⟩ : Fin (cfgA v).N) = t
    have tv : t.val = ((i : S37376x7168.Idx) 1).val / 1024 * 73 + ((i : S37376x7168.Idx) 0).val / 512 := by rw [← ht]
    have c1 := (crd_of v t).1
    have c0 := (crd_of v t).2
    have pl := place v t (ix2 ⟨((i : S37376x7168.Idx) 0).val % 512, by omega⟩ ⟨((i : S37376x7168.Idx) 1).val % 1024, by omega⟩) ((i : S37376x7168.Idx) 0) ((i : S37376x7168.Idx) 1)
      (by show _ = _ + ((i : S37376x7168.Idx) 0).val % 512; omega) (by show _ = _ + ((i : S37376x7168.Idx) 1).val % 1024; omega)
    have ei : i = (ix2 ((i : S37376x7168.Idx) 0) ((i : S37376x7168.Idx) 1) : S37376x7168.Idx) := eq_ix2 (i : S37376x7168.Idx)
    rw [ei, ← pl]
    exact View.emb_mem_set _ _

end Cert.Kernel2Ideal.Moe

end
-- ==== Proof.Moe2BRun.lean ====
module

public import proofs.«01_k».proof.Proof.Moe2BTab
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.Adequacy
public import Idealize.ShloMosaic.Init

@[expose] public section
set_option maxRecDepth 16384
set_option Elab.async false
noncomputable section
namespace Cert.Kernel2.Moe
open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resources of the staging cells. -/
abbrev EPm : Emb (UR sig nD τ) 𝕄 := emb₁

/-- A store of a whole block, read back. -/
theorem read_store {sp : Space} {s : Shape} {e : EltTy} (w : View sig .tc sp s e) (f : w.ty.Contents (Elt Bits)) {off : Fin s.rank → ℕ} (h : off = fun _ => 0)
    (inb : ∀ a, off a + s.size a ≤ s.size a) (x : s.Idx → Elt Bits e) :
    w.read (Elt Bits) (w.writes (Elt Bits) f [⟨Rect.unit off s.size inb, x⟩]) = x := by
  subst h; exact View.read_writes_whole w f x

theorem congr3 {A B C D : Type} {f : A → B → C → D} {a a' : A} {b b' : B} {c c' : C} (ha : a = a') (hb : b = b') (hc : c = c') : f a b c = f a' b' c' := by subst ha hb hc; rfl
theorem congr2 {A B D : Type} {f : A → B → D} {a a' : A} {b b' : B} (ha : a = a') (hb : b = b') : f a b = f a' b' := by subst ha hb; rfl

/-- A store of a whole buffer leaves its payload. -/
theorem whole_store (b : Ref sig .tc) (f w : b.ty.Contents (Elt Bits)) {off : Fin b.ty.shape.rank → ℕ} (h : off = fun _ => 0)
    (inb : ∀ a, off a + b.ty.shape.size a ≤ b.ty.shape.size a) :
    (View.whole b).writes (Elt Bits) f [⟨Rect.unit off b.ty.shape.size inb, w⟩] = w := by
  have e := read_store (View.whole b) f h inb w
  exact (show _ = (View.whole b).read (Elt Bits) _ from rfl).trans e

theorem out_A (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1))
    (f : arg7.view.ty.Contents (Elt Bits)) : arg7.view.read (Elt Bits) (arg7.view.writes (Elt Bits) f (kernelRun0_A c i arg4 harg4 arg5 harg5 arg6 harg6 arg7 harg7 T0 T1 x0 x1 x2 hc0 k0_h2 k0_h3).1) = (k0_pay3 x0 (k0_pay1 x1) (k0_pay2 x2)) := by
  dsimp only [kernelRun0_A]
  unfold kernelRun0_A.sl.HO3_1
  refine (read_store _ _ (by decide) _ _).trans ?_
  unfold kernelRun0_A.sl.v20 kernelRun0_A.sl.v22
  unfold kernelRun0_A.sl.HS0_1 kernelRun0_A.sl.HS1_1
  exact congr3 (View.readAt_rep_full _ _ _) ((View.readCov_unit_zero scM0_0.view (by decide) _ _).trans (congrArg k0_pay1 (View.readAt_rep_full _ _ _))) ((View.readCov_unit_zero scM0_1.view (by decide) _ _).trans (congrArg k0_pay2 (View.readAt_rep_full _ _ _)))

theorem sc0_A (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 arg7 harg7 T0 T1 x0 x1 x2 hc0 k0_h2 k0_h3).2.1 = (k0_pay1 x1) := by
  dsimp only [kernelRun0_A]
  unfold kernelRun0_A.sl.HS0_1
  refine (whole_store cc0_scratch0 _ _ (by decide) _).trans ?_
  exact congrArg k0_pay1 (View.readAt_rep_full _ _ _)

theorem sc1_A (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 arg7 harg7 T0 T1 x0 x1 x2 hc0 k0_h2 k0_h3).2.2.1 = (k0_pay2 x2) := by
  dsimp only [kernelRun0_A]
  unfold kernelRun0_A.sl.HS1_1
  refine (whole_store cc0_scratch1 _ _ (by decide) _).trans ?_
  exact congrArg k0_pay2 (View.readAt_rep_full _ _ _)

theorem out_B (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1))
    (f : arg7.view.ty.Contents (Elt Bits)) : arg7.view.read (Elt Bits) (arg7.view.writes (Elt Bits) f (kernelRun0_B c i arg4 harg4 arg5 harg5 arg6 harg6 arg7 harg7 T0 T1 x0 x1 x2 xa0 xa1 hc0 k0_h2 k0_h3).1) = (k0_pay3 x0 xa0 xa1) := by
  dsimp only [kernelRun0_B]
  unfold kernelRun0_B.sl.HO3_1
  refine (read_store _ _ (by decide) _ _).trans ?_
  exact congr3 (View.readAt_rep_full _ _ _) (Memref.readAt_unit_zero _ cc0_scratch0 (by decide) _ _) (Memref.readAt_unit_zero _ cc0_scratch1 (by decide) _ _)

theorem sc0_B (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 arg7 harg7 T0 T1 x0 x1 x2 xa0 xa1 hc0 k0_h2 k0_h3).2.1 = xa0 := by
  dsimp only [kernelRun0_B]

theorem sc1_B (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 arg7 harg7 T0 T1 x0 x1 x2 xa0 xa1 hc0 k0_h2 k0_h3).2.2.1 = xa1 := by
  dsimp only [kernelRun0_B]

theorem out_C (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1)
    (f : arg7.view.ty.Contents (Elt Bits)) : arg7.view.read (Elt Bits) (arg7.view.writes (Elt Bits) f (kernelRun0_C c i arg4 harg4 arg5 harg5 arg6 harg6 arg7 harg7 T0 T1 x0 x1 x2 xa0 xa1 hc0 k0_h2 k0_h3).1) = k0_pay4 (F := Bits) := by
  dsimp only [kernelRun0_C]
  unfold kernelRun0_C.sl.HO3_1
  refine (read_store _ _ (by decide) _ _).trans ?_
  rfl

theorem sc0_C (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1) : (kernelRun0_C c i arg4 harg4 arg5 harg5 arg6 harg6 arg7 harg7 T0 T1 x0 x1 x2 xa0 xa1 hc0 k0_h2 k0_h3).2.1 = xa0 := by
  dsimp only [kernelRun0_C]

theorem sc1_C (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (xa0 : Buf (Elt Bits) ((c : Thread nD τ).loc cc0_scratch0)) (xa1 : Buf (Elt Bits) ((c : Thread nD τ).loc cc0_scratch1)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1) : (kernelRun0_C c i arg4 harg4 arg5 harg5 arg6 harg6 arg7 harg7 T0 T1 x0 x1 x2 xa0 xa1 hc0 k0_h2 k0_h3).2.2.1 = xa1 := by
  dsimp only [kernelRun0_C]

theorem out_D (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1)
    (f : arg7.view.ty.Contents (Elt Bits)) : arg7.view.read (Elt Bits) (arg7.view.writes (Elt Bits) f (kernelRun0_D c i arg4 harg4 arg5 harg5 arg6 harg6 arg7 harg7 T0 T1 x0 x1 x2 hc0 k0_h2 k0_h3).1) = k0_pay4 (F := Bits) := by
  dsimp only [kernelRun0_D]
  unfold kernelRun0_D.sl.HO3_1
  refine (read_store _ _ (by decide) _ _).trans ?_
  rfl

theorem sc0_D (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1) : (kernelRun0_D c i arg4 harg4 arg5 harg5 arg6 harg6 arg7 harg7 T0 T1 x0 x1 x2 hc0 k0_h2 k0_h3).2.1 = (k0_pay1 x1) := by
  dsimp only [kernelRun0_D]
  unfold kernelRun0_D.sl.HS0_1
  refine (whole_store cc0_scratch0 _ _ (by decide) _).trans ?_
  exact congrArg k0_pay1 (View.readAt_rep_full _ _ _)

theorem sc1_D (c : Dev nD) (i : grid0.Coords) (arg4 : Memref sig .tc .vmem S512x2048 .bf16) (harg4 : arg4.IsWhole) (arg5 : Memref sig .tc .vmem S1x1x2048x1024 .f32) (harg5 : arg5.IsWhole) (arg6 : Memref sig .tc .vmem S1x1x2048x1024 .f32) (harg6 : arg6.IsWhole) (arg7 : Memref sig .tc .vmem S512x1024 .bf16) (harg7 : arg7.IsWhole) (T0 : (S73.Idx → Elt Bits .i32)) (T1 : (S1.Idx → Elt Bits .i32)) (x0 : (S512x2048.Idx → Elt Bits .bf16)) (x1 : (S1x1x2048x1024.Idx → Elt Bits .f32)) (x2 : (S1x1x2048x1024.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1) : (kernelRun0_D c i arg4 harg4 arg5 harg5 arg6 harg6 arg7 harg7 T0 T1 x0 x1 x2 hc0 k0_h2 k0_h3).2.2.1 = (k0_pay2 x2) := by
  dsimp only [kernelRun0_D]
  unfold kernelRun0_D.sl.HS1_1
  refine (whole_store cc0_scratch1 _ _ (by decide) _).trans ?_
  exact congrArg k0_pay2 (View.readAt_rep_full _ _ _)

end Cert.Kernel2.Moe
end
-- ==== Proof.Moe2B.lean ====
module

public import proofs.«01_k».proof.Proof.Moe2BRun
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.Adequacy
public import Idealize.ShloMosaic.Init

@[expose] public section
set_option maxRecDepth 16384
set_option Elab.async false
noncomputable section
namespace Cert.Kernel2.Moe
open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (v : Tab) (m : (ℓ : Loc nD τ sig) → Buf (Elt Bits) ℓ) (ρ : Dev nD → PrngReg)

abbrev ms0_0 (t : Fin (cfgA v).N) : Memref sig .tc .vmem S512x2048 .bf16 := spec0_0.stage ((cfgA v).slots t (0 : Fin 4))
abbrev hs0_0 (t : Fin (cfgA v).N) : (ms0_0 v t).IsWhole := hstage0_0 (((cfgA v).slots t (0 : Fin 4)).cast nbuf0_0)
abbrev ms0_1 (t : Fin (cfgA v).N) : Memref sig .tc .vmem S1x1x2048x1024 .f32 := spec0_1.stage ((cfgA v).slots t (1 : Fin 4))
abbrev hs0_1 (t : Fin (cfgA v).N) : (ms0_1 v t).IsWhole := hstage0_1 (((cfgA v).slots t (1 : Fin 4)).cast nbuf0_1)
abbrev ms0_2 (t : Fin (cfgA v).N) : Memref sig .tc .vmem S1x1x2048x1024 .f32 := spec0_2.stage ((cfgA v).slots t (2 : Fin 4))
abbrev hs0_2 (t : Fin (cfgA v).N) : (ms0_2 v t).IsWhole := hstage0_2 (((cfgA v).slots t (2 : Fin 4)).cast nbuf0_2)
abbrev ms0_3 (t : Fin (cfgA v).N) : Memref sig .tc .vmem S512x1024 .bf16 := spec0_3.stage ((cfgA v).slots t (3 : Fin 4))
abbrev hs0_3 (t : Fin (cfgA v).N) : (ms0_3 v t).IsWhole := hstage0_3 (((cfgA v).slots t (3 : Fin 4)).cast nbuf0_3)

/-- A window's block at a point, read off its array at launch. -/
def iblk (c : Dev nD) (w : Fin (cfgA v).W) (t : Fin (cfgA v).N) : (((cfgA v).win w).xblock (crd v t)).Idx → Elt Bits ((cfgA v).win w).elt :=
  (((cfgA v).win w).blk t).view.read (Elt Bits) ((s₀ m ρ).mem (((cfgA v).win w).arr.view.loc (c : Thread nD τ)))

/-- Whether the point's tile holds rows. -/
abbrev Q1 (t : Fin (cfgA v).N) : Prop := k0_cond2 (crd v t) (v.n zz) = 1#1

/-- What the point leaves in the result's block. -/
def outv (c : Dev nD) (t : Fin (cfgA v).N) : S512x1024.Idx → Elt Bits .bf16 :=
  if Q1 v t then k0_pay3 (iblk v m ρ c (0 : Fin 4) t) (k0_pay1 (iblk v m ρ c (1 : Fin 4) t)) (k0_pay2 (iblk v m ρ c (2 : Fin 4) t)) else k0_pay4 (F := Bits)

/-- What the launch memory holds: the tables. -/
def Pinned : Prop :=
  (∀ c : Dev nD, m ((c : Thread nD τ).loc main_arg0) = v.e)
  ∧ (∀ c : Dev nD, m ((c : Thread nD τ).loc main_arg1) = v.n)

/-- No point leaves the result's block idle. -/
theorem idle_false (t : Fin (cfgA v).N) : (cfgA v).idle (3 : Fin 4) ((cfgA v).grid.coords t) = false := by
  have h : ∀ (i : grid0.Coords) (w : BitVec 32), (!(k0_cond2 i w == 1#1) && !(k0_cond3 i w == 1#1)) = false := fun i w => by
    by_cases h2 : k0_cond2 i w = 1#1
    · rw [h2]; rfl
    · rw [(cond23 i w).mpr h2]; exact Bool.and_false _
  exact h _ _

/-- An element of an array's block, where the array holds it. -/
theorem crd_of (t : Fin (cfgA v).N) : ((crd v t) 1).val = t.val % 73 ∧ ((crd v t) 0).val = t.val / 73 := crd_all t

/-- The words that steer the weights agree with the point before, where no new expert starts. -/
theorem prev_of (t : Fin (cfgA v).N) (h : ¬ Q0 (crd v t) (v.e (cur (crd v t))) (v.e (prv (crd v t)))) :
    t.val ≠ 0 ∧ ∀ s : Fin (cfgA v).N, s.val + 1 = t.val → ((crd v s) 0).val = ((crd v t) 0).val ∧ v.e (cur (crd v s)) = v.e (cur (crd v t)) := by
  obtain ⟨h1, h2⟩ := not_Q0 h
  have ht := crd_of v t
  refine ⟨fun h0 => h1 (by rw [ht.1, h0]), fun s hs => ?_⟩
  have hs' := crd_of v s
  rw [ht.1] at h1
  refine ⟨by rw [ht.2, hs'.2]; omega, ?_⟩
  rw [h2]
  congr 1
  funext a
  apply Fin.ext
  show ((crd v s) 1).val = ((crd v t) 1).val - 1
  rw [ht.1, hs'.1]; omega

/-- Equal steering words, equal weights. -/
theorem same1 (c : Dev nD) (s t : Fin (cfgA v).N) (h0 : ((crd v s) 0).val = ((crd v t) 0).val) (he : v.e (cur (crd v s)) = v.e (cur (crd v t))) :
    iblk v m ρ c (1 : Fin 4) s = iblk v m ρ c (1 : Fin 4) t := by
  have e : cc0_transform_1 k0_off1_inb numel1_S1 (pf v) (crd v s) = cc0_transform_1 k0_off1_inb numel1_S1 (pf v) (crd v t) := by
    rw [tr1, tr1, h0, he]
  funext y
  show m ((c : Thread nD τ).loc main_arg3) ((((cfgA v).win (1 : Fin 4)).rect s).emb y) = m ((c : Thread nD τ).loc main_arg3) ((((cfgA v).win (1 : Fin 4)).rect t).emb y)
  refine congrArg _ (funext fun a => Fin.ext ?_)
  show cc0_transform_1 k0_off1_inb numel1_S1 (pf v) (crd v s) a * S1x1x2048x1024.size a + 1 * (y a).val = cc0_transform_1 k0_off1_inb numel1_S1 (pf v) (crd v t) a * S1x1x2048x1024.size a + 1 * (y a).val
  rw [e]

/-- Equal steering words, equal weights. -/
theorem same2 (c : Dev nD) (s t : Fin (cfgA v).N) (h0 : ((crd v s) 0).val = ((crd v t) 0).val) (he : v.e (cur (crd v s)) = v.e (cur (crd v t))) :
    iblk v m ρ c (2 : Fin 4) s = iblk v m ρ c (2 : Fin 4) t := by
  have e : cc0_transform_2 k0_off1_inb numel1_S1 (pf v) (crd v s) = cc0_transform_2 k0_off1_inb numel1_S1 (pf v) (crd v t) := by
    rw [tr2, tr2, h0, he]
  funext y
  show m ((c : Thread nD τ).loc main_arg4) ((((cfgA v).win (2 : Fin 4)).rect s).emb y) = m ((c : Thread nD τ).loc main_arg4) ((((cfgA v).win (2 : Fin 4)).rect t).emb y)
  refine congrArg _ (funext fun a => Fin.ext ?_)
  show cc0_transform_2 k0_off1_inb numel1_S1 (pf v) (crd v s) a * S1x1x2048x1024.size a + 1 * (y a).val = cc0_transform_2 k0_off1_inb numel1_S1 (pf v) (crd v t) a * S1x1x2048x1024.size a + 1 * (y a).val
  rw [e]

/-- Before a point: each scratch holds the weights the point before used, and the tables are held. -/
def Phi (c : Dev nD) (t : Fin ((cfgA v).N + 1)) : sProp 𝕄 :=
  iprop((∃ a, ⌜∀ s : Fin (cfgA v).N, s.val + 1 = t.val → a = k0_pay1 (iblk v m ρ c (1 : Fin 4) s)⌝ ∗ (scM0_0.view.loc (c : Thread nD τ) ↦{fullShare} a)) ∗ (∃ a, ⌜∀ s : Fin (cfgA v).N, s.val + 1 = t.val → a = k0_pay2 (iblk v m ρ c (2 : Fin 4) s)⌝ ∗ (scM0_1.view.loc (c : Thread nD τ) ↦{fullShare} a)) ∗ (tbM0_0.view.loc (c : Thread nD τ) ↦{fullShare.right} v.e) ∗ (tbM0_1.view.loc (c : Thread nD τ) ↦{fullShare.right} v.n))

/-- The proof data of the pipeline. -/
def dats (_ : Fin 1) (c : Dev nD) : Dat τ (Elt Bits) Unit ℕ (UR sig nD τ) ℕ (cfgA v) c where
  A w := (s₀ m ρ).mem (((cfgA v).win w).arr.view.loc (c : Thread nD τ))
  after w t := match w with
    | ⟨0, _⟩ => iblk v m ρ c (0 : Fin 4) t
    | ⟨1, _⟩ => iblk v m ρ c (1 : Fin 4) t
    | ⟨2, _⟩ => iblk v m ρ c (2 : Fin 4) t
    | ⟨3, _⟩ => outv v m ρ c t
  Φ t := Phi v m ρ c t
  q _ := fullShare
  owed _ := 0

theorem after0_0 (c : Dev nD) (t : Fin (cfgA v).N) : (dats v m ρ 0 c).after (0 : Fin 4) t = iblk v m ρ c (0 : Fin 4) t := rfl
theorem after0_1 (c : Dev nD) (t : Fin (cfgA v).N) : (dats v m ρ 0 c).after (1 : Fin 4) t = iblk v m ρ c (1 : Fin 4) t := rfl
theorem after0_2 (c : Dev nD) (t : Fin (cfgA v).N) : (dats v m ρ 0 c).after (2 : Fin 4) t = iblk v m ρ c (2 : Fin 4) t := rfl
theorem after0_3 (c : Dev nD) (t : Fin (cfgA v).N) : (dats v m ρ 0 c).after (3 : Fin 4) t = outv v m ρ c t := rfl

theorem before0_0 (c : Dev nD) (t : Fin (cfgA v).N) (d) : (dats v m ρ 0 c).before (0 : Fin 4) t d = iblk v m ρ c (0 : Fin 4) t :=
  ((dats v m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA v).N) (d) : (dats v m ρ 0 c).before (1 : Fin 4) t d = iblk v m ρ c (1 : Fin 4) t :=
  ((dats v m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA v).N) (d) : (dats v m ρ 0 c).before (2 : Fin 4) t d = iblk v m ρ c (2 : Fin 4) t :=
  ((dats v m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The body at a point on its staging buffers. -/
abbrev bodyAt0 (t : Fin (cfgA v).N) : Prog (TpuEff nD τ sig (Elt Bits) Λ₀ .tc) PUnit :=
  cc0_gateup (crd v t) (Memref.whole main_arg0) (Memref.isWhole_whole _) (Memref.whole main_arg1) (Memref.isWhole_whole _) (ms0_0 v t) (hs0_0 v t) (ms0_1 v t) (hs0_1 v t) (ms0_2 v t) (hs0_2 v t) (ms0_3 v t) (hs0_3 v t) (Memref.whole cc0_scratch0) (Memref.isWhole_whole _) (Memref.whole cc0_scratch1) (Memref.isWhole_whole _)

set_option maxHeartbeats 4000000 in
/-- The body's obligation at a point, by its path. -/
theorem sound_body (c : Dev nD) (t : Fin (cfgA v).N) :
    iprop((dats v m ρ 0 c).Φ t.castSucc ∗ (dats v m ρ 0 c).owesAt () t.castSucc
        ∗ (∃ d, owns (c : Thread nD τ) (ms0_0 v t) fullShare ((dats v m ρ 0 c).before (0 : Fin 4) t d))
        ∗ (∃ d, owns (c : Thread nD τ) (ms0_1 v t) fullShare ((dats v m ρ 0 c).before (1 : Fin 4) t d))
        ∗ (∃ d, owns (c : Thread nD τ) (ms0_2 v t) fullShare ((dats v m ρ 0 c).before (2 : Fin 4) t d))
        ∗ (∃ d, owns (c : Thread nD τ) (ms0_3 v t) fullShare ((dats v m ρ 0 c).before (3 : Fin 4) t d)))
      ⊢ wp frame (wpE (defs₀ (F := Bits)) Variants.none c none) Set.univ (bodyAt0 v t) fun _ =>
          iprop((dats v m ρ 0 c).Φ t.succ ∗ (dats v m ρ 0 c).owesAt () t.succ
            ∗ bigSep Finset.univ fun w : Fin (cfgA v).W =>
                match (cfgA v).idle w ((cfgA v).grid.coords t) with
                | true =>
                  match ((cfgA v).win w).flush t with
                  | false => iprop(∃ d, owns (c : Thread nD τ) (((cfgA v).win w).stage ((cfgA v).slots t w)) fullShare ((dats v m ρ 0 c).before w t d))
                  | true => owns (c : Thread nD τ) (((cfgA v).win w).stage ((cfgA v).slots t w)) fullShare ((dats v m ρ 0 c).after w t)
                | false => owns (c : Thread nD τ) (((cfgA v).win w).stage ((cfgA v).slots t w)) fullShare ((dats v m ρ 0 c).after w t)) := by
  rw [bigSep_W0]
  have i3 := idle_false v t
  rewrite [i3]
  simp only [before0_0, before0_1, before0_2, after0_0, after0_1, after0_2, after0_3]
  rewrite [show (dats v m ρ 0 c).Φ t.succ = Phi v m ρ c t.succ from rfl, show (dats v m ρ 0 c).Φ t.castSucc = Phi v m ρ c t.castSucc from rfl,
    show (dats v m ρ 0 c).owesAt () t.succ = (dats v m ρ 0 c).owesAt () t.castSucc from rfl]
  unfold Phi
  simp only [Fin.val_castSucc, Fin.val_succ]
  by_cases q0 : Q0 (crd v t) (v.e (cur (crd v t))) (v.e (prv (crd v t)))
  · by_cases q1 : Q1 v t
    · have hc0 : (Q0 (crd v t) (View.readAt (Elt Bits) (tbM0_0).view (Rect.unit (s := S73) (k0_off1 (crd v t)) S1.size (k0_off1_inb (crd v t))).toLoadRect v.e (Shape.Idx.first (numel1_S1.symm ▸ Nat.one_pos))) (View.readAt (Elt Bits) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact sc0_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HS1]
        · iexists _; isplitr; swap
          · iexact HS1
          · ipureintro; intro s hs; rw [show s = t from Fin.ext (Nat.succ.inj hs)]
            exact sc1_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_A c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3 e3).trans ?_
        rw [outv, if_pos q1]
    · have hc0 : (Q0 (crd v t) (View.readAt (Elt Bits) (tbM0_0).view (Rect.unit (s := S73) (k0_off1 (crd v t)) S1.size (k0_off1_inb (crd v t))).toLoadRect v.e (Shape.Idx.first (numel1_S1.symm ▸ Nat.one_pos))) (View.readAt (Elt Bits) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : ¬ (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_D c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact sc0_D c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HS1]
        · iexists _; isplitr; swap
          · iexact HS1
          · ipureintro; intro s hs; rw [show s = t from Fin.ext (Nat.succ.inj hs)]
            exact sc1_D c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_D c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) hc0 k0_h2 k0_h3 e3).trans ?_
        rw [outv, if_neg q1]
  · obtain ⟨ht0, hpv⟩ := prev_of v t q0
    have hlt := t.isLt
    have hk0 : ∀ a : Buf (Elt Bits) ((c : Thread nD τ).loc cc0_scratch0), (∀ s : Fin (cfgA v).N, s.val + 1 = t.val → a = k0_pay1 (iblk v m ρ c (1 : Fin 4) s)) → a = k0_pay1 (iblk v m ρ c (1 : Fin 4) t) := fun a ha => by
      have hs : (⟨t.val - 1, by omega⟩ : Fin (cfgA v).N).val + 1 = t.val := Nat.succ_pred ht0
      rw [ha _ hs, same1 v m ρ c _ t (hpv _ hs).1 (hpv _ hs).2]
    have hk1 : ∀ a : Buf (Elt Bits) ((c : Thread nD τ).loc cc0_scratch1), (∀ s : Fin (cfgA v).N, s.val + 1 = t.val → a = k0_pay2 (iblk v m ρ c (2 : Fin 4) s)) → a = k0_pay2 (iblk v m ρ c (2 : Fin 4) t) := fun a ha => by
      have hs : (⟨t.val - 1, by omega⟩ : Fin (cfgA v).N).val + 1 = t.val := Nat.succ_pred ht0
      rw [ha _ hs, same2 v m ρ c _ t (hpv _ hs).1 (hpv _ hs).2]
    by_cases q1 : Q1 v t
    · have hc0 : ¬ (Q0 (crd v t) (View.readAt (Elt Bits) (tbM0_0).view (Rect.unit (s := S73) (k0_off1 (crd v t)) S1.size (k0_off1_inb (crd v t))).toLoadRect v.e (Shape.Idx.first (numel1_S1.symm ▸ Nat.one_pos))) (View.readAt (Elt Bits) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact (sc0_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk0 a0 ha0)
        isplitl [HS1]
        · iexists _; isplitr; swap
          · iexact HS1
          · ipureintro; intro s hs; rw [show s = t from Fin.ext (Nat.succ.inj hs)]
            exact (sc1_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk1 a1 ha1)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_B c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3 e3).trans ?_
        rw [outv, if_pos q1, hk0 a0 ha0, hk1 a1 ha1]
    · have hc0 : ¬ (Q0 (crd v t) (View.readAt (Elt Bits) (tbM0_0).view (Rect.unit (s := S73) (k0_off1 (crd v t)) S1.size (k0_off1_inb (crd v t))).toLoadRect v.e (Shape.Idx.first (numel1_S1.symm ▸ Nat.one_pos))) (View.readAt (Elt Bits) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : ¬ (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact k0_h2
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_C c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro s hs; rw [show s = t from Fin.ext (Nat.succ.inj hs)]
            exact (sc0_C c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk0 a0 ha0)
        isplitl [HS1]
        · iexists _; isplitr; swap
          · iexact HS1
          · ipureintro; intro s hs; rw [show s = t from Fin.ext (Nat.succ.inj hs)]
            exact (sc1_C c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3).trans (hk1 a1 ha1)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        refine (out_C c (crd v t) (ms0_0 v t) (hs0_0 v t) (ms0_1 v t) (hs0_1 v t) (ms0_2 v t) (hs0_2 v t) (ms0_3 v t) (hs0_3 v t) v.e v.n (iblk v m ρ c (0 : Fin 4) t) (iblk v m ρ c (1 : Fin 4) t) (iblk v m ρ c (2 : Fin 4) t) a0 a1 hc0 k0_h2 k0_h3 e3).trans ?_
        rw [outv, if_neg q1]

theorem body_obligation (c : Dev nD) : BodyObligation (dats v m ρ 0 c) (defs₀ (F := Bits)) Variants.none () Set.univ := fun t => by
  rw [bigSep_W0]
  exact sound_body v m ρ c t

/-- The launch's resources. -/
def u₀ : UR sig nD τ :=
  initOf (Pipeline.cells (pcs v) ((launch0 (F := Bits)).cellOf_inj fun _ => adm v))
    (Pipeline.launchToks (pcs v) ((launch0 (F := Bits)).cellOf_inj fun _ => adm v))

theorem share_eq (c : Dev nD) (w : Fin (cfgA v).W) : (dats v m ρ 0 c).share w = fullShare := by unfold Dat.share; split <;> rfl

/-- The two tables, one by one. -/
theorem prefHeld_eq (c : Dev nD) (q : Fin 2 → PosShare TreeShare) (u : pre0.Contents (Elt Bits)) :
    (Pipeline.prefHeld (Ix := Unit) (Name := ℕ) (U := UR sig nD τ) (Lvl := ℕ) pre0 c q u : sProp 𝕄)
      = iprop((((c : Thread nD τ).loc main_arg0) ↦{q 0} u 0) ∗ (((c : Thread nD τ).loc main_arg1) ↦{q 1} u 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm v).1 ∗ Pipeline.scopedRest spec0 c) ⊢ (dats v m ρ 0 c).Φ 0 := by
  rw [prefHeld_eq, scopedRest0_eq, show (dats v m ρ 0 c).Φ 0 = Phi v m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s h; exact absurd h (Nat.succ_ne_zero _)
  isplitl [HS1]
  · iexists a1; isplitr; swap
    · iexact HS1
    · ipureintro; intro s h; exact absurd h (Nat.succ_ne_zero _)
  isplitl [HT0]
  · iexact HT0
  iexact HT1

theorem phiN_exit (c : Dev nD) : (dats v m ρ 0 c).Φ (Fin.last (cfgA v).N) ⊢ iprop(BI.emp ∗ Pipeline.scopedRest spec0 c) := by
  rw [scopedRest0_eq, show (dats v m ρ 0 c).Φ (Fin.last (cfgA v).N) = Phi v m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What a run ends with: every array as the library computes it, the tables as they were. -/
def QC : PUnit × MemSt nD τ sig (Elt Bits) → Prop := fun r =>
  ∀ c : Dev nD, (∀ w : Fin (cfgA v).W, r.2.mem (((cfgA v).win w).arr.view.loc (c : Thread nD τ)) = (dats v m ρ 0 c).arrAt w (cfgA v).N)
    ∧ ∀ j, r.2.mem ((c : Thread nD τ).loc (pre0.ref j)) = (adm v).1 j

theorem V_pre (hp : Pinned v m) (c : Dev nD) (j : Fin 2) : m ((c : Thread nD τ).loc (pre0.ref j)) = (adm v).1 j := by
  fin_cases j
  · exact hp.1 c
  · exact hp.2 c

set_option backward.isDefEq.respectTransparency.types false in
set_option maxHeartbeats 4000000 in
/-- From a memory that holds such tables every run ends, each array as computed, each counter at zero. -/
theorem run_main_quiescent (hp : Pinned v m) : θ_run (defs (F := Bits)) (onTc (τ := τ) (main (F := Bits))) (s₀ m ρ) (fun r => QC v m ρ r ∧ r.2.sem = fun _ => 0) :=
  Pipeline.θ_run_region_noSem_pf_quiescent pcfgs (fun _ => adm v) (dats v m ρ) () ((launch0 (F := Bits)).cellOf_inj fun _ => adm v) (0 : Fin 1)
    (launch0 (F := Bits)).win.to₀ (launch0 (F := Bits)).pre EPm defs₀ Variants.none m ρ main
    (hbody := fun c => (body_obligation v m ρ c).loose) (hne := (launch0 (F := Bits)).block_pos)
    (harr := (launch0 (F := Bits)).arr_whole) (hstage := (launch0 (F := Bits)).stage_whole) (howed := fun _ _ => rfl)
    (u₀ := u₀ v) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs v) (dats v m ρ) 0 (launch0 (F := Bits)).win.arr_inj c (launch0 (F := Bits)).arr_whole
      (share_eq v m ρ c) _ _ fun _ => rfl)
    (hpf := V_pre v m hp)
    (X := fun _ => iprop(emp)) (Y := fun _ => iprop(emp)) (Z := fun _ => iprop(emp))
    (hX := fun c => by rw [unscopedRestP0_eq]; iintro -; isplitr <;> iempintro)
    (hin := phi0_intro v m ρ)
    (hout := phiN_exit v m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned v m) : θ_run (defs (F := Bits)) (onTc (τ := τ) (main (F := Bits))) (s₀ m ρ) (QC v m ρ) :=
  (θ_run defs _ _).mono (fun _ h => h.1) (run_main_quiescent v m ρ hp)

theorem kept (hp : Pinned v m) (r : PUnit × MemSt nD τ sig (Elt Bits)) (h : QC v m ρ r) (c : Dev nD) :
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  ⟨((h c).2 0).trans (hp.1 c).symm, ((h c).2 1).trans (hp.2 c).symm, ((h c).1 (0 : Fin 4)).trans ((dats v m ρ 0 c).arrAt_in (0 : Fin 4) rfl _), ((h c).1 (1 : Fin 4)).trans ((dats v m ρ 0 c).arrAt_in (1 : Fin 4) rfl _), ((h c).1 (2 : Fin 4)).trans ((dats v m ρ 0 c).arrAt_in (2 : Fin 4) rfl _)⟩

/-- The arguments end unchanged and every counter at zero. -/
theorem frame (hp : Pinned v m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun r h => ⟨fun c => kept v m ρ hp r h.1 c, h.2⟩) (run_main_quiescent v m ρ hp)

end Cert.Kernel2.Moe
end
-- ==== Proof.Moe2Claim.lean ====
/- The claims about the gated projection of the routed experts. -/
module

public import proofs.«01_k».proof.Defs
public import proofs.«01_k».proof.Proof.Gen.Pre_tables2
public import proofs.«01_k».proof.Proof.Moe2Val
public import proofs.«01_k».proof.Proof.Moe2B
public import Idealize.ShloMosaic.Lib.ReduceAll
public import Idealize.ShloMosaic.Lib.Pointwise
public import Idealize.ShloMosaic.Lib.Pipeline.ValueKit
public import Idealize.ShloMosaic.Adequacy
public import Idealize.ShloMosaic.Init

@[expose] public section

set_option maxRecDepth 16384
set_option maxHeartbeats 1000000

noncomputable section

namespace Cert.Proof.Moe2

open Idealize.ShloMosaic Idealize.ShloMosaic.TcCoe Idealize.SL.Sem

/-- A word that is not negative and below eight, read as a number. -/
theorem word_lt (w : BitVec 32) (h0 : BitVec.ofBool ((0#32).sle w) = 1#1) (h1 : BitVec.ofBool (w.slt 8#32) = 1#1) : w.toNat < 8 := by
  have ob : ∀ b : Bool, BitVec.ofBool b = 1#1 → b = true := by decide
  have a := ob _ h0
  have b := ob _ h1
  rw [BitVec.sle_iff_toInt_le] at a
  rw [BitVec.slt_iff_toInt_lt] at b
  have z : (0#32).toInt = 0 := by decide
  have e : (8#32).toInt = 8 := by decide
  rw [z] at a
  rw [e] at b
  have hl := w.isLt
  rw [BitVec.toInt_eq_toNat_cond] at a b
  split at a <;> split at b <;> omega

theorem word_pos (w : BitVec 32) (h : BitVec.ofBool ((1#32).sle w) = 1#1) : 1 ≤ w.toInt := by
  have ob : ∀ b : Bool, BitVec.ofBool b = 1#1 → b = true := by decide
  have a := ob _ h
  rw [BitVec.sle_iff_toInt_le] at a
  have z : (1#32).toInt = 1 := by decide
  rwa [z] at a

/-- The precondition, read: every table entry names an expert and at least one tile holds rows. -/
theorem decode {F : FTy → Type} [FloatOps F] (e : IVec Cert.Pre_tables2.S73 32) (n : IVec Cert.Pre_tables2.S1 32) (x : FVec F Cert.Pre_tables2.S37376x2048 .bf16) (w0 : FVec F Cert.Pre_tables2.S1x8x2048x7168 .f32) (w1 : FVec F Cert.Pre_tables2.S1x8x2048x7168 .f32)
    (h : Cert.Pre_tables2.fn (F := F) e n x w0 w1 = fun _ => 1#1) : (∀ i, (e i).toNat < 8) ∧ ∀ i, 1 ≤ (n i).toInt := by
  have key := congrFun h ix0
  dsimp only [Cert.Pre_tables2.fn] at key
  have an : ∀ a b : BitVec 1, IntOp.andi a b = 1#1 → a = 1#1 ∧ b = 1#1 := by decide
  obtain ⟨k1, k2⟩ := an _ _ key
  refine ⟨fun i => ?_, fun i => ?_⟩
  · have el := Host.reduce_andi_all _ _ _ _ _ k1 i
    obtain ⟨l0, l1⟩ := an _ _ el
    exact word_lt _ l0 l1
  · exact word_pos _ (Host.reduce_andi_all _ _ _ _ _ k2 i)

/-- The launch's tables. -/
def tabB (m : (ℓ : Loc Cert.Kernel2.nD Cert.Kernel2.τ Cert.Kernel2.sig) → Buf (Elt Bits) ℓ) (h : Cert.Pre_Kernel2 m) : Cert.Kernel2.Moe.Tab where
  e := (m (((0 : Dev Cert.Kernel2.nD).tc : Thread Cert.Kernel2.nD Cert.Kernel2.τ).loc Cert.Kernel2.main_arg0))
  n := (m (((0 : Dev Cert.Kernel2.nD).tc : Thread Cert.Kernel2.nD Cert.Kernel2.τ).loc Cert.Kernel2.main_arg1))
  he := (decode _ _ _ _ _ (h 0)).1
  hn := (decode _ _ _ _ _ (h 0)).2

theorem pinnedB (m : (ℓ : Loc Cert.Kernel2.nD Cert.Kernel2.τ Cert.Kernel2.sig) → Buf (Elt Bits) ℓ) (h : Cert.Pre_Kernel2 m) : Cert.Kernel2.Moe.Pinned (tabB m h) m :=
  ⟨fun c => by obtain rfl : c = 0 := Subsingleton.elim _ _; rfl, fun c => by obtain rfl : c = 0 := Subsingleton.elim _ _; rfl⟩

/-- The kernel runs and leaves its arguments. -/
theorem frameB : Cert.quiescent_Kernel2 := fun m ρ h => Cert.Kernel2.Moe.frame (tabB m h) m ρ (pinnedB m h)

/-- The launch's tables, over the reals. -/
def tabI (m : (ℓ : Loc Cert.Kernel2Ideal.nD Cert.Kernel2Ideal.τ Cert.Kernel2Ideal.sig) → Buf (Elt Ideal) ℓ) (h : Cert.Pre_Kernel2Ideal m) : Cert.Kernel2Ideal.Moe.Tab where
  e := (m (((0 : Dev Cert.Kernel2Ideal.nD).tc : Thread Cert.Kernel2Ideal.nD Cert.Kernel2Ideal.τ).loc Cert.Kernel2Ideal.main_arg0))
  n := (m (((0 : Dev Cert.Kernel2Ideal.nD).tc : Thread Cert.Kernel2Ideal.nD Cert.Kernel2Ideal.τ).loc Cert.Kernel2Ideal.main_arg1))
  he := (decode _ _ _ _ _ (h 0)).1
  hn := (decode _ _ _ _ _ (h 0)).2

theorem pinnedI (m : (ℓ : Loc Cert.Kernel2Ideal.nD Cert.Kernel2Ideal.τ Cert.Kernel2Ideal.sig) → Buf (Elt Ideal) ℓ) (h : Cert.Pre_Kernel2Ideal m) : Cert.Kernel2Ideal.Moe.Pinned (tabI m h) m :=
  ⟨fun c => by obtain rfl : c = 0 := Subsingleton.elim _ _; rfl, fun c => by obtain rfl : c = 0 := Subsingleton.elim _ _; rfl⟩

/-- The kernel runs and leaves its arguments. -/
theorem frameI : Cert.quiescent_Kernel2Ideal := fun m ρ h => Cert.Kernel2Ideal.Moe.frame (tabI m h) m ρ (pinnedI m h)

/-- The reference runs and leaves its arguments; it declares no semaphore. -/
theorem frameR : Cert.quiescent_Reference2Ideal := fun m ρ _ =>
  (θ_run Cert.Reference2Ideal.defs _ _).mono (fun r q => ⟨fun c => (q c).2, sem_eq_zero_of_no_sems (by decide) r.2⟩)
    (Cert.Reference2Ideal.Value.run (F := Ideal) m ρ)

/-- The two programs end with equal results. -/
theorem value : Cert.algebraic_Kernel2Ideal_Reference2Ideal := by
  intro m g m' g' hpre hagree
  have hp := pinnedI m hpre
  refine ⟨fun c => ((Cert.Kernel2Ideal.Moe.dats (tabI m hpre) m g 0 c).arrAt (3 : Fin 4) (Cert.Kernel2Ideal.Moe.cfgA (tabI m hpre)).N), ?_, ?_⟩
  · exact (θ_run Cert.Kernel2Ideal.defs _ _).mono (fun r h c => ⟨(h c).1 (3 : Fin 4), Cert.Kernel2Ideal.Moe.kept (tabI m hpre) m g hp r h c⟩)
      (Cert.Kernel2Ideal.Moe.run_main (tabI m hpre) m g hp)
  · refine (θ_run Cert.Reference2Ideal.defs _ _).mono (fun r h c => ⟨(h c).1.trans ?_, (h c).2⟩) (Cert.Reference2Ideal.Value.run (F := Ideal) m' g')
    obtain rfl : c = 0 := Subsingleton.elim _ _
    refine Eq.trans ?_ (Cert.Kernel2Ideal.Moe.final (tabI m hpre) m g 0).symm
    refine Eq.trans (b := Cert.Reference2Ideal.Moe.chain (m' (((0 : Dev Cert.Reference2Ideal.nD).tc : Thread Cert.Reference2Ideal.nD Cert.Reference2Ideal.τ).loc Cert.Reference2Ideal.main_arg0)) (m' (((0 : Dev Cert.Reference2Ideal.nD).tc : Thread Cert.Reference2Ideal.nD Cert.Reference2Ideal.τ).loc Cert.Reference2Ideal.main_arg1)) (m' (((0 : Dev Cert.Reference2Ideal.nD).tc : Thread Cert.Reference2Ideal.nD Cert.Reference2Ideal.τ).loc Cert.Reference2Ideal.main_arg2)) (m' (((0 : Dev Cert.Reference2Ideal.nD).tc : Thread Cert.Reference2Ideal.nD Cert.Reference2Ideal.τ).loc Cert.Reference2Ideal.main_arg3)) (m' (((0 : Dev Cert.Reference2Ideal.nD).tc : Thread Cert.Reference2Ideal.nD Cert.Reference2Ideal.τ).loc Cert.Reference2Ideal.main_arg4))) rfl ?_
    rw [(hagree 0).1, (hagree 0).2.1, (hagree 0).2.2.1, (hagree 0).2.2.2.1, (hagree 0).2.2.2.2]
    funext i
    refine (congrArg _ (eq_ix2 i)).trans ?_
    exact Cert.Reference2Ideal.Moe.chain_at _ _ _ _ _ (tabI m hpre).he (i 0) (i 1)

end Cert.Proof.Moe2

end
-- ==== Proof.Moe3ITab.lean ====
module

public import proofs.«01_k».proof.Proof.Gen.Kernel3Ideal.Flash.Runs
public import proofs.«01_k».proof.Proof.Gen.Kernel3Ideal.Launch
public import Idealize.ShloMosaic.Lib.Affine
public import Idealize.ShloMosaic.PureOps.Ideal

@[expose] public section
set_option maxRecDepth 16384
noncomputable section
namespace Cert.Kernel3Ideal.Moe
open Cert.Kernel3Ideal Cert.Kernel3Ideal.Gen
open Idealize.ShloMosaic
open Idealize.ShloMosaic.TcCoe Idealize.ShloMosaic.Tactic

/-- The two tables the kernel steers by: the expert of each tile, and how many tiles hold rows. -/
structure Tab where
  e : S73.Idx → BitVec 32
  n : S1.Idx → BitVec 32
  he : ∀ x, (e x).toNat < 8
  hn : ∀ x, 1 ≤ (n x).toInt

/-- The tables as the launch hands them over. -/
def pf (v : Tab) : pre0.Contents (Elt Ideal) := fun | ⟨0, _⟩ => v.e | ⟨1, _⟩ => v.n | ⟨_ + 2, h⟩ => absurd h (by simp)

/-- The tile of a grid point. -/
def cur (i : grid0.Coords) : S73.Idx := fun a => ⟨(i 1).val, by revert a; rw [Fin.forall_fin_one]; exact (i 1).isLt⟩
/-- The tile before it, the first tile its own. -/
def prv (i : grid0.Coords) : S73.Idx := fun a => ⟨(i 1).val - 1, by revert a; rw [Fin.forall_fin_one]; exact Nat.lt_of_le_of_lt (Nat.sub_le _ _) (i 1).isLt⟩
/-- The one place of the second table. -/
abbrev zz : S1.Idx := Shape.Idx.first (numel1_S1.symm ▸ Nat.one_pos)

theorem off1_eq (i : grid0.Coords) : k0_off1 i = ![(i 1).val] := by
  have h : ∀ n : Fin 73, k0_off1 (fun | 0 => (0 : Fin 4) | 1 => n) = ![n.val] := by decide +kernel
  exact h (i 1)

theorem off2_eq (i : grid0.Coords) : k0_off2 i = ![(i 1).val - 1] := by
  have h : ∀ n : Fin 73, k0_off2 (fun | 0 => (0 : Fin 4) | 1 => n) = ![n.val - 1] := by decide +kernel
  exact h (i 1)

theorem emb_cur (i : grid0.Coords) (h : 0 < S1.numel) : (Rect.unit (s := S73) (k0_off1 i) S1.size (k0_off1_inb i)).emb (Shape.Idx.first h) = cur i := by
  funext a; apply Fin.ext; revert a; rw [Fin.forall_fin_one]
  show k0_off1 i 0 + 1 * 0 = (i 1).val
  rw [off1_eq]; rfl

theorem emb_prv (i : grid0.Coords) (h : 0 < S1.numel) : (Rect.unit (s := S73) (k0_off2 i) S1.size (k0_off2_inb i)).emb (Shape.Idx.first h) = prv i := by
  funext a; apply Fin.ext; revert a; rw [Fin.forall_fin_one]
  show k0_off2 i 0 + 1 * 0 = (i 1).val - 1
  rw [off2_eq]; rfl

/-- The word the body reads for its own tile. -/
theorem rd1 (i : grid0.Coords) (T : S73.Idx → Elt Ideal .i32) (h : 0 < S1.numel) : View.readAt (Elt Ideal) (tbM0_0).view (Rect.unit (s := S73) (k0_off1 i) S1.size (k0_off1_inb i)).toLoadRect T (Shape.Idx.first h) = T (cur i) :=
  (show _ = T ((Rect.unit (s := S73) (k0_off1 i) S1.size (k0_off1_inb i)).emb (Shape.Idx.first h)) from rfl).trans (congrArg T (emb_cur i h))

/-- The word the body reads for the tile before. -/
theorem rd2 (i : grid0.Coords) (T : S73.Idx → Elt Ideal .i32) (h : 0 < S1.numel) : View.readAt (Elt Ideal) (tbM0_0).view (Rect.unit (s := S73) (k0_off2 i) S1.size (k0_off2_inb i)).toLoadRect T (Shape.Idx.first h) = T (prv i) :=
  (show _ = T ((Rect.unit (s := S73) (k0_off2 i) S1.size (k0_off2_inb i)).emb (Shape.Idx.first h)) from rfl).trans (congrArg T (emb_prv i h))

theorem first_zz (x : S1.Idx) : x = zz := by
  funext a; revert a; rw [Fin.forall_fin_one]; exact Subsingleton.elim (α := Fin 1) _ _

/-- The word the body reads for the number of tiles. -/
theorem rdn (T : S1.Idx → Elt Ideal .i32) (h : 0 < S1.numel) : View.readAt (Elt Ideal) (tbM0_1).view (Rect.unit (s := S1) ![0] S1.size inb_S1_S1_0).toLoadRect T (Shape.Idx.first h) = T zz :=
  congrArg T (first_zz _)

/-- Whether the point starts a new tile of weights: the first tile, or another expert than the tile before. -/
abbrev Q0 (i : grid0.Coords) (a b : BitVec 32) : Prop :=
  Scalar.cmpi .ne (Scalar.extui (Scalar.ori (Scalar.cmpi .eq (BitVec.ofNat 32 (i 1).val) 0#32) (Scalar.cmpi .ne a b))) 0#32 = (1#1 : BitVec 1)

theorem not_Q0 {i : grid0.Coords} {a b : BitVec 32} (h : ¬ Q0 i a b) : (i 1).val ≠ 0 ∧ a = b := by
  refine ⟨fun h0 => h ?_, by_contra fun hab => h ?_⟩
  · unfold Q0; rw [h0]
    have : ∀ c : BitVec 1, Scalar.cmpi .ne (Scalar.extui (Scalar.ori (Scalar.cmpi .eq (BitVec.ofNat 32 0) 0#32) c) : BitVec 32) 0#32 = (1#1 : BitVec 1) := by decide
    exact this _
  · unfold Q0
    have e : Scalar.cmpi .ne a b = 1#1 := by
      have hb : (a != b) = true := bne_iff_ne.mpr hab
      show BitVec.ofBool (a != b) = 1#1
      rw [hb]; rfl
    rw [e]
    have : ∀ c : BitVec 1, Scalar.cmpi .ne (Scalar.extui (Scalar.ori c 1#1) : BitVec 32) 0#32 = (1#1 : BitVec 1) := by decide
    exact this _

theorem cond23 (i : grid0.Coords) (w : BitVec 32) : k0_cond3 i w = 1#1 ↔ ¬ k0_cond2 i w = 1#1 := by
  unfold k0_cond3 k0_cond2
  have : ∀ c : BitVec 1, Scalar.cmpi .ne (Scalar.extui (Scalar.xori c 1#1) : BitVec 32) 0#32 = (1#1 : BitVec 1) ↔ ¬ Scalar.cmpi .ne (Scalar.extui c : BitVec 32) 0#32 = (1#1 : BitVec 1) := by decide
  exact this _

theorem min_word (n : ℕ) (hn : n < 73) (w : BitVec 32) (hw : 1 ≤ w.toInt) : (Scalar.minsi (BitVec.ofNat 32 n) (Scalar.subi w 1#32)).toNat = min n (w.toInt.toNat - 1) := by
  have h1 : w.toNat < 2147483648 ∧ w.toInt = w.toNat := by
    have := w.isLt
    rw [BitVec.toInt_eq_toNat_cond] at hw ⊢
    by_cases h : 2 * w.toNat < 2 ^ 32
    · rw [if_pos h] at hw ⊢; omega
    · rw [if_neg h] at hw; omega
  have h2 : (w - 1#32).toNat = w.toNat - 1 := by
    rw [BitVec.toNat_sub]; have : (1#32).toNat = 1 := rfl
    rw [this]; omega
  have h3 : (w - 1#32).toInt = w.toNat - 1 := by
    rw [BitVec.toInt_eq_toNat_cond, h2, if_pos (by omega)]; omega
  have h4 : (BitVec.ofNat 32 n).toNat = n := by rw [BitVec.toNat_ofNat]; omega
  have h5 : (BitVec.ofNat 32 n).toInt = n := by rw [BitVec.toInt_eq_toNat_cond, h4, if_pos (by omega)]
  show (if (BitVec.ofNat 32 n).slt (w - 1#32) then BitVec.ofNat 32 n else w - 1#32).toNat = _
  rw [h1.2]
  by_cases h : (BitVec.ofNat 32 n).slt (w - 1#32) = true
  · rw [if_pos h, h4]; rw [BitVec.slt_iff_toInt_lt, h5, h3] at h; omega
  · rw [if_neg h, h2]; rw [BitVec.slt_iff_toInt_lt, h5, h3] at h; omega

/-- The block index of the rows: the tile, the last one that holds rows after it. -/
theorem tr0 (v : Tab) (i : grid0.Coords) : cc0_transform_0 inb_S1_S1_0 numel1_S1 (pf v) i = ![min (i 1).val ((v.n zz).toInt.toNat - 1), 0] := by
  have hn := v.hn zz
  have e : (pf v).at 1 (Rect.unit (s := S1) ![0] S1.size inb_S1_S1_0) numel1_S1 = v.n zz := congrArg v.n (first_zz _)
  have h : cc0_transform_0 inb_S1_S1_0 numel1_S1 (pf v) i = ![(Scalar.minsi (BitVec.ofNat 32 (i 1).val) (Scalar.subi (Scalar.muli ((pf v).at 1 (Rect.unit (s := S1) ![0] S1.size inb_S1_S1_0) numel1_S1) 1#32) 1#32)).toNat, 0] := rfl
  rw [h, e, show Scalar.muli (v.n zz) 1#32 = v.n zz from BitVec.mul_one _, min_word _ (i 1).isLt _ hn]

/-- The block index of the weights: the tile's expert, the column block. -/
theorem tr1 (v : Tab) (i : grid0.Coords) : cc0_transform_1 k0_off1_inb numel1_S1 (pf v) i = ![0, (v.e (cur i)).toNat, 0, (i 0).val] := by
  have e : (pf v).at 0 (Rect.unit (s := S73) (k0_off1 i) S1.size (k0_off1_inb i)) numel1_S1 = v.e (cur i) := congrArg v.e (emb_cur i _)
  have h : cc0_transform_1 k0_off1_inb numel1_S1 (pf v) i = ![0, ((pf v).at 0 (Rect.unit (s := S73) (k0_off1 i) S1.size (k0_off1_inb i)) numel1_S1).toNat, 0, (BitVec.ofNat 32 (i 0).val).toNat] := rfl
  rw [h, e, BitVec.toNat_ofNat, Nat.mod_eq_of_lt (lt_trans (i 0).isLt (by decide))]

/-- The block index of the result. -/
theorem tr2 (i : grid0.Coords) : cc0_transform_2 i = ![(i 1).val, (i 0).val] := by
  have h : cc0_transform_2 i = ![(BitVec.ofNat 32 (i 1).val).toNat, (BitVec.ofNat 32 (i 0).val).toNat] := rfl
  rw [h, BitVec.toNat_ofNat, BitVec.toNat_ofNat, Nat.mod_eq_of_lt (lt_trans (i 0).isLt (by decide)), Nat.mod_eq_of_lt (lt_trans (i 1).isLt (by decide))]

/-- At such tables every block lies inside its array. -/
theorem ok (v : Tab) : ok0 (pf v) := by
  refine ⟨?_, ?_⟩
  · intro i
    refine ⟨fun a => ?_, .inr (Affine.block_words_dvd (s := S37376x7168) (p := EltTy.packing .bf16) (by decide) (by decide))⟩
    rw [tr0 v i]
    revert a; rw [Fin.forall_fin_succ, Fin.forall_fin_one]
    refine ⟨?_, by show (0 + 1) * _ ≤ _; decide⟩
    show (min (i 1).val ((v.n zz).toInt.toNat - 1) + 1) * 512 ≤ 37376
    have : (i 1).val < 73 := (i 1).isLt
    omega
  · intro i
    refine ⟨fun a => ?_, .inl rfl⟩
    rw [tr1 v i]
    have := v.he (cur i); have h0 := (i 0).isLt
    revert a; rw [Fin.forall_fin_succ, Fin.forall_fin_succ, Fin.forall_fin_succ, Fin.forall_fin_one]
    refine ⟨by show (0 + 1) * _ ≤ _; decide, ?_, by show (0 + 1) * _ ≤ _; decide, ?_⟩
    · show ((v.e (cur i)).toNat + 1) * 1 ≤ 8; omega
    · show ((i 0).val + 1) * 512 ≤ 2048; have : (i 0).val < 4 := h0; omega

/-- The admissible contents. -/
def adm (v : Tab) : (pcfg0 (F := Ideal)).Adm := ⟨pf v, ok v⟩
abbrev cfgA (v : Tab) : Pipeline.Cfg sig Λ₀ := cfg0 (F := Ideal) (adm v)
abbrev pcs (v : Tab) : Fin 1 → Pipeline.Cfg sig Λ₀ := Pipeline.pin (pcfgs (F := Ideal)) fun _ => adm v

/-- A point's coordinates. -/
abbrev crd (v : Tab) (t : Fin (cfgA v).N) : (cfgA v).grid.Coords := (cfgA v).grid.coords t

theorem crd_all : ∀ t : Fin grid0.N, (grid0.coords t 1).val = t.val % 73 ∧ (grid0.coords t 0).val = t.val / 73 := by decide +kernel

end Cert.Kernel3Ideal.Moe
end
-- ==== Proof.Moe3IRun.lean ====
module

public import proofs.«01_k».proof.Proof.Moe3ITab
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section
set_option maxRecDepth 16384
set_option Elab.async false
noncomputable section
namespace Cert.Kernel3Ideal.Moe
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resources of the staging cells. -/
abbrev EPm : Emb (UR sig nD τ) 𝕄 := emb₁

/-- A store of a whole block, read back. -/
theorem read_store {sp : Space} {s : Shape} {e : EltTy} (w : View sig .tc sp s e) (f : w.ty.Contents (Elt Ideal)) {off : Fin s.rank → ℕ} (h : off = fun _ => 0)
    (inb : ∀ a, off a + s.size a ≤ s.size a) (x : s.Idx → Elt Ideal e) :
    w.read (Elt Ideal) (w.writes (Elt Ideal) f [⟨Rect.unit off s.size inb, x⟩]) = x := by
  subst h; exact View.read_writes_whole w f x

theorem congr3 {A B C D : Type} {f : A → B → C → D} {a a' : A} {b b' : B} {c c' : C} (ha : a = a') (hb : b = b') (hc : c = c') : f a b c = f a' b' c' := by subst ha hb hc; rfl
theorem congr2 {A B D : Type} {f : A → B → D} {a a' : A} {b b' : B} (ha : a = a') (hb : b = b') : f a b = f a' b' := by subst ha hb; rfl

/-- A store of a whole buffer leaves its payload. -/
theorem whole_store (b : Ref sig .tc) (f w : b.ty.Contents (Elt Ideal)) {off : Fin b.ty.shape.rank → ℕ} (h : off = fun _ => 0)
    (inb : ∀ a, off a + b.ty.shape.size a ≤ b.ty.shape.size a) :
    (View.whole b).writes (Elt Ideal) f [⟨Rect.unit off b.ty.shape.size inb, w⟩] = w := by
  have e := read_store (View.whole b) f h inb w
  exact (show _ = (View.whole b).read (Elt Ideal) _ from rfl).trans e

theorem out_A (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Ideal .i32)) (T1 : (S1.Idx → Elt Ideal .i32)) (x0 : (S512x7168.Idx → Elt Ideal .bf16)) (x1 : (S1x1x7168x512.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1))
    (f : arg6.view.ty.Contents (Elt Ideal)) : arg6.view.read (Elt Ideal) (arg6.view.writes (Elt Ideal) f (kernelRun0_A c i arg4 harg4 arg5 harg5 arg6 harg6 T0 T1 x0 x1 hc0 k0_h2 k0_h3).1) = (k0_pay2 x0 (k0_pay1 x1)) := by
  dsimp only [kernelRun0_A]
  unfold kernelRun0_A.sl.HO2_1
  refine (read_store _ _ (by decide) _ _).trans ?_
  unfold kernelRun0_A.sl.v54
  unfold kernelRun0_A.sl.HS0_1
  exact congr2 (View.readAt_rep_full _ _ _) ((View.readCov_unit_zero scM0_0.view (by decide) _ _).trans (congrArg k0_pay1 (View.readAt_rep_full _ _ _)))

theorem sc0_A (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Ideal .i32)) (T1 : (S1.Idx → Elt Ideal .i32)) (x0 : (S512x7168.Idx → Elt Ideal .bf16)) (x1 : (S1x1x7168x512.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 T0 T1 x0 x1 hc0 k0_h2 k0_h3).2.1 = (k0_pay1 x1) := by
  dsimp only [kernelRun0_A]
  unfold kernelRun0_A.sl.HS0_1
  refine (whole_store cc0_scratch0 _ _ (by decide) _).trans ?_
  exact congrArg k0_pay1 (View.readAt_rep_full _ _ _)

theorem out_B (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Ideal .i32)) (T1 : (S1.Idx → Elt Ideal .i32)) (x0 : (S512x7168.Idx → Elt Ideal .bf16)) (x1 : (S1x1x7168x512.Idx → Elt Ideal .f32)) (xa0 : Buf (Elt Ideal) ((c : Thread nD τ).loc cc0_scratch0)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1))
    (f : arg6.view.ty.Contents (Elt Ideal)) : arg6.view.read (Elt Ideal) (arg6.view.writes (Elt Ideal) f (kernelRun0_B c i arg4 harg4 arg5 harg5 arg6 harg6 T0 T1 x0 x1 xa0 hc0 k0_h2 k0_h3).1) = (k0_pay2 x0 xa0) := by
  dsimp only [kernelRun0_B]
  unfold kernelRun0_B.sl.HO2_1
  refine (read_store _ _ (by decide) _ _).trans ?_
  exact congr2 (View.readAt_rep_full _ _ _) (Memref.readAt_unit_zero _ cc0_scratch0 (by decide) _ _)

theorem sc0_B (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Ideal .i32)) (T1 : (S1.Idx → Elt Ideal .i32)) (x0 : (S512x7168.Idx → Elt Ideal .bf16)) (x1 : (S1x1x7168x512.Idx → Elt Ideal .f32)) (xa0 : Buf (Elt Ideal) ((c : Thread nD τ).loc cc0_scratch0)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 T0 T1 x0 x1 xa0 hc0 k0_h2 k0_h3).2.1 = xa0 := by
  dsimp only [kernelRun0_B]

theorem out_C (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Ideal .i32)) (T1 : (S1.Idx → Elt Ideal .i32)) (x0 : (S512x7168.Idx → Elt Ideal .bf16)) (x1 : (S1x1x7168x512.Idx → Elt Ideal .f32)) (xa0 : Buf (Elt Ideal) ((c : Thread nD τ).loc cc0_scratch0)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1)
    (f : arg6.view.ty.Contents (Elt Ideal)) : arg6.view.read (Elt Ideal) (arg6.view.writes (Elt Ideal) f (kernelRun0_C c i arg4 harg4 arg5 harg5 arg6 harg6 T0 T1 x0 x1 xa0 hc0 k0_h2 k0_h3).1) = k0_pay3 (F := Ideal) := by
  dsimp only [kernelRun0_C]
  unfold kernelRun0_C.sl.HO2_1
  refine (read_store _ _ (by decide) _ _).trans ?_
  rfl

theorem sc0_C (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Ideal .i32)) (T1 : (S1.Idx → Elt Ideal .i32)) (x0 : (S512x7168.Idx → Elt Ideal .bf16)) (x1 : (S1x1x7168x512.Idx → Elt Ideal .f32)) (xa0 : Buf (Elt Ideal) ((c : Thread nD τ).loc cc0_scratch0)) (hc0 : ¬((Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1) : (kernelRun0_C c i arg4 harg4 arg5 harg5 arg6 harg6 T0 T1 x0 x1 xa0 hc0 k0_h2 k0_h3).2.1 = xa0 := by
  dsimp only [kernelRun0_C]

theorem out_D (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Ideal .i32)) (T1 : (S1.Idx → Elt Ideal .i32)) (x0 : (S512x7168.Idx → Elt Ideal .bf16)) (x1 : (S1x1x7168x512.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1)
    (f : arg6.view.ty.Contents (Elt Ideal)) : arg6.view.read (Elt Ideal) (arg6.view.writes (Elt Ideal) f (kernelRun0_D c i arg4 harg4 arg5 harg5 arg6 harg6 T0 T1 x0 x1 hc0 k0_h2 k0_h3).1) = k0_pay3 (F := Ideal) := by
  dsimp only [kernelRun0_D]
  unfold kernelRun0_D.sl.HO2_1
  refine (read_store _ _ (by decide) _ _).trans ?_
  rfl

theorem sc0_D (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Ideal .i32)) (T1 : (S1.Idx → Elt Ideal .i32)) (x0 : (S512x7168.Idx → Elt Ideal .bf16)) (x1 : (S1x1x7168x512.Idx → Elt Ideal .f32)) (hc0 : (Scalar.cmpi .ne (Scalar.extui (Scalar.ori (Scalar.cmpi .eq (BitVec.ofNat 32 (i 1).val) 0#32) (Scalar.cmpi .ne (View.readAt (Elt Ideal) (tbM0_0).view (Rect.unit (s := S73) (k0_off1 i) S1.size (k0_off1_inb i)).toLoadRect T0 (Shape.Idx.first (numel1_S1.symm ▸ Nat.one_pos))) (View.readAt (Elt Ideal) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1) : (kernelRun0_D c i arg4 harg4 arg5 harg5 arg6 harg6 T0 T1 x0 x1 hc0 k0_h2 k0_h3).2.1 = (k0_pay1 x1) := by
  dsimp only [kernelRun0_D]
  unfold kernelRun0_D.sl.HS0_1
  refine (whole_store cc0_scratch0 _ _ (by decide) _).trans ?_
  exact congrArg k0_pay1 (View.readAt_rep_full _ _ _)

end Cert.Kernel3Ideal.Moe
end
-- ==== Proof.Moe3I.lean ====
module

public import proofs.«01_k».proof.Proof.Moe3IRun
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section
set_option maxRecDepth 16384
set_option Elab.async false
noncomputable section
namespace Cert.Kernel3Ideal.Moe
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (v : Tab) (m : (ℓ : Loc nD τ sig) → Buf (Elt Ideal) ℓ) (ρ : Dev nD → PrngReg)

abbrev ms0_0 (t : Fin (cfgA v).N) : Memref sig .tc .vmem S512x7168 .bf16 := spec0_0.stage ((cfgA v).slots t (0 : Fin 3))
abbrev hs0_0 (t : Fin (cfgA v).N) : (ms0_0 v t).IsWhole := hstage0_0 (((cfgA v).slots t (0 : Fin 3)).cast nbuf0_0)
abbrev ms0_1 (t : Fin (cfgA v).N) : Memref sig .tc .vmem S1x1x7168x512 .f32 := spec0_1.stage ((cfgA v).slots t (1 : Fin 3))
abbrev hs0_1 (t : Fin (cfgA v).N) : (ms0_1 v t).IsWhole := hstage0_1 (((cfgA v).slots t (1 : Fin 3)).cast nbuf0_1)
abbrev ms0_2 (t : Fin (cfgA v).N) : Memref sig .tc .vmem S512x512 .f32 := spec0_2.stage ((cfgA v).slots t (2 : Fin 3))
abbrev hs0_2 (t : Fin (cfgA v).N) : (ms0_2 v t).IsWhole := hstage0_2 (((cfgA v).slots t (2 : Fin 3)).cast nbuf0_2)

/-- A window's block at a point, read off its array at launch. -/
def iblk (c : Dev nD) (w : Fin (cfgA v).W) (t : Fin (cfgA v).N) : (((cfgA v).win w).xblock (crd v t)).Idx → Elt Ideal ((cfgA v).win w).elt :=
  (((cfgA v).win w).blk t).view.read (Elt Ideal) ((s₀ m ρ).mem (((cfgA v).win w).arr.view.loc (c : Thread nD τ)))

/-- Whether the point's tile holds rows. -/
abbrev Q1 (t : Fin (cfgA v).N) : Prop := k0_cond2 (crd v t) (v.n zz) = 1#1

/-- What the point leaves in the result's block. -/
def outv (c : Dev nD) (t : Fin (cfgA v).N) : S512x512.Idx → Elt Ideal .f32 :=
  if Q1 v t then k0_pay2 (iblk v m ρ c (0 : Fin 3) t) (k0_pay1 (iblk v m ρ c (1 : Fin 3) t)) else k0_pay3 (F := Ideal)

/-- What the launch memory holds: the tables. -/
def Pinned : Prop :=
  (∀ c : Dev nD, m ((c : Thread nD τ).loc main_arg0) = v.e)
  ∧ (∀ c : Dev nD, m ((c : Thread nD τ).loc main_arg1) = v.n)

/-- No point leaves the result's block idle. -/
theorem idle_false (t : Fin (cfgA v).N) : (cfgA v).idle (2 : Fin 3) ((cfgA v).grid.coords t) = false := by
  have h : ∀ (i : grid0.Coords) (w : BitVec 32), (!(k0_cond2 i w == 1#1) && !(k0_cond3 i w == 1#1)) = false := fun i w => by
    by_cases h2 : k0_cond2 i w = 1#1
    · rw [h2]; rfl
    · rw [(cond23 i w).mpr h2]; exact Bool.and_false _
  exact h _ _

/-- An element of an array's block, where the array holds it. -/
theorem crd_of (t : Fin (cfgA v).N) : ((crd v t) 1).val = t.val % 73 ∧ ((crd v t) 0).val = t.val / 73 := crd_all t

/-- The words that steer the weights agree with the point before, where no new expert starts. -/
theorem prev_of (t : Fin (cfgA v).N) (h : ¬ Q0 (crd v t) (v.e (cur (crd v t))) (v.e (prv (crd v t)))) :
    t.val ≠ 0 ∧ ∀ s : Fin (cfgA v).N, s.val + 1 = t.val → ((crd v s) 0).val = ((crd v t) 0).val ∧ v.e (cur (crd v s)) = v.e (cur (crd v t)) := by
  obtain ⟨h1, h2⟩ := not_Q0 h
  have ht := crd_of v t
  refine ⟨fun h0 => h1 (by rw [ht.1, h0]), fun s hs => ?_⟩
  have hs' := crd_of v s
  rw [ht.1] at h1
  refine ⟨by rw [ht.2, hs'.2]; omega, ?_⟩
  rw [h2]
  congr 1
  funext a
  apply Fin.ext
  show ((crd v s) 1).val = ((crd v t) 1).val - 1
  rw [ht.1, hs'.1]; omega

/-- Equal steering words, equal weights. -/
theorem same1 (c : Dev nD) (s t : Fin (cfgA v).N) (h0 : ((crd v s) 0).val = ((crd v t) 0).val) (he : v.e (cur (crd v s)) = v.e (cur (crd v t))) :
    iblk v m ρ c (1 : Fin 3) s = iblk v m ρ c (1 : Fin 3) t := by
  have e : cc0_transform_1 k0_off1_inb numel1_S1 (pf v) (crd v s) = cc0_transform_1 k0_off1_inb numel1_S1 (pf v) (crd v t) := by
    rw [tr1, tr1, h0, he]
  funext y
  show m ((c : Thread nD τ).loc main_arg3) ((((cfgA v).win (1 : Fin 3)).rect s).emb y) = m ((c : Thread nD τ).loc main_arg3) ((((cfgA v).win (1 : Fin 3)).rect t).emb y)
  refine congrArg _ (funext fun a => Fin.ext ?_)
  show cc0_transform_1 k0_off1_inb numel1_S1 (pf v) (crd v s) a * S1x1x7168x512.size a + 1 * (y a).val = cc0_transform_1 k0_off1_inb numel1_S1 (pf v) (crd v t) a * S1x1x7168x512.size a + 1 * (y a).val
  rw [e]

/-- Before a point: each scratch holds the weights the point before used, and the tables are held. -/
def Phi (c : Dev nD) (t : Fin ((cfgA v).N + 1)) : sProp 𝕄 :=
  iprop((∃ a, ⌜∀ s : Fin (cfgA v).N, s.val + 1 = t.val → a = k0_pay1 (iblk v m ρ c (1 : Fin 3) s)⌝ ∗ (scM0_0.view.loc (c : Thread nD τ) ↦{fullShare} a)) ∗ (tbM0_0.view.loc (c : Thread nD τ) ↦{fullShare.right} v.e) ∗ (tbM0_1.view.loc (c : Thread nD τ) ↦{fullShare.right} v.n))

/-- The proof data of the pipeline. -/
def dats (_ : Fin 1) (c : Dev nD) : Dat τ (Elt Ideal) Unit ℕ (UR sig nD τ) ℕ (cfgA v) c where
  A w := (s₀ m ρ).mem (((cfgA v).win w).arr.view.loc (c : Thread nD τ))
  after w t := match w with
    | ⟨0, _⟩ => iblk v m ρ c (0 : Fin 3) t
    | ⟨1, _⟩ => iblk v m ρ c (1 : Fin 3) t
    | ⟨2, _⟩ => outv v m ρ c t
  Φ t := Phi v m ρ c t
  q _ := fullShare
  owed _ := 0

theorem after0_0 (c : Dev nD) (t : Fin (cfgA v).N) : (dats v m ρ 0 c).after (0 : Fin 3) t = iblk v m ρ c (0 : Fin 3) t := rfl
theorem after0_1 (c : Dev nD) (t : Fin (cfgA v).N) : (dats v m ρ 0 c).after (1 : Fin 3) t = iblk v m ρ c (1 : Fin 3) t := rfl
theorem after0_2 (c : Dev nD) (t : Fin (cfgA v).N) : (dats v m ρ 0 c).after (2 : Fin 3) t = outv v m ρ c t := rfl

theorem before0_0 (c : Dev nD) (t : Fin (cfgA v).N) (d) : (dats v m ρ 0 c).before (0 : Fin 3) t d = iblk v m ρ c (0 : Fin 3) t :=
  ((dats v m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA v).N) (d) : (dats v m ρ 0 c).before (1 : Fin 3) t d = iblk v m ρ c (1 : Fin 3) t :=
  ((dats v m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- The body at a point on its staging buffers. -/
abbrev bodyAt0 (t : Fin (cfgA v).N) : Prog (TpuEff nD τ sig (Elt Ideal) Λ₀ .tc) PUnit :=
  cc0_expert_down (crd v t) (Memref.whole main_arg0) (Memref.isWhole_whole _) (Memref.whole main_arg1) (Memref.isWhole_whole _) (ms0_0 v t) (hs0_0 v t) (ms0_1 v t) (hs0_1 v t) (ms0_2 v t) (hs0_2 v t) (Memref.whole cc0_scratch0) (Memref.isWhole_whole _)

set_option maxHeartbeats 4000000 in
/-- The body's obligation at a point, by its path. -/
theorem sound_body (c : Dev nD) (t : Fin (cfgA v).N) :
    iprop((dats v m ρ 0 c).Φ t.castSucc ∗ (dats v m ρ 0 c).owesAt () t.castSucc
        ∗ (∃ d, owns (c : Thread nD τ) (ms0_0 v t) fullShare ((dats v m ρ 0 c).before (0 : Fin 3) t d))
        ∗ (∃ d, owns (c : Thread nD τ) (ms0_1 v t) fullShare ((dats v m ρ 0 c).before (1 : Fin 3) t d))
        ∗ (∃ d, owns (c : Thread nD τ) (ms0_2 v t) fullShare ((dats v m ρ 0 c).before (2 : Fin 3) t d)))
      ⊢ wp frame (wpE (defs₀ (F := Ideal)) Variants.none c none) Set.univ (bodyAt0 v t) fun _ =>
          iprop((dats v m ρ 0 c).Φ t.succ ∗ (dats v m ρ 0 c).owesAt () t.succ
            ∗ bigSep Finset.univ fun w : Fin (cfgA v).W =>
                match (cfgA v).idle w ((cfgA v).grid.coords t) with
                | true =>
                  match ((cfgA v).win w).flush t with
                  | false => iprop(∃ d, owns (c : Thread nD τ) (((cfgA v).win w).stage ((cfgA v).slots t w)) fullShare ((dats v m ρ 0 c).before w t d))
                  | true => owns (c : Thread nD τ) (((cfgA v).win w).stage ((cfgA v).slots t w)) fullShare ((dats v m ρ 0 c).after w t)
                | false => owns (c : Thread nD τ) (((cfgA v).win w).stage ((cfgA v).slots t w)) fullShare ((dats v m ρ 0 c).after w t)) := by
  rw [bigSep_W0]
  have i3 := idle_false v t
  rewrite [i3]
  simp only [before0_0, before0_1, after0_0, after0_1, after0_2]
  rewrite [show (dats v m ρ 0 c).Φ t.succ = Phi v m ρ c t.succ from rfl, show (dats v m ρ 0 c).Φ t.castSucc = Phi v m ρ c t.castSucc from rfl,
    show (dats v m ρ 0 c).owesAt () t.succ = (dats v m ρ 0 c).owesAt () t.castSucc from rfl]
  unfold Phi
  simp only [Fin.val_castSucc, Fin.val_succ]
  by_cases q0 : Q0 (crd v t) (v.e (cur (crd v t))) (v.e (prv (crd v t)))
  · by_cases q1 : Q1 v t
    · have hc0 : (Q0 (crd v t) (View.readAt (Elt Ideal) (tbM0_0).view (Rect.unit (s := S73) (k0_off1 (crd v t)) S1.size (k0_off1_inb (crd v t))).toLoadRect v.e (Shape.Idx.first (numel1_S1.symm ▸ Nat.one_pos))) (View.readAt (Elt Ideal) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, HT0, HT1⟩, Ho, ⟨%d0, H0⟩, ⟨%d1, H1⟩, ⟨%d2, H2⟩⟩
      iapply ((kernelRun0_A c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3).2.2 a0 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e3, H2⟩, HS0⟩
      isplitl [HS0 HT0 HT1]
      · isplitl [HS0]
        · iexists _; isplitr; swap
          · iexact HS0
          · ipureintro; intro s hs; rw [show s = t from Fin.ext (Nat.succ.inj hs)]
            exact sc0_A c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (out_A c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3 e3).trans ?_
        rw [outv, if_pos q1]
    · have hc0 : (Q0 (crd v t) (View.readAt (Elt Ideal) (tbM0_0).view (Rect.unit (s := S73) (k0_off1 (crd v t)) S1.size (k0_off1_inb (crd v t))).toLoadRect v.e (Shape.Idx.first (numel1_S1.symm ▸ Nat.one_pos))) (View.readAt (Elt Ideal) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : ¬ (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact k0_h2
      iintro ⟨⟨⟨%a0, %ha0, HS0⟩, HT0, HT1⟩, Ho, ⟨%d0, H0⟩, ⟨%d1, H1⟩, ⟨%d2, H2⟩⟩
      iapply ((kernelRun0_D c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3).2.2 a0 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e3, H2⟩, HS0⟩
      isplitl [HS0 HT0 HT1]
      · isplitl [HS0]
        · iexists _; isplitr; swap
          · iexact HS0
          · ipureintro; intro s hs; rw [show s = t from Fin.ext (Nat.succ.inj hs)]
            exact sc0_D c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (out_D c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3 e3).trans ?_
        rw [outv, if_neg q1]
  · obtain ⟨ht0, hpv⟩ := prev_of v t q0
    have hlt := t.isLt
    have hk0 : ∀ a : Buf (Elt Ideal) ((c : Thread nD τ).loc cc0_scratch0), (∀ s : Fin (cfgA v).N, s.val + 1 = t.val → a = k0_pay1 (iblk v m ρ c (1 : Fin 3) s)) → a = k0_pay1 (iblk v m ρ c (1 : Fin 3) t) := fun a ha => by
      have hs : (⟨t.val - 1, by omega⟩ : Fin (cfgA v).N).val + 1 = t.val := Nat.succ_pred ht0
      rw [ha _ hs, same1 v m ρ c _ t (hpv _ hs).1 (hpv _ hs).2]
    by_cases q1 : Q1 v t
    · have hc0 : ¬ (Q0 (crd v t) (View.readAt (Elt Ideal) (tbM0_0).view (Rect.unit (s := S73) (k0_off1 (crd v t)) S1.size (k0_off1_inb (crd v t))).toLoadRect v.e (Shape.Idx.first (numel1_S1.symm ▸ Nat.one_pos))) (View.readAt (Elt Ideal) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, HT0, HT1⟩, Ho, ⟨%d0, H0⟩, ⟨%d1, H1⟩, ⟨%d2, H2⟩⟩
      iapply ((kernelRun0_B c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e3, H2⟩, HS0⟩
      isplitl [HS0 HT0 HT1]
      · isplitl [HS0]
        · iexists _; isplitr; swap
          · iexact HS0
          · ipureintro; intro s hs; rw [show s = t from Fin.ext (Nat.succ.inj hs)]
            exact (sc0_B c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3).trans (hk0 a0 ha0)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (out_B c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3 e3).trans ?_
        rw [outv, if_pos q1, hk0 a0 ha0]
    · have hc0 : ¬ (Q0 (crd v t) (View.readAt (Elt Ideal) (tbM0_0).view (Rect.unit (s := S73) (k0_off1 (crd v t)) S1.size (k0_off1_inb (crd v t))).toLoadRect v.e (Shape.Idx.first (numel1_S1.symm ▸ Nat.one_pos))) (View.readAt (Elt Ideal) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : ¬ (k0_cond2 (crd v t) (View.readAt (Elt Ideal) (tbM0_1).view (Rect.unit (s := S1) ![0] S1.size inb_S1_S1_0).toLoadRect v.n (Shape.Idx.first (numel1_S1.symm ▸ Nat.one_pos))) = 1#1) := by rw [rdn]; exact q1
      have k0_h3 : (k0_cond3 (crd v t) (View.readAt (Elt Ideal) (tbM0_1).view (Rect.unit (s := S1) ![0] S1.size inb_S1_S1_0).toLoadRect v.n (Shape.Idx.first (numel1_S1.symm ▸ Nat.one_pos))) = 1#1) := by rw [cond23]; exact k0_h2
      iintro ⟨⟨⟨%a0, %ha0, HS0⟩, HT0, HT1⟩, Ho, ⟨%d0, H0⟩, ⟨%d1, H1⟩, ⟨%d2, H2⟩⟩
      iapply ((kernelRun0_C c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e3, H2⟩, HS0⟩
      isplitl [HS0 HT0 HT1]
      · isplitl [HS0]
        · iexists _; isplitr; swap
          · iexact HS0
          · ipureintro; intro s hs; rw [show s = t from Fin.ext (Nat.succ.inj hs)]
            exact (sc0_C c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3).trans (hk0 a0 ha0)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (out_C c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3 e3).trans ?_
        rw [outv, if_neg q1]

theorem body_obligation (c : Dev nD) : BodyObligation (dats v m ρ 0 c) (defs₀ (F := Ideal)) Variants.none () Set.univ := fun t => by
  rw [bigSep_W0]
  exact sound_body v m ρ c t

/-- The launch's resources. -/
def u₀ : UR sig nD τ :=
  initOf (Pipeline.cells (pcs v) ((launch0 (F := Ideal)).cellOf_inj fun _ => adm v))
    (Pipeline.launchToks (pcs v) ((launch0 (F := Ideal)).cellOf_inj fun _ => adm v))

theorem share_eq (c : Dev nD) (w : Fin (cfgA v).W) : (dats v m ρ 0 c).share w = fullShare := by unfold Dat.share; split <;> rfl

/-- The two tables, one by one. -/
theorem prefHeld_eq (c : Dev nD) (q : Fin 2 → PosShare TreeShare) (u : pre0.Contents (Elt Ideal)) :
    (Pipeline.prefHeld (Ix := Unit) (Name := ℕ) (U := UR sig nD τ) (Lvl := ℕ) pre0 c q u : sProp 𝕄)
      = iprop((((c : Thread nD τ).loc main_arg0) ↦{q 0} u 0) ∗ (((c : Thread nD τ).loc main_arg1) ↦{q 1} u 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm v).1 ∗ Pipeline.scopedRest spec0 c) ⊢ (dats v m ρ 0 c).Φ 0 := by
  rw [prefHeld_eq, scopedRest0_eq, show (dats v m ρ 0 c).Φ 0 = Phi v m ρ c 0 from rfl]
  unfold Phi
  iintro ⟨-, ⟨HT0, HT1⟩, ⟨%a0, HS0⟩⟩
  isplitl [HS0]
  · iexists a0; isplitr; swap
    · iexact HS0
    · ipureintro; intro s h; exact absurd h (Nat.succ_ne_zero _)
  isplitl [HT0]
  · iexact HT0
  iexact HT1

theorem phiN_exit (c : Dev nD) : (dats v m ρ 0 c).Φ (Fin.last (cfgA v).N) ⊢ iprop(BI.emp ∗ Pipeline.scopedRest spec0 c) := by
  rw [scopedRest0_eq, show (dats v m ρ 0 c).Φ (Fin.last (cfgA v).N) = Phi v m ρ c (Fin.last _) from rfl]
  unfold Phi
  iintro ⟨⟨%a0, -, HS0⟩, -, -⟩
  isplitr; · iempintro
  iexists a0; iexact HS0

/-- What a run ends with: every array as the library computes it, the tables as they were. -/
def QC : PUnit × MemSt nD τ sig (Elt Ideal) → Prop := fun r =>
  ∀ c : Dev nD, (∀ w : Fin (cfgA v).W, r.2.mem (((cfgA v).win w).arr.view.loc (c : Thread nD τ)) = (dats v m ρ 0 c).arrAt w (cfgA v).N)
    ∧ ∀ j, r.2.mem ((c : Thread nD τ).loc (pre0.ref j)) = (adm v).1 j

theorem V_pre (hp : Pinned v m) (c : Dev nD) (j : Fin 2) : m ((c : Thread nD τ).loc (pre0.ref j)) = (adm v).1 j := by
  fin_cases j
  · exact hp.1 c
  · exact hp.2 c

set_option backward.isDefEq.respectTransparency.types false in
set_option maxHeartbeats 4000000 in
/-- From a memory that holds such tables every run ends, each array as computed, each counter at zero. -/
theorem run_main_quiescent (hp : Pinned v m) : θ_run (defs (F := Ideal)) (onTc (τ := τ) (main (F := Ideal))) (s₀ m ρ) (fun r => QC v m ρ r ∧ r.2.sem = fun _ => 0) :=
  Pipeline.θ_run_region_noSem_pf_quiescent pcfgs (fun _ => adm v) (dats v m ρ) () ((launch0 (F := Ideal)).cellOf_inj fun _ => adm v) (0 : Fin 1)
    (launch0 (F := Ideal)).win.to₀ (launch0 (F := Ideal)).pre EPm defs₀ Variants.none m ρ main
    (hbody := fun c => (body_obligation v m ρ c).loose) (hne := (launch0 (F := Ideal)).block_pos)
    (harr := (launch0 (F := Ideal)).arr_whole) (hstage := (launch0 (F := Ideal)).stage_whole) (howed := fun _ _ => rfl)
    (u₀ := u₀ v) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs v) (dats v m ρ) 0 (launch0 (F := Ideal)).win.arr_inj c (launch0 (F := Ideal)).arr_whole
      (share_eq v m ρ c) _ _ fun _ => rfl)
    (hpf := V_pre v m hp)
    (X := fun _ => iprop(emp)) (Y := fun _ => iprop(emp)) (Z := fun _ => iprop(emp))
    (hX := fun c => by rw [unscopedRestP0_eq]; iintro -; isplitr <;> iempintro)
    (hin := phi0_intro v m ρ)
    (hout := phiN_exit v m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned v m) : θ_run (defs (F := Ideal)) (onTc (τ := τ) (main (F := Ideal))) (s₀ m ρ) (QC v m ρ) :=
  (θ_run defs _ _).mono (fun _ h => h.1) (run_main_quiescent v m ρ hp)

theorem kept (hp : Pinned v m) (r : PUnit × MemSt nD τ sig (Elt Ideal)) (h : QC v m ρ r) (c : Dev nD) :
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  ⟨((h c).2 0).trans (hp.1 c).symm, ((h c).2 1).trans (hp.2 c).symm, ((h c).1 (0 : Fin 3)).trans ((dats v m ρ 0 c).arrAt_in (0 : Fin 3) rfl _), ((h c).1 (1 : Fin 3)).trans ((dats v m ρ 0 c).arrAt_in (1 : Fin 3) rfl _)⟩

/-- The arguments end unchanged and every counter at zero. -/
theorem frame (hp : Pinned v m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun r h => ⟨fun c => kept v m ρ hp r h.1 c, h.2⟩) (run_main_quiescent v m ρ hp)

end Cert.Kernel3Ideal.Moe
end
-- ==== Proof.Moe3Ref.lean ====
/- The reference's side of the projection back of the routed experts: each row's expert, and the row's result as plain sums. -/
module

public import proofs.«01_k».proof.Proof.Gen.Reference3Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference3Ideal.Moe

open Cert.Reference3Ideal Cert.Reference3Ideal.Gen Cert.Reference3Ideal.Value

/-- A choice by a truth value. -/
theorem sel {α : Type} (b : Bool) (x y : α) : Scalar.select (BitVec.ofBool b) x y = if b = true then x else y := by
  cases b <;> rfl

/-- The column that holds each row's expert, minus one where the row's tile is not used. -/
def col (e : IVec S73 32) (n : IVec S1 32) : IVec S37376x1 32 :=
  shapeCast _ (broadcastInDim S73x512 ![0, 1] bcast_S73x1_S73x512_0_1 (broadcastInDim S73x1 ![0] bcast_S73_S73x1_0 (select (cmpi .slt (iotaInDim S73 32 0) (broadcastInDim S73 ![] bcast_S_S73 (shapeCast _ n shapeCasts_S1_S_))) e (broadcastInDim S73 ![] bcast_S_S73 (id (constantI S_ 32 4294967295#32)))))) shapeCasts_S73x512_S37376x1

/-- A row's expert. -/
theorem col_at (e : IVec S73 32) (n : IVec S1 32) (r : Fin 37376) :
    col e n (ix2 r 0) = if (BitVec.ofNat 32 (r.val / 512)).slt (n (ix1 0)) = true then e (ix1 ⟨r.val / 512, by omega⟩) else 4294967295#32 := by
  pointwise [col]
  exact sel _ _ _

/-- One expert's result kept on its own rows. -/
def pick (k : BitVec 32) (cl : IVec S37376x1 32) (A B : FVec Ideal S37376x2048 .f32) : FVec Ideal S37376x2048 .f32 :=
  select (broadcastInDim S37376x2048 ![0, 1] bcast_S37376x1_S37376x2048_0_1 (cmpi .eq cl (broadcastInDim S37376x1 ![] bcast_S_S37376x1 (constantI S_ 32 k)))) A B

theorem pick_at (k : BitVec 32) (cl : IVec S37376x1 32) (A B : FVec Ideal S37376x2048 .f32) (r : Fin 37376) (j : Fin 2048) :
    pick k cl A B (ix2 r j) = if cl (ix2 r 0) = k then A (ix2 r j) else B (ix2 r j) := by
  pointwise [pick]
  refine (sel _ _ _).trans (if_congr ?_ rfl rfl)
  exact beq_iff_eq

/-- A matrix product at an index. -/
theorem dot_at (A : FVec Ideal S37376x7168 .f32) (B : FVec Ideal S7168x2048 .f32) (r : Fin 37376) (j : Fin 2048) :
    Host.dotGeneral (F := Ideal) dot_S37376x7168_S7168x2048_S37376x2048_1_0_0_1_n_n none A B (ix2 r j) = ∑ k : Fin 7168, A (ix2 r k) * B (ix2 k j) := by
  pointwise

/-- Expert `o`'s matrix. -/
def wt (o : ℕ) (h : S8x7168x2048.Slices ![o, 0, 0] S1x7168x2048) (W : FVec Ideal S1x8x7168x2048 .f32) : FVec Ideal S7168x2048 .f32 :=
  shapeCast S7168x2048 (extractStridedSlice S1x7168x2048 ![o, 0, 0] (shapeCast S8x7168x2048 W shapeCasts_S1x8x7168x2048_S8x7168x2048) h) shapeCasts_S1x7168x2048_S7168x2048

theorem wt_at (o : ℕ) (h : S8x7168x2048.Slices ![o, 0, 0] S1x7168x2048) (q : Fin 8) (hq : q.val = o) (W : FVec Ideal S1x8x7168x2048 .f32) (k : Fin 7168) (j : Fin 2048) : wt o h W (ix2 k j) = W (ix4 0 q k j) := by
  subst hq
  pointwise [wt]

/-- Expert `q`'s result at a row and column. -/
def val (x : FVec Ideal S37376x7168 .bf16) (W : FVec Ideal S1x8x7168x2048 .f32) (q : Fin 8) (r : Fin 37376) (j : Fin 2048) : EReal :=
  ∑ k : Fin 7168, x (ix2 r k) * W (ix4 0 q k j)

/-- Expert `o`'s result. -/
def ex (x : FVec Ideal S37376x7168 .bf16) (W : FVec Ideal S1x8x7168x2048 .f32) (o : ℕ) (h : S8x7168x2048.Slices ![o, 0, 0] S1x7168x2048) : FVec Ideal S37376x2048 .f32 :=
  Host.dotGeneral (F := Ideal) dot_S37376x7168_S7168x2048_S37376x2048_1_0_0_1_n_n none (extf .f32 x bitsLt_bf16_f32) (wt o h W)

theorem ex_at (x : FVec Ideal S37376x7168 .bf16) (W : FVec Ideal S1x8x7168x2048 .f32) (o : ℕ) (h : S8x7168x2048.Slices ![o, 0, 0] S1x7168x2048) (ho : o < 8) (r : Fin 37376) (j : Fin 2048) : ex x W o h (ix2 r j) = val x W ⟨o, ho⟩ r j := by
  unfold ex
  rw [dot_at]
  unfold val
  simp only [wt_at o h ⟨o, ho⟩ rfl]
  rfl

/-- The experts' results, each on its own rows. -/
def chain (e : IVec S73 32) (n : IVec S1 32) (x : FVec Ideal S37376x7168 .bf16) (W : FVec Ideal S1x8x7168x2048 .f32) : FVec Ideal S37376x2048 .f32 :=
  pick 7#32 (col e n) (ex x W 7 slices_S8x7168x2048_S1x7168x2048_7_0_0) (pick 6#32 (col e n) (ex x W 6 slices_S8x7168x2048_S1x7168x2048_6_0_0) (pick 5#32 (col e n) (ex x W 5 slices_S8x7168x2048_S1x7168x2048_5_0_0) (pick 4#32 (col e n) (ex x W 4 slices_S8x7168x2048_S1x7168x2048_4_0_0) (pick 3#32 (col e n) (ex x W 3 slices_S8x7168x2048_S1x7168x2048_3_0_0) (pick 2#32 (col e n) (ex x W 2 slices_S8x7168x2048_S1x7168x2048_2_0_0) (pick 1#32 (col e n) (ex x W 1 slices_S8x7168x2048_S1x7168x2048_1_0_0) (pick 0#32 (col e n) (ex x W 0 slices_S8x7168x2048_S1x7168x2048_0_0_0) (broadcastInDim S37376x2048 ![] bcast_S_S37376x2048 (constant S_ .f32 0x00000000#32)))))))))

/-- What the program computes at a row and column. -/
def out (e : IVec S73 32) (n : IVec S1 32) (x : FVec Ideal S37376x7168 .bf16) (W : FVec Ideal S1x8x7168x2048 .f32) (he : ∀ i, (e i).toNat < 8) (r : Fin 37376) (j : Fin 2048) : EReal :=
  if (BitVec.ofNat 32 (r.val / 512)).slt (n (ix1 0)) = true then val x W ⟨(e (ix1 ⟨r.val / 512, by omega⟩)).toNat, he _⟩ r j else 0

theorem zero_at (r : Fin 37376) (j : Fin 2048) : (broadcastInDim S37376x2048 ![] bcast_S_S37376x2048 (constant (F := Ideal) S_ .f32 0x00000000#32)) (ix2 r j) = (0 : EReal) := by
  have z : Ideal.ofBits .f32 0x00000000#32 = (0 : EReal) := by simp [Ideal.ofBits, Ideal.ieee]
  exact z

/-- One of eight by a word below eight. -/
theorem pick8 (w : BitVec 32) (hw : w.toNat < 8) (f : Fin 8 → EReal) :
    (if w = 7#32 then f 7 else if w = 6#32 then f 6 else if w = 5#32 then f 5 else if w = 4#32 then f 4 else if w = 3#32 then f 3
      else if w = 2#32 then f 2 else if w = 1#32 then f 1 else if w = 0#32 then f 0 else 0) = f ⟨w.toNat, hw⟩ := by
  obtain ⟨k, hk, rfl⟩ : ∃ k : ℕ, k < 8 ∧ w = BitVec.ofNat 32 k := ⟨w.toNat, hw, by simp⟩
  interval_cases k <;> rfl

theorem chain_at (e : IVec S73 32) (n : IVec S1 32) (x : FVec Ideal S37376x7168 .bf16) (W : FVec Ideal S1x8x7168x2048 .f32) (he : ∀ i, (e i).toNat < 8) (r : Fin 37376) (j : Fin 2048) :
    chain e n x W (ix2 r j) = out e n x W he r j := by
  unfold chain
  rw [pick_at, ex_at x W 7 _ (by decide), pick_at, ex_at x W 6 _ (by decide), pick_at, ex_at x W 5 _ (by decide), pick_at, ex_at x W 4 _ (by decide), pick_at, ex_at x W 3 _ (by decide), pick_at, ex_at x W 2 _ (by decide), pick_at, ex_at x W 1 _ (by decide), pick_at, ex_at x W 0 _ (by decide), zero_at, col_at]
  unfold out
  by_cases h : (BitVec.ofNat 32 (r.val / 512)).slt (n (ix1 0)) = true
  · rw [if_pos h, if_pos h]
    exact pick8 _ (he _) (fun q => val x W q r j)
  · rw [if_neg h, if_neg h]
    rfl

/-- The program's result is those results. -/
theorem res_eq (m : (ℓ : Loc nD τ sig) → Buf (Elt Ideal) ℓ) (c : Dev nD) :
    res_main_v58 m c = chain (m ((c.tc : Thread nD τ).loc main_arg0)) (m ((c.tc : Thread nD τ).loc main_arg1)) (m ((c.tc : Thread nD τ).loc main_arg2)) (m ((c.tc : Thread nD τ).loc main_arg3)) := rfl

end Cert.Reference3Ideal.Moe

end
-- ==== Proof.Moe3Val.lean ====
/- The final array of the projection back of the routed experts. -/
module

public import proofs.«01_k».proof.Proof.Moe3I
public import proofs.«01_k».proof.Proof.Moe3Ref
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Moe

open Cert.Kernel3Ideal Cert.Kernel3Ideal.Gen

variable (v : Tab) (m : (ℓ : Loc nD τ sig) → Buf (Elt Ideal) ℓ) (ρ : Dev nD → PrngReg)

/-- The point's tile holds rows exactly where its number is below the table's count. -/
theorem cond2_iff (i : grid0.Coords) (w : BitVec 32) : k0_cond2 i w = 1#1 ↔ (BitVec.ofNat 32 (i 1).val).slt w = true := by
  have h : k0_cond2 i w = Scalar.cmpi .ne (Scalar.extui (BitVec.ofBool ((BitVec.ofNat 32 (i 1).val).slt (w * 1#32))) : BitVec 32) 0#32 := rfl
  rw [h, BitVec.mul_one]
  cases (BitVec.ofNat 32 (i 1).val).slt w <;> decide

/-- A tile that holds rows is read at its own number. -/
theorem min_of (t : Fin (cfgA v).N) (q : Q1 v t) : min (crd v t 1).val ((v.n zz).toInt.toNat - 1) = (crd v t 1).val := by
  have h := (cond2_iff (crd v t) (v.n zz)).mp q
  have hl : (crd v t 1).val < 73 := (crd v t 1).isLt
  rw [BitVec.slt_iff_toInt_lt] at h
  have e : (BitVec.ofNat 32 (crd v t 1).val).toInt = ((crd v t 1).val : ℤ) := by
    have hm : (crd v t 1).val % 2 ^ 32 = (crd v t 1).val := Nat.mod_eq_of_lt (lt_trans hl (by decide))
    rw [BitVec.toInt_eq_toNat_cond, BitVec.toNat_ofNat, hm, if_pos (by omega)]
  rw [e] at h
  omega

/-- Two numbers over two axes agree where both do. -/
theorem at2 (f g : Fin 2 → ℕ) (h0 : f 0 = g 0) (h1 : f 1 = g 1) (a : Fin 2) : f a = g a := by
  revert a; rw [Fin.forall_fin_two]; exact ⟨h0, h1⟩

theorem at4 (f g : Fin 4 → ℕ) (h0 : f 0 = g 0) (h1 : f 1 = g 1) (h2 : f 2 = g 2) (h3 : f 3 = g 3) (a : Fin 4) : f a = g a := by
  fin_cases a
  exacts [h0, h1, h2, h3]

/-- A row of the point's tile of rows. -/
theorem x_at (c : Dev nD) (t : Fin (cfgA v).N) (q : Q1 v t) (r : Fin 512) (k : Fin 7168) (R : Fin 37376) (hR : R.val = (crd v t 1).val * 512 + r.val) :
    iblk v m ρ c (0 : Fin 3) t (ix2 r k) = m ((c : Thread nD τ).loc main_arg2) (ix2 R k) := by
  show m ((c : Thread nD τ).loc main_arg2) ((((cfgA v).win (0 : Fin 3)).rect t).emb (ix2 r k)) = _
  refine congrArg _ (funext fun a => Fin.ext ?_)
  show cc0_transform_0 inb_S1_S1_0 numel1_S1 (pf v) (crd v t) a * S512x7168.size a + 1 * ((ix2 r k : S512x7168.Idx) a).val = ((ix2 R k : S37376x7168.Idx) a).val
  rw [tr0, min_of v t q]
  refine at2 (fun a => (![(crd v t 1).val, 0] : Fin 2 → ℕ) a * S512x7168.size a + 1 * ((ix2 r k : S512x7168.Idx) a).val) (fun a => ((ix2 R k : S37376x7168.Idx) a).val) ?_ ?_ a
  · show (crd v t 1).val * 512 + 1 * r.val = R.val
    omega
  · show 0 * 7168 + 1 * k.val = k.val
    omega

/-- An element of the point's weights. -/
theorem w1_at (c : Dev nD) (t : Fin (cfgA v).N) (k : Fin 7168) (l : Fin 512) (J : Fin 2048) (hJ : J.val = (crd v t 0).val * 512 + l.val) :
    iblk v m ρ c (1 : Fin 3) t (ix4 0 0 k l) = m ((c : Thread nD τ).loc main_arg3) (ix4 0 ⟨(v.e (cur (crd v t))).toNat, v.he _⟩ k J) := by
  show m ((c : Thread nD τ).loc main_arg3) ((((cfgA v).win (1 : Fin 3)).rect t).emb (ix4 0 0 k l)) = _
  refine congrArg _ (funext fun a => Fin.ext ?_)
  show cc0_transform_1 k0_off1_inb numel1_S1 (pf v) (crd v t) a * S1x1x7168x512.size a + 1 * ((ix4 0 0 k l : S1x1x7168x512.Idx) a).val = ((ix4 0 ⟨(v.e (cur (crd v t))).toNat, v.he _⟩ k J : S1x8x7168x2048.Idx) a).val
  rw [tr1]
  refine at4 (fun a => (![0, (v.e (cur (crd v t))).toNat, 0, (crd v t 0).val] : Fin 4 → ℕ) a * S1x1x7168x512.size a + 1 * ((ix4 0 0 k l : S1x1x7168x512.Idx) a).val)
    (fun a => ((ix4 0 ⟨(v.e (cur (crd v t))).toNat, v.he _⟩ k J : S1x8x7168x2048.Idx) a).val) ?_ ?_ ?_ ?_ a
  · show 0 * 1 + 1 * 0 = 0
    rfl
  · show (v.e (cur (crd v t))).toNat * 1 + 1 * 0 = (v.e (cur (crd v t))).toNat
    omega
  · show 0 * 7168 + 1 * k.val = k.val
    omega
  · show (crd v t 0).val * 512 + 1 * l.val = J.val
    omega

/-- The point's product at an index. -/
theorem pay_at (X : FVec Ideal S512x7168 .bf16) (W : FVec Ideal S1x1x7168x512 .f32) (r : Fin 512) (l : Fin 512) :
    k0_pay2 (F := Ideal) X (k0_pay1 (F := Ideal) W) (ix2 r l) = ∑ k : Fin 7168, X (ix2 r k) * W (ix4 0 0 k l) := by
  pointwise [k0_pay2, k0_pay1]

theorem zero_at (y : S512x512.Idx) : k0_pay3 (F := Ideal) y = (0 : EReal) := by
  have z : Ideal.ofBits .f32 0x00000000#32 = (0 : EReal) := by simp [Ideal.ofBits, Ideal.ieee]
  exact z

/-- What a point leaves, at an index of its block. -/
theorem out_point (c : Dev nD) (t : Fin (cfgA v).N) (r : Fin 512) (l : Fin 512) (R : Fin 37376) (J : Fin 2048) (hR : R.val = (crd v t 1).val * 512 + r.val)
    (hJ : J.val = (crd v t 0).val * 512 + l.val) :
    outv v m ρ c t (ix2 r l) = Cert.Reference3Ideal.Moe.out v.e v.n (m ((c : Thread nD τ).loc main_arg2)) (m ((c : Thread nD τ).loc main_arg3)) v.he R J := by
  have hr : r.val < 512 := r.isLt
  have hd : R.val / 512 = (crd v t 1).val := by omega
  have hc : (BitVec.ofNat 32 (R.val / 512)).slt (v.n (ix1 0)) = true ↔ Q1 v t := by
    rw [hd, show (ix1 0 : S1.Idx) = zz from first_zz _]
    exact (cond2_iff _ _).symm
  unfold outv Cert.Reference3Ideal.Moe.out
  by_cases q : Q1 v t
  · rw [if_pos q, if_pos (hc.mpr q)]
    refine (pay_at _ _ r l).trans ?_
    have ec : (ix1 ⟨R.val / 512, by omega⟩ : S73.Idx) = cur (crd v t) := by
      funext a; apply Fin.ext; revert a; rw [Fin.forall_fin_one]; exact hd
    unfold Cert.Reference3Ideal.Moe.val
    refine Finset.sum_congr rfl fun k _ => ?_
    rw [x_at v m ρ c t q r k R hR, w1_at v m ρ c t k l J hJ]
    simp only [ec]
  · rw [if_neg q, if_neg (fun h => q (hc.mp h))]
    exact zero_at _

/-- Every point writes its block back. -/
theorem flushed (t : Fin (cfgA v).N) : ((cfgA v).win (2 : Fin 3)).flush t = true := by
  have e : ((cfgA v).win (2 : Fin 3)).flush t = (true && (decide (t.val + 1 = (cfgA v).N) || decide (∃ h : t.val + 1 < (cfgA v).N, cc0_transform_2 (crd v ⟨t.val + 1, h⟩) ≠ cc0_transform_2 (crd v t)))) := rfl
  rw [e, Bool.true_and, Bool.or_eq_true, decide_eq_true_iff, decide_eq_true_iff]
  by_cases h : t.val + 1 = (cfgA v).N
  · exact .inl h
  · have hlt : t.val + 1 < (cfgA v).N := by have := t.isLt; omega
    refine .inr ⟨hlt, fun q => ?_⟩
    rw [tr2, tr2] at q
    have q0 : (crd v ⟨t.val + 1, hlt⟩ 1).val = (crd v t 1).val := congrFun q 0
    rw [(crd_of v _).1, (crd_of v t).1] at q0
    have q0' : (t.val + 1) % 73 = t.val % 73 := q0
    omega

/-- A block's place in the result. -/
theorem place (t : Fin (cfgA v).N) (y : S512x512.Idx) (R : Fin 37376) (J : Fin 2048) (hR : R.val = (crd v t 1).val * 512 + (y 0).val) (hJ : J.val = (crd v t 0).val * 512 + (y 1).val) :
    (((cfgA v).win (2 : Fin 3)).blk t).view.emb y = (ix2 R J : S37376x2048.Idx) := by
  refine funext fun a => Fin.ext ?_
  show cc0_transform_2 (crd v t) a * S512x512.size a + 1 * (y a).val = ((ix2 R J : S37376x2048.Idx) a).val
  rw [tr2]
  refine at2 (fun a => (![(crd v t 1).val, (crd v t 0).val] : Fin 2 → ℕ) a * S512x512.size a + 1 * (y a).val) (fun a => ((ix2 R J : S37376x2048.Idx) a).val) ?_ ?_ a
  · show (crd v t 1).val * 512 + 1 * (y 0).val = R.val
    omega
  · show (crd v t 0).val * 512 + 1 * (y 1).val = J.val
    omega

/-- The result: every row its expert's, the rows of unused tiles zero. -/
theorem final (c : Dev nD) : (dats v m ρ 0 c).arrAt (2 : Fin 3) (cfgA v).N
    = fun i => Cert.Reference3Ideal.Moe.out v.e v.n (m ((c : Thread nD τ).loc main_arg2)) (m ((c : Thread nD τ).loc main_arg3)) v.he (i 0) (i 1) := by
  refine (dats v m ρ 0 c).arrAt_eq_of_emb (2 : Fin 3) _ (fun t hf y => ?_) fun i => ?_
  · have b1 : (crd v t 1).val < 73 := (crd v t 1).isLt
    have b0 : (crd v t 0).val < 4 := (crd v t 0).isLt
    have y0 : ((y : S512x512.Idx) 0).val < 512 := (y 0).isLt
    have y1 : ((y : S512x512.Idx) 1).val < 512 := (y 1).isLt
    have pl := place v t y ⟨(crd v t 1).val * 512 + ((y : S512x512.Idx) 0).val, by omega⟩ ⟨(crd v t 0).val * 512 + ((y : S512x512.Idx) 1).val, by omega⟩ rfl rfl
    show outv v m ρ c t y = _
    rw [pl]
    refine Eq.trans (congrArg _ (eq_ix2 (y : S512x512.Idx))) ?_
    exact out_point v m ρ c t ((y : S512x512.Idx) 0) ((y : S512x512.Idx) 1) _ _ rfl rfl
  · have i0 : ((i : S37376x2048.Idx) 0).val < 37376 := (i 0).isLt
    have i1 : ((i : S37376x2048.Idx) 1).val < 2048 := (i 1).isLt
    have hN : (cfgA v).N = 292 := rfl
    refine ⟨⟨((i : S37376x2048.Idx) 1).val / 512 * 73 + ((i : S37376x2048.Idx) 0).val / 512, by omega⟩, flushed v _, ?_⟩
    generalize ht : (⟨((i : S37376x2048.Idx) 1).val / 512 * 73 + ((i : S37376x2048.Idx) 0).val / 512, by omega⟩ : Fin (cfgA v).N) = t
    have tv : t.val = ((i : S37376x2048.Idx) 1).val / 512 * 73 + ((i : S37376x2048.Idx) 0).val / 512 := by rw [← ht]
    have c1 := (crd_of v t).1
    have c0 := (crd_of v t).2
    have pl := place v t (ix2 ⟨((i : S37376x2048.Idx) 0).val % 512, by omega⟩ ⟨((i : S37376x2048.Idx) 1).val % 512, by omega⟩) ((i : S37376x2048.Idx) 0) ((i : S37376x2048.Idx) 1)
      (by show _ = _ + ((i : S37376x2048.Idx) 0).val % 512; omega) (by show _ = _ + ((i : S37376x2048.Idx) 1).val % 512; omega)
    have ei : i = (ix2 ((i : S37376x2048.Idx) 0) ((i : S37376x2048.Idx) 1) : S37376x2048.Idx) := eq_ix2 (i : S37376x2048.Idx)
    rw [ei, ← pl]
    exact View.emb_mem_set _ _

end Cert.Kernel3Ideal.Moe

end
-- ==== Proof.Moe3BRun.lean ====
module

public import proofs.«01_k».proof.Proof.Moe3BTab
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.Adequacy
public import Idealize.ShloMosaic.Init

@[expose] public section
set_option maxRecDepth 16384
set_option Elab.async false
noncomputable section
namespace Cert.Kernel3.Moe
open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resources of the staging cells. -/
abbrev EPm : Emb (UR sig nD τ) 𝕄 := emb₁

/-- A store of a whole block, read back. -/
theorem read_store {sp : Space} {s : Shape} {e : EltTy} (w : View sig .tc sp s e) (f : w.ty.Contents (Elt Bits)) {off : Fin s.rank → ℕ} (h : off = fun _ => 0)
    (inb : ∀ a, off a + s.size a ≤ s.size a) (x : s.Idx → Elt Bits e) :
    w.read (Elt Bits) (w.writes (Elt Bits) f [⟨Rect.unit off s.size inb, x⟩]) = x := by
  subst h; exact View.read_writes_whole w f x

theorem congr3 {A B C D : Type} {f : A → B → C → D} {a a' : A} {b b' : B} {c c' : C} (ha : a = a') (hb : b = b') (hc : c = c') : f a b c = f a' b' c' := by subst ha hb hc; rfl
theorem congr2 {A B D : Type} {f : A → B → D} {a a' : A} {b b' : B} (ha : a = a') (hb : b = b') : f a b = f a' b' := by subst ha hb; rfl

/-- A store of a whole buffer leaves its payload. -/
theorem whole_store (b : Ref sig .tc) (f w : b.ty.Contents (Elt Bits)) {off : Fin b.ty.shape.rank → ℕ} (h : off = fun _ => 0)
    (inb : ∀ a, off a + b.ty.shape.size a ≤ b.ty.shape.size a) :
    (View.whole b).writes (Elt Bits) f [⟨Rect.unit off b.ty.shape.size inb, w⟩] = w := by
  have e := read_store (View.whole b) f h inb w
  exact (show _ = (View.whole b).read (Elt Bits) _ from rfl).trans e

theorem out_A (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Bits .i32)) (T1 : (S1.Idx → Elt Bits .i32)) (x0 : (S512x7168.Idx → Elt Bits .bf16)) (x1 : (S1x1x7168x512.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1))
    (f : arg6.view.ty.Contents (Elt Bits)) : arg6.view.read (Elt Bits) (arg6.view.writes (Elt Bits) f (kernelRun0_A c i arg4 harg4 arg5 harg5 arg6 harg6 T0 T1 x0 x1 hc0 k0_h2 k0_h3).1) = (k0_pay2 x0 (k0_pay1 x1)) := by
  dsimp only [kernelRun0_A]
  unfold kernelRun0_A.sl.HO2_1
  refine (read_store _ _ (by decide) _ _).trans ?_
  unfold kernelRun0_A.sl.v54
  unfold kernelRun0_A.sl.HS0_1
  exact congr2 (View.readAt_rep_full _ _ _) ((View.readCov_unit_zero scM0_0.view (by decide) _ _).trans (congrArg k0_pay1 (View.readAt_rep_full _ _ _)))

theorem sc0_A (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Bits .i32)) (T1 : (S1.Idx → Elt Bits .i32)) (x0 : (S512x7168.Idx → Elt Bits .bf16)) (x1 : (S1x1x7168x512.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_A c i arg4 harg4 arg5 harg5 arg6 harg6 T0 T1 x0 x1 hc0 k0_h2 k0_h3).2.1 = (k0_pay1 x1) := by
  dsimp only [kernelRun0_A]
  unfold kernelRun0_A.sl.HS0_1
  refine (whole_store cc0_scratch0 _ _ (by decide) _).trans ?_
  exact congrArg k0_pay1 (View.readAt_rep_full _ _ _)

theorem out_B (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Bits .i32)) (T1 : (S1.Idx → Elt Bits .i32)) (x0 : (S512x7168.Idx → Elt Bits .bf16)) (x1 : (S1x1x7168x512.Idx → Elt Bits .f32)) (xa0 : Buf (Elt Bits) ((c : Thread nD τ).loc cc0_scratch0)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1))
    (f : arg6.view.ty.Contents (Elt Bits)) : arg6.view.read (Elt Bits) (arg6.view.writes (Elt Bits) f (kernelRun0_B c i arg4 harg4 arg5 harg5 arg6 harg6 T0 T1 x0 x1 xa0 hc0 k0_h2 k0_h3).1) = (k0_pay2 x0 xa0) := by
  dsimp only [kernelRun0_B]
  unfold kernelRun0_B.sl.HO2_1
  refine (read_store _ _ (by decide) _ _).trans ?_
  exact congr2 (View.readAt_rep_full _ _ _) (Memref.readAt_unit_zero _ cc0_scratch0 (by decide) _ _)

theorem sc0_B (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Bits .i32)) (T1 : (S1.Idx → Elt Bits .i32)) (x0 : (S512x7168.Idx → Elt Bits .bf16)) (x1 : (S1x1x7168x512.Idx → Elt Bits .f32)) (xa0 : Buf (Elt Bits) ((c : Thread nD τ).loc cc0_scratch0)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1)) : (kernelRun0_B c i arg4 harg4 arg5 harg5 arg6 harg6 T0 T1 x0 x1 xa0 hc0 k0_h2 k0_h3).2.1 = xa0 := by
  dsimp only [kernelRun0_B]

theorem out_C (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Bits .i32)) (T1 : (S1.Idx → Elt Bits .i32)) (x0 : (S512x7168.Idx → Elt Bits .bf16)) (x1 : (S1x1x7168x512.Idx → Elt Bits .f32)) (xa0 : Buf (Elt Bits) ((c : Thread nD τ).loc cc0_scratch0)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1)
    (f : arg6.view.ty.Contents (Elt Bits)) : arg6.view.read (Elt Bits) (arg6.view.writes (Elt Bits) f (kernelRun0_C c i arg4 harg4 arg5 harg5 arg6 harg6 T0 T1 x0 x1 xa0 hc0 k0_h2 k0_h3).1) = k0_pay3 (F := Bits) := by
  dsimp only [kernelRun0_C]
  unfold kernelRun0_C.sl.HO2_1
  refine (read_store _ _ (by decide) _ _).trans ?_
  rfl

theorem sc0_C (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Bits .i32)) (T1 : (S1.Idx → Elt Bits .i32)) (x0 : (S512x7168.Idx → Elt Bits .bf16)) (x1 : (S1x1x7168x512.Idx → Elt Bits .f32)) (xa0 : Buf (Elt Bits) ((c : Thread nD τ).loc cc0_scratch0)) (hc0 : ¬((Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1)) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1) : (kernelRun0_C c i arg4 harg4 arg5 harg5 arg6 harg6 T0 T1 x0 x1 xa0 hc0 k0_h2 k0_h3).2.1 = xa0 := by
  dsimp only [kernelRun0_C]

theorem out_D (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Bits .i32)) (T1 : (S1.Idx → Elt Bits .i32)) (x0 : (S512x7168.Idx → Elt Bits .bf16)) (x1 : (S1x1x7168x512.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1)
    (f : arg6.view.ty.Contents (Elt Bits)) : arg6.view.read (Elt Bits) (arg6.view.writes (Elt Bits) f (kernelRun0_D c i arg4 harg4 arg5 harg5 arg6 harg6 T0 T1 x0 x1 hc0 k0_h2 k0_h3).1) = k0_pay3 (F := Bits) := by
  dsimp only [kernelRun0_D]
  unfold kernelRun0_D.sl.HO2_1
  refine (read_store _ _ (by decide) _ _).trans ?_
  rfl

theorem sc0_D (c : Dev nD) (i : grid0.Coords) (arg4 : Memref sig .tc .vmem S512x7168 .bf16) (harg4 : arg4.IsWhole) (arg5 : Memref sig .tc .vmem S1x1x7168x512 .f32) (harg5 : arg5.IsWhole) (arg6 : Memref sig .tc .vmem S512x512 .f32) (harg6 : arg6.IsWhole) (T0 : (S73.Idx → Elt Bits .i32)) (T1 : (S1.Idx → Elt Bits .i32)) (x0 : (S512x7168.Idx → Elt Bits .bf16)) (x1 : (S1x1x7168x512.Idx → Elt Bits .f32)) (hc0 : (Scalar.cmpi .ne (Scalar.extui (Scalar.ori (Scalar.cmpi .eq (BitVec.ofNat 32 (i 1).val) 0#32) (Scalar.cmpi .ne (View.readAt (Elt Bits) (tbM0_0).view (Rect.unit (s := S73) (k0_off1 i) S1.size (k0_off1_inb i)).toLoadRect T0 (Shape.Idx.first (numel1_S1.symm ▸ Nat.one_pos))) (View.readAt (Elt Bits) (tbM0_0).view (Rect.unit (s := S73) (k0_off2 i) S1.size (k0_off2_inb i)).toLoadRect T0 (Shape.Idx.first (numel1_S1.symm ▸ Nat.one_pos)))))) 0#32) = 1#1) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1) : (kernelRun0_D c i arg4 harg4 arg5 harg5 arg6 harg6 T0 T1 x0 x1 hc0 k0_h2 k0_h3).2.1 = (k0_pay1 x1) := by
  dsimp only [kernelRun0_D]
  unfold kernelRun0_D.sl.HS0_1
  refine (whole_store cc0_scratch0 _ _ (by decide) _).trans ?_
  exact congrArg k0_pay1 (View.readAt_rep_full _ _ _)

end Cert.Kernel3.Moe
end
-- ==== Proof.Moe3B.lean ====
module

public import proofs.«01_k».proof.Proof.Moe3BRun
public import Idealize.ShloMosaic.Lib.Pipeline.Quiescent
public import Idealize.ShloMosaic.Lib.Claim
public import Idealize.ShloMosaic.Lib.VecWindow
public import Idealize.ShloMosaic.Lib.Pipeline.Value
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.Adequacy
public import Idealize.ShloMosaic.Init

@[expose] public section
set_option maxRecDepth 16384
set_option Elab.async false
noncomputable section
namespace Cert.Kernel3.Moe
open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (v : Tab) (m : (ℓ : Loc nD τ sig) → Buf (Elt Bits) ℓ) (ρ : Dev nD → PrngReg)

abbrev ms0_0 (t : Fin (cfgA v).N) : Memref sig .tc .vmem S512x7168 .bf16 := spec0_0.stage ((cfgA v).slots t (0 : Fin 3))
abbrev hs0_0 (t : Fin (cfgA v).N) : (ms0_0 v t).IsWhole := hstage0_0 (((cfgA v).slots t (0 : Fin 3)).cast nbuf0_0)
abbrev ms0_1 (t : Fin (cfgA v).N) : Memref sig .tc .vmem S1x1x7168x512 .f32 := spec0_1.stage ((cfgA v).slots t (1 : Fin 3))
abbrev hs0_1 (t : Fin (cfgA v).N) : (ms0_1 v t).IsWhole := hstage0_1 (((cfgA v).slots t (1 : Fin 3)).cast nbuf0_1)
abbrev ms0_2 (t : Fin (cfgA v).N) : Memref sig .tc .vmem S512x512 .f32 := spec0_2.stage ((cfgA v).slots t (2 : Fin 3))
abbrev hs0_2 (t : Fin (cfgA v).N) : (ms0_2 v t).IsWhole := hstage0_2 (((cfgA v).slots t (2 : Fin 3)).cast nbuf0_2)

/-- A window's block at a point, read off its array at launch. -/
def iblk (c : Dev nD) (w : Fin (cfgA v).W) (t : Fin (cfgA v).N) : (((cfgA v).win w).xblock (crd v t)).Idx → Elt Bits ((cfgA v).win w).elt :=
  (((cfgA v).win w).blk t).view.read (Elt Bits) ((s₀ m ρ).mem (((cfgA v).win w).arr.view.loc (c : Thread nD τ)))

/-- Whether the point's tile holds rows. -/
abbrev Q1 (t : Fin (cfgA v).N) : Prop := k0_cond2 (crd v t) (v.n zz) = 1#1

/-- What the point leaves in the result's block. -/
def outv (c : Dev nD) (t : Fin (cfgA v).N) : S512x512.Idx → Elt Bits .f32 :=
  if Q1 v t then k0_pay2 (iblk v m ρ c (0 : Fin 3) t) (k0_pay1 (iblk v m ρ c (1 : Fin 3) t)) else k0_pay3 (F := Bits)

/-- What the launch memory holds: the tables. -/
def Pinned : Prop :=
  (∀ c : Dev nD, m ((c : Thread nD τ).loc main_arg0) = v.e)
  ∧ (∀ c : Dev nD, m ((c : Thread nD τ).loc main_arg1) = v.n)

/-- No point leaves the result's block idle. -/
theorem idle_false (t : Fin (cfgA v).N) : (cfgA v).idle (2 : Fin 3) ((cfgA v).grid.coords t) = false := by
  have h : ∀ (i : grid0.Coords) (w : BitVec 32), (!(k0_cond2 i w == 1#1) && !(k0_cond3 i w == 1#1)) = false := fun i w => by
    by_cases h2 : k0_cond2 i w = 1#1
    · rw [h2]; rfl
    · rw [(cond23 i w).mpr h2]; exact Bool.and_false _
  exact h _ _

/-- An element of an array's block, where the array holds it. -/
theorem crd_of (t : Fin (cfgA v).N) : ((crd v t) 1).val = t.val % 73 ∧ ((crd v t) 0).val = t.val / 73 := crd_all t

/-- The words that steer the weights agree with the point before, where no new expert starts. -/
theorem prev_of (t : Fin (cfgA v).N) (h : ¬ Q0 (crd v t) (v.e (cur (crd v t))) (v.e (prv (crd v t)))) :
    t.val ≠ 0 ∧ ∀ s : Fin (cfgA v).N, s.val + 1 = t.val → ((crd v s) 0).val = ((crd v t) 0).val ∧ v.e (cur (crd v s)) = v.e (cur (crd v t)) := by
  obtain ⟨h1, h2⟩ := not_Q0 h
  have ht := crd_of v t
  refine ⟨fun h0 => h1 (by rw [ht.1, h0]), fun s hs => ?_⟩
  have hs' := crd_of v s
  rw [ht.1] at h1
  refine ⟨by rw [ht.2, hs'.2]; omega, ?_⟩
  rw [h2]
  congr 1
  funext a
  apply Fin.ext
  show ((crd v s) 1).val = ((crd v t) 1).val - 1
  rw [ht.1, hs'.1]; omega

/-- Equal steering words, equal weights. -/
theorem same1 (c : Dev nD) (s t : Fin (cfgA v).N) (h0 : ((crd v s) 0).val = ((crd v t) 0).val) (he : v.e (cur (crd v s)) = v.e (cur (crd v t))) :
    iblk v m ρ c (1 : Fin 3) s = iblk v m ρ c (1 : Fin 3) t := by
  have e : cc0_transform_1 k0_off1_inb numel1_S1 (pf v) (crd v s) = cc0_transform_1 k0_off1_inb numel1_S1 (pf v) (crd v t) := by
    rw [tr1, tr1, h0, he]
  funext y
  show m ((c : Thread nD τ).loc main_arg3) ((((cfgA v).win (1 : Fin 3)).rect s).emb y) = m ((c : Thread nD τ).loc main_arg3) ((((cfgA v).win (1 : Fin 3)).rect t).emb y)
  refine congrArg _ (funext fun a => Fin.ext ?_)
  show cc0_transform_1 k0_off1_inb numel1_S1 (pf v) (crd v s) a * S1x1x7168x512.size a + 1 * (y a).val = cc0_transform_1 k0_off1_inb numel1_S1 (pf v) (crd v t) a * S1x1x7168x512.size a + 1 * (y a).val
  rw [e]

/-- Before a point: each scratch holds the weights the point before used, and the tables are held. -/
def Phi (c : Dev nD) (t : Fin ((cfgA v).N + 1)) : sProp 𝕄 :=
  iprop((∃ a, ⌜∀ s : Fin (cfgA v).N, s.val + 1 = t.val → a = k0_pay1 (iblk v m ρ c (1 : Fin 3) s)⌝ ∗ (scM0_0.view.loc (c : Thread nD τ) ↦{fullShare} a)) ∗ (tbM0_0.view.loc (c : Thread nD τ) ↦{fullShare.right} v.e) ∗ (tbM0_1.view.loc (c : Thread nD τ) ↦{fullShare.right} v.n))

/-- The proof data of the pipeline. -/
def dats (_ : Fin 1) (c : Dev nD) : Dat τ (Elt Bits) Unit ℕ (UR sig nD τ) ℕ (cfgA v) c where
  A w := (s₀ m ρ).mem (((cfgA v).win w).arr.view.loc (c : Thread nD τ))
  after w t := match w with
    | ⟨0, _⟩ => iblk v m ρ c (0 : Fin 3) t
    | ⟨1, _⟩ => iblk v m ρ c (1 : Fin 3) t
    | ⟨2, _⟩ => outv v m ρ c t
  Φ t := Phi v m ρ c t
  q _ := fullShare
  owed _ := 0

theorem after0_0 (c : Dev nD) (t : Fin (cfgA v).N) : (dats v m ρ 0 c).after (0 : Fin 3) t = iblk v m ρ c (0 : Fin 3) t := rfl
theorem after0_1 (c : Dev nD) (t : Fin (cfgA v).N) : (dats v m ρ 0 c).after (1 : Fin 3) t = iblk v m ρ c (1 : Fin 3) t := rfl
theorem after0_2 (c : Dev nD) (t : Fin (cfgA v).N) : (dats v m ρ 0 c).after (2 : Fin 3) t = outv v m ρ c t := rfl

theorem before0_0 (c : Dev nD) (t : Fin (cfgA v).N) (d) : (dats v m ρ 0 c).before (0 : Fin 3) t d = iblk v m ρ c (0 : Fin 3) t :=
  ((dats v m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA v).N) (d) : (dats v m ρ 0 c).before (1 : Fin 3) t d = iblk v m ρ c (1 : Fin 3) t :=
  ((dats v m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- The body at a point on its staging buffers. -/
abbrev bodyAt0 (t : Fin (cfgA v).N) : Prog (TpuEff nD τ sig (Elt Bits) Λ₀ .tc) PUnit :=
  cc0_expert_down (crd v t) (Memref.whole main_arg0) (Memref.isWhole_whole _) (Memref.whole main_arg1) (Memref.isWhole_whole _) (ms0_0 v t) (hs0_0 v t) (ms0_1 v t) (hs0_1 v t) (ms0_2 v t) (hs0_2 v t) (Memref.whole cc0_scratch0) (Memref.isWhole_whole _)

set_option maxHeartbeats 4000000 in
/-- The body's obligation at a point, by its path. -/
theorem sound_body (c : Dev nD) (t : Fin (cfgA v).N) :
    iprop((dats v m ρ 0 c).Φ t.castSucc ∗ (dats v m ρ 0 c).owesAt () t.castSucc
        ∗ (∃ d, owns (c : Thread nD τ) (ms0_0 v t) fullShare ((dats v m ρ 0 c).before (0 : Fin 3) t d))
        ∗ (∃ d, owns (c : Thread nD τ) (ms0_1 v t) fullShare ((dats v m ρ 0 c).before (1 : Fin 3) t d))
        ∗ (∃ d, owns (c : Thread nD τ) (ms0_2 v t) fullShare ((dats v m ρ 0 c).before (2 : Fin 3) t d)))
      ⊢ wp frame (wpE (defs₀ (F := Bits)) Variants.none c none) Set.univ (bodyAt0 v t) fun _ =>
          iprop((dats v m ρ 0 c).Φ t.succ ∗ (dats v m ρ 0 c).owesAt () t.succ
            ∗ bigSep Finset.univ fun w : Fin (cfgA v).W =>
                match (cfgA v).idle w ((cfgA v).grid.coords t) with
                | true =>
                  match ((cfgA v).win w).flush t with
                  | false => iprop(∃ d, owns (c : Thread nD τ) (((cfgA v).win w).stage ((cfgA v).slots t w)) fullShare ((dats v m ρ 0 c).before w t d))
                  | true => owns (c : Thread nD τ) (((cfgA v).win w).stage ((cfgA v).slots t w)) fullShare ((dats v m ρ 0 c).after w t)
                | false => owns (c : Thread nD τ) (((cfgA v).win w).stage ((cfgA v).slots t w)) fullShare ((dats v m ρ 0 c).after w t)) := by
  rw [bigSep_W0]
  have i3 := idle_false v t
  rewrite [i3]
  simp only [before0_0, before0_1, after0_0, after0_1, after0_2]
  rewrite [show (dats v m ρ 0 c).Φ t.succ = Phi v m ρ c t.succ from rfl, show (dats v m ρ 0 c).Φ t.castSucc = Phi v m ρ c t.castSucc from rfl,
    show (dats v m ρ 0 c).owesAt () t.succ = (dats v m ρ 0 c).owesAt () t.castSucc from rfl]
  unfold Phi
  simp only [Fin.val_castSucc, Fin.val_succ]
  by_cases q0 : Q0 (crd v t) (v.e (cur (crd v t))) (v.e (prv (crd v t)))
  · by_cases q1 : Q1 v t
    · have hc0 : (Q0 (crd v t) (View.readAt (Elt Bits) (tbM0_0).view (Rect.unit (s := S73) (k0_off1 (crd v t)) S1.size (k0_off1_inb (crd v t))).toLoadRect v.e (Shape.Idx.first (numel1_S1.symm ▸ Nat.one_pos))) (View.readAt (Elt Bits) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, HT0, HT1⟩, Ho, ⟨%d0, H0⟩, ⟨%d1, H1⟩, ⟨%d2, H2⟩⟩
      iapply ((kernelRun0_A c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3).2.2 a0 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e3, H2⟩, HS0⟩
      isplitl [HS0 HT0 HT1]
      · isplitl [HS0]
        · iexists _; isplitr; swap
          · iexact HS0
          · ipureintro; intro s hs; rw [show s = t from Fin.ext (Nat.succ.inj hs)]
            exact sc0_A c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (out_A c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3 e3).trans ?_
        rw [outv, if_pos q1]
    · have hc0 : (Q0 (crd v t) (View.readAt (Elt Bits) (tbM0_0).view (Rect.unit (s := S73) (k0_off1 (crd v t)) S1.size (k0_off1_inb (crd v t))).toLoadRect v.e (Shape.Idx.first (numel1_S1.symm ▸ Nat.one_pos))) (View.readAt (Elt Bits) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : ¬ (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact k0_h2
      iintro ⟨⟨⟨%a0, %ha0, HS0⟩, HT0, HT1⟩, Ho, ⟨%d0, H0⟩, ⟨%d1, H1⟩, ⟨%d2, H2⟩⟩
      iapply ((kernelRun0_D c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3).2.2 a0 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e3, H2⟩, HS0⟩
      isplitl [HS0 HT0 HT1]
      · isplitl [HS0]
        · iexists _; isplitr; swap
          · iexact HS0
          · ipureintro; intro s hs; rw [show s = t from Fin.ext (Nat.succ.inj hs)]
            exact sc0_D c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (out_D c (crd v t) (ms0_0 v t) (hs0_0 v t) (ms0_1 v t) (hs0_1 v t) (ms0_2 v t) (hs0_2 v t) v.e v.n (iblk v m ρ c (0 : Fin 3) t) (iblk v m ρ c (1 : Fin 3) t) hc0 k0_h2 k0_h3 e3).trans ?_
        rw [outv, if_neg q1]
  · obtain ⟨ht0, hpv⟩ := prev_of v t q0
    have hlt := t.isLt
    have hk0 : ∀ a : Buf (Elt Bits) ((c : Thread nD τ).loc cc0_scratch0), (∀ s : Fin (cfgA v).N, s.val + 1 = t.val → a = k0_pay1 (iblk v m ρ c (1 : Fin 3) s)) → a = k0_pay1 (iblk v m ρ c (1 : Fin 3) t) := fun a ha => by
      have hs : (⟨t.val - 1, by omega⟩ : Fin (cfgA v).N).val + 1 = t.val := Nat.succ_pred ht0
      rw [ha _ hs, same1 v m ρ c _ t (hpv _ hs).1 (hpv _ hs).2]
    by_cases q1 : Q1 v t
    · have hc0 : ¬ (Q0 (crd v t) (View.readAt (Elt Bits) (tbM0_0).view (Rect.unit (s := S73) (k0_off1 (crd v t)) S1.size (k0_off1_inb (crd v t))).toLoadRect v.e (Shape.Idx.first (numel1_S1.symm ▸ Nat.one_pos))) (View.readAt (Elt Bits) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : ¬ (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact not_not.mpr k0_h2
      iintro ⟨⟨⟨%a0, %ha0, HS0⟩, HT0, HT1⟩, Ho, ⟨%d0, H0⟩, ⟨%d1, H1⟩, ⟨%d2, H2⟩⟩
      iapply ((kernelRun0_B c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e3, H2⟩, HS0⟩
      isplitl [HS0 HT0 HT1]
      · isplitl [HS0]
        · iexists _; isplitr; swap
          · iexact HS0
          · ipureintro; intro s hs; rw [show s = t from Fin.ext (Nat.succ.inj hs)]
            exact (sc0_B c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3).trans (hk0 a0 ha0)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (out_B c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3 e3).trans ?_
        rw [outv, if_pos q1, hk0 a0 ha0]
    · have hc0 : ¬ (Q0 (crd v t) (View.readAt (Elt Bits) (tbM0_0).view (Rect.unit (s := S73) (k0_off1 (crd v t)) S1.size (k0_off1_inb (crd v t))).toLoadRect v.e (Shape.Idx.first (numel1_S1.symm ▸ Nat.one_pos))) (View.readAt (Elt Bits) (tbM0_0).view (Rect.unit (s := S73) (k0_off2 (crd v t)) S1.size (k0_off2_inb (crd v t))).toLoadRect v.e (Shape.Idx.first (numel1_S1.symm ▸ Nat.one_pos)))) := by rw [rd1, rd2]; exact q0
      have k0_h2 : ¬ (k0_cond2 (crd v t) (View.readAt (Elt Bits) (tbM0_1).view (Rect.unit (s := S1) ![0] S1.size inb_S1_S1_0).toLoadRect v.n (Shape.Idx.first (numel1_S1.symm ▸ Nat.one_pos))) = 1#1) := by rw [rdn]; exact q1
      have k0_h3 : (k0_cond3 (crd v t) (View.readAt (Elt Bits) (tbM0_1).view (Rect.unit (s := S1) ![0] S1.size inb_S1_S1_0).toLoadRect v.n (Shape.Idx.first (numel1_S1.symm ▸ Nat.one_pos))) = 1#1) := by rw [cond23]; exact k0_h2
      iintro ⟨⟨⟨%a0, %ha0, HS0⟩, HT0, HT1⟩, Ho, ⟨%d0, H0⟩, ⟨%d1, H1⟩, ⟨%d2, H2⟩⟩
      iapply ((kernelRun0_C c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e3, H2⟩, HS0⟩
      isplitl [HS0 HT0 HT1]
      · isplitl [HS0]
        · iexists _; isplitr; swap
          · iexact HS0
          · ipureintro; intro s hs; rw [show s = t from Fin.ext (Nat.succ.inj hs)]
            exact (sc0_C c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3).trans (hk0 a0 ha0)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro
        refine (out_C c (crd v t) (ms0_0 v t) (hs0_0 v t) (ms0_1 v t) (hs0_1 v t) (ms0_2 v t) (hs0_2 v t) v.e v.n (iblk v m ρ c (0 : Fin 3) t) (iblk v m ρ c (1 : Fin 3) t) a0 hc0 k0_h2 k0_h3 e3).trans ?_
        rw [outv, if_neg q1]

theorem body_obligation (c : Dev nD) : BodyObligation (dats v m ρ 0 c) (defs₀ (F := Bits)) Variants.none () Set.univ := fun t => by
  rw [bigSep_W0]
  exact sound_body v m ρ c t

/-- The launch's resources. -/
def u₀ : UR sig nD τ :=
  initOf (Pipeline.cells (pcs v) ((launch0 (F := Bits)).cellOf_inj fun _ => adm v))
    (Pipeline.launchToks (pcs v) ((launch0 (F := Bits)).cellOf_inj fun _ => adm v))

theorem share_eq (c : Dev nD) (w : Fin (cfgA v).W) : (dats v m ρ 0 c).share w = fullShare := by unfold Dat.share; split <;> rfl

/-- The two tables, one by one. -/
theorem prefHeld_eq (c : Dev nD) (q : Fin 2 → PosShare TreeShare) (u : pre0.Contents (Elt Bits)) :
    (Pipeline.prefHeld (Ix := Unit) (Name := ℕ) (U := UR sig nD τ) (Lvl := ℕ) pre0 c q u : sProp 𝕄)
      = iprop((((c : Thread nD τ).loc main_arg0) ↦{q 0} u 0) ∗ (((c : Thread nD τ).loc main_arg1) ↦{q 1} u 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm v).1 ∗ Pipeline.scopedRest spec0 c) ⊢ (dats v m ρ 0 c).Φ 0 := by
  rw [prefHeld_eq, scopedRest0_eq, show (dats v m ρ 0 c).Φ 0 = Phi v m ρ c 0 from rfl]
  unfold Phi
  iintro ⟨-, ⟨HT0, HT1⟩, ⟨%a0, HS0⟩⟩
  isplitl [HS0]
  · iexists a0; isplitr; swap
    · iexact HS0
    · ipureintro; intro s h; exact absurd h (Nat.succ_ne_zero _)
  isplitl [HT0]
  · iexact HT0
  iexact HT1

theorem phiN_exit (c : Dev nD) : (dats v m ρ 0 c).Φ (Fin.last (cfgA v).N) ⊢ iprop(BI.emp ∗ Pipeline.scopedRest spec0 c) := by
  rw [scopedRest0_eq, show (dats v m ρ 0 c).Φ (Fin.last (cfgA v).N) = Phi v m ρ c (Fin.last _) from rfl]
  unfold Phi
  iintro ⟨⟨%a0, -, HS0⟩, -, -⟩
  isplitr; · iempintro
  iexists a0; iexact HS0

/-- What a run ends with: every array as the library computes it, the tables as they were. -/
def QC : PUnit × MemSt nD τ sig (Elt Bits) → Prop := fun r =>
  ∀ c : Dev nD, (∀ w : Fin (cfgA v).W, r.2.mem (((cfgA v).win w).arr.view.loc (c : Thread nD τ)) = (dats v m ρ 0 c).arrAt w (cfgA v).N)
    ∧ ∀ j, r.2.mem ((c : Thread nD τ).loc (pre0.ref j)) = (adm v).1 j

theorem V_pre (hp : Pinned v m) (c : Dev nD) (j : Fin 2) : m ((c : Thread nD τ).loc (pre0.ref j)) = (adm v).1 j := by
  fin_cases j
  · exact hp.1 c
  · exact hp.2 c

set_option backward.isDefEq.respectTransparency.types false in
set_option maxHeartbeats 4000000 in
/-- From a memory that holds such tables every run ends, each array as computed, each counter at zero. -/
theorem run_main_quiescent (hp : Pinned v m) : θ_run (defs (F := Bits)) (onTc (τ := τ) (main (F := Bits))) (s₀ m ρ) (fun r => QC v m ρ r ∧ r.2.sem = fun _ => 0) :=
  Pipeline.θ_run_region_noSem_pf_quiescent pcfgs (fun _ => adm v) (dats v m ρ) () ((launch0 (F := Bits)).cellOf_inj fun _ => adm v) (0 : Fin 1)
    (launch0 (F := Bits)).win.to₀ (launch0 (F := Bits)).pre EPm defs₀ Variants.none m ρ main
    (hbody := fun c => (body_obligation v m ρ c).loose) (hne := (launch0 (F := Bits)).block_pos)
    (harr := (launch0 (F := Bits)).arr_whole) (hstage := (launch0 (F := Bits)).stage_whole) (howed := fun _ _ => rfl)
    (u₀ := u₀ v) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs v) (dats v m ρ) 0 (launch0 (F := Bits)).win.arr_inj c (launch0 (F := Bits)).arr_whole
      (share_eq v m ρ c) _ _ fun _ => rfl)
    (hpf := V_pre v m hp)
    (X := fun _ => iprop(emp)) (Y := fun _ => iprop(emp)) (Z := fun _ => iprop(emp))
    (hX := fun c => by rw [unscopedRestP0_eq]; iintro -; isplitr <;> iempintro)
    (hin := phi0_intro v m ρ)
    (hout := phiN_exit v m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned v m) : θ_run (defs (F := Bits)) (onTc (τ := τ) (main (F := Bits))) (s₀ m ρ) (QC v m ρ) :=
  (θ_run defs _ _).mono (fun _ h => h.1) (run_main_quiescent v m ρ hp)

theorem kept (hp : Pinned v m) (r : PUnit × MemSt nD τ sig (Elt Bits)) (h : QC v m ρ r) (c : Dev nD) :
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  ⟨((h c).2 0).trans (hp.1 c).symm, ((h c).2 1).trans (hp.2 c).symm, ((h c).1 (0 : Fin 3)).trans ((dats v m ρ 0 c).arrAt_in (0 : Fin 3) rfl _), ((h c).1 (1 : Fin 3)).trans ((dats v m ρ 0 c).arrAt_in (1 : Fin 3) rfl _)⟩

/-- The arguments end unchanged and every counter at zero. -/
theorem frame (hp : Pinned v m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun r h => ⟨fun c => kept v m ρ hp r h.1 c, h.2⟩) (run_main_quiescent v m ρ hp)

end Cert.Kernel3.Moe
end
-- ==== Proof.Moe3Claim.lean ====
/- The claims about the projection back of the routed experts. -/
module

public import proofs.«01_k».proof.Defs
public import proofs.«01_k».proof.Proof.Gen.Pre_tables3
public import proofs.«01_k».proof.Proof.Moe3Val
public import proofs.«01_k».proof.Proof.Moe3B
public import Idealize.ShloMosaic.Lib.ReduceAll
public import Idealize.ShloMosaic.Lib.Pointwise
public import Idealize.ShloMosaic.Lib.Pipeline.ValueKit
public import Idealize.ShloMosaic.Adequacy
public import Idealize.ShloMosaic.Init

@[expose] public section

set_option maxRecDepth 16384
set_option maxHeartbeats 1000000

noncomputable section

namespace Cert.Proof.Moe3

open Idealize.ShloMosaic Idealize.ShloMosaic.TcCoe Idealize.SL.Sem

/-- A word that is not negative and below eight, read as a number. -/
theorem word_lt (w : BitVec 32) (h0 : BitVec.ofBool ((0#32).sle w) = 1#1) (h1 : BitVec.ofBool (w.slt 8#32) = 1#1) : w.toNat < 8 := by
  have ob : ∀ b : Bool, BitVec.ofBool b = 1#1 → b = true := by decide
  have a := ob _ h0
  have b := ob _ h1
  rw [BitVec.sle_iff_toInt_le] at a
  rw [BitVec.slt_iff_toInt_lt] at b
  have z : (0#32).toInt = 0 := by decide
  have e : (8#32).toInt = 8 := by decide
  rw [z] at a
  rw [e] at b
  have hl := w.isLt
  rw [BitVec.toInt_eq_toNat_cond] at a b
  split at a <;> split at b <;> omega

theorem word_pos (w : BitVec 32) (h : BitVec.ofBool ((1#32).sle w) = 1#1) : 1 ≤ w.toInt := by
  have ob : ∀ b : Bool, BitVec.ofBool b = 1#1 → b = true := by decide
  have a := ob _ h
  rw [BitVec.sle_iff_toInt_le] at a
  have z : (1#32).toInt = 1 := by decide
  rwa [z] at a

/-- The precondition, read: every table entry names an expert and at least one tile holds rows. -/
theorem decode {F : FTy → Type} [FloatOps F] (e : IVec Cert.Pre_tables3.S73 32) (n : IVec Cert.Pre_tables3.S1 32) (x : FVec F Cert.Pre_tables3.S37376x7168 .bf16) (w0 : FVec F Cert.Pre_tables3.S1x8x7168x2048 .f32)
    (h : Cert.Pre_tables3.fn (F := F) e n x w0 = fun _ => 1#1) : (∀ i, (e i).toNat < 8) ∧ ∀ i, 1 ≤ (n i).toInt := by
  have key := congrFun h ix0
  dsimp only [Cert.Pre_tables3.fn] at key
  have an : ∀ a b : BitVec 1, IntOp.andi a b = 1#1 → a = 1#1 ∧ b = 1#1 := by decide
  obtain ⟨k1, k2⟩ := an _ _ key
  refine ⟨fun i => ?_, fun i => ?_⟩
  · have el := Host.reduce_andi_all _ _ _ _ _ k1 i
    obtain ⟨l0, l1⟩ := an _ _ el
    exact word_lt _ l0 l1
  · exact word_pos _ (Host.reduce_andi_all _ _ _ _ _ k2 i)

/-- The launch's tables. -/
def tabB (m : (ℓ : Loc Cert.Kernel3.nD Cert.Kernel3.τ Cert.Kernel3.sig) → Buf (Elt Bits) ℓ) (h : Cert.Pre_Kernel3 m) : Cert.Kernel3.Moe.Tab where
  e := (m (((0 : Dev Cert.Kernel3.nD).tc : Thread Cert.Kernel3.nD Cert.Kernel3.τ).loc Cert.Kernel3.main_arg0))
  n := (m (((0 : Dev Cert.Kernel3.nD).tc : Thread Cert.Kernel3.nD Cert.Kernel3.τ).loc Cert.Kernel3.main_arg1))
  he := (decode _ _ _ _ (h 0)).1
  hn := (decode _ _ _ _ (h 0)).2

theorem pinnedB (m : (ℓ : Loc Cert.Kernel3.nD Cert.Kernel3.τ Cert.Kernel3.sig) → Buf (Elt Bits) ℓ) (h : Cert.Pre_Kernel3 m) : Cert.Kernel3.Moe.Pinned (tabB m h) m :=
  ⟨fun c => by obtain rfl : c = 0 := Subsingleton.elim _ _; rfl, fun c => by obtain rfl : c = 0 := Subsingleton.elim _ _; rfl⟩

/-- The kernel runs and leaves its arguments. -/
theorem frameB : Cert.quiescent_Kernel3 := fun m ρ h => Cert.Kernel3.Moe.frame (tabB m h) m ρ (pinnedB m h)

/-- The launch's tables, over the reals. -/
def tabI (m : (ℓ : Loc Cert.Kernel3Ideal.nD Cert.Kernel3Ideal.τ Cert.Kernel3Ideal.sig) → Buf (Elt Ideal) ℓ) (h : Cert.Pre_Kernel3Ideal m) : Cert.Kernel3Ideal.Moe.Tab where
  e := (m (((0 : Dev Cert.Kernel3Ideal.nD).tc : Thread Cert.Kernel3Ideal.nD Cert.Kernel3Ideal.τ).loc Cert.Kernel3Ideal.main_arg0))
  n := (m (((0 : Dev Cert.Kernel3Ideal.nD).tc : Thread Cert.Kernel3Ideal.nD Cert.Kernel3Ideal.τ).loc Cert.Kernel3Ideal.main_arg1))
  he := (decode _ _ _ _ (h 0)).1
  hn := (decode _ _ _ _ (h 0)).2

theorem pinnedI (m : (ℓ : Loc Cert.Kernel3Ideal.nD Cert.Kernel3Ideal.τ Cert.Kernel3Ideal.sig) → Buf (Elt Ideal) ℓ) (h : Cert.Pre_Kernel3Ideal m) : Cert.Kernel3Ideal.Moe.Pinned (tabI m h) m :=
  ⟨fun c => by obtain rfl : c = 0 := Subsingleton.elim _ _; rfl, fun c => by obtain rfl : c = 0 := Subsingleton.elim _ _; rfl⟩

/-- The kernel runs and leaves its arguments. -/
theorem frameI : Cert.quiescent_Kernel3Ideal := fun m ρ h => Cert.Kernel3Ideal.Moe.frame (tabI m h) m ρ (pinnedI m h)

/-- The reference runs and leaves its arguments; it declares no semaphore. -/
theorem frameR : Cert.quiescent_Reference3Ideal := fun m ρ _ =>
  (θ_run Cert.Reference3Ideal.defs _ _).mono (fun r q => ⟨fun c => (q c).2, sem_eq_zero_of_no_sems (by decide) r.2⟩)
    (Cert.Reference3Ideal.Value.run (F := Ideal) m ρ)

/-- The two programs end with equal results. -/
theorem value : Cert.algebraic_Kernel3Ideal_Reference3Ideal := by
  intro m g m' g' hpre hagree
  have hp := pinnedI m hpre
  refine ⟨fun c => ((Cert.Kernel3Ideal.Moe.dats (tabI m hpre) m g 0 c).arrAt (2 : Fin 3) (Cert.Kernel3Ideal.Moe.cfgA (tabI m hpre)).N), ?_, ?_⟩
  · exact (θ_run Cert.Kernel3Ideal.defs _ _).mono (fun r h c => ⟨(h c).1 (2 : Fin 3), Cert.Kernel3Ideal.Moe.kept (tabI m hpre) m g hp r h c⟩)
      (Cert.Kernel3Ideal.Moe.run_main (tabI m hpre) m g hp)
  · refine (θ_run Cert.Reference3Ideal.defs _ _).mono (fun r h c => ⟨(h c).1.trans ?_, (h c).2⟩) (Cert.Reference3Ideal.Value.run (F := Ideal) m' g')
    obtain rfl : c = 0 := Subsingleton.elim _ _
    refine Eq.trans ?_ (Cert.Kernel3Ideal.Moe.final (tabI m hpre) m g 0).symm
    refine (Cert.Reference3Ideal.Moe.res_eq m' 0).trans ?_
    rw [(hagree 0).1, (hagree 0).2.1, (hagree 0).2.2.1, (hagree 0).2.2.2]
    funext i
    refine (congrArg _ (eq_ix2 i)).trans ?_
    exact Cert.Reference3Ideal.Moe.chain_at _ _ _ _ (tabI m hpre).he (i 0) (i 1)

end Cert.Proof.Moe3

end
-- ==== Proof.Sb8.lean ====
/- One grid point of the head normalisation, read at an index. -/
module

public import proofs.«01_k».proof.Proof.Gen.Kernel8Ideal.Value
public import proofs.«01_k».proof.Proof.RetBody
public import proofs.«01_k».proof.Proof.RetFin
public import Idealize.ShloMosaic.Lib.Pipeline.ReadBack
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic Idealize.SL.Sem

namespace Cert.Kernel8Ideal.Sb

open Cert.Kernel8Ideal Cert.Kernel8Ideal.Gen
open Cert.KernelIdeal.RetBody (lane sum_head bit_val div_64)
open Cert.ReferenceIdeal.RetVal (Fn)

/-- A head normalised by its mean square, with a gain. -/
def nrm (x : Fin 64 → EReal) (w : EReal) (d : Fin 64) : EReal :=
  x d * Ideal.rsqrt (Ideal.div (∑ e : Fin 64, x e * x e) (Ideal.ofBits .f32 0x42800000#32) + Ideal.ofBits .f32 0x358637BD#32) * w

/-- The table that adds the lanes of one head. -/
abbrev ones : FVec Ideal S128x128 .bf16 := k0_pay8 (F := Ideal) k0_pay4 k0_pay5 k0_pay6 k0_pay7

theorem ones_at (r l : Fin 128) : ones (ix2 r l) = if r.val / 64 = l.val / 64 then (1 : EReal) else 0 := by
  refine Eq.trans ?_ (bit_val _)
  pointwise [k0_pay8, k0_pay4, k0_pay5, k0_pay6, k0_pay7]
  refine congrArg (fun b => (FloatOps.sitofp FTy.f32 (BitVec.setWidth 32 b) : Ideal .f32)) ?_
  revert r l; decide +kernel

/-- A normalised entry of a pair of heads, of finite entries. -/
theorem core_at (X : FVec Ideal S640x128 .f32) (W : FVec Ideal S1x128 .f32) (r : Fin 640) (e : Fin 2) (d : Fin 64) (hX : ∀ i, Fn (X i)) :
    k0_pay1 (F := Ideal) ones X W (ix2 r (lane e d)) = nrm (fun x => X (ix2 r (lane e x))) (W (ix2 0 (lane e d))) d := by
  have hl : (lane e d).val / 64 = e.val := by show (e.val * 64 + d.val) / 64 = e.val; omega
  have hl' : ∀ x : Fin 64, (lane e x).val / 64 = e.val := fun x => by show (e.val * 64 + x.val) / 64 = e.val; omega
  have hlo : ∀ k : Fin 128, (X (ix2 r k) * X (ix2 r k) - X (ix2 r k) * X (ix2 r k)) = 0 := fun k => by
    obtain ⟨x, hx⟩ := hX (ix2 r k)
    rw [hx, ← EReal.coe_mul, ← EReal.coe_sub, sub_self, EReal.coe_zero]
  have hs : (∑ k : Fin 128, X (ix2 r k) * X (ix2 r k) * ones (ix2 k (lane e d)))
      + (∑ k : Fin 128, (X (ix2 r k) * X (ix2 r k) - X (ix2 r k) * X (ix2 r k)) * ones (ix2 k (lane e d))) = ∑ x : Fin 64, X (ix2 r (lane e x)) * X (ix2 r (lane e x)) := by
    rw [Finset.sum_eq_zero (s := Finset.univ) (f := fun k : Fin 128 => (X (ix2 r k) * X (ix2 r k) - X (ix2 r k) * X (ix2 r k)) * ones (ix2 k (lane e d))) (fun k _ => by
      show _ * _ = _
      rw [hlo k, zero_mul]), add_zero]
    refine (sum_head e _ fun k hk => ?_).trans (Finset.sum_congr rfl fun x _ => ?_)
    · rw [ones_at, if_neg (by rw [hl]; exact hk), mul_zero]
    · rw [ones_at, if_pos (by rw [hl, hl']), mul_one]
  unfold nrm
  rw [← hs, ← div_64]
  generalize ones = V
  pointwise [k0_pay1]

/-- Columns of pair `g` of a block of rows. -/
def col (g : Fin 8) (X : FVec Ideal S640x1024 .f32) : FVec Ideal S640x128 .f32 :=
  View.ld (Val := Elt Ideal) (e' := .f32) X (Rect.unit (s := S640x1024) ![0, 128 * g.val] ![640, 128] (by
    intro a; match a with
    | 0 => exact Nat.le_refl _
    | 1 => show 128 * g.val + 128 ≤ 1024; omega))
theorem col_at (g : Fin 8) (X : FVec Ideal S640x1024 .f32) (r : Fin 640) (l : Fin 128) : col g X (ix2 r l) = X (ix2 r ⟨128 * g.val + l.val, by omega⟩) := by
  pointwise [col]

/-- Columns of pair `g` of the gain row. -/
def gcol (g : Fin 8) (X : FVec Ideal S1x1024 .f32) : FVec Ideal S1x128 .f32 :=
  View.ld (Val := Elt Ideal) (e' := .f32) X (Rect.unit (s := S1x1024) ![0, 128 * g.val] ![1, 128] (by
    intro a; match a with
    | 0 => exact Nat.le_refl _
    | 1 => show 128 * g.val + 128 ≤ 1024; omega))
theorem gcol_at (g : Fin 8) (X : FVec Ideal S1x1024 .f32) (l : Fin 128) : gcol g X (ix2 0 l) = X (ix2 0 ⟨128 * g.val + l.val, by omega⟩) := by
  pointwise [gcol]

/-- The normalised entry in a block of rows: head `e` of pair `g`. -/
def cell (X : FVec Ideal S640x1024 .f32) (W : FVec Ideal S1x1024 .f32) (r : Fin 640) (g : Fin 8) (e : Fin 2) (d : Fin 64) : EReal :=
  nrm (fun x => X (ix2 r ⟨128 * g.val + (lane e x).val, by have := (lane e x).isLt; omega⟩)) (W (ix2 0 ⟨128 * g.val + (lane e d).val, by have := (lane e d).isLt; omega⟩)) d

/-- A pair's tile holds its normalised entries. -/
theorem tile (X : FVec Ideal S640x1024 .f32) (W : FVec Ideal S1x1024 .f32) (hX : ∀ i, Fn (X i)) (n : Fin 8) (r : Fin 640) (g : Fin 8) (e : Fin 2) (d : Fin 64)
    (x : S640x128.Idx) (h0 : r.val = (x 0).val) (h1 : 128 * g.val + (lane e d).val = 128 * n.val + (x 1).val) :
    k0_pay1 (F := Ideal) ones (col n X) (gcol n W) x = cell X W r g e d := by
  have e1 : (x 1).val < 128 := (x 1).isLt
  have e2 : (lane e d).val < 128 := (lane e d).isLt
  obtain rfl : g = n := Fin.ext (by omega)
  have ex : x = ix2 r (lane e d) := (eq_ix2 x).trans (congr (congrArg ix2 (Fin.ext h0.symm)) (Fin.ext (by omega)))
  rw [ex, core_at _ _ r e d (fun i => (congrArg Fn ((congrArg _ (eq_ix2 i)).trans (col_at g X (i 0) (i 1)))).mpr (hX _)), gcol_at]
  unfold cell
  simp only [col_at]

/-- The same, scaled. -/
theorem tileq (X : FVec Ideal S640x1024 .f32) (W : FVec Ideal S1x1024 .f32) (hX : ∀ i, Fn (X i)) (n : Fin 8) (r : Fin 640) (g : Fin 8) (e : Fin 2) (d : Fin 64)
    (x : S640x128.Idx) (h0 : r.val = (x 0).val) (h1 : 128 * g.val + (lane e d).val = 128 * n.val + (x 1).val) :
    k0_pay13 (F := Ideal) ones (col n X) (gcol n W) x = cell X W r g e d * Ideal.ofBits .f32 0x3E000000#32 :=
  congrArg (· * Ideal.ofBits .f32 0x3E000000#32) (tile X W hX n r g e d x h0 h1)

variable (m : (ℓ : Loc nD τ sig) → Buf (Elt Ideal) ℓ) (c : Dev nD) (t : Fin cfg0.N)

/-- The keys a point writes. -/
theorem out_k (hX : ∀ i, Fn (X0_1 m c t i)) (r : Fin 640) (g : Fin 8) (e : Fin 2) (d : Fin 64) :
    (outsAt0 m c t).2.1 (ix2 r ⟨128 * g.val + (lane e d).val, by have := (lane e d).isLt; omega⟩) = cell (X0_1 m c t) (iblk m c 4 t) r g e d := by
  unfold outsAt0
  frame_out
  canon_tiles x h
  · exact tile _ _ hX 7 r g e d x h0 h1
  · exact tile _ _ hX 6 r g e d x h0 h1
  · exact tile _ _ hX 5 r g e d x h0 h1
  · exact tile _ _ hX 4 r g e d x h0 h1
  · exact tile _ _ hX 3 r g e d x h0 h1
  · exact tile _ _ hX 2 r g e d x h0 h1
  · exact tile _ _ hX 1 r g e d x h0 h1
  · exact tile _ _ hX 0 r g e d x h0 (h1.trans (Nat.zero_add _).symm)

/-- The rounded keys a point writes. -/
theorem out_kb (hX : ∀ i, Fn (X0_1 m c t i)) (r : Fin 640) (g : Fin 8) (e : Fin 2) (d : Fin 64) :
    (outsAt0 m c t).2.2.1 (ix2 r ⟨128 * g.val + (lane e d).val, by have := (lane e d).isLt; omega⟩) = cell (X0_1 m c t) (iblk m c 4 t) r g e d := by
  unfold outsAt0
  frame_out
  canon_tiles x h
  · exact tile _ _ hX 7 r g e d x h0 h1
  · exact tile _ _ hX 6 r g e d x h0 h1
  · exact tile _ _ hX 5 r g e d x h0 h1
  · exact tile _ _ hX 4 r g e d x h0 h1
  · exact tile _ _ hX 3 r g e d x h0 h1
  · exact tile _ _ hX 2 r g e d x h0 h1
  · exact tile _ _ hX 1 r g e d x h0 h1
  · exact tile _ _ hX 0 r g e d x h0 (h1.trans (Nat.zero_add _).symm)

/-- The rounded queries a point writes. -/
theorem out_q (hX : ∀ i, Fn (X0_0 m c t i)) (r : Fin 640) (g : Fin 8) (e : Fin 2) (d : Fin 64) :
    (outsAt0 m c t).1 (ix2 r ⟨128 * g.val + (lane e d).val, by have := (lane e d).isLt; omega⟩)
      = cell (X0_0 m c t) (iblk m c 3 t) r g e d * Ideal.ofBits .f32 0x3E000000#32 := by
  unfold outsAt0
  frame_out
  canon_tiles x h
  · exact tileq _ _ hX 7 r g e d x h0 h1
  · exact tileq _ _ hX 6 r g e d x h0 h1
  · exact tileq _ _ hX 5 r g e d x h0 h1
  · exact tileq _ _ hX 4 r g e d x h0 h1
  · exact tileq _ _ hX 3 r g e d x h0 h1
  · exact tileq _ _ hX 2 r g e d x h0 h1
  · exact tileq _ _ hX 1 r g e d x h0 h1
  · exact tileq _ _ hX 0 r g e d x h0 (h1.trans (Nat.zero_add _).symm)

/-- The rounded values a point writes. -/
theorem out_v (r : Fin 640) (j : Fin 1024) : (outsAt0 m c t).2.2.2 (ix2 r j) = X0_2 m c t (ix2 r j) := by
  unfold outsAt0
  frame_out
  pointwise [k0_pay3]

end Cert.Kernel8Ideal.Sb

end
-- ==== Proof.Sb8Fin.lean ====
/- The head normalisation: the whole results, and their agreement with the reference. -/
module

public import proofs.«01_k».proof.Defs
public import proofs.«01_k».proof.Proof.Sb8
public import proofs.«01_k».proof.Proof.RetClaim
public import proofs.«01_k».proof.Proof.Gen.Reference8Ideal.Run
public import proofs.«01_k».proof.Proof.Gen.Kernel8
public import proofs.«01_k».proof.Proof.Gen.Pre_p_finite8
public import Idealize.ShloMosaic.Lib.Pipeline.ReadBack
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic Idealize.SL.Sem

namespace Cert.Kernel8Ideal.Sb

open Cert.Kernel8Ideal Cert.Kernel8Ideal.Gen
open Cert.KernelIdeal.RetBody (lane)
open Cert.ReferenceIdeal.RetVal (Fn)

/-- A head's lanes of a token's projection, from column `o` on, normalised with the first layer's gain. -/
def normf (o : ℕ) (ho : o + 1024 ≤ 5632) (P : FVec Ideal S16640x5632 .f32) (G : FVec Ideal S2x64 .f32) (r : Fin 16640) (j : Fin 1024) : EReal :=
  nrm (fun x => P (ix2 r ⟨o + (j.val / 64 * 64 + x.val), by omega⟩)) (G (ix2 0 ⟨j.val % 64, by omega⟩)) ⟨j.val % 64, by omega⟩

/-- A token's value columns. -/
def valf (P : FVec Ideal S16640x5632 .f32) (r : Fin 16640) (j : Fin 1024) : EReal := P (ix2 r ⟨2048 + j.val, by omega⟩)

/-- Every window's block index at point `t`. -/
theorem idx : ∀ t : Fin cfg0.N, win0_0.index t = ![t.val, 0] ∧ win0_1.index t = ![t.val, 1] ∧ win0_2.index t = ![t.val, 2] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD) (t : Fin cfg0.N)

theorem lt_N : t.val < 26 := lt_of_lt_of_eq t.isLt N_0

/-- The projections. -/
abbrev P : FVec Ideal S16640x5632 .f32 := m ((c.tc : Thread nD τ).loc main_arg0)

theorem gain_q (j : Fin 1024) : Gen.V (F := Ideal) m c main_v5 (ix2 0 j) = m ((c.tc : Thread nD τ).loc main_arg1) (ix2 0 ⟨j.val % 64, by omega⟩) := by
  simp only [Gen.V, hostOps0, List.flatten_cons, List.flatten_nil, List.append_nil, List.cons_append, List.nil_append]
  entry_read
  pointwise []
theorem gain_k (j : Fin 1024) : Gen.V (F := Ideal) m c main_v11 (ix2 0 j) = m ((c.tc : Thread nD τ).loc main_arg2) (ix2 0 ⟨j.val % 64, by omega⟩) := by
  simp only [Gen.V, hostOps0, List.flatten_cons, List.flatten_nil, List.append_nil, List.cons_append, List.nil_append]
  entry_read
  pointwise []

theorem blk_gq (j : Fin 1024) : iblk m c 3 t (ix2 0 j) = m ((c.tc : Thread nD τ).loc main_arg1) (ix2 0 ⟨j.val % 64, by omega⟩) := by
  have := lt_N t
  refine Eq.trans ?_ (gain_q m c j)
  blk_ext [iblk, idx t]
theorem blk_gk (j : Fin 1024) : iblk m c 4 t (ix2 0 j) = m ((c.tc : Thread nD τ).loc main_arg2) (ix2 0 ⟨j.val % 64, by omega⟩) := by
  have := lt_N t
  refine Eq.trans ?_ (gain_k m c j)
  blk_ext [iblk, idx t]

theorem blk_q (r : Fin 640) (j : Fin 1024) : X0_0 m c t (ix2 r j) = P m c (ix2 ⟨t.val * 640 + r.val, by have := lt_N t; omega⟩ ⟨0 + j.val, by omega⟩) := by
  have := lt_N t
  unfold X0_0 Pipeline.Window.fill
  rw [dif_pos (moved0_0 t _)]
  blk_ext [iblk, V_main_arg0, idx t]
theorem blk_k (r : Fin 640) (j : Fin 1024) : X0_1 m c t (ix2 r j) = P m c (ix2 ⟨t.val * 640 + r.val, by have := lt_N t; omega⟩ ⟨1024 + j.val, by omega⟩) := by
  have := lt_N t
  unfold X0_1 Pipeline.Window.fill
  rw [dif_pos (moved0_1 t _)]
  blk_ext [iblk, V_main_arg0, idx t]
theorem blk_v (r : Fin 640) (j : Fin 1024) : X0_2 m c t (ix2 r j) = P m c (ix2 ⟨t.val * 640 + r.val, by have := lt_N t; omega⟩ ⟨2048 + j.val, by omega⟩) := by
  have := lt_N t
  unfold X0_2 Pipeline.Window.fill
  rw [dif_pos (moved0_2 t _)]
  blk_ext [iblk, V_main_arg0, idx t]

/-- A column of a block as a pair, a head of the pair and a lane. -/
theorem split (j : Fin 1024) : j = ⟨128 * (⟨j.val / 128, by omega⟩ : Fin 8).val + (lane ⟨j.val % 128 / 64, by omega⟩ ⟨j.val % 64, by omega⟩).val, by
    show 128 * (j.val / 128) + (j.val % 128 / 64 * 64 + j.val % 64) < 1024; omega⟩ :=
  Fin.ext (by show j.val = 128 * (j.val / 128) + (j.val % 128 / 64 * 64 + j.val % 64); omega)

/-- An entry of a block of rows is the entry of the whole. -/
theorem cell_eq (o : ℕ) (ho : o + 1024 ≤ 5632) (Q : FVec Ideal S16640x5632 .f32) (G : FVec Ideal S2x64 .f32) (X : FVec Ideal S640x1024 .f32) (W : FVec Ideal S1x1024 .f32) (r : Fin 640) (R : Fin 16640) (j : Fin 1024)
    (hX : ∀ k : Fin 1024, X (ix2 r k) = Q (ix2 R ⟨o + k.val, by omega⟩)) (hW : ∀ k : Fin 1024, W (ix2 0 k) = G (ix2 0 ⟨k.val % 64, by omega⟩)) :
    cell X W r ⟨j.val / 128, by omega⟩ ⟨j.val % 128 / 64, by omega⟩ ⟨j.val % 64, by omega⟩ = normf o ho Q G R j := by
  unfold cell normf
  rw [hW]
  have e1 : (fun x : Fin 64 => X (ix2 r ⟨128 * (⟨j.val / 128, by omega⟩ : Fin 8).val + (lane ⟨j.val % 128 / 64, by omega⟩ x).val, by
      show 128 * (j.val / 128) + (j.val % 128 / 64 * 64 + x.val) < 1024; omega⟩)) = fun x => Q (ix2 R ⟨o + (j.val / 64 * 64 + x.val), by omega⟩) := by
    funext x
    rw [hX]
    refine congrArg (fun k => Q (ix2 R k)) (Fin.ext ?_)
    show o + (128 * (j.val / 128) + (j.val % 128 / 64 * 64 + x.val)) = o + (j.val / 64 * 64 + x.val)
    omega
  have e2 : (⟨(⟨128 * (⟨j.val / 128, by omega⟩ : Fin 8).val + (lane ⟨j.val % 128 / 64, by omega⟩ ⟨j.val % 64, by omega⟩).val, by
      show 128 * (j.val / 128) + (j.val % 128 / 64 * 64 + j.val % 64) < 1024; omega⟩ : Fin 1024).val % 64, by omega⟩ : Fin 64) = ⟨j.val % 64, by omega⟩ := by
    refine Fin.ext ?_
    show (128 * (j.val / 128) + (j.val % 128 / 64 * 64 + j.val % 64)) % 64 = j.val % 64
    omega
  exact congrFun (congr (congrArg nrm e1) (congrArg (fun k => G (ix2 0 k)) e2)) _

theorem fin_q (hp : ∀ i, Fn (P m c i)) (i : (cfg0.win 0).block.Idx) : Fn (X0_0 m c t i) :=
  (congrArg Fn ((congrArg (X0_0 m c t) (eq_ix2 (n0 := 640) (n1 := 1024) i)).trans (blk_q m c t (i 0) (i 1)))).mpr (hp _)
theorem fin_k (hp : ∀ i, Fn (P m c i)) (i : (cfg0.win 1).block.Idx) : Fn (X0_1 m c t i) :=
  (congrArg Fn ((congrArg (X0_1 m c t) (eq_ix2 (n0 := 640) (n1 := 1024) i)).trans (blk_k m c t (i 0) (i 1)))).mpr (hp _)

/-- What a point writes back of the keys. -/
theorem point_k (hp : ∀ i, Fn (P m c i)) (r : Fin 640) (j : Fin 1024) : (outsAt0 m c t).2.1 (ix2 r j)
      = normf 1024 (by decide) (P m c) (m ((c.tc : Thread nD τ).loc main_arg2)) ⟨t.val * 640 + r.val, by have := lt_N t; omega⟩ j :=
  (congrArg (fun k => (outsAt0 m c t).2.1 (ix2 r k)) (split j)).trans ((out_k m c t (fin_k m c t hp) r _ _ _).trans
    (cell_eq 1024 (by decide) _ _ _ _ r _ j (blk_k m c t r) (blk_gk m c t)))
theorem point_kb (hp : ∀ i, Fn (P m c i)) (r : Fin 640) (j : Fin 1024) : (outsAt0 m c t).2.2.1 (ix2 r j)
      = normf 1024 (by decide) (P m c) (m ((c.tc : Thread nD τ).loc main_arg2)) ⟨t.val * 640 + r.val, by have := lt_N t; omega⟩ j :=
  (congrArg (fun k => (outsAt0 m c t).2.2.1 (ix2 r k)) (split j)).trans ((out_kb m c t (fin_k m c t hp) r _ _ _).trans
    (cell_eq 1024 (by decide) _ _ _ _ r _ j (blk_k m c t r) (blk_gk m c t)))
theorem point_q (hp : ∀ i, Fn (P m c i)) (r : Fin 640) (j : Fin 1024) : (outsAt0 m c t).1 (ix2 r j)
      = normf 0 (by decide) (P m c) (m ((c.tc : Thread nD τ).loc main_arg1)) ⟨t.val * 640 + r.val, by have := lt_N t; omega⟩ j * Ideal.ofBits .f32 0x3E000000#32 :=
  (congrArg (fun k => (outsAt0 m c t).1 (ix2 r k)) (split j)).trans ((out_q m c t (fin_q m c t hp) r _ _ _).trans
    (congrArg (· * Ideal.ofBits .f32 0x3E000000#32) (cell_eq 0 (by decide) _ _ _ _ r _ j (blk_q m c t r) (blk_gq m c t))))

/-- The queries. -/
theorem final5 (hp : ∀ i, Fn (P m c i)) : (dats m 0 c).arrAt 5 (cfgs 0).N = fun i => normf 0 (by decide) (P m c) (m ((c.tc : Thread nD τ).loc main_arg1)) (i 0) (i 1) * Ideal.ofBits .f32 0x3E000000#32 := by
  refine (dats m 0 c).arrAt_eq_of_covers 5 _ (by decide +kernel) fun t hf y => ?_
  blk_simp
  rw [after0_5]
  have nt := lt_N t
  have key : ∀ (y : S640x1024.Idx) (j : S16640x1024.Idx), (j 0 : ℕ) = t.val * 640 + y 0 → (j 1 : ℕ) = y 1 →
      (outsAt0 m c t).1 y = normf 0 (by decide) (P m c) (m ((c.tc : Thread nD τ).loc main_arg1)) (j 0) (j 1) * Ideal.ofBits .f32 0x3E000000#32 := fun y j e0 e1 => by
    have a0 : (⟨t.val * 640 + (y 0).val, by have := (y 0).isLt; have : (y 0).val < 640 := this; omega⟩ : Fin 16640) = j 0 := Fin.ext e0.symm
    have a1 : (y 1 : Fin 1024) = j 1 := Fin.ext e1.symm
    exact (congrArg _ (eq_ix2 y)).trans ((a0 ▸ a1 ▸ point_q m c t hp (y 0) (y 1)))
  exact key y _ (by blk_simp [idx t] <;> try omega) (by blk_simp [idx t] <;> try omega)

/-- The keys. -/
theorem final6 (hp : ∀ i, Fn (P m c i)) : (dats m 0 c).arrAt 6 (cfgs 0).N = fun i => normf 1024 (by decide) (P m c) (m ((c.tc : Thread nD τ).loc main_arg2)) (i 0) (i 1) := by
  refine (dats m 0 c).arrAt_eq_of_covers 6 _ (by decide +kernel) fun t hf y => ?_
  blk_simp
  rw [after0_6]
  have nt := lt_N t
  have key : ∀ (y : S640x1024.Idx) (j : S16640x1024.Idx), (j 0 : ℕ) = t.val * 640 + y 0 → (j 1 : ℕ) = y 1 →
      (outsAt0 m c t).2.1 y = normf 1024 (by decide) (P m c) (m ((c.tc : Thread nD τ).loc main_arg2)) (j 0) (j 1) := fun y j e0 e1 => by
    have a0 : (⟨t.val * 640 + (y 0).val, by have := (y 0).isLt; have : (y 0).val < 640 := this; omega⟩ : Fin 16640) = j 0 := Fin.ext e0.symm
    have a1 : (y 1 : Fin 1024) = j 1 := Fin.ext e1.symm
    exact (congrArg _ (eq_ix2 y)).trans ((a0 ▸ a1 ▸ point_k m c t hp (y 0) (y 1)))
  exact key y _ (by blk_simp [idx t] <;> try omega) (by blk_simp [idx t] <;> try omega)

/-- The rounded keys. -/
theorem final7 (hp : ∀ i, Fn (P m c i)) : (dats m 0 c).arrAt 7 (cfgs 0).N = fun i => normf 1024 (by decide) (P m c) (m ((c.tc : Thread nD τ).loc main_arg2)) (i 0) (i 1) := by
  refine (dats m 0 c).arrAt_eq_of_covers 7 _ (by decide +kernel) fun t hf y => ?_
  blk_simp
  rw [after0_7]
  have nt := lt_N t
  have key : ∀ (y : S640x1024.Idx) (j : S16640x1024.Idx), (j 0 : ℕ) = t.val * 640 + y 0 → (j 1 : ℕ) = y 1 →
      (outsAt0 m c t).2.2.1 y = normf 1024 (by decide) (P m c) (m ((c.tc : Thread nD τ).loc main_arg2)) (j 0) (j 1) := fun y j e0 e1 => by
    have a0 : (⟨t.val * 640 + (y 0).val, by have := (y 0).isLt; have : (y 0).val < 640 := this; omega⟩ : Fin 16640) = j 0 := Fin.ext e0.symm
    have a1 : (y 1 : Fin 1024) = j 1 := Fin.ext e1.symm
    exact (congrArg _ (eq_ix2 y)).trans ((a0 ▸ a1 ▸ point_kb m c t hp (y 0) (y 1)))
  exact key y _ (by blk_simp [idx t] <;> try omega) (by blk_simp [idx t] <;> try omega)

theorem point_v (r : Fin 640) (j : Fin 1024) : (outsAt0 m c t).2.2.2 (ix2 r j)
      = valf (P m c) ⟨t.val * 640 + r.val, by have := lt_N t; omega⟩ j := (out_v m c t r j).trans (blk_v m c t r j)

/-- The rounded values. -/
theorem final8 : (dats m 0 c).arrAt 8 (cfgs 0).N = fun i => valf (P m c) (i 0) (i 1) := by
  refine (dats m 0 c).arrAt_eq_of_covers 8 _ (by decide +kernel) fun t hf y => ?_
  blk_simp
  rw [after0_8]
  have nt := lt_N t
  have key : ∀ (y : S640x1024.Idx) (j : S16640x1024.Idx), (j 0 : ℕ) = t.val * 640 + y 0 → (j 1 : ℕ) = y 1 →
      (outsAt0 m c t).2.2.2 y = valf (P m c) (j 0) (j 1) := fun y j e0 e1 => by
    have a0 : (⟨t.val * 640 + (y 0).val, by have := (y 0).isLt; have : (y 0).val < 640 := this; omega⟩ : Fin 16640) = j 0 := Fin.ext e0.symm
    have a1 : (y 1 : Fin 1024) = j 1 := Fin.ext e1.symm
    exact (congrArg _ (eq_ix2 y)).trans ((a0 ▸ a1 ▸ point_v m c t (y 0) (y 1)))
  exact key y _ (by blk_simp [idx t] <;> try omega) (by blk_simp [idx t] <;> try omega)

end Cert.Kernel8Ideal.Sb

namespace Cert.Proof.Sb8

open Cert.Reference8Ideal Cert.Reference8Ideal.Gen
open Cert.Kernel8Ideal.Sb (normf nrm valf)

/-- The reference's normalised heads. -/
def refNorm (X : FVec Ideal S16640x16x64 .f32) (G : FVec Ideal S2x64 .f32) : FVec Ideal S16640x16x64 .f32 :=
  mulf (mulf X (broadcastInDim S16640x16x64 ![0, 1, 2] bcast_S16640x16x1_S16640x16x64_0_1_2 (Host.rsqrt (addf (Host.divf (broadcastInDim S16640x16x1 ![0, 1] bcast_S16640x16_S16640x16x1_0_1 (Host.reduceAdd (mulf X X) (constant S_ .f32 0x00000000#32) reducesTo_S16640x16x64_S16640x16_d2 h_S_)) (broadcastInDim S16640x16x1 ![] bcast_S_S16640x16x1 (constant S_ .f32 0x42800000#32))) (broadcastInDim S16640x16x1 ![] bcast_S_S16640x16x1 (constant S_ .f32 0x358637BD#32)))))) (broadcastInDim S16640x16x64 ![0, 1, 2] bcast_S1x1x64_S16640x16x64_0_1_2 (broadcastInDim S1x1x64 ![2] bcast_S64_S1x1x64_2 (shapeCast _ (extractStridedSlice S1x64 ![0, 0] G slices_S2x64_S1x64_0_0) shapeCasts_S1x64_S64)))

theorem norm_at (X : FVec Ideal S16640x16x64 .f32) (G : FVec Ideal S2x64 .f32) (r : Fin 16640) (h : Fin 16) (d : Fin 64) :
    refNorm X G (ix3 r h d) = nrm (fun x => X (ix3 r h x)) (G (ix2 0 d)) d := by
  unfold nrm
  pointwise [refNorm]

/-- The heads of the keys' columns. -/
theorem heads_k (P : FVec Ideal S16640x5632 .f32) (r : Fin 16640) (h : Fin 16) (d : Fin 64) :
    (shapeCast _ (extractStridedSlice S16640x1024 ![0, 1024] P slices_S16640x5632_S16640x1024_0_1024) shapeCasts_S16640x1024_S16640x16x64 : FVec Ideal S16640x16x64 .f32) (ix3 r h d) = P (ix2 r ⟨1024 + (h.val * 64 + d.val), by omega⟩) := by
  pointwise []
theorem heads_q (P : FVec Ideal S16640x5632 .f32) (r : Fin 16640) (h : Fin 16) (d : Fin 64) :
    (shapeCast _ (extractStridedSlice S16640x1024 ![0, 0] P slices_S16640x5632_S16640x1024_0_0) shapeCasts_S16640x1024_S16640x16x64 : FVec Ideal S16640x16x64 .f32) (ix3 r h d) = P (ix2 r ⟨0 + (h.val * 64 + d.val), by omega⟩) := by
  pointwise []

/-- Heads laid side by side. -/
theorem flat_at (Y : FVec Ideal S16640x16x64 .f32) (r : Fin 16640) (j : Fin 1024) :
    (shapeCast _ Y shapeCasts_S16640x16x64_S16640x1024 : FVec Ideal S16640x1024 .f32) (ix2 r j) = Y (ix3 r ⟨j.val / 64, by omega⟩ ⟨j.val % 64, by omega⟩) := by
  pointwise []

theorem ref_k (P : FVec Ideal S16640x5632 .f32) (G : FVec Ideal S2x64 .f32) (r : Fin 16640) (j : Fin 1024) :
    (shapeCast _ (refNorm (shapeCast _ (extractStridedSlice S16640x1024 ![0, 1024] P slices_S16640x5632_S16640x1024_0_1024) shapeCasts_S16640x1024_S16640x16x64) G) shapeCasts_S16640x16x64_S16640x1024 : FVec Ideal S16640x1024 .f32) (ix2 r j) = normf 1024 (by decide) P G r j := by
  rw [flat_at, norm_at]
  unfold normf
  simp only [heads_k]
theorem ref_q (P : FVec Ideal S16640x5632 .f32) (G : FVec Ideal S2x64 .f32) (r : Fin 16640) (j : Fin 1024) :
    (shapeCast _ (refNorm (shapeCast _ (extractStridedSlice S16640x1024 ![0, 0] P slices_S16640x5632_S16640x1024_0_0) shapeCasts_S16640x1024_S16640x16x64) G) shapeCasts_S16640x16x64_S16640x1024 : FVec Ideal S16640x1024 .f32) (ix2 r j) = normf 0 (by decide) P G r j := by
  rw [flat_at, norm_at]
  unfold normf
  simp only [heads_q]
theorem ref_scale (Y : FVec Ideal S16640x16x64 .f32) (r : Fin 16640) (j : Fin 1024) :
    (truncf .bf16 (shapeCast _ (mulf Y (broadcastInDim S16640x16x64 ![] bcast_S_S16640x16x64 (constant S_ .f32 0x3E000000#32))) shapeCasts_S16640x16x64_S16640x1024) bitsLt_bf16_f32 : FVec Ideal S16640x1024 .bf16) (ix2 r j)
      = (shapeCast _ Y shapeCasts_S16640x16x64_S16640x1024 : FVec Ideal S16640x1024 .f32) (ix2 r j) * Ideal.ofBits .f32 0x3E000000#32 := by
  pointwise []
theorem ref_v (P : FVec Ideal S16640x5632 .f32) (r : Fin 16640) (j : Fin 1024) :
    (truncf .bf16 (extractStridedSlice S16640x1024 ![0, 2048] P slices_S16640x5632_S16640x1024_0_2048) bitsLt_bf16_f32 : FVec Ideal S16640x1024 .bf16) (ix2 r j)
      = valf P r j := by
  unfold valf
  pointwise []

/-- The precondition makes every projection a real. -/
theorem fn_of_pre (p : FVec Ideal Cert.Pre_p_finite8.S16640x5632 .f32) (q k : FVec Ideal Cert.Pre_p_finite8.S2x64 .f32)
    (h : Cert.Pre_p_finite8.fn (F := Ideal) p q k = fun _ => 1#1) (i : Cert.Pre_p_finite8.S16640x5632.Idx) : Cert.ReferenceIdeal.RetVal.Fn (p i) :=
  have := Ret.preFacts
  Ret.fn_of_pre p (fun _ => 0) (fun _ => 0) h i

/-- The two programs end with equal results where the projections are reals. -/
theorem value : Cert.algebraic_Kernel8Ideal_Reference8Ideal_pre_p_finite8 := by
  pair_intro
  · run_from Cert.Kernel8Ideal.Value.run_blocks m g
  · run_from Cert.Reference8Ideal.Value.run m' g'
    all_goals have hp : ∀ i, Cert.ReferenceIdeal.RetVal.Fn (Cert.Kernel8Ideal.Sb.P m c i) := fun i => fn_of_pre _ _ _ (hpre c) i
    · refine Eq.trans ?_ (Cert.Kernel8Ideal.Sb.final5 m c hp).symm
      funext i
      rw [eq_ix2 i]
      exact (ref_scale (refNorm _ _) _ _).trans (congrArg (· * Ideal.ofBits .f32 0x3E000000#32) (ref_q _ _ _ _))
    · refine Eq.trans ?_ (Cert.Kernel8Ideal.Sb.final6 m c hp).symm
      funext i
      rw [eq_ix2 i]
      exact ref_k _ _ _ _
    · refine Eq.trans ?_ (Cert.Kernel8Ideal.Sb.final7 m c hp).symm
      funext i
      rw [eq_ix2 i]
      exact ref_k _ _ _ _
    · refine Eq.trans ?_ (Cert.Kernel8Ideal.Sb.final8 m c).symm
      funext i
      rw [eq_ix2 i]
      exact ref_v _ _ _

/-- The reference runs and leaves its arguments; it declares no semaphore. -/
theorem frame_reference : Cert.quiescent_Reference8Ideal := fun m ρ _ =>
  (θ_run Cert.Reference8Ideal.defs _ _).mono (fun r q => ⟨fun c => (q c).2.2.2.2, sem_eq_zero_of_no_sems (by decide) r.2⟩)
    (Cert.Reference8Ideal.Value.run (F := Ideal) m ρ)

end Cert.Proof.Sb8

end
-- ==== Proof.Po9.lean ====
/- One grid point of the pool over the samples, read at an index. -/
module

public import proofs.«01_k».proof.Proof.Gen.Kernel9Ideal.Value
public import Idealize.ShloMosaic.Lib.Pipeline.ReadBack
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.ShloMosaic.Tactic Idealize.SL.Sem

namespace Cert.Kernel9Ideal.Po

open Cert.Kernel9Ideal Cert.Kernel9Ideal.Gen

/-- Row `k` of the kept rows followed by the block's own. -/
def pick (U : FVec Ideal S8x512 .f32) (B : FVec Ideal S16x512 .f32) (k : ℕ) (j : Fin 512) : EReal :=
  if h : k < 16 then B (ix2 ⟨k, h⟩ j) else if h : k - 16 < 8 then U (ix2 ⟨k - 16, h⟩ j) else 0

/-- A read of the scratch after both writes. -/
theorem rd {sp : Space} (v : View sig .tc sp S24x512 .f32) (U : FVec Ideal S8x512 .f32) (B : FVec Ideal S16x512 .f32) {o q R C : ℕ}
    (inb : ∀ a, (![o, q] : Fin 2 → ℕ) a + (![R, C] : Fin 2 → ℕ) a ≤ S24x512.size a) (r : Fin R) (l : Fin C) :
    v.readCov (Val := Elt Ideal) [⟨Rect.unit (s := S24x512) ![16, 0] ![8, 512] inb_S24x512_S8x512_16_0, U⟩, ⟨Rect.unit (s := S24x512) ![0, 0] ![16, 512] inb_S24x512_S16x512_0_0, B⟩]
        (Rect.unit (s := S24x512) ![o, q] ![R, C] inb).toLoadRect (ix2 r l)
      = pick U B (o + r.val) ⟨q + l.val, by have : q + C ≤ 512 := inb 1; omega⟩ := by
  have h0 : o + R ≤ 24 := inb 0
  have h1 : q + C ≤ 512 := inb 1
  have hr := r.isLt
  have hl := l.isLt
  rw [View.readCov_eq_canon']
  dsimp only
  have e : ∀ (y : S24x512.Idx), (y 0).val = o + r.val → (y 1).val = q + l.val → View.canon (Val := Elt Ideal) (e := .f32) [⟨Rect.unit (s := S24x512) ![16, 0] ![8, 512] inb_S24x512_S8x512_16_0, U⟩, ⟨Rect.unit (s := S24x512) ![0, 0] ![16, 512] inb_S24x512_S16x512_0_0, B⟩] y
      = pick U B (o + r.val) ⟨q + l.val, by omega⟩ := fun y y0 y1 => by
    unfold pick
    split
    · next h =>
      rw [View.canon_cons_of_not_mem _ _ (fun hm => by
        obtain ⟨x, hx⟩ := LoadRect.exists_idx_of_mem (Rect.toLoadRect _) hm
        have := congrArg (fun z : S24x512.Idx => (z 0).val) hx
        replace this : 16 + 1 * (x 0).val = (y 0).val := this
        omega)]
      have ey : y = (Rect.unit (s := S24x512) ![0, 0] ![16, 512] inb_S24x512_S16x512_0_0).emb (ix2 (n0 := 16) (n1 := 512) ⟨o + r.val, h⟩ ⟨q + l.val, by omega⟩) :=
        funext fun a => Fin.ext (match a with | ⟨0, _⟩ => by show (y 0).val = 0 + 1 * (o + r.val); omega | ⟨1, _⟩ => by show (y 1).val = 0 + 1 * (q + l.val); omega)
      exact (congrArg (View.canon _) ey).trans (View.canon_cons_emb (Val := Elt Ideal) (e := .f32) (Rect.unit (s := S24x512) ![0, 0] ![16, 512] inb_S24x512_S16x512_0_0) B [] _)
    · next h =>
      rw [dif_pos (by omega)]
      have ey : y = (Rect.unit (s := S24x512) ![16, 0] ![8, 512] inb_S24x512_S8x512_16_0).emb (ix2 (n0 := 8) (n1 := 512) ⟨o + r.val - 16, by omega⟩ ⟨q + l.val, by omega⟩) :=
        funext fun a => Fin.ext (match a with | ⟨0, _⟩ => by show (y 0).val = 16 + 1 * (o + r.val - 16); omega | ⟨1, _⟩ => by show (y 1).val = 0 + 1 * (q + l.val); omega)
      exact (congrArg (View.canon _) ey).trans (View.canon_cons_emb (Val := Elt Ideal) (e := .f32) (Rect.unit (s := S24x512) ![16, 0] ![8, 512] inb_S24x512_S8x512_16_0) U _ _)
  exact e _ (by show o + 1 * r.val = _; omega) (by show q + 1 * l.val = _; omega)

/-- The row's mean less the row, through a group's matrix, scaled. -/
def mixv (w : ℕ) (s u : Fin 128 → EReal) (W : Fin 128 → EReal) (z : EReal) : EReal :=
  (∑ k : Fin 128, (Ideal.div (s k) ((w : ℝ) : EReal) - u k) * W k) * z

theorem cnt (w : ℕ) (hw : w < 17) (r : Fin 8) : (FloatOps.sitofp FTy.f32 (IntOp.minsi (8192#32 + BitVec.ofNat 32 r.val + 1#32) (BitVec.ofNat 32 w)) : Ideal .f32) = ((w : ℝ) : EReal) := by
  have e : IntOp.minsi (8192#32 + BitVec.ofNat 32 r.val + 1#32) (BitVec.ofNat 32 w) = BitVec.ofNat 32 w :=
    (by decide +kernel : ∀ (w : Fin 17) (r : Fin 8), IntOp.minsi (8192#32 + BitVec.ofNat 32 r.val + 1#32) (BitVec.ofNat 32 w.val) = BitVec.ofNat 32 w.val) ⟨w, hw⟩ r
  have e2 : (BitVec.ofNat 32 w).toInt = w := (by decide +kernel : ∀ w : Fin 17, (BitVec.ofNat 32 w.val).toInt = w.val) ⟨w, hw⟩
  rw [e]
  show (((BitVec.ofNat 32 w).toInt : ℝ) : EReal) = _
  rw [e2]
  simp

section
variable (f : ℕ → EReal)
theorem s2 : ∑ j ∈ Finset.range 2, f j = f 0 + f 1 := by simp [Finset.sum_range_succ]
theorem s4 : ∑ j ∈ Finset.range 4, f j = f 0 + f 1 + f 2 + f 3 := by simp [Finset.sum_range_succ]
theorem s8 : ∑ j ∈ Finset.range 8, f j = f 0 + f 1 + f 2 + f 3 + f 4 + f 5 + f 6 + f 7 := by simp [Finset.sum_range_succ]
theorem s16 : ∑ j ∈ Finset.range 16, f j = f 0 + f 1 + f 2 + f 3 + f 4 + f 5 + f 6 + f 7 + f 8 + f 9 + f 10 + f 11 + f 12 + f 13 + f 14 + f 15 := by simp [Finset.sum_range_succ]
end

variable (U : FVec Ideal S8x512 .f32) (W : FVec Ideal S1x1x128x128 .f32) (S : FVec Ideal S1x1x128 .f32) (r : Fin 8) (l : Fin 128)

theorem g0 (a b : FVec Ideal S8x128 .f32) : k0_pay8 (F := Ideal) U (iota Kind.tc S8x128 32 [0] iota_S8x128_d0_w32) a b W S (ix2 r l)
    = mixv 2 (fun k => a (ix2 r k) + b (ix2 r k)) (fun k => U (ix2 r ⟨0 + k.val, by omega⟩)) (fun k => W (ix4 0 0 k l)) (S (ix3 0 0 l)) := by
  unfold mixv
  rw [← cnt 2 (by decide) r]
  pointwise [k0_pay8]
  rfl
theorem g1 (a b c d : FVec Ideal S8x128 .f32) : k0_pay11 (F := Ideal) U (k0_pay9 a b c d) (k0_pay10 (iota Kind.tc S8x128 32 [0] iota_S8x128_d0_w32)) W S (ix2 r l)
    = mixv 4 (fun k => a (ix2 r k) + b (ix2 r k) + c (ix2 r k) + d (ix2 r k)) (fun k => U (ix2 r ⟨128 + k.val, by omega⟩)) (fun k => W (ix4 0 0 k l)) (S (ix3 0 0 l)) := by
  unfold mixv
  rw [← cnt 4 (by decide) r]
  pointwise [k0_pay11, k0_pay9, k0_pay10]
  rfl
theorem g2 (a b c d e f g h : FVec Ideal S8x128 .f32) : k0_pay15 (F := Ideal) U (k0_pay12 a b c d e f g h) (k0_pay13 (iota Kind.tc S8x128 32 [0] iota_S8x128_d0_w32)) k0_pay14 W S (ix2 r l)
    = mixv 8 (fun k => a (ix2 r k) + b (ix2 r k) + c (ix2 r k) + d (ix2 r k) + e (ix2 r k) + f (ix2 r k) + g (ix2 r k) + h (ix2 r k)) (fun k => U (ix2 r ⟨256 + k.val, by omega⟩)) (fun k => W (ix4 0 0 k l)) (S (ix3 0 0 l)) := by
  unfold mixv
  rw [← cnt 8 (by decide) r]
  pointwise [k0_pay15, k0_pay12, k0_pay13, k0_pay14]
  rfl
theorem g3 (a b c d e f g h a' b' c' d' e' f' g' h' : FVec Ideal S8x128 .f32) :
    k0_pay1 (F := Ideal) (k0_pay17 U (iota Kind.tc S8x128 32 [0] iota_S8x128_d0_w32) (k0_pay16 a b c d e f g h) a' b' c' d' e' f' g' h' W) (k0_pay18 S) (ix2 r l)
    = mixv 16 (fun k => a (ix2 r k) + b (ix2 r k) + c (ix2 r k) + d (ix2 r k) + e (ix2 r k) + f (ix2 r k) + g (ix2 r k) + h (ix2 r k)
        + a' (ix2 r k) + b' (ix2 r k) + c' (ix2 r k) + d' (ix2 r k) + e' (ix2 r k) + f' (ix2 r k) + g' (ix2 r k) + h' (ix2 r k))
      (fun k => U (ix2 r ⟨384 + k.val, by omega⟩)) (fun k => W (ix4 0 0 k l)) (S (ix3 0 0 l)) := by
  unfold mixv
  rw [← cnt 16 (by decide) r]
  pointwise [k0_pay1, k0_pay17, k0_pay16, k0_pay18]
  rfl

/-- Column `l` of group `g`. -/
abbrev gc (g : Fin 4) (l : Fin 128) : Fin 512 := ⟨128 * g.val + l.val, by omega⟩

/-- An entry of a block's result: group `g` sums the last `2 ^ (g + 1)` rows. -/
def res (f : ℕ → Fin 512 → EReal) (W : Fin 4 → Fin 128 → Fin 128 → EReal) (S : Fin 512 → EReal) (r : Fin 8) (g : Fin 4) (l : Fin 128) : EReal :=
  mixv (2 ^ (g.val + 1)) (fun k => ∑ j ∈ Finset.range (2 ^ (g.val + 1)), f (16 - j + r.val) (gc g k)) (fun k => f (16 + r.val) (gc g k)) (fun k => W g k l) (S (gc g l))

theorem xe {g n : Fin 4} {r : Fin 8} {l : Fin 128} {x : S8x128.Idx} (h0 : r.val = (x 0).val) (h1 : 128 * g.val + l.val = 128 * n.val + (x 1).val) : g = n ∧ x = ix2 r l := by
  have e1 : (x 1).val < 128 := (x 1).isLt
  have e : g = n := Fin.ext (by omega)
  exact ⟨e, (eq_ix2 x).trans (congr (congrArg ix2 (Fin.ext h0.symm)) (Fin.ext (by subst e; omega)))⟩

variable (m : (ℓ : Loc nD τ sig) → Buf (Elt Ideal) ℓ) (c : Dev nD) (t : Fin cfg0.N)

/-- The rows a point sees. -/
abbrev ext : ℕ → Fin 512 → EReal := pick (k0_pay6 (iblk m c 0 t)) (k0_pay5 (iblk m c 1 t))

theorem pick_own (U : FVec Ideal S8x512 .f32) (B : FVec Ideal S16x512 .f32) (r : Fin 8) (j : Fin 512) : pick (k0_pay6 U) B (16 + r.val) j = U (ix2 r j) := by
  unfold pick
  rw [dif_neg (by omega), dif_pos (by omega)]
  have e : (⟨16 + r.val - 16, by omega⟩ : Fin 8) = r := Fin.ext (by show 16 + r.val - 16 = r.val; omega)
  rw [e]
  pointwise [k0_pay6]

theorem ldw (X : FVec Ideal S1x4x128x128 .f32) (g : Fin 4) (inb : ∀ a, (![0, g.val, 0, 0] : Fin 4 → ℕ) a + (![1, 1, 128, 128] : Fin 4 → ℕ) a ≤ S1x4x128x128.size a) (k l : Fin 128) :
    View.ld (Val := Elt Ideal) (e' := .f32) X (Rect.unit (s := S1x4x128x128) ![0, g.val, 0, 0] ![1, 1, 128, 128] inb) (ix4 0 0 k l) = X (ix4 0 g k l) := by
  pointwise []
theorem lds (X : FVec Ideal S1x1x512 .f32) (g : Fin 4) (inb : ∀ a, (![0, 0, 128 * g.val] : Fin 3 → ℕ) a + (![1, 1, 128] : Fin 3 → ℕ) a ≤ S1x1x512.size a) (l : Fin 128) :
    View.ld (Val := Elt Ideal) (e' := .f32) X (Rect.unit (s := S1x1x512) ![0, 0, 128 * g.val] ![1, 1, 128] inb) (ix3 0 0 l) = X (ix3 0 0 (gc g l)) := by
  pointwise []

/-- What a point writes of the result. -/
theorem out_y (r : Fin 8) (g : Fin 4) (l : Fin 128) : (outsAt0 m c t).1 (ix2 r (gc g l))
    = res (ext m c t) (fun g k l => iblk m c 2 t (ix4 0 g k l)) (fun j => iblk m c 3 t (ix3 0 0 j)) r g l := by
  unfold outsAt0
  frame_out
  unfold res
  simp only [pick_own]
  canon_tiles x h
  · obtain ⟨rfl, rfl⟩ := xe (n := 3) h0 h1
    refine (g3 _ _ _ r l _ _ _ _ _ _ _ _ _ _ _ _ _ _ _ _).trans (congr (congr (congr (congrArg (mixv 16) (funext fun k => Eq.trans ?_ (s16 _).symm)) rfl) (funext fun k => ldw _ 3 _ k l)) (lds _ 3 _ l))
    iterate 15 refine congr (congrArg HAdd.hAdd ?_) (rd _ _ _ _ r k)
    exact rd _ _ _ _ r k
  · obtain ⟨rfl, rfl⟩ := xe (n := 2) h0 h1
    refine (g2 _ _ _ r l _ _ _ _ _ _ _ _).trans (congr (congr (congr (congrArg (mixv 8) (funext fun k => Eq.trans ?_ (s8 _).symm)) rfl) (funext fun k => ldw _ 2 _ k l)) (lds _ 2 _ l))
    iterate 7 refine congr (congrArg HAdd.hAdd ?_) (rd _ _ _ _ r k)
    exact rd _ _ _ _ r k
  · obtain ⟨rfl, rfl⟩ := xe (n := 1) h0 h1
    refine (g1 _ _ _ r l _ _ _ _).trans (congr (congr (congr (congrArg (mixv 4) (funext fun k => Eq.trans ?_ (s4 _).symm)) rfl) (funext fun k => ldw _ 1 _ k l)) (lds _ 1 _ l))
    iterate 3 refine congr (congrArg HAdd.hAdd ?_) (rd _ _ _ _ r k)
    exact rd _ _ _ _ r k
  · obtain ⟨rfl, rfl⟩ := xe (n := 0) h0 (h1.trans (Nat.zero_add _).symm)
    refine (g0 _ _ _ r l _ _).trans (congr (congr (congr (congrArg (mixv 2) (funext fun k => Eq.trans ?_ (s2 _).symm)) rfl) (funext fun k => ldw _ 0 _ k l)) (lds _ 0 _ l))
    exact congr (congrArg HAdd.hAdd (rd _ _ _ _ r k)) (rd _ _ _ _ r k)

theorem p7 (X : FVec Ideal S16x512 .f32) (r : Fin 16) (j : Fin 512) : k0_pay7 (F := Ideal) X (ix3 0 r j) = X (ix2 r j) := by
  pointwise [k0_pay7]

/-- What a point writes of the kept rows. -/
theorem out_b (r : Fin 16) (j : Fin 512) : (outsAt0 m c t).2 (ix3 0 r j) = pick (k0_pay4 (iblk m c 0 t)) (k0_pay3 (iblk m c 1 t)) (8 + r.val) ⟨0 + j.val, by omega⟩ := by
  unfold outsAt0
  frame_out
  exact (p7 _ r j).trans (rd _ _ _ _ r j)

end Cert.Kernel9Ideal.Po
end
-- ==== Proof.Po9Fin.lean ====
/- The pool over the samples: the whole results, and their agreement with the reference. -/
module

public import proofs.«01_k».proof.Defs
public import proofs.«01_k».proof.Proof.Po9
public import proofs.«01_k».proof.Proof.Gen.Reference9Ideal.Run
public import proofs.«01_k».proof.Proof.Gen.Kernel9
public import Idealize.ShloMosaic.Lib.ShapeFacts

@[expose] public section

set_option maxRecDepth 16384
set_option maxHeartbeats 1000000

noncomputable section

open Idealize.ShloMosaic Idealize.ShloMosaic.TcCoe Idealize.ShloMosaic.Tactic Idealize.SL.Sem

namespace Cert.Kernel9Ideal.Po

open Cert.Kernel9Ideal Cert.Kernel9Ideal.Gen

/-- The arguments' types. -/
abbrev TP := FVec Ideal S16640x5632 .f32
abbrev TB := FVec Ideal S2x32x15x512 .f32
abbrev TW := FVec Ideal S2x4x128x128 .f32
abbrev TS := FVec Ideal S2x512 .f32

/-- Every window's block index at point `t`. -/
theorem idx : ∀ t : Fin cfg0.N, win0_0.index t = ![2048 + t.val, 10] ∧ win0_1.index t = ![t.val, 0, 0] ∧ win0_2.index t = ![0, 0, 0, 0] ∧ win0_3.index t = ![0, 0, 0]
    ∧ win0_4.index t = ![t.val, 0] ∧ win0_5.index t = ![t.val, 0, 0] :=
  (by decide +kernel : ∀ t : Fin grid0.N, _)

/-- Row `k` of sample `b`: the state, from row 1 on, and then the sample's tokens. -/
def rows (P : TP) (B : TB) (b : Fin 32) (k : ℕ) (j : Fin 512) : EReal :=
  if h : k < 16 then B (ix4 0 b ⟨k - 1, by omega⟩ j) else if h : k - 16 < 8 then P (ix2 ⟨16384 + (b.val * 8 + (k - 16)), by omega⟩ ⟨5120 + j.val, by omega⟩) else 0

theorem rows_own (P : TP) (B : TB) (b : Fin 32) (t : Fin 8) (j : Fin 512) :
    rows P B b (16 + t.val) j = P (ix2 ⟨16384 + (b.val * 8 + t.val), by omega⟩ ⟨5120 + j.val, by omega⟩) := by
  unfold rows
  rw [dif_neg (by omega), dif_pos (by omega)]
  exact congrArg (fun z => P (ix2 z _)) (Fin.ext (by show 16384 + (b.val * 8 + (16 + t.val - 16)) = 16384 + (b.val * 8 + t.val); omega))

/-- The result, and the rows kept. -/
def yv (P : TP) (B : TB) (Wp : TW) (sc : TS) (i : Fin 256) (j : Fin 512) : EReal :=
  res (rows P B ⟨i.val / 8, by omega⟩) (fun g k l => Wp (ix4 0 g k l)) (fun j => sc (ix2 0 j)) ⟨i.val % 8, by omega⟩ ⟨j.val / 128, by omega⟩ ⟨j.val % 128, by omega⟩
def bv (P : TP) (B : TB) (b : Fin 32) (r : Fin 16) (j : Fin 512) : EReal := rows P B b (8 + r.val) j

/-- Only rows 1 to 23 matter. -/
theorem res_congr {f f' : ℕ → Fin 512 → EReal} (h : ∀ k j, 1 ≤ k → f k j = f' k j) (W : Fin 4 → Fin 128 → Fin 128 → EReal) (S : Fin 512 → EReal) (r : Fin 8) (g : Fin 4) (l : Fin 128) :
    res f W S r g l = res f' W S r g l := by
  have hg : 2 ^ (g.val + 1) ≤ 16 := (by decide : ∀ g : Fin 4, 2 ^ (g.val + 1) ≤ 16) g
  unfold res
  have e : ∀ k, (∑ j ∈ Finset.range (2 ^ (g.val + 1)), f (16 - j + r.val) (gc g k)) = ∑ j ∈ Finset.range (2 ^ (g.val + 1)), f' (16 - j + r.val) (gc g k) := fun k =>
    Finset.sum_congr rfl fun j hj => h _ _ (by have := Finset.mem_range.mp hj; omega)
  simp only [e, h (16 + r.val) _ (by omega)]

variable (m : (ℓ : Loc nD τ sig) → Buf (Elt Ideal) ℓ) (c : Dev nD) (t : Fin cfg0.N)

theorem lt_N : t.val < 32 := lt_of_lt_of_eq t.isLt N_0

abbrev P : TP := m ((c.tc : Thread nD τ).loc main_arg0)
abbrev B : TB := m ((c.tc : Thread nD τ).loc main_arg1)

theorem pad_at (X : FVec Ideal S32x15x512 .f32) (v : FVec Ideal S_ .f32) (b : Fin 32) (k : Fin 15) (j : Fin 512) :
    pad S32x16x512 ![0, 1, 0] ![0, 0, 0] ![0, 0, 0] X v pads_S32x15x512_S32x16x512_000_100_000 h_S_ (ix3 b ⟨k.val + 1, by omega⟩ j) = X (ix3 b k j) := by
  pointwise []
  rw [dif_pos (by omega)]
  rfl
theorem st_at (B : TB) (b : Fin 32) (k : Fin 15) (j : Fin 512) :
    (shapeCast S32x15x512 (extractStridedSlice S1x32x15x512 ![0, 0, 0, 0] B slices_S2x32x15x512_S1x32x15x512_0_0_0_0) shapeCasts_S1x32x15x512_S32x15x512 : FVec Ideal S32x15x512 .f32) (ix3 b k j) = B (ix4 0 b k j) := by
  pointwise []
theorem state_at (b : Fin 32) (k : Fin 15) (j : Fin 512) : Gen.V (F := Ideal) m c main_v2 (ix3 b ⟨k.val + 1, by omega⟩ j) = B m c (ix4 0 b k j) := by
  simp only [Gen.V, hostOps0, List.flatten_cons, List.flatten_nil, List.append_nil, List.cons_append, List.nil_append]
  entry_read
  exact (pad_at _ _ b k j).trans (st_at _ b k j)
theorem scale_at (j : Fin 512) : Gen.V (F := Ideal) m c main_v3 (ix3 0 0 j) = m ((c.tc : Thread nD τ).loc main_arg3) (ix2 0 j) := by
  simp only [Gen.V, hostOps0, List.flatten_cons, List.flatten_nil, List.append_nil, List.cons_append, List.nil_append]
  entry_read
  pointwise []

theorem blk_u (r : Fin 8) (j : Fin 512) : iblk m c 0 t (ix2 r j) = P m c (ix2 ⟨16384 + (t.val * 8 + r.val), by have := lt_N t; omega⟩ ⟨5120 + j.val, by omega⟩) := by
  have := lt_N t
  blk_ext [iblk, V_main_arg0, idx t]
theorem blk_b (k : Fin 15) (j : Fin 512) : iblk m c 1 t (ix3 0 ⟨k.val + 1, by omega⟩ j) = B m c (ix4 0 ⟨t.val, lt_N t⟩ k j) := by
  have := lt_N t
  refine Eq.trans ?_ (state_at m c _ k j)
  blk_ext [iblk, idx t]
theorem blk_w (g : Fin 4) (k l : Fin 128) : iblk m c 2 t (ix4 0 g k l) = m ((c.tc : Thread nD τ).loc main_arg2) (ix4 0 g k l) := by
  have := lt_N t
  blk_ext [iblk, V_main_arg2, idx t]
theorem blk_s (j : Fin 512) : iblk m c 3 t (ix3 0 0 j) = m ((c.tc : Thread nD τ).loc main_arg3) (ix2 0 j) := by
  have := lt_N t
  refine Eq.trans ?_ (scale_at m c j)
  blk_ext [iblk, idx t]

theorem p3 (X : FVec Ideal S1x16x512 .f32) (r : Fin 16) (j : Fin 512) : k0_pay3 (F := Ideal) X (ix2 r j) = X (ix3 0 r j) := by
  pointwise [k0_pay3, k0_pay2]
theorem p4 (X : FVec Ideal S8x512 .f32) (r : Fin 8) (j : Fin 512) : k0_pay4 (F := Ideal) X (ix2 r j) = X (ix2 r j) := by
  pointwise [k0_pay4]
theorem p6 (X : FVec Ideal S8x512 .f32) (r : Fin 8) (j : Fin 512) : k0_pay6 (F := Ideal) X (ix2 r j) = X (ix2 r j) := by
  pointwise [k0_pay6]
theorem p5 (X : FVec Ideal S1x16x512 .f32) (r : Fin 16) (j : Fin 512) : k0_pay5 (F := Ideal) X (ix2 r j) = X (ix3 0 r j) := by
  have e : IntOp.cmpi .sge (8176#32 + BitVec.ofNat 32 r.val) 0#32 = 1#1 := by revert r; decide +kernel
  pointwise [k0_pay5, k0_pay2]
  exact (congrArg (fun z => Scalar.select z _ _) e).trans rfl

theorem pick_rows {U : FVec Ideal S8x512 .f32} {H : FVec Ideal S16x512 .f32} (hU : ∀ r j, U (ix2 r j) = iblk m c 0 t (ix2 r j)) (hH : ∀ r j, H (ix2 r j) = iblk m c 1 t (ix3 0 r j))
    (k : ℕ) (j : Fin 512) (hk : 1 ≤ k) : pick U H k j = rows (P m c) (B m c) ⟨t.val, lt_N t⟩ k j := by
  unfold pick rows
  split
  · next h =>
    refine (hH _ _).trans (Eq.trans ?_ (blk_b m c t ⟨k - 1, by omega⟩ j))
    exact congrArg (fun z => iblk m c 1 t (ix3 0 z j)) (Fin.ext (by show k = k - 1 + 1; omega))
  · split
    · exact (hU _ _).trans (blk_u m c t _ j)
    · rfl

/-- What a point writes of the result. -/
theorem point_y (r : Fin 8) (j : Fin 512) : (outsAt0 m c t).1 (ix2 r j)
    = yv (P m c) (B m c) (m ((c.tc : Thread nD τ).loc main_arg2)) (m ((c.tc : Thread nD τ).loc main_arg3)) ⟨t.val * 8 + r.val, by have := lt_N t; omega⟩ j := by
  have e : j = gc ⟨j.val / 128, by omega⟩ ⟨j.val % 128, by omega⟩ := Fin.ext (by show j.val = 128 * (j.val / 128) + j.val % 128; omega)
  refine (congrArg (fun k => (outsAt0 m c t).1 (ix2 r k)) e).trans ((out_y m c t r _ _).trans ((res_congr (pick_rows m c t (p6 _) (p5 _)) _ _ _ _ _).trans ?_))
  unfold yv
  have e1 : (⟨(t.val * 8 + r.val) / 8, by have := lt_N t; omega⟩ : Fin 32) = ⟨t.val, lt_N t⟩ := Fin.ext (by show (t.val * 8 + r.val) / 8 = t.val; omega)
  have e2 : (⟨(t.val * 8 + r.val) % 8, by omega⟩ : Fin 8) = r := Fin.ext (by show (t.val * 8 + r.val) % 8 = r.val; omega)
  simp only [e1, e2, blk_w, blk_s]

/-- The result. -/
theorem final4 : (dats m 0 c).arrAt 4 (cfgs 0).N = fun i => yv (P m c) (B m c) (m ((c.tc : Thread nD τ).loc main_arg2)) (m ((c.tc : Thread nD τ).loc main_arg3)) (i 0) (i 1) := by
  refine (dats m 0 c).arrAt_eq_of_covers 4 _ (by decide +kernel) fun t hf y => ?_
  blk_simp
  rw [after0_4]
  have nt := lt_N t
  have key : ∀ (y : S8x512.Idx) (j : S256x512.Idx), (j 0 : ℕ) = t.val * 8 + y 0 → (j 1 : ℕ) = y 1 →
      (outsAt0 m c t).1 y = yv (P m c) (B m c) (m ((c.tc : Thread nD τ).loc main_arg2)) (m ((c.tc : Thread nD τ).loc main_arg3)) (j 0) (j 1) := fun y j e0 e1 => by
    have a0 : (⟨t.val * 8 + (y 0).val, by have := (y 0).isLt; have : (y 0).val < 8 := this; omega⟩ : Fin 256) = j 0 := Fin.ext e0.symm
    have a1 : (y 1 : Fin 512) = j 1 := Fin.ext e1.symm
    exact (congrArg _ (eq_ix2 y)).trans ((a0 ▸ a1 ▸ point_y m c t (y 0) (y 1)))
  exact key y _ (by blk_simp [idx t] <;> try omega) (by blk_simp [idx t] <;> try omega)

/-- The rows kept. -/
theorem final5 : (dats m 0 c).arrAt 5 (cfgs 0).N = fun i => bv (P m c) (B m c) (i 0) (i 1) (i 2) := by
  refine (dats m 0 c).arrAt_eq_of_covers 5 _ (by decide +kernel) fun t hf y => ?_
  blk_simp
  rw [after0_5]
  have nt := lt_N t
  have key : ∀ (y : S1x16x512.Idx) (j : S32x16x512.Idx), (j 0 : ℕ) = t.val → (j 1 : ℕ) = y 1 → (j 2 : ℕ) = y 2 →
      (outsAt0 m c t).2 y = bv (P m c) (B m c) (j 0) (j 1) (j 2) := fun y j e0 e1 e2 => by
    have a0 : (⟨t.val, nt⟩ : Fin 32) = j 0 := Fin.ext e0.symm
    have a1 : (y 1 : Fin 16) = j 1 := Fin.ext e1.symm
    have a2 : (⟨0 + (y 2).val, by have : (y 2).val < 512 := (y 2).isLt; omega⟩ : Fin 512) = j 2 := Fin.ext (by show 0 + (y 2).val = _; omega)
    have ey : y = ix3 0 (y 1) (y 2) := (eq_ix3 y).trans (congrArg (fun z => ix3 z (y 1) (y 2)) (Subsingleton.elim (α := Fin 1) _ _))
    exact (congrArg _ ey).trans ((out_b m c t (y 1) (y 2)).trans ((pick_rows m c t (p4 _) (p3 _) _ _ (by omega)).trans (a0 ▸ a1 ▸ a2 ▸ rfl)))
  exact key y _ (by blk_simp [idx t] <;> try omega) (by blk_simp [idx t] <;> try omega) (by blk_simp [idx t] <;> try omega)

end Cert.Kernel9Ideal.Po

namespace Cert.Proof.Po9

open Cert.Reference9Ideal Cert.Reference9Ideal.Gen
open Cert.Kernel9Ideal.Po (TP TB TW TS rows rows_own yv bv res mixv gc)

theorem foldl_sum {α : Type} (F : α → EReal) (l : List α) (v : EReal) : l.foldl (fun r n => r + F n) v = v + (l.map F).sum := by
  induction l generalizing v with
  | nil => simp
  | cons a l ih => rw [List.foldl_cons, ih, List.map_cons, List.sum_cons, add_assoc]

/-- A window of `w` rows, read at its last row. -/
theorem win3 (w L : ℕ) (x : FVec Ideal ⟨3, ![32, L, 128]⟩ .f32) (init : FVec Ideal S_ .f32) (hu : 0 < S_.numel) (hi : init (Shape.Idx.first hu) = 0)
    (h : (⟨3, ![32, L, 128]⟩ : Shape).ReduceWindows ![1, w, 1] ![1, 1, 1] ![0, 0, 0] ![0, 0, 0] S32x8x128) (hL : L = w + 7) (b : Fin 32) (t : Fin 8) (l : Fin 128) :
    Host.reduceWindowAdd ![1, w, 1] ![1, 1, 1] ![0, 0, 0] ![0, 0, 0] x init h hu (ix3 b t l) = ∑ i : Fin w, x (ix3 b ⟨t.val + i.val, by omega⟩ l) := by
  subst hL
  show Host.reduceWindow (· + ·) ![1, w, 1] ![1, 1, 1] ![0, 0, 0] ![0, 0, 0] x init h hu (ix3 b t l) = _
  unfold Host.reduceWindow
  have hN : (⟨3, ![1, w, 1]⟩ : Shape).numel = w := (Shape.numel_rank3 _).trans (by show 1 * w * 1 = w; omega)
  have hs : ∀ n : Fin (⟨3, ![1, w, 1]⟩ : Shape).numel, (⟨3, ![1, w, 1]⟩ : Shape).rowMajor.symm n = ix3 (0 : Fin 1) (n.cast hN) (0 : Fin 1) := fun n =>
    (Equiv.symm_apply_eq _).2 (Fin.ext (by rw [Shape.rowMajor_val_three]; show n.val = (0 * w + n.val) * 1 + 0; omega))
  refine (foldl_sum _ _ _).trans ?_
  rw [hi, zero_add]
  refine (Fin.sum_univ_def _).symm.trans (Fintype.sum_equiv (finCongr hN) _ _ fun n => ?_)
  have q0 : ((⟨3, ![1, w, 1]⟩ : Shape).rowMajor.symm n 0).val = 0 := by rw [hs]; rfl
  have q1 : ((⟨3, ![1, w, 1]⟩ : Shape).rowMajor.symm n 1).val = n.val := by rw [hs]; rfl
  have q2 : ((⟨3, ![1, w, 1]⟩ : Shape).rowMajor.symm n 2).val = 0 := by rw [hs]; rfl
  have hn : n.val < w := lt_of_lt_of_eq n.isLt hN
  refine (dif_pos fun a => ?_).trans (congrArg x (funext fun a => Fin.ext ?_))
  · match a with
    | ⟨0, _⟩ =>
      show 0 ≤ b.val * 1 + ((⟨3, ![1, w, 1]⟩ : Shape).rowMajor.symm n 0).val ∧ b.val * 1 + ((⟨3, ![1, w, 1]⟩ : Shape).rowMajor.symm n 0).val - 0 < 32
      omega
    | ⟨1, _⟩ =>
      show 0 ≤ t.val * 1 + ((⟨3, ![1, w, 1]⟩ : Shape).rowMajor.symm n 1).val ∧ t.val * 1 + ((⟨3, ![1, w, 1]⟩ : Shape).rowMajor.symm n 1).val - 0 < w + 7
      omega
    | ⟨2, _⟩ =>
      show 0 ≤ l.val * 1 + ((⟨3, ![1, w, 1]⟩ : Shape).rowMajor.symm n 2).val ∧ l.val * 1 + ((⟨3, ![1, w, 1]⟩ : Shape).rowMajor.symm n 2).val - 0 < 128
      omega
  · match a with
    | ⟨0, _⟩ =>
      show b.val * 1 + ((⟨3, ![1, w, 1]⟩ : Shape).rowMajor.symm n 0).val - 0 = b.val
      omega
    | ⟨1, _⟩ =>
      show t.val * 1 + ((⟨3, ![1, w, 1]⟩ : Shape).rowMajor.symm n 1).val - 0 = t.val + n.val
      omega
    | ⟨2, _⟩ =>
      show l.val * 1 + ((⟨3, ![1, w, 1]⟩ : Shape).rowMajor.symm n 2).val - 0 = l.val
      omega

/-- A window over ones counts itself. -/
theorem win1 (w L : ℕ) (x : FVec Ideal ⟨1, ![L]⟩ .f32) (hx : ∀ i, x i = (1 : EReal)) (init : FVec Ideal S_ .f32) (hu : 0 < S_.numel) (hi : init (Shape.Idx.first hu) = 0)
    (h : (⟨1, ![L]⟩ : Shape).ReduceWindows ![w] ![1] ![0] ![0] S8) (hL : L = w + 7) (t : Fin 8) :
    Host.reduceWindowAdd ![w] ![1] ![0] ![0] x init h hu (ix1 t) = ((w : ℝ) : EReal) := by
  subst hL
  show Host.reduceWindow (· + ·) ![w] ![1] ![0] ![0] x init h hu (ix1 t) = _
  unfold Host.reduceWindow
  have hN : (⟨1, ![w]⟩ : Shape).numel = w := Shape.numel_rank1 _
  have hs : ∀ n : Fin (⟨1, ![w]⟩ : Shape).numel, (⟨1, ![w]⟩ : Shape).rowMajor.symm n = ix1 (n.cast hN) := fun n =>
    (Equiv.symm_apply_eq _).2 (Fin.ext (by rw [Shape.rowMajor_val_one]; rfl))
  refine (foldl_sum _ _ _).trans ?_
  rw [hi, zero_add]
  refine (Fin.sum_univ_def _).symm.trans ((Finset.sum_congr rfl fun n _ => (?_ : _ = (1 : EReal))).trans ?_)
  · have hn : n.val < w := lt_of_lt_of_eq n.isLt hN
    have q0 : ((⟨1, ![w]⟩ : Shape).rowMajor.symm n 0).val = n.val := by rw [hs]; rfl
    refine (dif_pos fun a => ?_).trans (hx _)
    match a with
    | ⟨0, _⟩ =>
      show 0 ≤ t.val * 1 + ((⟨1, ![w]⟩ : Shape).rowMajor.symm n 0).val ∧ t.val * 1 + ((⟨1, ![w]⟩ : Shape).rowMajor.symm n 0).val - 0 < w + 7
      omega
  · rw [Finset.sum_const, Finset.card_univ, Fintype.card_fin]
    refine (congrArg (· • (1 : EReal)) hN).trans ?_
    simp

theorem flip (w : ℕ) (hw : w ≤ 16) (f : ℕ → EReal) (t : ℕ) : ∑ i : Fin w, f (16 - w + (t + i.val) + 1) = ∑ j ∈ Finset.range w, f (16 - j + t) := by
  rw [Fin.sum_univ_eq_sum_range (fun i => f (16 - w + (t + i) + 1)), ← Finset.sum_range_reflect]
  refine Finset.sum_congr rfl fun j hj => congrArg f ?_
  have := Finset.mem_range.mp hj
  omega

/-- Which rows exist: all of them. -/
abbrev va : FVec Ideal S23 .f32 := uitofp .f32 (cmpi .sge (addi (broadcastInDim S23 ![] bcast_S_S23 (constantI S_ 32 8177#32)) (iotaInDim S23 32 0)) (broadcastInDim S23 ![] bcast_S_S23 (constantI S_ 32 0#32)))
theorem va_at (k : Fin 23) : va (ix1 k) = (1 : EReal) := by
  have e : IntOp.cmpi .sge (8177#32 + BitVec.ofNat 32 k.val) 0#32 = 1#1 := by revert k; decide +kernel
  refine Eq.trans (congrArg (fun z => (FloatOps.uitofp FTy.f32 z : Ideal .f32)) e) ?_
  show (((1#1 : BitVec 1).toNat : ℝ) : EReal) = 1
  norm_num

/-- The state and the tokens, and the same where the rows exist. -/
abbrev rx (P : TP) (B : TB) : FVec Ideal S32x23x512 .f32 :=
  concatenate S32x23x512 1 [⟨S32x15x512, (shapeCast _ (extractStridedSlice S1x32x15x512 ![0, 0, 0, 0] B slices_S2x32x15x512_S1x32x15x512_0_0_0_0) shapeCasts_S1x32x15x512_S32x15x512)⟩, ⟨S32x8x512, (shapeCast _ (extractStridedSlice S256x512 ![16384, 5120] P slices_S16640x5632_S256x512_16384_5120) shapeCasts_S256x512_S32x8x512)⟩] concatenates_S32x15x512_S32x8x512_S32x23x512_d1
abbrev rxv (P : TP) (B : TB) : FVec Ideal S32x23x512 .f32 :=
  mulf (rx P B) (broadcastInDim S32x23x512 ![0, 1, 2] bcast_S1x23x1_S32x23x512_0_1_2 (broadcastInDim S1x23x1 ![1] bcast_S23_S1x23x1_1 va))

theorem rx_at (P : TP) (B : TB) (b : Fin 32) (k : Fin 23) (j : Fin 512) : rx P B (ix3 b k j) = rows P B b (k.val + 1) j := by
  pointwise [rx, rows]
  by_cases h : k.val < 15
  · rw [dif_pos h, dif_pos (by omega)]; rfl
  · rw [dif_neg h, dif_neg (by omega), dif_pos (by omega)]
    simp only [show k.val - 15 = k.val + 1 - 16 by omega]
theorem rxv_at (P : TP) (B : TB) (b : Fin 32) (k : Fin 23) (j : Fin 512) : rxv P B (ix3 b k j) = rows P B b (k.val + 1) j := by
  rw [← rx_at, ← mul_one (rx P B (ix3 b k j)), ← va_at k]
  unfold rxv
  generalize rx P B = X
  generalize va = V
  pointwise []

theorem sum_w (w L o q : ℕ) (hw : o + w = 16) (hq : q + 128 ≤ 512) (hL : L = w + 7) (P : TP) (B : TB) (init : FVec Ideal S_ .f32) (hu : 0 < S_.numel) (hi : init (Shape.Idx.first hu) = 0)
    (hsl : S32x23x512.Slices ![0, o, q] ⟨3, ![32, L, 128]⟩) (h : (⟨3, ![32, L, 128]⟩ : Shape).ReduceWindows ![1, w, 1] ![1, 1, 1] ![0, 0, 0] ![0, 0, 0] S32x8x128) (b : Fin 32) (t : Fin 8) (l : Fin 128) :
    Host.reduceWindowAdd ![1, w, 1] ![1, 1, 1] ![0, 0, 0] ![0, 0, 0] (extractStridedSlice ⟨3, ![32, L, 128]⟩ ![0, o, q] (rxv P B) hsl) init h hu (ix3 b t l)
      = ∑ j ∈ Finset.range w, rows P B b (16 - j + t.val) ⟨q + l.val, by omega⟩ := by
  refine (win3 w L _ init hu hi h hL b t l).trans (Eq.trans (Finset.sum_congr rfl fun i _ => ?_) (flip w (by omega) (fun k => rows P B b k ⟨q + l.val, by omega⟩) t.val))
  refine Eq.trans ?_ ((rxv_at P B b ⟨o + (t.val + i.val), by omega⟩ ⟨q + l.val, by omega⟩).trans (congrArg (fun z => rows P B b z _) (by show o + (t.val + i.val) + 1 = 16 - w + (t.val + i.val) + 1; omega)))
  generalize rxv P B = X
  subst hL
  pointwise []

/-- One group of the reference's result. -/
def grp (o g : ℕ) (ho : S32x8x512.Slices ![0, 0, o] S32x8x128) (hg : S4x128x128.Slices ![g, 0, 0] S1x128x128) (s : FVec Ideal S32x8x128 .f32) (n : FVec Ideal S8 .f32) (P : TP) (Wp : TW) : (⟨S32x8x128, .f32⟩ : BufTy).Contents (Elt Ideal) :=
  Host.dotGeneral dot_S32x8x128_S128x128_S32x8x128_2_0_01_1_n_n none (subf (Host.divf s (broadcastInDim S32x8x128 ![0, 1, 2] bcast_S1x8x1_S32x8x128_0_1_2 (broadcastInDim S1x8x1 ![1] bcast_S8_S1x8x1_1 n))) (extractStridedSlice S32x8x128 ![0, 0, o] (shapeCast _ (extractStridedSlice S256x512 ![16384, 5120] P slices_S16640x5632_S256x512_16384_5120) shapeCasts_S256x512_S32x8x512) ho)) (shapeCast _ (extractStridedSlice S1x128x128 ![g, 0, 0] (shapeCast _ (extractStridedSlice S1x4x128x128 ![0, 0, 0, 0] Wp slices_S2x4x128x128_S1x4x128x128_0_0_0_0) shapeCasts_S1x4x128x128_S4x128x128) hg) shapeCasts_S1x128x128_S128x128)

/-- The reference's result from the window sums. -/
def refy (s0 s1 s2 s3 : FVec Ideal S32x8x128 .f32) (n0 n1 n2 n3 : FVec Ideal S8 .f32) (P : TP) (Wp : TW) (sc : TS) : FVec Ideal S256x512 .f32 :=
  shapeCast _ (mulf ((concatenate S32x8x512 2 [⟨S32x8x128, grp 0 0 slices_S32x8x512_S32x8x128_0_0_0 slices_S4x128x128_S1x128x128_0_0_0 s0 n0 P Wp⟩, ⟨S32x8x128, grp 128 1 slices_S32x8x512_S32x8x128_0_0_128 slices_S4x128x128_S1x128x128_1_0_0 s1 n1 P Wp⟩, ⟨S32x8x128, grp 256 2 slices_S32x8x512_S32x8x128_0_0_256 slices_S4x128x128_S1x128x128_2_0_0 s2 n2 P Wp⟩, ⟨S32x8x128, grp 384 3 slices_S32x8x512_S32x8x128_0_0_384 slices_S4x128x128_S1x128x128_3_0_0 s3 n3 P Wp⟩] concatenates_S32x8x128_S32x8x128_S32x8x128_S32x8x128_S32x8x512_d2 : (⟨S32x8x512, .f32⟩ : BufTy).Contents (Elt Ideal))) (broadcastInDim S32x8x512 ![0, 1, 2] bcast_S1x1x512_S32x8x512_0_1_2 (broadcastInDim S1x1x512 ![2] bcast_S512_S1x1x512_2 (shapeCast _ (extractStridedSlice S1x512 ![0, 0] sc slices_S2x512_S1x512_0_0) shapeCasts_S1x512_S512)))) shapeCasts_S32x8x512_S256x512
section
variable (s0 s1 s2 s3 : FVec Ideal S32x8x128 .f32) (n0 n1 n2 n3 : FVec Ideal S8 .f32) (P : TP) (Wp : TW) (sc : TS) (B : TB) (b : Fin 32) (t : Fin 8) (l : Fin 128) (f : Fin 128 → EReal)
theorem ry0 (hs : ∀ k, s0 (ix3 b t k) = f k) (hn : n0 (ix1 t) = ((2 : ℝ) : EReal)) : refy s0 s1 s2 s3 n0 n1 n2 n3 P Wp sc (ix2 ⟨b.val * 8 + t.val, by omega⟩ ⟨0 + l.val, by omega⟩) =
      mixv 2 f (fun k => rows P B b (16 + t.val) ⟨0 + k.val, by omega⟩) (fun k => Wp (ix4 0 0 k l)) (sc (ix2 0 ⟨0 + l.val, by omega⟩)) := by
  unfold mixv
  simp only [← hs, rows_own]
  rw [Nat.cast_ofNat, ← hn]
  pointwise [refy, grp]
theorem ry1 (hs : ∀ k, s1 (ix3 b t k) = f k) (hn : n1 (ix1 t) = ((4 : ℝ) : EReal)) : refy s0 s1 s2 s3 n0 n1 n2 n3 P Wp sc (ix2 ⟨b.val * 8 + t.val, by omega⟩ ⟨128 + l.val, by omega⟩) =
      mixv 4 f (fun k => rows P B b (16 + t.val) ⟨128 + k.val, by omega⟩) (fun k => Wp (ix4 0 1 k l)) (sc (ix2 0 ⟨128 + l.val, by omega⟩)) := by
  unfold mixv
  simp only [← hs, rows_own]
  rw [Nat.cast_ofNat, ← hn]
  pointwise [refy, grp]
theorem ry2 (hs : ∀ k, s2 (ix3 b t k) = f k) (hn : n2 (ix1 t) = ((8 : ℝ) : EReal)) : refy s0 s1 s2 s3 n0 n1 n2 n3 P Wp sc (ix2 ⟨b.val * 8 + t.val, by omega⟩ ⟨256 + l.val, by omega⟩) =
      mixv 8 f (fun k => rows P B b (16 + t.val) ⟨256 + k.val, by omega⟩) (fun k => Wp (ix4 0 2 k l)) (sc (ix2 0 ⟨256 + l.val, by omega⟩)) := by
  unfold mixv
  simp only [← hs, rows_own]
  rw [Nat.cast_ofNat, ← hn]
  pointwise [refy, grp]
  rw [dif_neg (by omega), dif_neg (by omega), dif_pos (by omega)]
  simp only [show 256 + l.val - 128 - 128 = l.val by omega]
theorem ry3 (hs : ∀ k, s3 (ix3 b t k) = f k) (hn : n3 (ix1 t) = ((16 : ℝ) : EReal)) : refy s0 s1 s2 s3 n0 n1 n2 n3 P Wp sc (ix2 ⟨b.val * 8 + t.val, by omega⟩ ⟨384 + l.val, by omega⟩) =
      mixv 16 f (fun k => rows P B b (16 + t.val) ⟨384 + k.val, by omega⟩) (fun k => Wp (ix4 0 3 k l)) (sc (ix2 0 ⟨384 + l.val, by omega⟩)) := by
  unfold mixv
  simp only [← hs, rows_own]
  rw [Nat.cast_ofNat, ← hn]
  pointwise [refy, grp]
  rw [dif_neg (by omega), dif_neg (by omega), dif_neg (by omega)]
  simp only [show 384 + l.val - 128 - 128 - 128 = l.val by omega]
end

theorem va_sl (L o : ℕ) (h : S23.Slices ![o] ⟨1, ![L]⟩) (i : (⟨1, ![L]⟩ : Shape).Idx) : (extractStridedSlice ⟨1, ![L]⟩ ![o] va h : FVec Ideal ⟨1, ![L]⟩ .f32) i = (1 : EReal) :=
  (congrArg va (eq_ix1 _)).trans (va_at _)

/-- The reference's result, whole. -/
theorem ref_y (P : TP) (B : TB) (Wp : TW) (sc : TS) (Y : FVec Ideal S256x512 .f32)
    (h : ∀ (b : Fin 32) (t : Fin 8) (g : Fin 4) (l : Fin 128), Y (ix2 ⟨b.val * 8 + t.val, by omega⟩ (gc g l)) = res (rows P B b) (fun g k l => Wp (ix4 0 g k l)) (fun j => sc (ix2 0 j)) t g l) (i : Fin 256) (j : Fin 512) :
    Y (ix2 i j) = yv P B Wp sc i j := by
  refine Eq.trans (congrArg₂ (fun a b => Y (ix2 a b)) (Fin.ext ?_) (Fin.ext ?_)) (h ⟨i.val / 8, by omega⟩ ⟨i.val % 8, by omega⟩ ⟨j.val / 128, by omega⟩ ⟨j.val % 128, by omega⟩)
  · show i.val = i.val / 8 * 8 + i.val % 8; omega
  · show j.val = 128 * (j.val / 128) + j.val % 128; omega

theorem init0 : (broadcastInDim S_ ![] bcast_S_S_ (constant S_ .f32 0x00000000#32) : FVec Ideal S_ .f32) (Shape.Idx.first h_S_) = 0 := by
  generalize Shape.Idx.first h_S_ = i
  pointwise []

variable (m : (ℓ : Loc nD τ sig) → Buf (Elt Ideal) ℓ) (c : Dev nD)

theorem ref_all (i : Fin 256) (j : Fin 512) : Cert.Reference9Ideal.Value.res_main_v87 (F := Ideal) m c (ix2 i j)
    = yv (m ((c.tc : Thread nD τ).loc main_arg0)) (m ((c.tc : Thread nD τ).loc main_arg1)) (m ((c.tc : Thread nD τ).loc main_arg2)) (m ((c.tc : Thread nD τ).loc main_arg3)) i j := by
  refine ref_y _ _ _ _ _ (fun b t g l => ?_) i j
  match g with
  | 0 => exact ry0 _ _ _ _ _ _ _ _ _ _ _ (m ((c.tc : Thread nD τ).loc main_arg1)) b t l _ (fun k => sum_w 2 9 14 0 rfl (by decide) rfl _ _ _ h_S_ init0 _ _ b t k) (win1 2 9 _ (fun i => va_sl _ _ _ i) _ h_S_ init0 _ rfl t)
  | 1 => exact ry1 _ _ _ _ _ _ _ _ _ _ _ (m ((c.tc : Thread nD τ).loc main_arg1)) b t l _ (fun k => sum_w 4 11 12 128 rfl (by decide) rfl _ _ _ h_S_ init0 _ _ b t k) (win1 4 11 _ (fun i => va_sl _ _ _ i) _ h_S_ init0 _ rfl t)
  | 2 => exact ry2 _ _ _ _ _ _ _ _ _ _ _ (m ((c.tc : Thread nD τ).loc main_arg1)) b t l _ (fun k => sum_w 8 15 8 256 rfl (by decide) rfl _ _ _ h_S_ init0 _ _ b t k) (win1 8 15 _ (fun i => va_sl _ _ _ i) _ h_S_ init0 _ rfl t)
  | 3 => exact ry3 _ _ _ _ _ _ _ _ _ _ _ (m ((c.tc : Thread nD τ).loc main_arg1)) b t l _ (fun k => sum_w 16 23 0 384 rfl (by decide) rfl _ _ _ h_S_ init0 _ _ b t k) (win1 16 23 _ (fun i => (congrArg va (eq_ix1 i)).trans (va_at _)) _ h_S_ init0 _ rfl t)

theorem ref_b (P : TP) (B : TB) (b : Fin 32) (r : Fin 16) (j : Fin 512) :
    (extractStridedSlice S32x16x512 ![0, 7, 0] (rx P B) slices_S32x23x512_S32x16x512_0_7_0 : FVec Ideal S32x16x512 .f32) (ix3 b r j) = bv P B b r j := by
  refine Eq.trans ?_ ((rx_at P B b ⟨7 + r.val, by omega⟩ j).trans (congrArg (fun k => rows P B b k j) (by show 7 + r.val + 1 = 8 + r.val; omega)))
  generalize rx P B = X
  pointwise []

/-- The two programs end with equal results. -/
theorem value : Cert.algebraic_Kernel9Ideal_Reference9Ideal := by
  pair_intro
  · run_from Cert.Kernel9Ideal.Value.run_blocks m g
  · run_from Cert.Reference9Ideal.Value.run m' g'
    · refine Eq.trans ?_ (Cert.Kernel9Ideal.Po.final4 m c).symm
      funext i
      rw [eq_ix2 i]
      refine (ref_all m' c (i 0) (i 1)).trans ?_
      rw [(hagree c).1, (hagree c).2.1, (hagree c).2.2.1, (hagree c).2.2.2]
      rfl
    · refine Eq.trans ?_ (Cert.Kernel9Ideal.Po.final5 m c).symm
      funext i
      rw [eq_ix3 i]
      exact ref_b _ _ _ _ _

/-- The reference runs and leaves its arguments; it declares no semaphore. -/
theorem frame_reference : Cert.quiescent_Reference9Ideal := fun m ρ _ =>
  (θ_run Cert.Reference9Ideal.defs _ _).mono (fun r q => ⟨fun c => (q c).2.2, sem_eq_zero_of_no_sems (by decide) r.2⟩)
    (Cert.Reference9Ideal.Value.run (F := Ideal) m ρ)

end Cert.Proof.Po9
end
-- ==== Proof.lean ====
/- The certificate of the layer's calls: the retention and the products of the layer. -/
module

public import proofs.«01_k».proof.Defs
public import proofs.«01_k».proof.Proof.Gen.Kernel.Frame
public import proofs.«01_k».proof.Proof.Gen.KernelIdeal.Frame
public import proofs.«01_k».proof.Proof.Gen.Kernel4.Frame
public import proofs.«01_k».proof.Proof.Gen.Kernel4Ideal.Frame
public import proofs.«01_k».proof.Proof.Gen.Pre_tables2
public import proofs.«01_k».proof.Proof.Gen.Pre_tables3
public import proofs.«01_k».proof.Proof.Gen.Kernel5.Frame
public import proofs.«01_k».proof.Proof.Gen.Kernel5Ideal.Frame
public import proofs.«01_k».proof.Proof.Gen.Kernel7.Frame
public import proofs.«01_k».proof.Proof.Gen.Kernel7Ideal.Frame
public import proofs.«01_k».proof.Proof.Gen.Pre_dense6
public import proofs.«01_k».proof.Proof.Norm4
public import proofs.«01_k».proof.Proof.Out5
public import proofs.«01_k».proof.Proof.Moe6Claim
public import proofs.«01_k».proof.Proof.Down7
public import proofs.«01_k».proof.Proof.Gen.Kernel8.Frame
public import proofs.«01_k».proof.Proof.Gen.Kernel8Ideal.Frame
public import proofs.«01_k».proof.Proof.Gen.Pre_p_finite8
public import proofs.«01_k».proof.Proof.Gen.Kernel9.Frame
public import proofs.«01_k».proof.Proof.Gen.Kernel9Ideal.Frame
public import proofs.«01_k».proof.Proof.RetClaim
public import proofs.«01_k».proof.Proof.Moe2Claim
public import proofs.«01_k».proof.Proof.Moe3Claim
public import proofs.«01_k».proof.Proof.Sb8Fin
public import proofs.«01_k».proof.Proof.Po9Fin

@[expose] public section

set_option maxRecDepth 16384

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Ret.preFacts, Cert.Pre_tables2.Gen.facts, Cert.Pre_tables3.Gen.facts, Cert.Pre_dense6.Gen.facts, Cert.Pre_p_finite8.Gen.facts,
    fun m ρ _ => Cert.Kernel.Gen.frame m ρ,
    fun m ρ _ => Cert.KernelIdeal.Gen.frame m ρ,
    fun m ρ _ => Cert.KernelIdeal.Gen.frame m ρ,
    Ret.frame_reference,
    fun m ρ _ => Ret.frame_reference m ρ trivial,
    Moe2.frameB,
    Moe2.frameI,
    Moe2.frameR,
    fun m ρ _ => Moe2.frameR m ρ trivial,
    Moe3.frameB,
    Moe3.frameI,
    Moe3.frameR,
    fun m ρ _ => Moe3.frameR m ρ trivial,
    fun m ρ _ => Cert.Kernel4.Gen.frame m ρ,
    fun m ρ _ => Cert.Kernel4Ideal.Gen.frame m ρ,
    Norm4.frame_reference,
    fun m ρ _ => Cert.Kernel5.Gen.frame m ρ,
    fun m ρ _ => Cert.Kernel5Ideal.Gen.frame m ρ,
    Out5.frame_reference,
    Moe6.frameB,
    Moe6.frameI,
    Moe6.frameR,
    fun m ρ _ => Moe6.frameR m ρ trivial,
    fun m ρ _ => Cert.Kernel7.Gen.frame m ρ,
    fun m ρ _ => Cert.Kernel7Ideal.Gen.frame m ρ,
    Down7.frame_reference,
    fun m ρ _ => Cert.Kernel8.Gen.frame m ρ,
    fun m ρ _ => Cert.Kernel8Ideal.Gen.frame m ρ,
    fun m ρ _ => Cert.Kernel8Ideal.Gen.frame m ρ,
    Sb8.frame_reference,
    fun m ρ _ => Sb8.frame_reference m ρ trivial,
    fun m ρ _ => Cert.Kernel9.Gen.frame m ρ,
    fun m ρ _ => Cert.Kernel9Ideal.Gen.frame m ρ,
    Po9.frame_reference,
    trivial,
    Ret.value,
    trivial,
    Moe2.value,
    trivial,
    Moe3.value,
    trivial,
    Norm4.value,
    trivial,
    Out5.value,
    trivial,
    Moe6.value,
    trivial,
    Down7.value,
    trivial,
    Sb8.value,
    trivial,
    Po9.value⟩

end Cert.Proof

end
